-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_finite_mix [hPre_finite_mix : Cert.Pre_finite_mix.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_finite_mix.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8)) (m ((c.tc : Thread Cert.MixKernelIdeal.nD Cert.MixKernelIdeal.τ).loc Cert.MixKernelIdeal.main_arg9)) (m ((c.tc : Thread Cert.MixKernelIdeal.nD Cert.MixKernelIdeal.τ).loc Cert.MixKernelIdeal.main_arg10)) (m ((c.tc : Thread Cert.MixKernelIdeal.nD Cert.MixKernelIdeal.τ).loc Cert.MixKernelIdeal.main_arg11)) (m ((c.tc : Thread Cert.MixKernelIdeal.nD Cert.MixKernelIdeal.τ).loc Cert.MixKernelIdeal.main_arg12)) (m ((c.tc : Thread Cert.MixKernelIdeal.nD Cert.MixKernelIdeal.τ).loc Cert.MixKernelIdeal.main_arg13)) (m ((c.tc : Thread Cert.MixKernelIdeal.nD Cert.MixKernelIdeal.τ).loc Cert.MixKernelIdeal.main_arg14))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_finite_mix [hPre_finite_mix : Cert.Pre_finite_mix.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_finite_mix.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13)) (m ((c.tc : Thread Cert.MixReferenceIdeal.nD Cert.MixReferenceIdeal.τ).loc Cert.MixReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8)
      ∧ r.2.mem ((c.tc : Thread Cert.MixKernel.nD Cert.MixKernel.τ).loc Cert.MixKernel.main_arg9) = m ((c.tc : Thread Cert.MixKernel.nD Cert.MixKernel.τ).loc Cert.MixKernel.main_arg9)
      ∧ r.2.mem ((c.tc : Thread Cert.MixKernel.nD Cert.MixKernel.τ).loc Cert.MixKernel.main_arg10) = m ((c.tc : Thread Cert.MixKernel.nD Cert.MixKernel.τ).loc Cert.MixKernel.main_arg10)
      ∧ r.2.mem ((c.tc : Thread Cert.MixKernel.nD Cert.MixKernel.τ).loc Cert.MixKernel.main_arg11) = m ((c.tc : Thread Cert.MixKernel.nD Cert.MixKernel.τ).loc Cert.MixKernel.main_arg11)
      ∧ r.2.mem ((c.tc : Thread Cert.MixKernel.nD Cert.MixKernel.τ).loc Cert.MixKernel.main_arg12) = m ((c.tc : Thread Cert.MixKernel.nD Cert.MixKernel.τ).loc Cert.MixKernel.main_arg12)
      ∧ r.2.mem ((c.tc : Thread Cert.MixKernel.nD Cert.MixKernel.τ).loc Cert.MixKernel.main_arg13) = m ((c.tc : Thread Cert.MixKernel.nD Cert.MixKernel.τ).loc Cert.MixKernel.main_arg13)
      ∧ r.2.mem ((c.tc : Thread Cert.MixKernel.nD Cert.MixKernel.τ).loc Cert.MixKernel.main_arg14) = m ((c.tc : Thread Cert.MixKernel.nD Cert.MixKernel.τ).loc Cert.MixKernel.main_arg14))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
      ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
      ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11)
      ∧ r.2.mem ((c.tc : Thread Cert.MixKernelIdeal.nD Cert.MixKernelIdeal.τ).loc Cert.MixKernelIdeal.main_arg12) = m ((c.tc : Thread Cert.MixKernelIdeal.nD Cert.MixKernelIdeal.τ).loc Cert.MixKernelIdeal.main_arg12)
      ∧ r.2.mem ((c.tc : Thread Cert.MixKernelIdeal.nD Cert.MixKernelIdeal.τ).loc Cert.MixKernelIdeal.main_arg13) = m ((c.tc : Thread Cert.MixKernelIdeal.nD Cert.MixKernelIdeal.τ).loc Cert.MixKernelIdeal.main_arg13)
      ∧ r.2.mem ((c.tc : Thread Cert.MixKernelIdeal.nD Cert.MixKernelIdeal.τ).loc Cert.MixKernelIdeal.main_arg14) = m ((c.tc : Thread Cert.MixKernelIdeal.nD Cert.MixKernelIdeal.τ).loc Cert.MixKernelIdeal.main_arg14))
      ∧ r.2.sem = fun _ => 0)

def quiescent_MixKernelIdeal_pre_finite_mix [hMixKernelIdeal : Cert.MixKernelIdeal.Facts] [hPre_finite_mix : Cert.Pre_finite_mix.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_finite_mix m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
      ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
      ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11)
      ∧ r.2.mem ((c.tc : Thread Cert.MixKernelIdeal.nD Cert.MixKernelIdeal.τ).loc Cert.MixKernelIdeal.main_arg12) = m ((c.tc : Thread Cert.MixKernelIdeal.nD Cert.MixKernelIdeal.τ).loc Cert.MixKernelIdeal.main_arg12)
      ∧ r.2.mem ((c.tc : Thread Cert.MixKernelIdeal.nD Cert.MixKernelIdeal.τ).loc Cert.MixKernelIdeal.main_arg13) = m ((c.tc : Thread Cert.MixKernelIdeal.nD Cert.MixKernelIdeal.τ).loc Cert.MixKernelIdeal.main_arg13)
      ∧ r.2.mem ((c.tc : Thread Cert.MixKernelIdeal.nD Cert.MixKernelIdeal.τ).loc Cert.MixKernelIdeal.main_arg14) = m ((c.tc : Thread Cert.MixKernelIdeal.nD Cert.MixKernelIdeal.τ).loc Cert.MixKernelIdeal.main_arg14))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13)
      ∧ r.2.mem ((c.tc : Thread Cert.MixReferenceIdeal.nD Cert.MixReferenceIdeal.τ).loc Cert.MixReferenceIdeal.main_arg14) = m ((c.tc : Thread Cert.MixReferenceIdeal.nD Cert.MixReferenceIdeal.τ).loc Cert.MixReferenceIdeal.main_arg14))
      ∧ r.2.sem = fun _ => 0)

def quiescent_MixReferenceIdeal_pre_finite_mix [hMixReferenceIdeal : Cert.MixReferenceIdeal.Facts] [hPre_finite_mix : Cert.Pre_finite_mix.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_finite_mix m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13)
      ∧ r.2.mem ((c.tc : Thread Cert.MixReferenceIdeal.nD Cert.MixReferenceIdeal.τ).loc Cert.MixReferenceIdeal.main_arg14) = m ((c.tc : Thread Cert.MixReferenceIdeal.nD Cert.MixReferenceIdeal.τ).loc Cert.MixReferenceIdeal.main_arg14))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v10_0)) (v1 : (c : Dev Cert.InKernelIdeal.nD) → Buf (Elt Ideal) ((c.tc : Thread Cert.InKernelIdeal.nD Cert.InKernelIdeal.τ).loc Cert.InKernelIdeal.main_v10_1)) (v2 : (c : Dev Cert.InKernelIdeal.nD) → Buf (Elt Ideal) ((c.tc : Thread Cert.InKernelIdeal.nD Cert.InKernelIdeal.τ).loc Cert.InKernelIdeal.main_v10_2)) (v3 : (c : Dev Cert.InKernelIdeal.nD) → Buf (Elt Ideal) ((c.tc : Thread Cert.InKernelIdeal.nD Cert.InKernelIdeal.τ).loc Cert.InKernelIdeal.main_v10_3)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v10_0) = v0 c
          ∧ r.2.mem ((c.tc : Thread Cert.InKernelIdeal.nD Cert.InKernelIdeal.τ).loc Cert.InKernelIdeal.main_v10_1) = v1 c
          ∧ r.2.mem ((c.tc : Thread Cert.InKernelIdeal.nD Cert.InKernelIdeal.τ).loc Cert.InKernelIdeal.main_v10_2) = v2 c
          ∧ r.2.mem ((c.tc : Thread Cert.InKernelIdeal.nD Cert.InKernelIdeal.τ).loc Cert.InKernelIdeal.main_v10_3) = v3 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v46) = v0 c
          ∧ r.2.mem ((c.tc : Thread Cert.InReferenceIdeal.nD Cert.InReferenceIdeal.τ).loc Cert.InReferenceIdeal.main_v47) = v1 c
          ∧ r.2.mem ((c.tc : Thread Cert.InReferenceIdeal.nD Cert.InReferenceIdeal.τ).loc Cert.InReferenceIdeal.main_v49) = v2 c
          ∧ r.2.mem ((c.tc : Thread Cert.InReferenceIdeal.nD Cert.InReferenceIdeal.τ).loc Cert.InReferenceIdeal.main_v50) = v3 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_MixKernel_MixKernelIdeal : Prop :=
  IdealRules.named_const.Statement Cert.MixKernelIdeal.κ "xa_scale_log2e" .f32 0x3E0293EE#32 (((11863283 / 134217728) * (Real.log 2)⁻¹ : ℝ) : EReal)

def algebraic_MixKernelIdeal_MixReferenceIdeal_pre_finite_mix [hMixKernelIdeal : Cert.MixKernelIdeal.Facts] [hMixReferenceIdeal : Cert.MixReferenceIdeal.Facts] [hPre_finite_mix : Cert.Pre_finite_mix.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_finite_mix m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)
      ∧ m' ((c.tc : Thread Cert.MixReferenceIdeal.nD Cert.MixReferenceIdeal.τ).loc Cert.MixReferenceIdeal.main_arg9) = m ((c.tc : Thread Cert.MixKernelIdeal.nD Cert.MixKernelIdeal.τ).loc Cert.MixKernelIdeal.main_arg9)
      ∧ m' ((c.tc : Thread Cert.MixReferenceIdeal.nD Cert.MixReferenceIdeal.τ).loc Cert.MixReferenceIdeal.main_arg10) = m ((c.tc : Thread Cert.MixKernelIdeal.nD Cert.MixKernelIdeal.τ).loc Cert.MixKernelIdeal.main_arg10)
      ∧ m' ((c.tc : Thread Cert.MixReferenceIdeal.nD Cert.MixReferenceIdeal.τ).loc Cert.MixReferenceIdeal.main_arg11) = m ((c.tc : Thread Cert.MixKernelIdeal.nD Cert.MixKernelIdeal.τ).loc Cert.MixKernelIdeal.main_arg11)
      ∧ m' ((c.tc : Thread Cert.MixReferenceIdeal.nD Cert.MixReferenceIdeal.τ).loc Cert.MixReferenceIdeal.main_arg12) = m ((c.tc : Thread Cert.MixKernelIdeal.nD Cert.MixKernelIdeal.τ).loc Cert.MixKernelIdeal.main_arg12)
      ∧ m' ((c.tc : Thread Cert.MixReferenceIdeal.nD Cert.MixReferenceIdeal.τ).loc Cert.MixReferenceIdeal.main_arg13) = m ((c.tc : Thread Cert.MixKernelIdeal.nD Cert.MixKernelIdeal.τ).loc Cert.MixKernelIdeal.main_arg13)
      ∧ m' ((c.tc : Thread Cert.MixReferenceIdeal.nD Cert.MixReferenceIdeal.τ).loc Cert.MixReferenceIdeal.main_arg14) = m ((c.tc : Thread Cert.MixKernelIdeal.nD Cert.MixKernelIdeal.τ).loc Cert.MixKernelIdeal.main_arg14)) →
    ∃ (v0 : (c : Dev Cert.MixKernelIdeal.nD) → Buf (Elt Ideal) ((c.tc : Thread Cert.MixKernelIdeal.nD Cert.MixKernelIdeal.τ).loc Cert.MixKernelIdeal.main_v12_0)) (v1 : (c : Dev Cert.MixKernelIdeal.nD) → Buf (Elt Ideal) ((c.tc : Thread Cert.MixKernelIdeal.nD Cert.MixKernelIdeal.τ).loc Cert.MixKernelIdeal.main_v12_1)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v12_0) = v0 c
          ∧ r.2.mem ((c.tc : Thread Cert.MixKernelIdeal.nD Cert.MixKernelIdeal.τ).loc Cert.MixKernelIdeal.main_v12_1) = v1 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
          ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
          ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
          ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11)
          ∧ r.2.mem ((c.tc : Thread Cert.MixKernelIdeal.nD Cert.MixKernelIdeal.τ).loc Cert.MixKernelIdeal.main_arg12) = m ((c.tc : Thread Cert.MixKernelIdeal.nD Cert.MixKernelIdeal.τ).loc Cert.MixKernelIdeal.main_arg12)
          ∧ r.2.mem ((c.tc : Thread Cert.MixKernelIdeal.nD Cert.MixKernelIdeal.τ).loc Cert.MixKernelIdeal.main_arg13) = m ((c.tc : Thread Cert.MixKernelIdeal.nD Cert.MixKernelIdeal.τ).loc Cert.MixKernelIdeal.main_arg13)
          ∧ r.2.mem ((c.tc : Thread Cert.MixKernelIdeal.nD Cert.MixKernelIdeal.τ).loc Cert.MixKernelIdeal.main_arg14) = m ((c.tc : Thread Cert.MixKernelIdeal.nD Cert.MixKernelIdeal.τ).loc Cert.MixKernelIdeal.main_arg14))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v67) = v0 c
          ∧ r.2.mem ((c.tc : Thread Cert.MixReferenceIdeal.nD Cert.MixReferenceIdeal.τ).loc Cert.MixReferenceIdeal.main_v82) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12)
          ∧ r.2.mem ((c.tc : Thread Cert.MixReferenceIdeal.nD Cert.MixReferenceIdeal.τ).loc Cert.MixReferenceIdeal.main_arg13) = m' ((c.tc : Thread Cert.MixReferenceIdeal.nD Cert.MixReferenceIdeal.τ).loc Cert.MixReferenceIdeal.main_arg13)
          ∧ r.2.mem ((c.tc : Thread Cert.MixReferenceIdeal.nD Cert.MixReferenceIdeal.τ).loc Cert.MixReferenceIdeal.main_arg14) = m' ((c.tc : Thread Cert.MixReferenceIdeal.nD Cert.MixReferenceIdeal.τ).loc Cert.MixReferenceIdeal.main_arg14))

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hMixKernel : Cert.MixKernel.Facts) (hMixKernelIdeal : Cert.MixKernelIdeal.Facts) (hMixReferenceIdeal : Cert.MixReferenceIdeal.Facts) (hPre_finite_scores : Cert.Pre_finite_scores.Facts) (hPre_finite_mix : Cert.Pre_finite_mix.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_InKernel (hInKernel := hInKernel)
    ∧ quiescent_InKernelIdeal (hInKernelIdeal := hInKernelIdeal)
    ∧ quiescent_InReferenceIdeal (hInReferenceIdeal := hInReferenceIdeal)
    ∧ quiescent_MixKernel (hMixKernel := hMixKernel)
    ∧ quiescent_MixKernelIdeal (hMixKernelIdeal := hMixKernelIdeal)
    ∧ quiescent_MixKernelIdeal_pre_finite_mix (hMixKernelIdeal := hMixKernelIdeal) (hPre_finite_mix := hPre_finite_mix)
    ∧ quiescent_MixReferenceIdeal (hMixReferenceIdeal := hMixReferenceIdeal)
    ∧ quiescent_MixReferenceIdeal_pre_finite_mix (hMixReferenceIdeal := hMixReferenceIdeal) (hPre_finite_mix := hPre_finite_mix)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_InKernel_InKernelIdeal
    ∧ algebraic_InKernelIdeal_InReferenceIdeal (hInKernelIdeal := hInKernelIdeal) (hInReferenceIdeal := hInReferenceIdeal)
    ∧ preserves_MixKernel_MixKernelIdeal
    ∧ algebraic_MixKernelIdeal_MixReferenceIdeal_pre_finite_mix (hMixKernelIdeal := hMixKernelIdeal) (hMixReferenceIdeal := hMixReferenceIdeal) (hPre_finite_mix := hPre_finite_mix)
-- ==== Pre_finite_mix.lean ====
abbrev S16x2048x1024 : Shape := ⟨3, ![16, 2048, 1024]⟩
abbrev S16x2048x512 : Shape := ⟨3, ![16, 2048, 512]⟩
abbrev S512 : Shape := ⟨1, ![512]⟩
abbrev S1024x1024 : Shape := ⟨2, ![1024, 1024]⟩
abbrev S1024 : Shape := ⟨1, ![1024]⟩
abbrev S1024x512 : Shape := ⟨2, ![1024, 512]⟩
abbrev S128 : Shape := ⟨1, ![128]⟩
abbrev S16x256x512 : Shape := ⟨3, ![16, 256, 512]⟩
abbrev S512x1024 : Shape := ⟨2, ![512, 1024]⟩
abbrev S1024x128 : Shape := ⟨2, ![1024, 128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bitsLt_bf16_f32 : FTy.bits .bf16 < FTy.bits .f32
  bcast_S_S16x256x512 : S_.BroadcastsInDim S16x256x512 (![] : Fin 0 → Fin S16x256x512.rank)
  reducesTo_S16x256x512_S_d0_1_2 : S16x256x512.ReducesTo [0, 1, 2] S_

variable [Facts]

def fn {F : FTy → Type} [FloatOps F] (main_arg0 : FVec F S16x2048x1024 .f32) (main_arg1 : FVec F S16x2048x512 .f32) (main_arg2 : FVec F S16x2048x512 .f32) (main_arg3 : FVec F S16x2048x512 .f32) (main_arg4 : FVec F S512 .f32) (main_arg5 : FVec F S1024x1024 .f32) (main_arg6 : FVec F S1024 .f32) (main_arg7 : FVec F S1024x512 .f32) (main_arg8 : FVec F S128 .f32) (main_arg9 : FVec F S16x256x512 .bf16) (main_arg10 : FVec F S16x256x512 .bf16) (main_arg11 : FVec F S512x1024 .f32) (main_arg12 : FVec F S1024 .f32) (main_arg13 : FVec F S1024x128 .f32) (main_arg14 : FVec F S128 .f32) : IVec S_ 1 :=
  let main_v0 : FVec F S128 .f32 := Host.absf main_arg8
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S16x256x512 .f32 := (extf .f32 · bitsLt_bf16_f32) main_arg9
  let main_v5 : FVec F S16x256x512 .f32 := Host.absf main_v4
  let main_cst_0 : FVec F S_ .f32 := constant S_ .f32 0x7F800000#32
  let main_v6 : FVec F S16x256x512 .f32 := broadcastInDim S16x256x512 ![] bcast_S_S16x256x512 main_cst_0
  let main_v7 : IVec S16x256x512 1 := cmpf .olt main_v5 main_v6
  let main_c_1 : IVec S_ 1 := constantI S_ 1 1#1
  let main_v8 : IVec S_ 1 := (fun x v => Host.reduce IntOp.andi x v reducesTo_S16x256x512_S_d0_1_2 h_S_) main_v7 main_c_1
  let main_v9 : IVec S_ 1 := andi main_v3 main_v8
  main_v9
-- ==== Pre_finite_scores.lean ====
abbrev S16x2048x512 : Shape := ⟨3, ![16, 2048, 512]⟩
abbrev S8x320 : Shape := ⟨2, ![8, 320]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bitsLt_bf16_f32 : FTy.bits .bf16 < FTy.bits .f32
  bcast_S_S8x320 : S_.BroadcastsInDim S8x320 (![] : Fin 0 → Fin S8x320.rank)
  reducesTo_S8x320_S_d0_1 : S8x320.ReducesTo [0, 1] S_

variable [Facts]

def fn {F : FTy → Type} [FloatOps F] (main_arg0 : FVec F S16x2048x512 .f32) (main_arg1 : FVec F S16x2048x512 .bf16) (main_arg2 : FVec F S16x2048x512 .bf16) (main_arg3 : FVec F S8x320 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S16x2048x512 .f32 := (extf .f32 · bitsLt_bf16_f32) main_arg1
  let main_v5 : FVec F S16x2048x512 .f32 := Host.absf main_v4
  let main_cst_0 : FVec F S_ .f32 := constant S_ .f32 0x7F800000#32
  let main_v6 : FVec F S16x2048x512 .f32 := broadcastInDim S16x2048x512 ![] bcast_S_S16x2048x512 main_cst_0
  let main_v7 : IVec S16x2048x512 1 := cmpf .olt main_v5 main_v6
  let main_c_1 : IVec S_ 1 := constantI S_ 1 1#1
  let main_v8 : IVec S_ 1 := (fun x v => Host.reduce IntOp.andi x v reducesTo_S16x2048x512_S_d0_1_2 h_S_) main_v7 main_c_1
  let main_v9 : IVec S_ 1 := andi main_v3 main_v8
  let main_v10 : FVec F S8x320 .f32 := Host.absf main_arg3
  let main_cst_2 : FVec F S_ .f32 := constant S_ .f32 0x7F800000#32
  let main_v11 : FVec F S8x320 .f32 := broadcastInDim S8x320 ![] bcast_S_S8x320 main_cst_2
  let main_v12 : IVec S8x320 1 := cmpf .olt main_v10 main_v11
  let main_c_3 : IVec S_ 1 := constantI S_ 1 1#1
  let main_v13 : IVec S_ 1 := (fun x v => Host.reduce IntOp.andi x v reducesTo_S8x320_S_d0_1 h_S_) main_v12 main_c_3
  let main_v14 : IVec S_ 1 := andi main_v9 main_v13
  main_v14
-- ==== Kernel.lean ====
abbrev S16x2048x512 : Shape := ⟨3, ![16, 2048, 512]⟩
abbrev S8x320 : Shape := ⟨2, ![8, 320]⟩
abbrev S8x1 : Shape := ⟨2, ![8, 1]⟩
abbrev S8x319 : Shape := ⟨2, ![8, 319]⟩
abbrev S8x639 : Shape := ⟨2, ![8, 639]⟩
abbrev S8x576 : Shape := ⟨2, ![8, 576]⟩
abbrev S8x1x576 : Shape := ⟨3, ![8, 1, 576]⟩
abbrev S8x16x576 : Shape := ⟨3, ![8, 16, 576]⟩
abbrev S8x64x576 : Shape := ⟨3, ![8, 64, 576]⟩
abbrev S1x4x128x576 : Shape := ⟨4, ![1, 4, 128, 576]⟩
abbrev S4x128x576 : Shape := ⟨3, ![4, 128, 576]⟩
abbrev S1x512x512 : Shape := ⟨3, ![1, 512, 512]⟩
abbrev S1x2048x512 : Shape := ⟨3, ![1, 2048, 512]⟩
abbrev S2x4x128x576 : Shape := ⟨4, ![2, 4, 128, 576]⟩
abbrev S1024x512 : Shape := ⟨2, ![1024, 512]⟩
abbrev S512x512 : Shape := ⟨2, ![512, 512]⟩
abbrev S64x128 : Shape := ⟨2, ![64, 128]⟩
abbrev S1x1x576 : Shape := ⟨3, ![1, 1, 576]⟩
abbrev S1x64x128 : Shape := ⟨3, ![1, 64, 128]⟩
abbrev S128x128 : Shape := ⟨2, ![128, 128]⟩
abbrev S576x128 : Shape := ⟨2, ![576, 128]⟩
abbrev S128x576 : Shape := ⟨2, ![128, 576]⟩
abbrev S1x128x576 : Shape := ⟨3, ![1, 128, 576]⟩
abbrev S1x1x128x576 : Shape := ⟨4, ![1, 1, 128, 576]⟩
abbrev S4x128 : Shape := ⟨2, ![4, 128]⟩
abbrev S4x128x1 : Shape := ⟨3, ![4, 128, 1]⟩
abbrev S1x128x1 : Shape := ⟨3, ![1, 128, 1]⟩
abbrev S128x1 : Shape := ⟨2, ![128, 1]⟩
abbrev S1x576x128 : Shape := ⟨3, ![1, 576, 128]⟩

abbrev nBuf : Space → Nat
  | .hbm => 144
  | .vmem => 13
  | .smem => 0
  | _ => 0

abbrev hbmTy0_0 (i : Nat) : BufTy := match i % 128 with
  | 0 => ⟨S16x2048x512, .f32⟩
  | 1 => ⟨S16x2048x512, .bf16⟩
  | 2 => ⟨S16x2048x512, .bf16⟩
  | 3 => ⟨S8x320, .f32⟩
  | 4 => ⟨S8x1, .f32⟩
  | 5 => ⟨S8x319, .f32⟩
  | 6 => ⟨S8x639, .f32⟩
  | 7 => ⟨S8x639, .f32⟩
  | 8 => ⟨S8x576, .f32⟩
  | 9 => ⟨S8x576, .f32⟩
  | 10 => ⟨S8x576, .f32⟩
  | 11 => ⟨S8x576, .f32⟩
  | 12 => ⟨S8x576, .f32⟩
  | 13 => ⟨S8x576, .f32⟩
  | 14 => ⟨S8x576, .f32⟩
  | 15 => ⟨S8x576, .f32⟩
  | 16 => ⟨S8x576, .f32⟩
  | 17 => ⟨S8x576, .f32⟩
  | 18 => ⟨S8x576, .f32⟩
  | 19 => ⟨S8x576, .f32⟩
  | 20 => ⟨S8x576, .f32⟩
  | 21 => ⟨S8x576, .f32⟩
  | 22 => ⟨S8x576, .f32⟩
  | 23 => ⟨S8x576, .f32⟩
  | 24 => ⟨S8x576, .f32⟩
  | 25 => ⟨S8x576, .f32⟩
  | 26 => ⟨S8x576, .f32⟩
  | 27 => ⟨S8x576, .f32⟩
  | 28 => ⟨S8x576, .f32⟩
  | 29 => ⟨S8x576, .f32⟩
  | 30 => ⟨S8x576, .f32⟩
  | 31 => ⟨S8x576, .f32⟩
  | 32 => ⟨S8x576, .f32⟩
  | 33 => ⟨S8x576, .f32⟩
  | 34 => ⟨S8x576, .f32⟩
  | 35 => ⟨S8x576, .f32⟩
  | 36 => ⟨S8x576, .f32⟩
  | 37 => ⟨S8x576, .f32⟩
  | 38 => ⟨S8x576, .f32⟩
  | 39 => ⟨S8x576, .f32⟩
  | 40 => ⟨S8x576, .f32⟩
  | 41 => ⟨S8x576, .f32⟩
  | 42 => ⟨S8x576, .f32⟩
  | 43 => ⟨S8x576, .f32⟩
  | 44 => ⟨S8x576, .f32⟩
  | 45 => ⟨S8x576, .f32⟩
  | 46 => ⟨S8x576, .f32⟩
  | 47 => ⟨S8x576, .f32⟩
  | 48 => ⟨S8x576, .f32⟩
  | 49 => ⟨S8x576, .f32⟩
  | 50 => ⟨S8x576, .f32⟩
  | 51 => ⟨S8x576, .f32⟩
  | 52 => ⟨S8x576, .f32⟩
  | 53 => ⟨S8x576, .f32⟩
  | 54 => ⟨S8x576, .f32⟩
  | 55 => ⟨S8x576, .f32⟩
  | 56 => ⟨S8x576, .f32⟩
  | 57 => ⟨S8x576, .f32⟩
  | 58 => ⟨S8x576, .f32⟩
  | 59 => ⟨S8x576, .f32⟩
  | 60 => ⟨S8x576, .f32⟩
  | 61 => ⟨S8x576, .f32⟩
  | 62 => ⟨S8x576, .f32⟩
  | 63 => ⟨S8x576, .f32⟩
  | 64 => ⟨S8x576, .f32⟩
  | 65 => ⟨S8x576, .f32⟩
  | 66 => ⟨S8x576, .f32⟩
  | 67 => ⟨S8x576, .f32⟩
  | 68 => ⟨S8x576, .f32⟩
  | 69 => ⟨S8x576, .f32⟩
  | 70 => ⟨S8x576, .f32⟩
  | 71 => ⟨S8x576, .f32⟩
  | 72 => ⟨S8x1x576, .f32⟩
  | 73 => ⟨S8x1x576, .f32⟩
  | 74 => ⟨S8x1x576, .f32⟩
  | 75 => ⟨S8x1x576, .f32⟩
  | 76 => ⟨S8x1x576, .f32⟩
  | 77 => ⟨S8x1x576, .f32⟩
  | 78 => ⟨S8x1x576, .f32⟩
  | 79 => ⟨S8x1x576, .f32⟩
  | 80 => ⟨S8x1x576, .f32⟩
  | 81 => ⟨S8x1x576, .f32⟩
  | 82 => ⟨S8x1x576, .f32⟩
  | 83 => ⟨S8x1x576, .f32⟩
  | 84 => ⟨S8x1x576, .f32⟩
  | 85 => ⟨S8x1x576, .f32⟩
  | 86 => ⟨S8x1x576, .f32⟩
  | 87 => ⟨S8x1x576, .f32⟩
  | 88 => ⟨S8x1x576, .f32⟩
  | 89 => ⟨S8x1x576, .f32⟩
  | 90 => ⟨S8x1x576, .f32⟩
  | 91 => ⟨S8x1x576, .f32⟩
  | 92 => ⟨S8x1x576, .f32⟩
  | 93 => ⟨S8x1x576, .f32⟩
  | 94 => ⟨S8x1x576, .f32⟩
  | 95 => ⟨S8x1x576, .f32⟩
  | 96 => ⟨S8x1x576, .f32⟩
  | 97 => ⟨S8x1x576, .f32⟩
  | 98 => ⟨S8x1x576, .f32⟩
  | 99 => ⟨S8x1x576, .f32⟩
  | 100 => ⟨S8x1x576, .f32⟩
  | 101 => ⟨S8x1x576, .f32⟩
  | 102 => ⟨S8x1x576, .f32⟩
  | 103 => ⟨S8x1x576, .f32⟩
  | 104 => ⟨S8x1x576, .f32⟩
  | 105 => ⟨S8x1x576, .f32⟩
  | 106 => ⟨S8x1x576, .f32⟩
  | 107 => ⟨S8x1x576, .f32⟩
  | 108 => ⟨S8x1x576, .f32⟩
  | 109 => ⟨S8x1x576, .f32⟩
  | 110 => ⟨S8x1x576, .f32⟩
  | 111 => ⟨S8x1x576, .f32⟩
  | 112 => ⟨S8x1x576, .f32⟩
  | 113 => ⟨S8x1x576, .f32⟩
  | 114 => ⟨S8x1x576, .f32⟩
  | 115 => ⟨S8x1x576, .f32⟩
  | 116 => ⟨S8x1x576, .f32⟩
  | 117 => ⟨S8x1x576, .f32⟩
  | 118 => ⟨S8x1x576, .f32⟩
  | 119 => ⟨S8x1x576, .f32⟩
  | 120 => ⟨S8x1x576, .f32⟩
  | 121 => ⟨S8x1x576, .f32⟩
  | 122 => ⟨S8x1x576, .f32⟩
  | 123 => ⟨S8x1x576, .f32⟩
  | 124 => ⟨S8x1x576, .f32⟩
  | 125 => ⟨S8x1x576, .f32⟩
  | 126 => ⟨S8x1x576, .f32⟩
  | 127 => ⟨S8x1x576, .f32⟩
  | _ => ⟨S16x2048x512, .f32⟩

abbrev hbmTy0_1 (i : Nat) : BufTy := match i % 128 with
  | 0 => ⟨S8x1x576, .f32⟩
  | 1 => ⟨S8x1x576, .f32⟩
  | 2 => ⟨S8x1x576, .f32⟩
  | 3 => ⟨S8x1x576, .f32⟩
  | 4 => ⟨S8x1x576, .f32⟩
  | 5 => ⟨S8x1x576, .f32⟩
  | 6 => ⟨S8x1x576, .f32⟩
  | 7 => ⟨S8x1x576, .f32⟩
  | 8 => ⟨S8x16x576, .f32⟩
  | 9 => ⟨S8x16x576, .f32⟩
  | 10 => ⟨S8x16x576, .f32⟩
  | 11 => ⟨S8x16x576, .f32⟩
  | 12 => ⟨S8x64x576, .f32⟩
  | 13 => ⟨S1x4x128x576, .f32⟩
  | 14 => ⟨S4x128x576, .f32⟩
  | 15 => ⟨S16x2048x512, .f32⟩
  | _ => ⟨S16x2048x512, .f32⟩

abbrev hbmTy (i : Nat) : BufTy := match i / 128 with
  | 0 => hbmTy0_0 i
  | 1 => hbmTy0_1 i
  | _ => ⟨S16x2048x512, .f32⟩

abbrev bufTy : (tb : Table) → Fin (tcTables nBuf tb) → BufTy
  | .hbm, ⟨i, _⟩ => hbmTy i
  | .local _ .vmem, ⟨0, _⟩ => ⟨S1x512x512, .f32⟩
  | .local _ .vmem, ⟨1, _⟩ => ⟨S1x512x512, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S4x128x576, .f32⟩
  | .local _ .vmem, ⟨7, _⟩ => ⟨S1x512x512, .f32⟩
  | .local _ .vmem, ⟨8, _⟩ => ⟨S1x512x512, .f32⟩
  | .local _ .vmem, ⟨9, _⟩ => ⟨S2x4x128x576, .f32⟩
  | .local _ .vmem, ⟨10, _⟩ => ⟨S2x4x128x576, .bf16⟩
  | .local _ .vmem, ⟨11, _⟩ => ⟨S1024x512, .bf16⟩
  | .local _ .vmem, ⟨12, _⟩ => ⟨S1024x512, .bf16⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev main_v101 : Ref sig .tc := ⟨.hbm, 105, rfl⟩
abbrev main_v102 : Ref sig .tc := ⟨.hbm, 106, rfl⟩
abbrev main_v103 : Ref sig .tc := ⟨.hbm, 107, rfl⟩
abbrev main_v104 : Ref sig .tc := ⟨.hbm, 108, rfl⟩
abbrev main_v105 : Ref sig .tc := ⟨.hbm, 109, rfl⟩
abbrev main_v106 : Ref sig .tc := ⟨.hbm, 110, rfl⟩
abbrev main_v107 : Ref sig .tc := ⟨.hbm, 111, rfl⟩
abbrev main_v108 : Ref sig .tc := ⟨.hbm, 112, rfl⟩
abbrev main_v109 : Ref sig .tc := ⟨.hbm, 113, rfl⟩
abbrev main_v110 : Ref sig .tc := ⟨.hbm, 114, rfl⟩
abbrev main_v111 : Ref sig .tc := ⟨.hbm, 115, rfl⟩
abbrev main_v112 : Ref sig .tc := ⟨.hbm, 116, rfl⟩
abbrev main_v113 : Ref sig .tc := ⟨.hbm, 117, rfl⟩
abbrev main_v114 : Ref sig .tc := ⟨.hbm, 118, rfl⟩
abbrev main_v115 : Ref sig .tc := ⟨.hbm, 119, rfl⟩
abbrev main_v116 : Ref sig .tc := ⟨.hbm, 120, rfl⟩
abbrev main_v117 : Ref sig .tc := ⟨.hbm, 121, rfl⟩
abbrev main_v118 : Ref sig .tc := ⟨.hbm, 122, rfl⟩
abbrev main_v119 : Ref sig .tc := ⟨.hbm, 123, rfl⟩
abbrev main_v120 : Ref sig .tc := ⟨.hbm, 124, rfl⟩
abbrev main_v121 : Ref sig .tc := ⟨.hbm, 125, rfl⟩
abbrev main_v122 : Ref sig .tc := ⟨.hbm, 126, rfl⟩
abbrev main_v123 : Ref sig .tc := ⟨.hbm, 127, rfl⟩
abbrev main_v124 : Ref sig .tc := ⟨.hbm, 128, rfl⟩
abbrev main_v125 : Ref sig .tc := ⟨.hbm, 129, rfl⟩
abbrev main_v126 : Ref sig .tc := ⟨.hbm, 130, rfl⟩
abbrev main_v127 : Ref sig .tc := ⟨.hbm, 131, rfl⟩
abbrev main_v128 : Ref sig .tc := ⟨.hbm, 132, rfl⟩
abbrev main_v129 : Ref sig .tc := ⟨.hbm, 133, rfl⟩
abbrev main_v130 : Ref sig .tc := ⟨.hbm, 134, rfl⟩
abbrev main_v131 : Ref sig .tc := ⟨.hbm, 135, rfl⟩
abbrev main_v132 : Ref sig .tc := ⟨.hbm, 136, rfl⟩
abbrev main_v133 : Ref sig .tc := ⟨.hbm, 137, rfl⟩
abbrev main_v134 : Ref sig .tc := ⟨.hbm, 138, rfl⟩
abbrev main_v135 : Ref sig .tc := ⟨.hbm, 139, rfl⟩
abbrev main_v136 : Ref sig .tc := ⟨.hbm, 140, rfl⟩
abbrev main_v137 : Ref sig .tc := ⟨.hbm, 141, rfl⟩
abbrev main_v138 : Ref sig .tc := ⟨.hbm, 142, rfl⟩
abbrev main_v139 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c8_i32 : BitVec 32 := 8#32
  let v7 : BitVec 32 := Scalar.muli arg1 c8_i32
  let c8_i32_1 : BitVec 32 := 8#32
  let v8 : BitVec 1 := Scalar.cmpi .slt v7 c8_i32_1
  let v9 : BitVec 32 := Scalar.extui v8
  let c0_i32_2 : BitVec 32 := 0#32
  let v10 : BitVec 1 := Scalar.cmpi .ne v9 c0_i32_2
  v10

@[reducible] def k0_t1_loop : Scf.Loop 32 :=
  let c0_i32_6 : BitVec 32 := 0#32
  let c4_i32 : BitVec 32 := 4#32
  let v15 : BitVec 32 := Scalar.addi c0_i32_6 c4_i32
  let c1_i32 : BitVec 32 := 1#32
  ⟨c0_i32_6, v15, c1_i32⟩
def k0_mult1 (i : grid0.Coords) (k0_t1 : Fin k0_t1_loop.trips) : BitVec 32 :=
  let arg1 : BitVec 32 := BitVec.ofNat 32 (i 1).val
  let c8_i32_8 : BitVec 32 := 8#32
  let v16 : BitVec 32 := Scalar.muli arg1 c8_i32_8
  let c0_i32_6 : BitVec 32 := 0#32
  let c1_i32 : BitVec 32 := 1#32
  let arg11 : BitVec 32 := Scf.iv c0_i32_6 c1_i32 k0_t1
  let c2_i32 : BitVec 32 := 2#32
  let v17 : BitVec 32 := Scalar.muli arg11 c2_i32
  let v18 : BitVec 32 := Scalar.addi v16 v17
  let c0_i32_9 : BitVec 32 := 0#32
  let v19 : BitVec 32 := Scalar.addi v18 c0_i32_9
  let c64_i32_13 : BitVec 32 := 64#32
  let v24 : BitVec 32 := Scalar.muli v19 c64_i32_13
  v24
def k0_mult2 (i : grid0.Coords) (k0_t1 : Fin k0_t1_loop.trips) : BitVec 32 :=
  let arg1 : BitVec 32 := BitVec.ofNat 32 (i 1).val
  let c8_i32_10 : BitVec 32 := 8#32
  let v20 : BitVec 32 := Scalar.muli arg1 c8_i32_10
  let c0_i32_6 : BitVec 32 := 0#32
  let c1_i32 : BitVec 32 := 1#32
  let arg11 : BitVec 32 := Scf.iv c0_i32_6 c1_i32 k0_t1
  let c2_i32_11 : BitVec 32 := 2#32
  let v21 : BitVec 32 := Scalar.muli arg11 c2_i32_11
  let v22 : BitVec 32 := Scalar.addi v20 v21
  let c1_i32_12 : BitVec 32 := 1#32
  let v23 : BitVec 32 := Scalar.addi v22 c1_i32_12
  let c64_i32_14 : BitVec 32 := 64#32
  let v26 : BitVec 32 := Scalar.muli v23 c64_i32_14
  v26
def k0_mult3 (k0_t1 : Fin k0_t1_loop.trips) : BitVec 32 :=
  let c0_i32_6 : BitVec 32 := 0#32
  let c1_i32 : BitVec 32 := 1#32
  let arg11 : BitVec 32 := Scf.iv c0_i32_6 c1_i32 k0_t1
  let c2_i32_15 : BitVec 32 := 2#32
  let v28 : BitVec 32 := Scalar.muli arg11 c2_i32_15
  let c0_i32_16 : BitVec 32 := 0#32
  let v29 : BitVec 32 := Scalar.addi v28 c0_i32_16
  let c64_i32_17 : BitVec 32 := 64#32
  let v30 : BitVec 32 := Scalar.muli v29 c64_i32_17
  v30
def k0_mult4 (k0_t1 : Fin k0_t1_loop.trips) : BitVec 32 :=
  let c0_i32_6 : BitVec 32 := 0#32
  let c1_i32 : BitVec 32 := 1#32
  let arg11 : BitVec 32 := Scf.iv c0_i32_6 c1_i32 k0_t1
  let c2_i32_18 : BitVec 32 := 2#32
  let v32 : BitVec 32 := Scalar.muli arg11 c2_i32_18
  let c1_i32_19 : BitVec 32 := 1#32
  let v33 : BitVec 32 := Scalar.addi v32 c1_i32_19
  let c64_i32_20 : BitVec 32 := 64#32
  let v34 : BitVec 32 := Scalar.muli v33 c64_i32_20
  v34
def k0_off1 (k0_t1 : Fin k0_t1_loop.trips) (c0_i32_16 : BitVec 32) : Fin 3 → Nat :=
  let c0 : Index := 0#32
  let c0_i32_6 : BitVec 32 := 0#32
  let c1_i32 : BitVec 32 := 1#32
  let arg11 : BitVec 32 := Scf.iv c0_i32_6 c1_i32 k0_t1
  let c2_i32_15 : BitVec 32 := 2#32
  let v28 : BitVec 32 := Scalar.muli arg11 c2_i32_15
  let v29 : BitVec 32 := Scalar.addi v28 c0_i32_16
  let c64_i32_17 : BitVec 32 := 64#32
  let v30 : BitVec 32 := Scalar.muli v29 c64_i32_17
  let v31 : BitVec 32 := v30
  let v36 : Index := Scalar.indexCast v31
  let c0_21 : Index := 0#32
  ![0, v36.toNat, 0]
def k0_off2 (i : grid0.Coords) (k0_t1 : Fin k0_t1_loop.trips) (c0_i32_9 : BitVec 32) : Fin 2 → Nat :=
  let arg1 : BitVec 32 := BitVec.ofNat 32 (i 1).val
  let c8_i32_8 : BitVec 32 := 8#32
  let v16 : BitVec 32 := Scalar.muli arg1 c8_i32_8
  let c0_i32_6 : BitVec 32 := 0#32
  let c1_i32 : BitVec 32 := 1#32
  let arg11 : BitVec 32 := Scf.iv c0_i32_6 c1_i32 k0_t1
  let c2_i32 : BitVec 32 := 2#32
  let v17 : BitVec 32 := Scalar.muli arg11 c2_i32
  let v18 : BitVec 32 := Scalar.addi v16 v17
  let v19 : BitVec 32 := Scalar.addi v18 c0_i32_9
  let c64_i32_13 : BitVec 32 := 64#32
  let v24 : BitVec 32 := Scalar.muli v19 c64_i32_13
  let v25 : BitVec 32 := v24
  let v46 : Index := Scalar.indexCast v25
  let c0_23 : Index := 0#32
  ![v46.toNat, 0]
def k0_off3 (k0_t1 : Fin k0_t1_loop.trips) (c0_i32_16 : BitVec 32) : Fin 3 → Nat :=
  let c0_33 : Index := 0#32
  let c0_i32_6 : BitVec 32 := 0#32
  let c1_i32 : BitVec 32 := 1#32
  let arg11 : BitVec 32 := Scf.iv c0_i32_6 c1_i32 k0_t1
  let c2_i32_15 : BitVec 32 := 2#32
  let v28 : BitVec 32 := Scalar.muli arg11 c2_i32_15
  let v29 : BitVec 32 := Scalar.addi v28 c0_i32_16
  let c64_i32_17 : BitVec 32 := 64#32
  let v30 : BitVec 32 := Scalar.muli v29 c64_i32_17
  let v31 : BitVec 32 := v30
  let v57 : Index := Scalar.indexCast v31
  let c128 : Index := 128#32
  ![0, v57.toNat, 128]
def k0_off4 (i : grid0.Coords) (k0_t1 : Fin k0_t1_loop.trips) (c0_i32_9 : BitVec 32) : Fin 2 → Nat :=
  let arg1 : BitVec 32 := BitVec.ofNat 32 (i 1).val
  let c8_i32_8 : BitVec 32 := 8#32
  let v16 : BitVec 32 := Scalar.muli arg1 c8_i32_8
  let c0_i32_6 : BitVec 32 := 0#32
  let c1_i32 : BitVec 32 := 1#32
  let arg11 : BitVec 32 := Scf.iv c0_i32_6 c1_i32 k0_t1
  let c2_i32 : BitVec 32 := 2#32
  let v17 : BitVec 32 := Scalar.muli arg11 c2_i32
  let v18 : BitVec 32 := Scalar.addi v16 v17
  let v19 : BitVec 32 := Scalar.addi v18 c0_i32_9
  let c64_i32_13 : BitVec 32 := 64#32
  let v24 : BitVec 32 := Scalar.muli v19 c64_i32_13
  let v25 : BitVec 32 := v24
  let v67 : Index := Scalar.indexCast v25
  let c128_36 : Index := 128#32
  ![v67.toNat, 128]
def k0_off5 (k0_t1 : Fin k0_t1_loop.trips) (c0_i32_16 : BitVec 32) : Fin 3 → Nat :=
  let c0_45 : Index := 0#32
  let c0_i32_6 : BitVec 32 := 0#32
  let c1_i32 : BitVec 32 := 1#32
  let arg11 : BitVec 32 := Scf.iv c0_i32_6 c1_i32 k0_t1
  let c2_i32_15 : BitVec 32 := 2#32
  let v28 : BitVec 32 := Scalar.muli arg11 c2_i32_15
  let v29 : BitVec 32 := Scalar.addi v28 c0_i32_16
  let c64_i32_17 : BitVec 32 := 64#32
  let v30 : BitVec 32 := Scalar.muli v29 c64_i32_17
  let v31 : BitVec 32 := v30
  let v78 : Index := Scalar.indexCast v31
  let c256 : Index := 256#32
  ![0, v78.toNat, 256]
def k0_off6 (i : grid0.Coords) (k0_t1 : Fin k0_t1_loop.trips) (c0_i32_9 : BitVec 32) : Fin 2 → Nat :=
  let arg1 : BitVec 32 := BitVec.ofNat 32 (i 1).val
  let c8_i32_8 : BitVec 32 := 8#32
  let v16 : BitVec 32 := Scalar.muli arg1 c8_i32_8
  let c0_i32_6 : BitVec 32 := 0#32
  let c1_i32 : BitVec 32 := 1#32
  let arg11 : BitVec 32 := Scf.iv c0_i32_6 c1_i32 k0_t1
  let c2_i32 : BitVec 32 := 2#32
  let v17 : BitVec 32 := Scalar.muli arg11 c2_i32
  let v18 : BitVec 32 := Scalar.addi v16 v17
  let v19 : BitVec 32 := Scalar.addi v18 c0_i32_9
  let c64_i32_13 : BitVec 32 := 64#32
  let v24 : BitVec 32 := Scalar.muli v19 c64_i32_13
  let v25 : BitVec 32 := v24
  let v88 : Index := Scalar.indexCast v25
  let c256_48 : Index := 256#32
  ![v88.toNat, 256]
def k0_off7 (k0_t1 : Fin k0_t1_loop.trips) (c0_i32_16 : BitVec 32) : Fin 3 → Nat :=
  let c0_57 : Index := 0#32
  let c0_i32_6 : BitVec 32 := 0#32
  let c1_i32 : BitVec 32 := 1#32
  let arg11 : BitVec 32 := Scf.iv c0_i32_6 c1_i32 k0_t1
  let c2_i32_15 : BitVec 32 := 2#32
  let v28 : BitVec 32 := Scalar.muli arg11 c2_i32_15
  let v29 : BitVec 32 := Scalar.addi v28 c0_i32_16
  let c64_i32_17 : BitVec 32 := 64#32
  let v30 : BitVec 32 := Scalar.muli v29 c64_i32_17
  let v31 : BitVec 32 := v30
  let v99 : Index := Scalar.indexCast v31
  let c384 : Index := 384#32
  ![0, v99.toNat, 384]
def k0_off8 (i : grid0.Coords) (k0_t1 : Fin k0_t1_loop.trips) (c0_i32_9 : BitVec 32) : Fin 2 → Nat :=
  let arg1 : BitVec 32 := BitVec.ofNat 32 (i 1).val
  let c8_i32_8 : BitVec 32 := 8#32
  let v16 : BitVec 32 := Scalar.muli arg1 c8_i32_8
  let c0_i32_6 : BitVec 32 := 0#32
  let c1_i32 : BitVec 32 := 1#32
  let arg11 : BitVec 32 := Scf.iv c0_i32_6 c1_i32 k0_t1
  let c2_i32 : BitVec 32 := 2#32
  let v17 : BitVec 32 := Scalar.muli arg11 c2_i32
  let v18 : BitVec 32 := Scalar.addi v16 v17
  let v19 : BitVec 32 := Scalar.addi v18 c0_i32_9
  let c64_i32_13 : BitVec 32 := 64#32
  let v24 : BitVec 32 := Scalar.muli v19 c64_i32_13
  let v25 : BitVec 32 := v24
  let v109 : Index := Scalar.indexCast v25
  let c384_60 : Index := 384#32
  ![v109.toNat, 384]
def k0_cond3 (i : grid0.Coords) : BitVec 1 :=
  let arg1 : BitVec 32 := BitVec.ofNat 32 (i 1).val
  let c8_i32_3 : BitVec 32 := 8#32
  let v11 : BitVec 32 := Scalar.muli arg1 c8_i32_3
  let c8_i32_4 : BitVec 32 := 8#32
  let v12 : BitVec 1 := Scalar.cmpi .sge v11 c8_i32_4
  let v13 : BitVec 32 := Scalar.extui v12
  let c0_i32_5 : BitVec 32 := 0#32
  let v14 : BitVec 1 := Scalar.cmpi .ne v13 c0_i32_5
  v14

@[reducible] def k0_t2_loop : Scf.Loop 32 :=
  let c0_i32_6 : BitVec 32 := 0#32
  let c4_i32 : BitVec 32 := 4#32
  let v15 : BitVec 32 := Scalar.addi c0_i32_6 c4_i32
  let c1_i32 : BitVec 32 := 1#32
  ⟨c0_i32_6, v15, c1_i32⟩
def k0_mult5 (i : grid0.Coords) (k0_t2 : Fin k0_t2_loop.trips) : BitVec 32 :=
  let arg1 : BitVec 32 := BitVec.ofNat 32 (i 1).val
  let c8_i32_8 : BitVec 32 := 8#32
  let v16 : BitVec 32 := Scalar.muli arg1 c8_i32_8
  let c0_i32_6 : BitVec 32 := 0#32
  let c1_i32 : BitVec 32 := 1#32
  let arg11 : BitVec 32 := Scf.iv c0_i32_6 c1_i32 k0_t2
  let c2_i32 : BitVec 32 := 2#32
  let v17 : BitVec 32 := Scalar.muli arg11 c2_i32
  let v18 : BitVec 32 := Scalar.addi v16 v17
  let c0_i32_9 : BitVec 32 := 0#32
  let v19 : BitVec 32 := Scalar.addi v18 c0_i32_9
  let c8_i32_13 : BitVec 32 := 8#32
  let v24 : BitVec 32 := Scalar.subi v19 c8_i32_13
  let c64_i32_14 : BitVec 32 := 64#32
  let v25 : BitVec 32 := Scalar.muli v24 c64_i32_14
  v25
def k0_mult6 (i : grid0.Coords) (k0_t2 : Fin k0_t2_loop.trips) : BitVec 32 :=
  let arg1 : BitVec 32 := BitVec.ofNat 32 (i 1).val
  let c8_i32_10 : BitVec 32 := 8#32
  let v20 : BitVec 32 := Scalar.muli arg1 c8_i32_10
  let c0_i32_6 : BitVec 32 := 0#32
  let c1_i32 : BitVec 32 := 1#32
  let arg11 : BitVec 32 := Scf.iv c0_i32_6 c1_i32 k0_t2
  let c2_i32_11 : BitVec 32 := 2#32
  let v21 : BitVec 32 := Scalar.muli arg11 c2_i32_11
  let v22 : BitVec 32 := Scalar.addi v20 v21
  let c1_i32_12 : BitVec 32 := 1#32
  let v23 : BitVec 32 := Scalar.addi v22 c1_i32_12
  let c8_i32_15 : BitVec 32 := 8#32
  let v27 : BitVec 32 := Scalar.subi v23 c8_i32_15
  let c64_i32_16 : BitVec 32 := 64#32
  let v28 : BitVec 32 := Scalar.muli v27 c64_i32_16
  v28
def k0_mult7 (k0_t2 : Fin k0_t2_loop.trips) : BitVec 32 :=
  let c0_i32_6 : BitVec 32 := 0#32
  let c1_i32 : BitVec 32 := 1#32
  let arg11 : BitVec 32 := Scf.iv c0_i32_6 c1_i32 k0_t2
  let c2_i32_17 : BitVec 32 := 2#32
  let v30 : BitVec 32 := Scalar.muli arg11 c2_i32_17
  let c0_i32_18 : BitVec 32 := 0#32
  let v31 : BitVec 32 := Scalar.addi v30 c0_i32_18
  let c64_i32_19 : BitVec 32 := 64#32
  let v32 : BitVec 32 := Scalar.muli v31 c64_i32_19
  v32
def k0_mult8 (k0_t2 : Fin k0_t2_loop.trips) : BitVec 32 :=
  let c0_i32_6 : BitVec 32 := 0#32
  let c1_i32 : BitVec 32 := 1#32
  let arg11 : BitVec 32 := Scf.iv c0_i32_6 c1_i32 k0_t2
  let c2_i32_20 : BitVec 32 := 2#32
  let v34 : BitVec 32 := Scalar.muli arg11 c2_i32_20
  let c1_i32_21 : BitVec 32 := 1#32
  let v35 : BitVec 32 := Scalar.addi v34 c1_i32_21
  let c64_i32_22 : BitVec 32 := 64#32
  let v36 : BitVec 32 := Scalar.muli v35 c64_i32_22
  v36
def k0_off9 (k0_t2 : Fin k0_t2_loop.trips) (c0_i32_18 : BitVec 32) : Fin 3 → Nat :=
  let c0 : Index := 0#32
  let c0_i32_6 : BitVec 32 := 0#32
  let c1_i32 : BitVec 32 := 1#32
  let arg11 : BitVec 32 := Scf.iv c0_i32_6 c1_i32 k0_t2
  let c2_i32_17 : BitVec 32 := 2#32
  let v30 : BitVec 32 := Scalar.muli arg11 c2_i32_17
  let v31 : BitVec 32 := Scalar.addi v30 c0_i32_18
  let c64_i32_19 : BitVec 32 := 64#32
  let v32 : BitVec 32 := Scalar.muli v31 c64_i32_19
  let v33 : BitVec 32 := v32
  let v38 : Index := Scalar.indexCast v33
  let c0_23 : Index := 0#32
  ![0, v38.toNat, 0]
def k0_off10 (i : grid0.Coords) (k0_t2 : Fin k0_t2_loop.trips) (c0_i32_9 : BitVec 32) : Fin 3 → Nat :=
  let c0_25 : Index := 0#32
  let arg1 : BitVec 32 := BitVec.ofNat 32 (i 1).val
  let c8_i32_8 : BitVec 32 := 8#32
  let v16 : BitVec 32 := Scalar.muli arg1 c8_i32_8
  let c0_i32_6 : BitVec 32 := 0#32
  let c1_i32 : BitVec 32 := 1#32
  let arg11 : BitVec 32 := Scf.iv c0_i32_6 c1_i32 k0_t2
  let c2_i32 : BitVec 32 := 2#32
  let v17 : BitVec 32 := Scalar.muli arg11 c2_i32
  let v18 : BitVec 32 := Scalar.addi v16 v17
  let v19 : BitVec 32 := Scalar.addi v18 c0_i32_9
  let c8_i32_13 : BitVec 32 := 8#32
  let v24 : BitVec 32 := Scalar.subi v19 c8_i32_13
  let c64_i32_14 : BitVec 32 := 64#32
  let v25 : BitVec 32 := Scalar.muli v24 c64_i32_14
  let v26 : BitVec 32 := v25
  let v48 : Index := Scalar.indexCast v26
  let c0_26 : Index := 0#32
  ![0, v48.toNat, 0]
def k0_off11 (k0_t2 : Fin k0_t2_loop.trips) (c0_i32_18 : BitVec 32) : Fin 3 → Nat :=
  let c0_36 : Index := 0#32
  let c0_i32_6 : BitVec 32 := 0#32
  let c1_i32 : BitVec 32 := 1#32
  let arg11 : BitVec 32 := Scf.iv c0_i32_6 c1_i32 k0_t2
  let c2_i32_17 : BitVec 32 := 2#32
  let v30 : BitVec 32 := Scalar.muli arg11 c2_i32_17
  let v31 : BitVec 32 := Scalar.addi v30 c0_i32_18
  let c64_i32_19 : BitVec 32 := 64#32
  let v32 : BitVec 32 := Scalar.muli v31 c64_i32_19
  let v33 : BitVec 32 := v32
  let v60 : Index := Scalar.indexCast v33
  let c128 : Index := 128#32
  ![0, v60.toNat, 128]
def k0_off12 (i : grid0.Coords) (k0_t2 : Fin k0_t2_loop.trips) (c0_i32_9 : BitVec 32) : Fin 3 → Nat :=
  let c0_39 : Index := 0#32
  let arg1 : BitVec 32 := BitVec.ofNat 32 (i 1).val
  let c8_i32_8 : BitVec 32 := 8#32
  let v16 : BitVec 32 := Scalar.muli arg1 c8_i32_8
  let c0_i32_6 : BitVec 32 := 0#32
  let c1_i32 : BitVec 32 := 1#32
  let arg11 : BitVec 32 := Scf.iv c0_i32_6 c1_i32 k0_t2
  let c2_i32 : BitVec 32 := 2#32
  let v17 : BitVec 32 := Scalar.muli arg11 c2_i32
  let v18 : BitVec 32 := Scalar.addi v16 v17
  let v19 : BitVec 32 := Scalar.addi v18 c0_i32_9
  let c8_i32_13 : BitVec 32 := 8#32
  let v24 : BitVec 32 := Scalar.subi v19 c8_i32_13
  let c64_i32_14 : BitVec 32 := 64#32
  let v25 : BitVec 32 := Scalar.muli v24 c64_i32_14
  let v26 : BitVec 32 := v25
  let v70 : Index := Scalar.indexCast v26
  let c128_40 : Index := 128#32
  ![0, v70.toNat, 128]
def k0_off13 (k0_t2 : Fin k0_t2_loop.trips) (c0_i32_18 : BitVec 32) : Fin 3 → Nat :=
  let c0_49 : Index := 0#32
  let c0_i32_6 : BitVec 32 := 0#32
  let c1_i32 : BitVec 32 := 1#32
  let arg11 : BitVec 32 := Scf.iv c0_i32_6 c1_i32 k0_t2
  let c2_i32_17 : BitVec 32 := 2#32
  let v30 : BitVec 32 := Scalar.muli arg11 c2_i32_17
  let v31 : BitVec 32 := Scalar.addi v30 c0_i32_18
  let c64_i32_19 : BitVec 32 := 64#32
  let v32 : BitVec 32 := Scalar.muli v31 c64_i32_19
  let v33 : BitVec 32 := v32
  let v82 : Index := Scalar.indexCast v33
  let c256 : Index := 256#32
  ![0, v82.toNat, 256]
def k0_off14 (i : grid0.Coords) (k0_t2 : Fin k0_t2_loop.trips) (c0_i32_9 : BitVec 32) : Fin 3 → Nat :=
  let c0_52 : Index := 0#32
  let arg1 : BitVec 32 := BitVec.ofNat 32 (i 1).val
  let c8_i32_8 : BitVec 32 := 8#32
  let v16 : BitVec 32 := Scalar.muli arg1 c8_i32_8
  let c0_i32_6 : BitVec 32 := 0#32
  let c1_i32 : BitVec 32 := 1#32
  let arg11 : BitVec 32 := Scf.iv c0_i32_6 c1_i32 k0_t2
  let c2_i32 : BitVec 32 := 2#32
  let v17 : BitVec 32 := Scalar.muli arg11 c2_i32
  let v18 : BitVec 32 := Scalar.addi v16 v17
  let v19 : BitVec 32 := Scalar.addi v18 c0_i32_9
  let c8_i32_13 : BitVec 32 := 8#32
  let v24 : BitVec 32 := Scalar.subi v19 c8_i32_13
  let c64_i32_14 : BitVec 32 := 64#32
  let v25 : BitVec 32 := Scalar.muli v24 c64_i32_14
  let v26 : BitVec 32 := v25
  let v92 : Index := Scalar.indexCast v26
  let c256_53 : Index := 256#32
  ![0, v92.toNat, 256]
def k0_off15 (k0_t2 : Fin k0_t2_loop.trips) (c0_i32_18 : BitVec 32) : Fin 3 → Nat :=
  let c0_62 : Index := 0#32
  let c0_i32_6 : BitVec 32 := 0#32
  let c1_i32 : BitVec 32 := 1#32
  let arg11 : BitVec 32 := Scf.iv c0_i32_6 c1_i32 k0_t2
  let c2_i32_17 : BitVec 32 := 2#32
  let v30 : BitVec 32 := Scalar.muli arg11 c2_i32_17
  let v31 : BitVec 32 := Scalar.addi v30 c0_i32_18
  let c64_i32_19 : BitVec 32 := 64#32
  let v32 : BitVec 32 := Scalar.muli v31 c64_i32_19
  let v33 : BitVec 32 := v32
  let v104 : Index := Scalar.indexCast v33
  let c384 : Index := 384#32
  ![0, v104.toNat, 384]
def k0_off16 (i : grid0.Coords) (k0_t2 : Fin k0_t2_loop.trips) (c0_i32_9 : BitVec 32) : Fin 3 → Nat :=
  let c0_65 : Index := 0#32
  let arg1 : BitVec 32 := BitVec.ofNat 32 (i 1).val
  let c8_i32_8 : BitVec 32 := 8#32
  let v16 : BitVec 32 := Scalar.muli arg1 c8_i32_8
  let c0_i32_6 : BitVec 32 := 0#32
  let c1_i32 : BitVec 32 := 1#32
  let arg11 : BitVec 32 := Scf.iv c0_i32_6 c1_i32 k0_t2
  let c2_i32 : BitVec 32 := 2#32
  let v17 : BitVec 32 := Scalar.muli arg11 c2_i32
  let v18 : BitVec 32 := Scalar.addi v16 v17
  let v19 : BitVec 32 := Scalar.addi v18 c0_i32_9
  let c8_i32_13 : BitVec 32 := 8#32
  let v24 : BitVec 32 := Scalar.subi v19 c8_i32_13
  let c64_i32_14 : BitVec 32 := 64#32
  let v25 : BitVec 32 := Scalar.muli v24 c64_i32_14
  let v26 : BitVec 32 := v25
  let v114 : Index := Scalar.indexCast v26
  let c384_66 : Index := 384#32
  ![0, v114.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x128x576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale_log2e" => some (((1 / 8) * (Real.log 2)⁻¹ : ℝ) : EReal)
  | _ => none
-- ==== ReferenceIdeal.lean ====
abbrev S16x2048x512 : Shape := ⟨3, ![16, 2048, 512]⟩
abbrev S8x320 : Shape := ⟨2, ![8, 320]⟩
abbrev S16x2048x8x64 : Shape := ⟨4, ![16, 2048, 8, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S_ : Shape := ⟨0, ![]⟩
abbrev S64x576 : Shape := ⟨2, ![64, 576]⟩
abbrev S64x576x1 : Shape := ⟨3, ![64, 576, 1]⟩
abbrev S8x64x576 : Shape := ⟨3, ![8, 64, 576]⟩
abbrev S16x32x64x8x64 : Shape := ⟨5, ![16, 32, 64, 8, 64]⟩
abbrev S32x16x8x64x64 : Shape := ⟨5, ![32, 16, 8, 64, 64]⟩
abbrev S16x2560x8x64 : Shape := ⟨4, ![16, 2560, 8, 64]⟩
abbrev S16x8x2560x64 : Shape := ⟨4, ![16, 8, 2560, 64]⟩
abbrev S32 : Shape := ⟨1, ![32]⟩
abbrev S1 : Shape := ⟨1, ![1]⟩
abbrev S1x16x8x64x64 : Shape := ⟨5, ![1, 16, 8, 64, 64]⟩
abbrev S16x8x64x64 : Shape := ⟨4, ![16, 8, 64, 64]⟩
abbrev S16x8x576x64 : Shape := ⟨4, ![16, 8, 576, 64]⟩
abbrev S16x8x64x576 : Shape := ⟨4, ![16, 8, 64, 576]⟩
abbrev S1x8x64x576 : Shape := ⟨4, ![1, 8, 64, 576]⟩
abbrev S16x8x64 : Shape := ⟨3, ![16, 8, 64]⟩
abbrev S16x8x64x1 : Shape := ⟨4, ![16, 8, 64, 1]⟩

abbrev nBuf : Space → Nat
  | .hbm => 137
  | .vmem => 0
  | .smem => 0
  | _ => 0

abbrev hbmTy0_0 (i : Nat) : BufTy := match i % 128 with
  | 0 => ⟨S16x2048x512, .f32⟩
  | 1 => ⟨S16x2048x512, .bf16⟩
  | 2 => ⟨S16x2048x512, .bf16⟩
  | 3 => ⟨S8x320, .f32⟩
  | 4 => ⟨S16x2048x8x64, .f32⟩
  | 5 => ⟨S16x2048x512, .f32⟩
  | 6 => ⟨S16x2048x8x64, .f32⟩
  | 7 => ⟨S16x2048x512, .f32⟩
  | 8 => ⟨S16x2048x8x64, .f32⟩
  | 9 => ⟨S64, .i32⟩
  | 10 => ⟨S64x1, .i32⟩
  | 11 => ⟨S576, .i32⟩
  | 12 => ⟨S1x576, .i32⟩
  | 13 => ⟨S_, .i32⟩
  | 14 => ⟨S1x576, .i32⟩
  | 15 => ⟨S1x576, .i32⟩
  | 16 => ⟨S64x576, .i32⟩
  | 17 => ⟨S64x576, .i32⟩
  | 18 => ⟨S64x576, .i32⟩
  | 19 => ⟨S_, .i32⟩
  | 20 => ⟨S_, .i32⟩
  | 21 => ⟨S_, .i32⟩
  | 22 => ⟨S64x576, .i32⟩
  | 23 => ⟨S64x576, .i32⟩
  | 24 => ⟨S_, .i32⟩
  | 25 => ⟨S64x576, .i32⟩
  | 26 => ⟨S64x576, .i32⟩
  | 27 => ⟨S_, .i32⟩
  | 28 => ⟨S64x576, .i32⟩
  | 29 => ⟨S64x576, .i32⟩
  | 30 => ⟨S_, .i32⟩
  | 31 => ⟨S64x576, .i32⟩
  | 32 => ⟨S64x576, .i1⟩
  | 33 => ⟨S_, .i32⟩
  | 34 => ⟨S64x576, .i32⟩
  | 35 => ⟨S64x576, .i32⟩
  | 36 => ⟨S64x576, .i32⟩
  | 37 => ⟨S64x576x1, .i32⟩
  | 38 => ⟨S8x64x576, .f32⟩
  | 39 => ⟨S16x32x64x8x64, .f32⟩
  | 40 => ⟨S32x16x8x64x64, .f32⟩
  | 41 => ⟨S_, .i32⟩
  | 42 => ⟨S_, .f32⟩
  | 43 => ⟨S16x2560x8x64, .f32⟩
  | 44 => ⟨S16x8x2560x64, .f32⟩
  | 45 => ⟨S_, .i32⟩
  | 46 => ⟨S_, .f32⟩
  | 47 => ⟨S16x2560x8x64, .f32⟩
  | 48 => ⟨S16x8x2560x64, .f32⟩
  | 49 => ⟨S576, .i32⟩
  | 50 => ⟨S_, .i32⟩
  | 51 => ⟨S576, .i32⟩
  | 52 => ⟨S576, .i32⟩
  | 53 => ⟨S32, .i32⟩
  | 54 => ⟨S_, .f32⟩
  | 55 => ⟨S32x16x8x64x64, .f32⟩
  | 56 => ⟨S_, .i32⟩
  | 57 => ⟨S32, .i32⟩
  | 58 => ⟨S32x16x8x64x64, .f32⟩
  | 59 => ⟨S16x8x2560x64, .f32⟩
  | 60 => ⟨S16x8x2560x64, .f32⟩
  | 61 => ⟨S8x64x576, .f32⟩
  | 62 => ⟨S576, .i32⟩
  | 63 => ⟨S_, .i32⟩
  | 64 => ⟨S32x16x8x64x64, .f32⟩
  | 65 => ⟨S_, .i32⟩
  | 66 => ⟨S_, .i1⟩
  | 67 => ⟨S1, .i32⟩
  | 68 => ⟨S_, .i32⟩
  | 69 => ⟨S_, .i32⟩
  | 70 => ⟨S_, .i32⟩
  | 71 => ⟨S_, .i32⟩
  | 72 => ⟨S_, .i32⟩
  | 73 => ⟨S1x16x8x64x64, .f32⟩
  | 74 => ⟨S16x8x64x64, .f32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S16x8x576x64, .f32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S16x8x576x64, .f32⟩
  | 95 => ⟨S16x8x64x576, .f32⟩
  | 96 => ⟨S_, .f32⟩
  | 97 => ⟨S16x8x64x576, .f32⟩
  | 98 => ⟨S16x8x64x576, .f32⟩
  | 99 => ⟨S1x8x64x576, .f32⟩
  | 100 => ⟨S16x8x64x576, .f32⟩
  | 101 => ⟨S16x8x64x576, .f32⟩
  | 102 => ⟨S576, .i32⟩
  | 103 => ⟨S576, .i32⟩
  | 104 => ⟨S_, .i32⟩
  | 105 => ⟨S576, .i32⟩
  | 106 => ⟨S576, .i1⟩
  | 107 => ⟨S_, .f32⟩
  | 108 => ⟨S_, .f32⟩
  | 109 => ⟨S16x8x64x576, .i1⟩
  | 110 => ⟨S16x8x64x576, .f32⟩
  | 111 => ⟨S16x8x64x576, .f32⟩
  | 112 => ⟨S_, .f32⟩
  | 113 => ⟨S16x8x64, .f32⟩
  | 114 => ⟨S_, .f32⟩
  | 115 => ⟨S16x8x64, .f32⟩
  | 116 => ⟨S16x8x64, .f32⟩
  | 117 => ⟨S16x8x64x1, .f32⟩
  | 118 => ⟨S16x8x64x576, .f32⟩
  | 119 => ⟨S16x8x64x576, .f32⟩
  | 120 => ⟨S16x8x64x576, .f32⟩
  | 121 => ⟨S_, .f32⟩
  | 122 => ⟨S16x8x64, .f32⟩
  | 123 => ⟨S16x8x64x1, .f32⟩
  | 124 => ⟨S16x8x64x576, .f32⟩
  | 125 => ⟨S16x8x64x576, .f32⟩
  | 126 => ⟨S16x8x64x64, .f32⟩
  | 127 => ⟨S1x16x8x64x64, .f32⟩
  | _ => ⟨S16x2048x512, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S32x16x8x64x64, .f32⟩
  | 5 => ⟨S_, .i32⟩
  | 6 => ⟨S_, .i32⟩
  | 7 => ⟨S16x32x64x8x64, .f32⟩
  | 8 => ⟨S16x2048x512, .f32⟩
  | _ => ⟨S16x2048x512, .f32⟩

abbrev hbmTy (i : Nat) : BufTy := match i / 128 with
  | 0 => hbmTy0_0 i
  | 1 => hbmTy0_1 i
  | _ => ⟨S16x2048x512, .f32⟩

abbrev bufTy : (tb : Table) → Fin (tcTables nBuf tb) → BufTy
  | .hbm, ⟨i, _⟩ => hbmTy i
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_call1_v0 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_call2_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst : Ref sig .tc := ⟨.hbm, 54, rfl⟩
abbrev main_v34 : Ref sig .tc := ⟨.hbm, 55, rfl⟩
abbrev main_c_8 : Ref sig .tc := ⟨.hbm, 56, rfl⟩
abbrev main_v35_0 : Ref sig .tc := ⟨.hbm, 57, rfl⟩
abbrev main_v35_1 : Ref sig .tc := ⟨.hbm, 58, rfl⟩
abbrev main_v35_2 : Ref sig .tc := ⟨.hbm, 59, rfl⟩
abbrev main_v35_3 : Ref sig .tc := ⟨.hbm, 60, rfl⟩
abbrev main_v35_4 : Ref sig .tc := ⟨.hbm, 61, rfl⟩
abbrev main_v35_5 : Ref sig .tc := ⟨.hbm, 62, rfl⟩
abbrev main_v35_6 : Ref sig .tc := ⟨.hbm, 63, rfl⟩
abbrev main_v35_7 : Ref sig .tc := ⟨.hbm, 64, rfl⟩
abbrev main_while0c_c_16 : Ref sig .tc := ⟨.hbm, 65, rfl⟩
abbrev main_while0c_v38 : Ref sig .tc := ⟨.hbm, 66, rfl⟩
abbrev main_while0b_call3_v0 : Ref sig .tc := ⟨.hbm, 67, rfl⟩
abbrev main_while0b_v38 : Ref sig .tc := ⟨.hbm, 68, rfl⟩
abbrev main_while0b_call4_c : Ref sig .tc := ⟨.hbm, 69, rfl⟩
abbrev main_while0b_call4_c_0 : Ref sig .tc := ⟨.hbm, 70, rfl⟩
abbrev main_while0b_call4_c_1 : Ref sig .tc := ⟨.hbm, 71, rfl⟩
abbrev main_while0b_call4_c_2 : Ref sig .tc := ⟨.hbm, 72, rfl⟩
abbrev main_while0b_call4_v0 : Ref sig .tc := ⟨.hbm, 73, rfl⟩
abbrev main_while0b_v39 : Ref sig .tc := ⟨.hbm, 74, rfl⟩
abbrev main_while0b_c_16 : Ref sig .tc := ⟨.hbm, 75, rfl⟩
abbrev main_while0b_v40 : Ref sig .tc := ⟨.hbm, 76, rfl⟩
abbrev main_while0b_c_17 : Ref sig .tc := ⟨.hbm, 77, rfl⟩
abbrev main_while0b_v41 : Ref sig .tc := ⟨.hbm, 78, rfl⟩
abbrev main_while0b_c_18 : Ref sig .tc := ⟨.hbm, 79, rfl⟩
abbrev main_while0b_v42 : Ref sig .tc := ⟨.hbm, 80, rfl⟩
abbrev main_while0b_v43 : Ref sig .tc := ⟨.hbm, 81, rfl⟩
abbrev main_while0b_c_19 : Ref sig .tc := ⟨.hbm, 82, rfl⟩
abbrev main_while0b_c_20 : Ref sig .tc := ⟨.hbm, 83, rfl⟩
abbrev main_while0b_c_21 : Ref sig .tc := ⟨.hbm, 84, rfl⟩
abbrev main_while0b_v44 : Ref sig .tc := ⟨.hbm, 85, rfl⟩
abbrev main_while0b_c_22 : Ref sig .tc := ⟨.hbm, 86, rfl⟩
abbrev main_while0b_v45 : Ref sig .tc := ⟨.hbm, 87, rfl⟩
abbrev main_while0b_c_23 : Ref sig .tc := ⟨.hbm, 88, rfl⟩
abbrev main_while0b_v46 : Ref sig .tc := ⟨.hbm, 89, rfl⟩
abbrev main_while0b_v47 : Ref sig .tc := ⟨.hbm, 90, rfl⟩
abbrev main_while0b_c_24 : Ref sig .tc := ⟨.hbm, 91, rfl⟩
abbrev main_while0b_c_25 : Ref sig .tc := ⟨.hbm, 92, rfl⟩
abbrev main_while0b_c_26 : Ref sig .tc := ⟨.hbm, 93, rfl⟩
abbrev main_while0b_v48 : Ref sig .tc := ⟨.hbm, 94, rfl⟩
abbrev main_while0b_v49 : Ref sig .tc := ⟨.hbm, 95, rfl⟩
abbrev main_while0b_cst_27 : Ref sig .tc := ⟨.hbm, 96, rfl⟩
abbrev main_while0b_v50 : Ref sig .tc := ⟨.hbm, 97, rfl⟩
abbrev main_while0b_v51 : Ref sig .tc := ⟨.hbm, 98, rfl⟩
abbrev main_while0b_v52 : Ref sig .tc := ⟨.hbm, 99, rfl⟩
abbrev main_while0b_v53 : Ref sig .tc := ⟨.hbm, 100, rfl⟩
abbrev main_while0b_v54 : Ref sig .tc := ⟨.hbm, 101, rfl⟩
abbrev main_while0b_v55 : Ref sig .tc := ⟨.hbm, 102, rfl⟩
abbrev main_while0b_v56 : Ref sig .tc := ⟨.hbm, 103, rfl⟩
abbrev main_while0b_c_28 : Ref sig .tc := ⟨.hbm, 104, rfl⟩
abbrev main_while0b_v57 : Ref sig .tc := ⟨.hbm, 105, rfl⟩
abbrev main_while0b_v58 : Ref sig .tc := ⟨.hbm, 106, rfl⟩
abbrev main_while0b_cst_29 : Ref sig .tc := ⟨.hbm, 107, rfl⟩
abbrev main_while0b_call5_v0 : Ref sig .tc := ⟨.hbm, 108, rfl⟩
abbrev main_while0b_call5_v1 : Ref sig .tc := ⟨.hbm, 109, rfl⟩
abbrev main_while0b_call5_v2 : Ref sig .tc := ⟨.hbm, 110, rfl⟩
abbrev main_while0b_v59 : Ref sig .tc := ⟨.hbm, 111, rfl⟩
abbrev main_while0b_cst_30 : Ref sig .tc := ⟨.hbm, 112, rfl⟩
abbrev main_while0b_v60 : Ref sig .tc := ⟨.hbm, 113, rfl⟩
abbrev main_while0b_cst_31 : Ref sig .tc := ⟨.hbm, 114, rfl⟩
abbrev main_while0b_v61 : Ref sig .tc := ⟨.hbm, 115, rfl⟩
abbrev main_while0b_v62 : Ref sig .tc := ⟨.hbm, 116, rfl⟩
abbrev main_while0b_v63 : Ref sig .tc := ⟨.hbm, 117, rfl⟩
abbrev main_while0b_v64 : Ref sig .tc := ⟨.hbm, 118, rfl⟩
abbrev main_while0b_v65 : Ref sig .tc := ⟨.hbm, 119, rfl⟩
abbrev main_while0b_v66 : Ref sig .tc := ⟨.hbm, 120, rfl⟩
abbrev main_while0b_cst_32 : Ref sig .tc := ⟨.hbm, 121, rfl⟩
abbrev main_while0b_v67 : Ref sig .tc := ⟨.hbm, 122, rfl⟩
abbrev main_while0b_v68 : Ref sig .tc := ⟨.hbm, 123, rfl⟩
abbrev main_while0b_v69 : Ref sig .tc := ⟨.hbm, 124, rfl⟩
abbrev main_while0b_v70 : Ref sig .tc := ⟨.hbm, 125, rfl⟩
abbrev main_while0b_v71 : Ref sig .tc := ⟨.hbm, 126, rfl⟩
abbrev main_while0b_call6_v0 : Ref sig .tc := ⟨.hbm, 127, rfl⟩
abbrev main_while0b_call6_c : Ref sig .tc := ⟨.hbm, 128, rfl⟩
abbrev main_while0b_call6_c_0 : Ref sig .tc := ⟨.hbm, 129, rfl⟩
abbrev main_while0b_call6_c_1 : Ref sig .tc := ⟨.hbm, 130, rfl⟩
abbrev main_while0b_call6_c_2 : Ref sig .tc := ⟨.hbm, 131, rfl⟩
abbrev main_while0b_v72 : Ref sig .tc := ⟨.hbm, 132, rfl⟩
abbrev main_while0b_c_33 : Ref sig .tc := ⟨.hbm, 133, rfl⟩
abbrev main_while0b_v73 : Ref sig .tc := ⟨.hbm, 134, rfl⟩
abbrev main_v36 : Ref sig .tc := ⟨.hbm, 135, rfl⟩
abbrev main_v37 : Ref sig .tc := ⟨.hbm, 136, rfl⟩

abbrev nD : Nat := 1
abbrev τ : Topo := Topo.v7x

variable {F : FTy → Type} [FloatOps F]

abbrev main_while0_count : Scf.Loop 32 := ⟨0#32, 32#32, 1#32⟩
-- ==== InKernel.lean ====
abbrev S32768x1024 : Shape := ⟨2, ![32768, 1024]⟩
abbrev S1024 : Shape := ⟨1, ![1024]⟩
abbrev S1024x3328 : Shape := ⟨2, ![1024, 3328]⟩
abbrev S64 : Shape := ⟨1, ![64]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S32768x1792 : Shape := ⟨2, ![32768, 1792]⟩
abbrev S32768x512 : Shape := ⟨2, ![32768, 512]⟩
abbrev S512x1024 : Shape := ⟨2, ![512, 1024]⟩
abbrev S512x1792 : Shape := ⟨2, ![512, 1792]⟩
abbrev S512x512 : Shape := ⟨2, ![512, 512]⟩
abbrev S512x1 : Shape := ⟨2, ![512, 1]⟩
abbrev S1024x256 : Shape := ⟨2, ![1024, 256]⟩
abbrev S512x256 : Shape := ⟨2, ![512, 256]⟩
abbrev S512x128 : Shape := ⟨2, ![512, 128]⟩
abbrev S1024x512 : Shape := ⟨2, ![1024, 512]⟩
abbrev S1x128 : Shape := ⟨2, ![1, 128]⟩

abbrev nBuf : Space → Nat
  | .hbm => 19
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3328, .f32⟩
  | .hbm, ⟨3, _⟩ => ⟨S64, .f32⟩
  | .hbm, ⟨4, _⟩ => ⟨S64, .f32⟩
  | .hbm, ⟨5, _⟩ => ⟨S1x1024, .f32⟩
  | .hbm, ⟨6, _⟩ => ⟨S1024x3328, .bf16⟩
  | .hbm, ⟨7, _⟩ => ⟨S1x64, .f32⟩
  | .hbm, ⟨8, _⟩ => ⟨S8x64, .f32⟩
  | .hbm, ⟨9, _⟩ => ⟨S512, .f32⟩
  | .hbm, ⟨10, _⟩ => ⟨S1x512, .f32⟩
  | .hbm, ⟨11, _⟩ => ⟨S1x64, .f32⟩
  | .hbm, ⟨12, _⟩ => ⟨S8x64, .f32⟩
  | .hbm, ⟨13, _⟩ => ⟨S512, .f32⟩
  | .hbm, ⟨14, _⟩ => ⟨S1x512, .f32⟩
  | .hbm, ⟨15, _⟩ => ⟨S32768x1792, .f32⟩
  | .hbm, ⟨16, _⟩ => ⟨S32768x512, .f32⟩
  | .hbm, ⟨17, _⟩ => ⟨S32768x512, .bf16⟩
  | .hbm, ⟨18, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3328, .bf16⟩
  | .local _ .vmem, ⟨4, _⟩ => ⟨S1x512, .f32⟩
  | .local _ .vmem, ⟨5, _⟩ => ⟨S1x512, .f32⟩
  | .local _ .vmem, ⟨6, _⟩ => ⟨S512x1792, .f32⟩
  | .local _ .vmem, ⟨7, _⟩ => ⟨S512x1792, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InReferenceIdeal.lean ====
abbrev S32768x1024 : Shape := ⟨2, ![32768, 1024]⟩
abbrev S1024 : Shape := ⟨1, ![1024]⟩
abbrev S1024x3328 : Shape := ⟨2, ![1024, 3328]⟩
abbrev S64 : Shape := ⟨1, ![64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3328 : Shape := ⟨2, ![32768, 3328]⟩
abbrev S32768x1536 : Shape := ⟨2, ![32768, 1536]⟩
abbrev S32768x512 : Shape := ⟨2, ![32768, 512]⟩
abbrev S32768x8x64 : Shape := ⟨3, ![32768, 8, 64]⟩
abbrev S32768x8 : Shape := ⟨2, ![32768, 8]⟩
abbrev S32768x8x1 : Shape := ⟨3, ![32768, 8, 1]⟩
abbrev S1x1x64 : Shape := ⟨3, ![1, 1, 64]⟩
abbrev S32768x1792 : Shape := ⟨2, ![32768, 1792]⟩

abbrev nBuf : Space → Nat
  | .hbm => 65
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3328, .f32⟩
  | .hbm, ⟨3, _⟩ => ⟨S64, .f32⟩
  | .hbm, ⟨4, _⟩ => ⟨S64, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x3328, .f32⟩
  | .hbm, ⟨22, _⟩ => ⟨S32768x1536, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x8x64, .f32⟩
  | .hbm, ⟨27, _⟩ => ⟨S32768x8x64, .f32⟩
  | .hbm, ⟨28, _⟩ => ⟨S_, .f32⟩
  | .hbm, ⟨29, _⟩ => ⟨S32768x8, .f32⟩
  | .hbm, ⟨30, _⟩ => ⟨S32768x8x1, .f32⟩
  | .hbm, ⟨31, _⟩ => ⟨S_, .f32⟩
  | .hbm, ⟨32, _⟩ => ⟨S32768x8x1, .f32⟩
  | .hbm, ⟨33, _⟩ => ⟨S32768x8x1, .f32⟩
  | .hbm, ⟨34, _⟩ => ⟨S_, .f32⟩
  | .hbm, ⟨35, _⟩ => ⟨S32768x8x1, .f32⟩
  | .hbm, ⟨36, _⟩ => ⟨S32768x8x1, .f32⟩
  | .hbm, ⟨37, _⟩ => ⟨S32768x8x1, .f32⟩
  | .hbm, ⟨38, _⟩ => ⟨S32768x8x64, .f32⟩
  | .hbm, ⟨39, _⟩ => ⟨S32768x8x64, .f32⟩
  | .hbm, ⟨40, _⟩ => ⟨S1x1x64, .f32⟩
  | .hbm, ⟨41, _⟩ => ⟨S32768x8x64, .f32⟩
  | .hbm, ⟨42, _⟩ => ⟨S32768x8x64, .f32⟩
  | .hbm, ⟨43, _⟩ => ⟨S32768x8x64, .f32⟩
  | .hbm, ⟨44, _⟩ => ⟨S32768x8x64, .f32⟩
  | .hbm, ⟨45, _⟩ => ⟨S_, .f32⟩
  | .hbm, ⟨46, _⟩ => ⟨S32768x8, .f32⟩
  | .hbm, ⟨47, _⟩ => ⟨S32768x8x1, .f32⟩
  | .hbm, ⟨48, _⟩ => ⟨S_, .f32⟩
  | .hbm, ⟨49, _⟩ => ⟨S32768x8x1, .f32⟩
  | .hbm, ⟨50, _⟩ => ⟨S32768x8x1, .f32⟩
  | .hbm, ⟨51, _⟩ => ⟨S_, .f32⟩
  | .hbm, ⟨52, _⟩ => ⟨S32768x8x1, .f32⟩
  | .hbm, ⟨53, _⟩ => ⟨S32768x8x1, .f32⟩
  | .hbm, ⟨54, _⟩ => ⟨S32768x8x1, .f32⟩
  | .hbm, ⟨55, _⟩ => ⟨S32768x8x64, .f32⟩
  | .hbm, ⟨56, _⟩ => ⟨S32768x8x64, .f32⟩
  | .hbm, ⟨57, _⟩ => ⟨S1x1x64, .f32⟩
  | .hbm, ⟨58, _⟩ => ⟨S32768x8x64, .f32⟩
  | .hbm, ⟨59, _⟩ => ⟨S32768x8x64, .f32⟩
  | .hbm, ⟨60, _⟩ => ⟨S32768x1792, .f32⟩
  | .hbm, ⟨61, _⟩ => ⟨S32768x512, .f32⟩
  | .hbm, ⟨62, _⟩ => ⟨S32768x512, .f32⟩
  | .hbm, ⟨63, _⟩ => ⟨S32768x512, .bf16⟩
  | .hbm, ⟨64, _⟩ => ⟨S32768x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== MixKernel.lean ====
abbrev S16x2048x1024 : Shape := ⟨3, ![16, 2048, 1024]⟩
abbrev S16x2048x512 : Shape := ⟨3, ![16, 2048, 512]⟩
abbrev S512 : Shape := ⟨1, ![512]⟩
abbrev S1024x1024 : Shape := ⟨2, ![1024, 1024]⟩
abbrev S1024 : Shape := ⟨1, ![1024]⟩
abbrev S1024x512 : Shape := ⟨2, ![1024, 512]⟩
abbrev S128 : Shape := ⟨1, ![128]⟩
abbrev S16x256x512 : Shape := ⟨3, ![16, 256, 512]⟩
abbrev S512x1024 : Shape := ⟨2, ![512, 1024]⟩
abbrev S1024x128 : Shape := ⟨2, ![1024, 128]⟩
abbrev S1x512 : Shape := ⟨2, ![1, 512]⟩
abbrev S1x1024 : Shape := ⟨2, ![1, 1024]⟩
abbrev S1x128 : Shape := ⟨2, ![1, 128]⟩
abbrev S_ : Shape := ⟨0, ![]⟩
abbrev S512x512 : Shape := ⟨2, ![512, 512]⟩
abbrev S262144x128 : Shape := ⟨2, ![262144, 128]⟩
abbrev S16x2048x128 : Shape := ⟨3, ![16, 2048, 128]⟩
abbrev S8x128 : Shape := ⟨2, ![8, 128]⟩
abbrev S1x512x1024 : Shape := ⟨3, ![1, 512, 1024]⟩
abbrev S1x512x512 : Shape := ⟨3, ![1, 512, 512]⟩
abbrev S1x256x512 : Shape := ⟨3, ![1, 256, 512]⟩
abbrev S4096x128 : Shape := ⟨2, ![4096, 128]⟩
abbrev S1x512x128 : Shape := ⟨3, ![1, 512, 128]⟩
abbrev S256x512 : Shape := ⟨2, ![256, 512]⟩
abbrev S256 : Shape := ⟨1, ![256]⟩
abbrev S256x1 : Shape := ⟨2, ![256, 1]⟩
abbrev S1x256x1024 : Shape := ⟨3, ![1, 256, 1024]⟩
abbrev S256x1024 : Shape := ⟨2, ![256, 1024]⟩
abbrev S256x128 : Shape := ⟨2, ![256, 128]⟩
abbrev S1x256x128 : Shape := ⟨3, ![1, 256, 128]⟩
abbrev S256x256 : Shape := ⟨2, ![256, 256]⟩
abbrev S512x1 : Shape := ⟨2, ![512, 1]⟩
abbrev S512x128 : Shape := ⟨2, ![512, 128]⟩

abbrev nBuf : Space → Nat
  | .hbm => 40
  | .vmem => 31
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S16x2048x512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x512, .f32⟩
  | .hbm, ⟨8, _⟩ => ⟨S128, .f32⟩
  | .hbm, ⟨9, _⟩ => ⟨S16x256x512, .bf16⟩
  | .hbm, ⟨10, _⟩ => ⟨S16x256x512, .bf16⟩
  | .hbm, ⟨11, _⟩ => ⟨S512x1024, .f32⟩
  | .hbm, ⟨12, _⟩ => ⟨S1024, .f32⟩
  | .hbm, ⟨13, _⟩ => ⟨S1024x128, .f32⟩
  | .hbm, ⟨14, _⟩ => ⟨S128, .f32⟩
  | .hbm, ⟨15, _⟩ => ⟨S1x512, .f32⟩
  | .hbm, ⟨16, _⟩ => ⟨S1024x1024, .bf16⟩
  | .hbm, ⟨17, _⟩ => ⟨S1x1024, .f32⟩
  | .hbm, ⟨18, _⟩ => ⟨S1024x512, .bf16⟩
  | .hbm, ⟨19, _⟩ => ⟨S1x128, .f32⟩
  | .hbm, ⟨20, _⟩ => ⟨S512x1024, .bf16⟩
  | .hbm, ⟨21, _⟩ => ⟨S1x1024, .f32⟩
  | .hbm, ⟨22, _⟩ => ⟨S1024x128, .bf16⟩
  | .hbm, ⟨23, _⟩ => ⟨S1x128, .f32⟩
  | .hbm, ⟨24, _⟩ => ⟨S_, .f32⟩
  | .hbm, ⟨25, _⟩ => ⟨S512x512, .f32⟩
  | .hbm, ⟨26, _⟩ => ⟨S512x512, .i32⟩
  | .hbm, ⟨27, _⟩ => ⟨S_, .i32⟩
  | .hbm, ⟨28, _⟩ => ⟨S512x512, .i32⟩
  | .hbm, ⟨29, _⟩ => ⟨S512x512, .i32⟩
  | .hbm, ⟨30, _⟩ => ⟨S512x512, .i32⟩
  | .hbm, ⟨31, _⟩ => ⟨S512x512, .i1⟩
  | .hbm, ⟨32, _⟩ => ⟨S_, .f32⟩
  | .hbm, ⟨33, _⟩ => ⟨S512x512, .f32⟩
  | .hbm, ⟨34, _⟩ => ⟨S512x512, .f32⟩
  | .hbm, ⟨35, _⟩ => ⟨S512x512, .bf16⟩
  | .hbm, ⟨36, _⟩ => ⟨S16x2048x1024, .f32⟩
  | .hbm, ⟨37, _⟩ => ⟨S262144x128, .bf16⟩
  | .hbm, ⟨38, _⟩ => ⟨S16x2048x128, .f32⟩
  | .hbm, ⟨39, _⟩ => ⟨S8x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512, .f32⟩
  | .local _ .vmem, ⟨9, _⟩ => ⟨S1024x1024, .bf16⟩
  | .local _ .vmem, ⟨10, _⟩ => ⟨S1x1024, .f32⟩
  | .local _ .vmem, ⟨11, _⟩ => ⟨S1024x512, .bf16⟩
  | .local _ .vmem, ⟨12, _⟩ => ⟨S1x128, .f32⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S512x1024, .bf16⟩
  | .local _ .vmem, ⟨18, _⟩ => ⟨S1x1024, .f32⟩
  | .local _ .vmem, ⟨19, _⟩ => ⟨S1024x128, .bf16⟩
  | .local _ .vmem, ⟨20, _⟩ => ⟨S1x128, .f32⟩
  | .local _ .vmem, ⟨21, _⟩ => ⟨S512x512, .bf16⟩
  | .local _ .vmem, ⟨22, _⟩ => ⟨S1x512x1024, .f32⟩
  | .local _ .vmem, ⟨23, _⟩ => ⟨S1x512x1024, .f32⟩
  | .local _ .vmem, ⟨24, _⟩ => ⟨S4096x128, .bf16⟩
  | .local _ .vmem, ⟨25, _⟩ => ⟨S4096x128, .bf16⟩
  | .local _ .vmem, ⟨26, _⟩ => ⟨S1x512x128, .f32⟩
  | .local _ .vmem, ⟨27, _⟩ => ⟨S1x512x128, .f32⟩
  | .local _ .vmem, ⟨28, _⟩ => ⟨S8x128, .f32⟩
  | .local _ .vmem, ⟨29, _⟩ => ⟨S1x128, .f32⟩
  | .local _ .vmem, ⟨30, _⟩ => ⟨S4096x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_cst : Ref sig .tc := ⟨.hbm, 32, rfl⟩
abbrev main_call0_v5 : Ref sig .tc := ⟨.hbm, 33, rfl⟩
abbrev main_v10 : Ref sig .tc := ⟨.hbm, 34, rfl⟩
abbrev main_v11 : Ref sig .tc := ⟨.hbm, 35, rfl⟩
abbrev main_v12_0 : Ref sig .tc := ⟨.hbm, 36, rfl⟩
abbrev main_v12_1 : Ref sig .tc := ⟨.hbm, 37, rfl⟩
abbrev main_v12_2 : Ref sig .tc := ⟨.hbm, 38, rfl⟩
abbrev main_v12_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S4096x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]
-- ==== MixKernelIdeal.lean ====
variable {F : FTy → Type} [FloatOps F] [Named F]
def κ : String → Option EReal := fun
  | "xa_scale_log2e" => some (((11863283 / 134217728) * (Real.log 2)⁻¹ : ℝ) : EReal)
  | _ => none
-- ==== MixReferenceIdeal.lean ====
abbrev S16x2048x1024 : Shape := ⟨3, ![16, 2048, 1024]⟩
abbrev S16x2048x512 : Shape := ⟨3, ![16, 2048, 512]⟩
abbrev S512 : Shape := ⟨1, ![512]⟩
abbrev S1024x1024 : Shape := ⟨2, ![1024, 1024]⟩
abbrev S1024 : Shape := ⟨1, ![1024]⟩
abbrev S1024x512 : Shape := ⟨2, ![1024, 512]⟩
abbrev S128 : Shape := ⟨1, ![128]⟩
abbrev S16x256x512 : Shape := ⟨3, ![16, 256, 512]⟩
abbrev S512x1024 : Shape := ⟨2, ![512, 1024]⟩
abbrev S1024x128 : Shape := ⟨2, ![1024, 128]⟩
abbrev S_ : Shape := ⟨0, ![]⟩
abbrev S16x2048 : Shape := ⟨2, ![16, 2048]⟩
abbrev S16x2048x1 : Shape := ⟨3, ![16, 2048, 1]⟩
abbrev S1x1x512 : Shape := ⟨3, ![1, 1, 512]⟩
abbrev S1x1x1024 : Shape := ⟨3, ![1, 1, 1024]⟩
abbrev S16x2048x4x128 : Shape := ⟨4, ![16, 2048, 4, 128]⟩
abbrev S16x256x4x128 : Shape := ⟨4, ![16, 256, 4, 128]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩
abbrev S262144x128 : Shape := ⟨2, ![262144, 128]⟩

abbrev nBuf : Space → Nat
  | .hbm => 114
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S16x2048x512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x512, .f32⟩
  | .hbm, ⟨8, _⟩ => ⟨S128, .f32⟩
  | .hbm, ⟨9, _⟩ => ⟨S16x256x512, .bf16⟩
  | .hbm, ⟨10, _⟩ => ⟨S16x256x512, .bf16⟩
  | .hbm, ⟨11, _⟩ => ⟨S512x1024, .f32⟩
  | .hbm, ⟨12, _⟩ => ⟨S1024, .f32⟩
  | .hbm, ⟨13, _⟩ => ⟨S1024x128, .f32⟩
  | .hbm, ⟨14, _⟩ => ⟨S128, .f32⟩
  | .hbm, ⟨15, _⟩ => ⟨S16x2048x512, .f32⟩
  | .hbm, ⟨16, _⟩ => ⟨S16x2048x512, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1, .f32⟩
  | .hbm, ⟨27, _⟩ => ⟨S16x2048x512, .f32⟩
  | .hbm, ⟨28, _⟩ => ⟨S16x2048x512, .f32⟩
  | .hbm, ⟨29, _⟩ => ⟨S1x1x512, .f32⟩
  | .hbm, ⟨30, _⟩ => ⟨S16x2048x512, .f32⟩
  | .hbm, ⟨31, _⟩ => ⟨S16x2048x512, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S_, .f32⟩
  | .hbm, ⟨37, _⟩ => ⟨S16x2048, .f32⟩
  | .hbm, ⟨38, _⟩ => ⟨S16x2048x1, .f32⟩
  | .hbm, ⟨39, _⟩ => ⟨S_, .f32⟩
  | .hbm, ⟨40, _⟩ => ⟨S16x2048x1, .f32⟩
  | .hbm, ⟨41, _⟩ => ⟨S16x2048x1, .f32⟩
  | .hbm, ⟨42, _⟩ => ⟨S_, .f32⟩
  | .hbm, ⟨43, _⟩ => ⟨S16x2048x1, .f32⟩
  | .hbm, ⟨44, _⟩ => ⟨S16x2048x1, .f32⟩
  | .hbm, ⟨45, _⟩ => ⟨S16x2048x1, .f32⟩
  | .hbm, ⟨46, _⟩ => ⟨S16x2048x1024, .f32⟩
  | .hbm, ⟨47, _⟩ => ⟨S16x2048x1024, .f32⟩
  | .hbm, ⟨48, _⟩ => ⟨S1x1x1024, .f32⟩
  | .hbm, ⟨49, _⟩ => ⟨S16x2048x1024, .f32⟩
  | .hbm, ⟨50, _⟩ => ⟨S16x2048x1024, .f32⟩
  | .hbm, ⟨51, _⟩ => ⟨S16x2048x512, .f32⟩
  | .hbm, ⟨52, _⟩ => ⟨S16x2048x4x128, .f32⟩
  | .hbm, ⟨53, _⟩ => ⟨S16x256x4x128, .bf16⟩
  | .hbm, ⟨54, _⟩ => ⟨S16x256x4x128, .bf16⟩
  | .hbm, ⟨55, _⟩ => ⟨S16x2048x4x128, .f32⟩
  | .hbm, ⟨56, _⟩ => ⟨S_, .f32⟩
  | .hbm, ⟨57, _⟩ => ⟨S16x2048x4, .f32⟩
  | .hbm, ⟨58, _⟩ => ⟨S16x2048x4x1, .f32⟩
  | .hbm, ⟨59, _⟩ => ⟨S_, .f32⟩
  | .hbm, ⟨60, _⟩ => ⟨S16x2048x4x1, .f32⟩
  | .hbm, ⟨61, _⟩ => ⟨S16x2048x4x1, .f32⟩
  | .hbm, ⟨62, _⟩ => ⟨S_, .f32⟩
  | .hbm, ⟨63, _⟩ => ⟨S16x2048x4x1, .f32⟩
  | .hbm, ⟨64, _⟩ => ⟨S16x2048x4x1, .f32⟩
  | .hbm, ⟨65, _⟩ => ⟨S16x2048x4x1, .f32⟩
  | .hbm, ⟨66, _⟩ => ⟨S16x2048x4x128, .f32⟩
  | .hbm, ⟨67, _⟩ => ⟨S16x2048x4x128, .f32⟩
  | .hbm, ⟨68, _⟩ => ⟨S1x1x1x128, .f32⟩
  | .hbm, ⟨69, _⟩ => ⟨S16x2048x4x128, .f32⟩
  | .hbm, ⟨70, _⟩ => ⟨S16x2048x4x128, .f32⟩
  | .hbm, ⟨71, _⟩ => ⟨S16x256x4x128, .f32⟩
  | .hbm, ⟨72, _⟩ => ⟨S16x4x2048x256, .f32⟩
  | .hbm, ⟨73, _⟩ => ⟨S_, .f32⟩
  | .hbm, ⟨74, _⟩ => ⟨S16x4x2048x256, .f32⟩
  | .hbm, ⟨75, _⟩ => ⟨S16x4x2048x256, .f32⟩
  | .hbm, ⟨76, _⟩ => ⟨S_, .f32⟩
  | .hbm, ⟨77, _⟩ => ⟨S16x4x2048, .f32⟩
  | .hbm, ⟨78, _⟩ => ⟨S_, .f32⟩
  | .hbm, ⟨79, _⟩ => ⟨S16x4x2048, .f32⟩
  | .hbm, ⟨80, _⟩ => ⟨S16x4x2048, .f32⟩
  | .hbm, ⟨81, _⟩ => ⟨S16x4x2048x1, .f32⟩
  | .hbm, ⟨82, _⟩ => ⟨S16x4x2048x256, .f32⟩
  | .hbm, ⟨83, _⟩ => ⟨S16x4x2048x256, .f32⟩
  | .hbm, ⟨84, _⟩ => ⟨S16x4x2048x256, .f32⟩
  | .hbm, ⟨85, _⟩ => ⟨S_, .f32⟩
  | .hbm, ⟨86, _⟩ => ⟨S16x4x2048, .f32⟩
  | .hbm, ⟨87, _⟩ => ⟨S16x4x2048x1, .f32⟩
  | .hbm, ⟨88, _⟩ => ⟨S16x4x2048x256, .f32⟩
  | .hbm, ⟨89, _⟩ => ⟨S16x4x2048x256, .f32⟩
  | .hbm, ⟨90, _⟩ => ⟨S16x256x4x128, .f32⟩
  | .hbm, ⟨91, _⟩ => ⟨S16x4x128x2048, .f32⟩
  | .hbm, ⟨92, _⟩ => ⟨S16x2048x4x128, .f32⟩
  | .hbm, ⟨93, _⟩ => ⟨S16x2048x512, .f32⟩
  | .hbm, ⟨94, _⟩ => ⟨S16x2048x1024, .f32⟩
  | .hbm, ⟨95, _⟩ => ⟨S16x2048x1024, .f32⟩
  | .hbm, ⟨96, _⟩ => ⟨S16x2048x1024, .f32⟩
  | .hbm, ⟨97, _⟩ => ⟨S_, .f32⟩
  | .hbm, ⟨98, _⟩ => ⟨S16x2048, .f32⟩
  | .hbm, ⟨99, _⟩ => ⟨S16x2048x1, .f32⟩
  | .hbm, ⟨100, _⟩ => ⟨S_, .f32⟩
  | .hbm, ⟨101, _⟩ => ⟨S16x2048x1, .f32⟩
  | .hbm, ⟨102, _⟩ => ⟨S16x2048x1, .f32⟩
  | .hbm, ⟨103, _⟩ => ⟨S_, .f32⟩
  | .hbm, ⟨104, _⟩ => ⟨S16x2048x1, .f32⟩
  | .hbm, ⟨105, _⟩ => ⟨S16x2048x1, .f32⟩
  | .hbm, ⟨106, _⟩ => ⟨S16x2048x1, .f32⟩
  | .hbm, ⟨107, _⟩ => ⟨S16x2048x1024, .f32⟩
  | .hbm, ⟨108, _⟩ => ⟨S16x2048x1024, .f32⟩
  | .hbm, ⟨109, _⟩ => ⟨S1x1x1024, .f32⟩
  | .hbm, ⟨110, _⟩ => ⟨S16x2048x1024, .f32⟩
  | .hbm, ⟨111, _⟩ => ⟨S16x2048x1024, .f32⟩
  | .hbm, ⟨112, _⟩ => ⟨S262144x128, .f32⟩
  | .hbm, ⟨113, _⟩ => ⟨S262144x128, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_12 : Ref sig .tc := ⟨.hbm, 97, rfl⟩
abbrev main_v69 : Ref sig .tc := ⟨.hbm, 98, rfl⟩
abbrev main_v70 : Ref sig .tc := ⟨.hbm, 99, rfl⟩
abbrev main_cst_13 : Ref sig .tc := ⟨.hbm, 100, rfl⟩
abbrev main_v71 : Ref sig .tc := ⟨.hbm, 101, rfl⟩
abbrev main_v72 : Ref sig .tc := ⟨.hbm, 102, rfl⟩
abbrev main_cst_14 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]
-- ==== Proof.KBody.lean ====
module

public import proofs.«01_k».proof.Proof.Gen.KernelIdeal.Frame
public import proofs.«01_k».proof.Proof.Gen.KernelIdeal.Loops
public import Idealize.ShloMosaic.Lib.Tactic

@[expose] public section

noncomputable section

namespace Cert.Band.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

/-- The condition under which the body fills its zero-padded copies of keys and values. -/
abbrev condFill (i : grid0.Coords) : Prop :=
  Scalar.cmpi .ne (Scalar.extui (Scalar.cmpi .eq (BitVec.ofNat 32 (i 1).val) 0#32) : BitVec 32) 0#32 = 1#1

/-- At the first row block of a batch entry the body fills the padded copies and runs the masked loop only. -/
theorem conds_first (i : grid0.Coords) (h : (i 1).val = 0) : condFill i ∧ k0_cond2 i = 1#1 ∧ ¬ k0_cond3 i = 1#1 := by
  unfold condFill k0_cond2 k0_cond3
  simp only [h]
  decide

/-- At a later row block of a batch entry the body runs the unmasked loop only. -/
theorem conds_later (i : grid0.Coords) (h : (i 1).val ≠ 0) : ¬ condFill i ∧ ¬ k0_cond2 i = 1#1 ∧ k0_cond3 i = 1#1 := by
  have h4 : (i 1).val < 4 := (i 1).isLt
  unfold condFill k0_cond2 k0_cond3
  generalize (i 1).val = n at h h4
  interval_cases n <;> first | exact absurd rfl h | decide

/-- The body at the first row block of a batch entry: run on whole buffers at any contents, it ends with the four inputs as they were, the output block at the found list of stores, and the scratch buffers at some contents. -/
noncomputable def runFirst (c : Dev nD) (i : grid0.Coords) (hi : (i 1).val = 0)
    (M2 : Memref sig .tc .vmem S1x512x512 .f32) (h2 : M2.IsWhole) (M3 : Memref sig .tc .vmem S1x2048x512 .bf16) (h3 : M3.IsWhole)
    (M4 : Memref sig .tc .vmem S1x2048x512 .bf16) (h4 : M4.IsWhole) (M5 : Memref sig .tc .vmem S4x128x576 .f32) (h5 : M5.IsWhole)
    (M6 : Memref sig .tc .vmem S1x512x512 .f32) (h6 : M6.IsWhole) (M7 : Memref sig .tc .vmem S2x4x128x576 .f32) (h7 : M7.IsWhole)
    (M8 : Memref sig .tc .vmem S2x4x128x576 .bf16) (h8 : M8.IsWhole) (M9 : Memref sig .tc .vmem S1024x512 .bf16) (h9 : M9.IsWhole)
    (M10 : Memref sig .tc .vmem S1024x512 .bf16) (h10 : M10.IsWhole)
    (X2 : BufTy.Contents (Elt F) M2.view.ty) (X3 : BufTy.Contents (Elt F) M3.view.ty)
    (X4 : BufTy.Contents (Elt F) M4.view.ty) (X5 : BufTy.Contents (Elt F) M5.view.ty)
    (f6 : BufTy.Contents (Elt F) M6.view.ty) (f7 : BufTy.Contents (Elt F) M7.view.ty) (f8 : BufTy.Contents (Elt F) M8.view.ty)
    (f9 : BufTy.Contents (Elt F) M9.view.ty) (f10 : BufTy.Contents (Elt F) M10.view.ty) :
    { L : List (View.Piece (Elt F) S1x512x512 .f32) // ∀ (E : Set ℕ) (K : PUnit → sProp 𝕄),
      iprop((M2.view.loc (c : Thread nD τ) ↦[M2.view.set]{fullShare} X2) ∗ (M3.view.loc (c : Thread nD τ) ↦[M3.view.set]{fullShare} X3)
        ∗ (M4.view.loc (c : Thread nD τ) ↦[M4.view.set]{fullShare} X4) ∗ (M5.view.loc (c : Thread nD τ) ↦[M5.view.set]{fullShare} X5)
        ∗ (M6.view.loc (c : Thread nD τ) ↦[M6.view.set]{fullShare} f6) ∗ (M7.view.loc (c : Thread nD τ) ↦[M7.view.set]{fullShare} f7)
        ∗ (M8.view.loc (c : Thread nD τ) ↦[M8.view.set]{fullShare} f8) ∗ (M9.view.loc (c : Thread nD τ) ↦[M9.view.set]{fullShare} f9)
        ∗ (M10.view.loc (c : Thread nD τ) ↦[M10.view.set]{fullShare} f10)
        ∗ (iprop((M2.view.loc (c : Thread nD τ) ↦[M2.view.set]{fullShare} X2) ∗ (M3.view.loc (c : Thread nD τ) ↦[M3.view.set]{fullShare} X3)
            ∗ (M4.view.loc (c : Thread nD τ) ↦[M4.view.set]{fullShare} X4) ∗ (M5.view.loc (c : Thread nD τ) ↦[M5.view.set]{fullShare} X5)
            ∗ (M6.view.loc (c : Thread nD τ) ↦[M6.view.set]{fullShare} M6.view.writes (Elt F) f6 L)
            ∗ (∃ f, M7.view.loc (c : Thread nD τ) ↦[M7.view.set]{fullShare} f)
            ∗ (∃ f, M8.view.loc (c : Thread nD τ) ↦[M8.view.set]{fullShare} f)
            ∗ (∃ f, M9.view.loc (c : Thread nD τ) ↦[M9.view.set]{fullShare} f)
            ∗ (∃ f, M10.view.loc (c : Thread nD τ) ↦[M10.view.set]{fullShare} f)) -∗ K ⟨⟩))
      ⊢ wp frame (wpE (defs₀ (F := F)) Variants.none c none) E (cc0_band_attn i M2 h2 M3 h3 M4 h4 M5 h5 M6 h6 M7 h7 M8 h8 M9 h9 M10 h10) K } := by
  obtain ⟨hc1, hc2, hc3⟩ := conds_first i hi
  refine ⟨?_, fun E K => ?run⟩
  case run =>
    iintro ⟨H2, H3, H4, H5, H6, H7, H8, H9, H10, Hk⟩
    sl_unfold [cc0_band_attn]
    sl_exec!
    sl_step
    iapply Hk
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iexists _; iexact H10

/-- The body at a later row block of a batch entry, in the same form. -/
noncomputable def runLater (c : Dev nD) (i : grid0.Coords) (hi : (i 1).val ≠ 0)
    (M2 : Memref sig .tc .vmem S1x512x512 .f32) (h2 : M2.IsWhole) (M3 : Memref sig .tc .vmem S1x2048x512 .bf16) (h3 : M3.IsWhole)
    (M4 : Memref sig .tc .vmem S1x2048x512 .bf16) (h4 : M4.IsWhole) (M5 : Memref sig .tc .vmem S4x128x576 .f32) (h5 : M5.IsWhole)
    (M6 : Memref sig .tc .vmem S1x512x512 .f32) (h6 : M6.IsWhole) (M7 : Memref sig .tc .vmem S2x4x128x576 .f32) (h7 : M7.IsWhole)
    (M8 : Memref sig .tc .vmem S2x4x128x576 .bf16) (h8 : M8.IsWhole) (M9 : Memref sig .tc .vmem S1024x512 .bf16) (h9 : M9.IsWhole)
    (M10 : Memref sig .tc .vmem S1024x512 .bf16) (h10 : M10.IsWhole)
    (X2 : BufTy.Contents (Elt F) M2.view.ty) (X3 : BufTy.Contents (Elt F) M3.view.ty)
    (X4 : BufTy.Contents (Elt F) M4.view.ty) (X5 : BufTy.Contents (Elt F) M5.view.ty)
    (f6 : BufTy.Contents (Elt F) M6.view.ty) (f7 : BufTy.Contents (Elt F) M7.view.ty) (f8 : BufTy.Contents (Elt F) M8.view.ty)
    (f9 : BufTy.Contents (Elt F) M9.view.ty) (f10 : BufTy.Contents (Elt F) M10.view.ty) :
    { L : List (View.Piece (Elt F) S1x512x512 .f32) // ∀ (E : Set ℕ) (K : PUnit → sProp 𝕄),
      iprop((M2.view.loc (c : Thread nD τ) ↦[M2.view.set]{fullShare} X2) ∗ (M3.view.loc (c : Thread nD τ) ↦[M3.view.set]{fullShare} X3)
        ∗ (M4.view.loc (c : Thread nD τ) ↦[M4.view.set]{fullShare} X4) ∗ (M5.view.loc (c : Thread nD τ) ↦[M5.view.set]{fullShare} X5)
        ∗ (M6.view.loc (c : Thread nD τ) ↦[M6.view.set]{fullShare} f6) ∗ (M7.view.loc (c : Thread nD τ) ↦[M7.view.set]{fullShare} f7)
        ∗ (M8.view.loc (c : Thread nD τ) ↦[M8.view.set]{fullShare} f8) ∗ (M9.view.loc (c : Thread nD τ) ↦[M9.view.set]{fullShare} f9)
        ∗ (M10.view.loc (c : Thread nD τ) ↦[M10.view.set]{fullShare} f10)
        ∗ (iprop((M2.view.loc (c : Thread nD τ) ↦[M2.view.set]{fullShare} X2) ∗ (M3.view.loc (c : Thread nD τ) ↦[M3.view.set]{fullShare} X3)
            ∗ (M4.view.loc (c : Thread nD τ) ↦[M4.view.set]{fullShare} X4) ∗ (M5.view.loc (c : Thread nD τ) ↦[M5.view.set]{fullShare} X5)
            ∗ (M6.view.loc (c : Thread nD τ) ↦[M6.view.set]{fullShare} M6.view.writes (Elt F) f6 L)
            ∗ (∃ f, M7.view.loc (c : Thread nD τ) ↦[M7.view.set]{fullShare} f)
            ∗ (∃ f, M8.view.loc (c : Thread nD τ) ↦[M8.view.set]{fullShare} f)
            ∗ (∃ f, M9.view.loc (c : Thread nD τ) ↦[M9.view.set]{fullShare} f)
            ∗ (∃ f, M10.view.loc (c : Thread nD τ) ↦[M10.view.set]{fullShare} f)) -∗ K ⟨⟩))
      ⊢ wp frame (wpE (defs₀ (F := F)) Variants.none c none) E (cc0_band_attn i M2 h2 M3 h3 M4 h4 M5 h5 M6 h6 M7 h7 M8 h8 M9 h9 M10 h10) K } := by
  obtain ⟨hc1, hc2, hc3⟩ := conds_later i hi
  refine ⟨?_, fun E K => ?run⟩
  case run =>
    iintro ⟨H2, H3, H4, H5, H6, H7, H8, H9, H10, Hk⟩
    sl_unfold [cc0_band_attn]
    sl_exec!
    sl_step
    iapply Hk
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iexists _; iexact H10

end Cert.Band.KI

end
-- ==== Proof.KFrame.lean ====
module

public import proofs.«01_k».proof.Proof.KBody

@[expose] public section

noncomputable section

namespace Cert.Band.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A whole scratch buffer at contents `f`, written as the body's memref on it. -/
theorem scratch_eq (c : Dev nD) (b : Ref sig .tc) (f : Buf (Elt F) ((c : Thread nD τ).loc b)) :
    (((c : Thread nD τ).loc b) ↦{fullShare} f : sProp 𝕄)
      = ((Memref.whole b).view.loc (c : Thread nD τ) ↦[(Memref.whole b).view.set]{fullShare} f) := by
  rw [show (Memref.whole b).view.set = Finset.univ from View.set_whole _]

/-- The scratch buffers at any contents, written as the body's memrefs on them. -/
theorem scratch_form (c : Dev nD) :
    (Pipeline.scopedRest (Ix := Unit) (Name := ℕ) (U := UR sig nD τ) (Lvl := ℕ) (Val := Elt F) spec0 c : sProp 𝕄)
      = iprop((∃ f, (Memref.whole cc0_scratch0).view.loc (c : Thread nD τ) ↦[(Memref.whole cc0_scratch0).view.set]{fullShare} f)
        ∗ (∃ f, (Memref.whole cc0_scratch1).view.loc (c : Thread nD τ) ↦[(Memref.whole cc0_scratch1).view.set]{fullShare} f)
        ∗ (∃ f, (Memref.whole cc0_scratch2).view.loc (c : Thread nD τ) ↦[(Memref.whole cc0_scratch2).view.set]{fullShare} f)
        ∗ (∃ f, (Memref.whole cc0_scratch3).view.loc (c : Thread nD τ) ↦[(Memref.whole cc0_scratch3).view.set]{fullShare} f)) := by
  rw [scopedRest0_eq]
  simp only [scratch_eq]

/-- Both kinds of row block at once, on whole buffers at any contents of the output and of the scratch: the body
    ends with the four inputs as they were and every buffer it writes at some contents. -/
theorem runAny (c : Dev nD) (i : grid0.Coords)
    (M2 : Memref sig .tc .vmem S1x512x512 .f32) (h2 : M2.IsWhole) (M3 : Memref sig .tc .vmem S1x2048x512 .bf16) (h3 : M3.IsWhole)
    (M4 : Memref sig .tc .vmem S1x2048x512 .bf16) (h4 : M4.IsWhole) (M5 : Memref sig .tc .vmem S4x128x576 .f32) (h5 : M5.IsWhole)
    (M6 : Memref sig .tc .vmem S1x512x512 .f32) (h6 : M6.IsWhole)
    (x2 : Vec F S1x512x512 .f32) (x3 x4 : Vec F S1x2048x512 .bf16) (x5 : Vec F S4x128x576 .f32)
    (E : Set ℕ) (K : PUnit → sProp 𝕄) :
    iprop(owns (c : Thread nD τ) M2 fullShare x2 ∗ owns (c : Thread nD τ) M3 fullShare x3
        ∗ owns (c : Thread nD τ) M4 fullShare x4 ∗ owns (c : Thread nD τ) M5 fullShare x5
        ∗ (∃ d, owns (c : Thread nD τ) M6 fullShare d)
        ∗ Pipeline.scopedRest (Ix := Unit) (Name := ℕ) (U := UR sig nD τ) (Lvl := ℕ) (Val := Elt F) spec0 c
        ∗ (iprop(owns (c : Thread nD τ) M2 fullShare x2 ∗ owns (c : Thread nD τ) M3 fullShare x3
            ∗ owns (c : Thread nD τ) M4 fullShare x4 ∗ owns (c : Thread nD τ) M5 fullShare x5
            ∗ (∃ d, owns (c : Thread nD τ) M6 fullShare d)
            ∗ Pipeline.scopedRest (Ix := Unit) (Name := ℕ) (U := UR sig nD τ) (Lvl := ℕ) (Val := Elt F) spec0 c) -∗ K ⟨⟩))
      ⊢ wp frame (wpE (defs₀ (F := F)) Variants.none c none) E
          (cc0_band_attn i M2 h2 M3 h3 M4 h4 M5 h5 M6 h6 (Memref.whole cc0_scratch0) (Memref.isWhole_whole _)
            (Memref.whole cc0_scratch1) (Memref.isWhole_whole _) (Memref.whole cc0_scratch2) (Memref.isWhole_whole _)
            (Memref.whole cc0_scratch3) (Memref.isWhole_whole _)) K := by
  rw [scratch_form]
  unfold owns
  iintro ⟨⟨%f2, %hf2, H2⟩, ⟨%f3, %hf3, H3⟩, ⟨%f4, %hf4, H4⟩, ⟨%f5, %hf5, H5⟩, ⟨%d6, %f6, -, H6⟩, ⟨⟨%f7, H7⟩, ⟨%f8, H8⟩, ⟨%f9, H9⟩, ⟨%f10, H10⟩⟩, Hk⟩
  rcases Classical.em ((i 1).val = 0) with hi | hi
  · iapply ((runFirst c i hi M2 h2 M3 h3 M4 h4 M5 h5 M6 h6 (Memref.whole cc0_scratch0) (Memref.isWhole_whole _)
            (Memref.whole cc0_scratch1) (Memref.isWhole_whole _) (Memref.whole cc0_scratch2) (Memref.isWhole_whole _)
            (Memref.whole cc0_scratch3) (Memref.isWhole_whole _) f2 f3 f4 f5 f6 f7 f8 f9 f10).2 E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H2, H3, H4, H5, H6, H7, H8, H9, H10⟩
    iapply Hk
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; iexists _; isplitr; swap; · iexact H6
                    ipureintro; rfl
    isplitl [H7]; · iexact H7
    isplitl [H8]; · iexact H8
    isplitl [H9]; · iexact H9
    iexact H10
  · iapply ((runLater c i hi M2 h2 M3 h3 M4 h4 M5 h5 M6 h6 (Memref.whole cc0_scratch0) (Memref.isWhole_whole _)
            (Memref.whole cc0_scratch1) (Memref.isWhole_whole _) (Memref.whole cc0_scratch2) (Memref.isWhole_whole _)
            (Memref.whole cc0_scratch3) (Memref.isWhole_whole _) f2 f3 f4 f5 f6 f7 f8 f9 f10).2 E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H2, H3, H4, H5, H6, H7, H8, H9, H10⟩
    iapply Hk
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; iexists _; isplitr; swap; · iexact H6
                    ipureintro; rfl
    isplitl [H7]; · iexact H7
    isplitl [H8]; · iexact H8
    isplitl [H9]; · iexact H9
    iexact H10

/-- Window 4, the output, is the one whose contents this file does not name. -/
def forgets : Fin cfg0.W → Bool := fun w => w.val == 4

/-- The proof data: each input's array as the region finds it and its block after the body; the output unnamed; the
    invariant the core's scratch and generator at anything; full shares; nothing owed. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem fA_eq (c : Dev nD) (w : Fin cfg0.W) : (fdats m 0 c).A w = V m c (Pipeline.arrRef spec0 w) := rfl
theorem fafter_0 (c : Dev nD) (t : Fin cfg0.N) : (fdats m 0 c).after 0 t = iblk m c 0 t := by dsimp only [fdats]
theorem fafter_1 (c : Dev nD) (t : Fin cfg0.N) : (fdats m 0 c).after 1 t = iblk m c 1 t := by dsimp only [fdats]
theorem fafter_2 (c : Dev nD) (t : Fin cfg0.N) : (fdats m 0 c).after 2 t = iblk m c 2 t := by dsimp only [fdats]
theorem fafter_3 (c : Dev nD) (t : Fin cfg0.N) : (fdats m 0 c).after 3 t = iblk m c 3 t := by dsimp only [fdats]

theorem fbefore_0 (c : Dev nD) (t : Fin cfg0.N) (d) : (fdats m 0 c).before 0 t d = iblk m c 0 t :=
  before0_0_of m (fdats m 0 c) (fA_eq m c 0) (fafter_0 m c) t d
theorem fbefore_1 (c : Dev nD) (t : Fin cfg0.N) (d) : (fdats m 0 c).before 1 t d = iblk m c 1 t :=
  before0_1_of m (fdats m 0 c) (fA_eq m c 1) (fafter_1 m c) t d
theorem fbefore_2 (c : Dev nD) (t : Fin cfg0.N) (d) : (fdats m 0 c).before 2 t d = iblk m c 2 t :=
  before0_2_of m (fdats m 0 c) (fA_eq m c 2) (fafter_2 m c) t d
theorem fbefore_3 (c : Dev nD) (t : Fin cfg0.N) (d) : (fdats m 0 c).before 3 t d = iblk m c 3 t :=
  before0_3_of m (fdats m 0 c) (fA_eq m c 3) (fafter_3 m c) t d

theorem fbody (c : Dev nD) : BodyObligation (fdats (F := F) m 0 c) (defs₀ (F := F)) Variants.none () Set.univ forgets := fun t => by
  rw [bigSep_W0, bigSep_W0]
  sl_whnfR [defs₀, Defs.onTc]
  simp only [fbefore_0, fbefore_1, fbefore_2, fbefore_3, show forgets 0 = false from rfl, show forgets 1 = false from rfl,
    show forgets 2 = false from rfl, show forgets 3 = false from rfl, show forgets 4 = true from rfl]
  rw [show (fdats m 0 c).Φ t.succ = (fdats m 0 c).Φ t.castSucc from rfl,
    show (fdats m 0 c).owesAt () t.succ = (fdats m 0 c).owesAt () t.castSucc from rfl, fafter_0, fafter_1, fafter_2, fafter_3,
    show (fdats m 0 c).Φ t.castSucc = Pipeline.ΦA spec0 c from rfl]
  unfold Pipeline.ΦA
  iintro ⟨⟨HS, Hg⟩, Ho, ⟨%d0, H0⟩, ⟨%d1, H1⟩, ⟨%d2, H2⟩, ⟨%d3, H3⟩, H4⟩
  iapply (runAny c _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  iexact H4

set_option backward.isDefEq.respectTransparency.types false in
/-- From any memory with zero counters, at any values: every run of @main ends, each windowed input's array and every
    buffer no window stages as the region found it, and every semaphore counter at zero. -/
theorem frun : θ_run defs (onTc (τ := τ) (main (F := F))) (s₀ m ρ)
    (fun r => Pipeline.RDat.FramePost (cfgs 0) (fun c => (fdats m 0 c).toRForget forgets) (V m) r ∧ r.2.sem = fun _ => 0) :=
  Pipeline.θ_run_frame_forget (Q' := _) cfgs (fdats m) (0 : Fin 1) launch0 defs₀ Variants.none forgets m ρ main
    (hbody := fun c => (fbody m c).loose) (hshare := fun c => (fdats m 0 c).share_full fun _ => rfl)
    (howed := fun _ _ => rfl) (V := V m) (hmain := hmain m Variants.none) (hA := fun _ _ => rfl) (hΦ := fun _ _ => rfl)

/-- From any memory with zero counters, at any values: every run of @main ends with the four arguments as they were
    and every semaphore counter at zero. -/
theorem frameAny : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1.arr_in c 0 rfl).trans (fA_eq m c 0)).trans (V_main_arg0 m c),
     ((h.1.arr_in c 1 rfl).trans (fA_eq m c 1)).trans (V_main_arg1 m c),
     ((h.1.arr_in c 2 rfl).trans (fA_eq m c 2)).trans (V_main_arg2 m c),
     ((h.1 c).2 main_arg3 (Pipeline.mem_restRefs_of main_arg3 (by decide) (by decide))).trans (V_main_arg3 m c)⟩, h.2⟩) (frun m ρ)

end Cert.Band.KI

end
-- ==== Proof.KPay.lean ====
module

public import proofs.«01_k».proof.Proof.Gen.KernelIdeal.Loops
public import Idealize.ShloMosaic.Lib.Pointwise

@[expose] public section

noncomputable section

namespace Cert.Band.KI

open Cert.KernelIdeal Cert.KernelIdeal.Gen
open Idealize.ShloMosaic

/-- The scale of the queries in the kernel: 1/8 over the logarithm of 2. -/
abbrev sclE : EReal := (((1 / 8) * (Real.log 2)⁻¹ : ℝ) : EReal)

/-- The scale of the bias in the kernel: 1 over the logarithm of 2. -/
abbrev l2eE : EReal := (((Real.log 2)⁻¹ : ℝ) : EReal)

/-- The score of stacked row `r` against window row `w`: the row's own half of the lanes of the scaled query against the
    key, plus the scaled bias. -/
def scoreN (q k b : ℕ → ℕ → EReal) (r w : ℕ) : EReal :=
  (∑ d : Fin 128, (if (r < 64 ↔ d.val < 64) then q (r % 64) d.val * sclE else 0) * k w d.val) + b r w * l2eE

/-- The weight of window row `w` of a row of scores `f`, before normalizing. -/
def expN (f : ℕ → EReal) (w : ℕ) : EReal :=
  FloatOps.exp2 (F := Ideal) (φ := .f32) (f w - Finset.fold max (Ideal.ofBits FTy.f32 4286578688#32) (fun x : Fin 576 => f x.val) Finset.univ)

/-- One over the sum of the weights of a row of scores. -/
def invN (f : ℕ → EReal) : EReal := Ideal.div 1 (∑ w : Fin 576, expN f w.val)

/-- The output of query row `a` at lane `l` of a head pair: the first half of the stacked rows serves the lower lanes, the
    second half the upper. -/
def outN (f v : ℕ → ℕ → EReal) (a l : ℕ) : EReal :=
  (∑ w : Fin 576, expN (f (if l < 64 then a else 64 + a)) w.val * v w.val l) * invN (f (if l < 64 then a else 64 + a))

/-- The lane mask: one on the lower half of the lanes. -/
theorem lane_mask {α : Type} (x : Fin 128) (a b : α) :
    Scalar.select (IntOp.cmpi CmpIPredicate.slt (BitVec.ofNat 32 x.val) 64#32) a b = if x.val < 64 then a else b := by
  have h : IntOp.cmpi CmpIPredicate.slt (BitVec.ofNat 32 x.val) 64#32 = if x.val < 64 then 1#1 else 0#1 := by
    revert x; decide
  rw [h]
  split <;> rfl

/-- The score tile of one chunk and head pair, at an index. -/
theorem score_apply (q : Vec Ideal S1x64x128 .f32) (k : Vec Ideal S576x128 .bf16) (b : Vec Ideal S1x128x576 .f32)
    (Q K B : ℕ → ℕ → EReal) (hq : ∀ a d, q (ix3 0 a d) = Q a.val d.val) (hk : ∀ w d, k (ix2 w d) = K w.val d.val)
    (hb : ∀ r w, b (ix3 0 r w) = B r.val w.val) (r : Fin 128) (w : Fin 576) :
    k0_pay11 k0_pay5 q k b (ix4 0 0 r w) = scoreN Q K B r.val w.val := by
  pointwise [k0_pay11, k0_pay5]
  unfold scoreN
  rw [hb]
  refine congrArg₂ _ (Finset.sum_congr rfl fun d _ => ?_) rfl
  rw [hk]
  congr 1
  simp only [lane_mask]
  by_cases h : r.val < 64
  · simp only [h, dif_pos, true_iff, hq, Nat.mod_eq_of_lt h]
    rfl
  · simp only [h, dif_neg, not_false_eq_true, false_iff, hq]
    rw [show r.val - 64 = r.val % 64 by have := r.isLt; omega]
    by_cases hd : d.val < 64
    · simp [hd]
    · simp only [hd, if_false, not_false_eq_true, if_true]
      rfl

/-- The weights of the masked rows, at an index. -/
theorem exp_masked_apply (s : Vec Ideal S1x4x128x576 .f32) (n : ℕ) (hn : n < 8) (nb : BitVec 32) (hnb : nb = BitVec.ofNat 32 n)
    (f : ℕ → ℕ → ℕ → EReal)
    (hs : ∀ p r w, s (ix4 0 p r w) = f p.val r.val w.val) (p : Fin 4) (r : Fin 128) (w : Fin 576) :
    k0_pay28 (iota .tc S1x1x576 32 [2] iota_S1x1x576_d2_w32) nb s (ix3 p r w)
      = expN (fun w => if 512 ≤ w + 64 * n then f p.val r.val w else ⊥) w.val := by
  have hm : ∀ x : Fin 576, ∀ a b : EReal, Scalar.select (IntOp.cmpi CmpIPredicate.sge (BitVec.ofNat 32 x.val) (Scalar.subi (512#32) (Scalar.muli nb 64#32))) a b
      = if 512 ≤ x.val + 64 * n then a else b := by
    intro x a b
    have h : IntOp.cmpi CmpIPredicate.sge (BitVec.ofNat 32 x.val) (Scalar.subi (512#32) (Scalar.muli nb 64#32)) = if 512 ≤ x.val + 64 * n then 1#1 else 0#1 := by
      subst hnb
      revert x
      interval_cases n <;> decide
    rw [h]
    split <;> rfl
  pointwise [k0_pay28]
  unfold expN
  simp only [hm, hs]
  rfl

/-- The stored weights of the masked rows, at an index. -/
theorem exp_tile_masked (s : Vec Ideal S1x4x128x576 .f32) (n : ℕ) (hn : n < 8) (nb : BitVec 32) (hnb : nb = BitVec.ofNat 32 n)
    (f : ℕ → ℕ → ℕ → EReal)
    (hs : ∀ p r w, s (ix4 0 p r w) = f p.val r.val w.val) (p : Fin 4) (r : Fin 128) (w : Fin 576) :
    k0_pay30 (iota .tc S1x1x576 32 [2] iota_S1x1x576_d2_w32) nb s (ix4 0 p r w)
      = expN (fun w => if 512 ≤ w + 64 * n then f p.val r.val w else ⊥) w.val := by
  pointwise [k0_pay30]
  exact exp_masked_apply s n hn nb hnb f hs p r w

/-- The reciprocal sums of the masked rows, at an index. -/
theorem inv_masked_apply (s : Vec Ideal S1x4x128x576 .f32) (n : ℕ) (hn : n < 8) (nb : BitVec 32) (hnb : nb = BitVec.ofNat 32 n)
    (f : ℕ → ℕ → ℕ → EReal)
    (hs : ∀ p r w, s (ix4 0 p r w) = f p.val r.val w.val) (p : Fin 4) (r : Fin 128) :
    k0_pay29 (iota .tc S1x1x576 32 [2] iota_S1x1x576_d2_w32) nb s (ix3 p r 0)
      = invN (fun w => if 512 ≤ w + 64 * n then f p.val r.val w else ⊥) := by
  pointwise [k0_pay29]
  simp only [exp_masked_apply s n hn nb hnb f hs]
  rfl

/-- The weights of the unmasked rows, at an index. -/
theorem exp_plain_apply (s : Vec Ideal S1x4x128x576 .f32) (f : ℕ → ℕ → ℕ → EReal)
    (hs : ∀ p r w, s (ix4 0 p r w) = f p.val r.val w.val) (p : Fin 4) (r : Fin 128) (w : Fin 576) :
    k0_pay68 s (ix3 p r w) = expN (fun w => f p.val r.val w) w.val := by
  pointwise [k0_pay68]
  unfold expN
  simp only [hs]

/-- The stored weights of the unmasked rows, at an index. -/
theorem exp_tile_plain (s : Vec Ideal S1x4x128x576 .f32) (f : ℕ → ℕ → ℕ → EReal)
    (hs : ∀ p r w, s (ix4 0 p r w) = f p.val r.val w.val) (p : Fin 4) (r : Fin 128) (w : Fin 576) :
    k0_pay70 s (ix4 0 p r w) = expN (fun w => f p.val r.val w) w.val := by
  pointwise [k0_pay70]
  exact exp_plain_apply s f hs p r w

/-- The reciprocal sums of the unmasked rows, at an index. -/
theorem inv_plain_apply (s : Vec Ideal S1x4x128x576 .f32) (f : ℕ → ℕ → ℕ → EReal)
    (hs : ∀ p r w, s (ix4 0 p r w) = f p.val r.val w.val) (p : Fin 4) (r : Fin 128) :
    k0_pay69 s (ix3 p r 0) = invN (fun w => f p.val r.val w) := by
  pointwise [k0_pay69]
  simp only [exp_plain_apply s f hs]
  rfl

/-- The output tile of a chunk and the first head pair, at an index. -/
theorem out0_apply (iv : FVec Ideal S4x128x1 .f32) (e : Vec Ideal S1x1x128x576 .bf16) (v : Vec Ideal S576x128 .bf16)
    (f V : ℕ → ℕ → EReal) (he : ∀ r w, e (ix4 0 0 r w) = expN (f r.val) w.val) (hv : ∀ w l, v (ix2 w l) = V w.val l.val)
    (hi : ∀ r, iv (ix3 0 r 0) = invN (f r.val)) (a : Fin 64) (l : Fin 128) :
    k0_pay40 k0_pay5 iv e v (ix3 0 a l) = outN f V a.val l.val := by
  pointwise [k0_pay40, k0_pay5]
  simp only [lane_mask, he, hv, hi]
  unfold outN
  split <;> rfl

/-- The output tile of a chunk and the second head pair, at an index. -/
theorem out1_apply (iv : FVec Ideal S4x128x1 .f32) (e : Vec Ideal S1x1x128x576 .bf16) (v : Vec Ideal S576x128 .bf16)
    (f V : ℕ → ℕ → EReal) (he : ∀ r w, e (ix4 0 0 r w) = expN (f r.val) w.val) (hv : ∀ w l, v (ix2 w l) = V w.val l.val)
    (hi : ∀ r, iv (ix3 1 r 0) = invN (f r.val)) (a : Fin 64) (l : Fin 128) :
    k0_pay36 k0_pay5 iv e v (ix3 0 a l) = outN f V a.val l.val := by
  pointwise [k0_pay36, k0_pay5]
  simp only [lane_mask, he, hv, hi]
  unfold outN
  split <;> rfl

/-- The output tile of a chunk and the third head pair, at an index. -/
theorem out2_apply (iv : FVec Ideal S4x128x1 .f32) (e : Vec Ideal S1x1x128x576 .bf16) (v : Vec Ideal S576x128 .bf16)
    (f V : ℕ → ℕ → EReal) (he : ∀ r w, e (ix4 0 0 r w) = expN (f r.val) w.val) (hv : ∀ w l, v (ix2 w l) = V w.val l.val)
    (hi : ∀ r, iv (ix3 2 r 0) = invN (f r.val)) (a : Fin 64) (l : Fin 128) :
    k0_pay37 k0_pay5 iv e v (ix3 0 a l) = outN f V a.val l.val := by
  pointwise [k0_pay37, k0_pay5]
  simp only [lane_mask, he, hv, hi]
  unfold outN
  split <;> rfl

/-- The output tile of a chunk and the fourth head pair, at an index. -/
theorem out3_apply (iv : FVec Ideal S4x128x1 .f32) (e : Vec Ideal S1x1x128x576 .bf16) (v : Vec Ideal S576x128 .bf16)
    (f V : ℕ → ℕ → EReal) (he : ∀ r w, e (ix4 0 0 r w) = expN (f r.val) w.val) (hv : ∀ w l, v (ix2 w l) = V w.val l.val)
    (hi : ∀ r, iv (ix3 3 r 0) = invN (f r.val)) (a : Fin 64) (l : Fin 128) :
    k0_pay39 k0_pay5 iv (k0_pay38 e) v (ix3 0 a l) = outN f V a.val l.val := by
  pointwise [k0_pay39, k0_pay38, k0_pay5]
  simp only [lane_mask, he, hv, hi]
  unfold outN
  split <;> rfl

end Cert.Band.KI

end
-- ==== Proof.KRead.lean ====
module

public import proofs.«01_k».proof.Proof.KPay
public import proofs.«01_k».proof.Proof.KBody
public import Idealize.ShloMosaic.Lib.Pipeline.ValueKit.Tiles

@[expose] public section

noncomputable section

namespace Cert.Band.KI

open Cert.KernelIdeal Cert.KernelIdeal.Gen
open Idealize.ShloMosaic
open Idealize.ShloMosaic.TcCoe

/-- Each coordinate of a placed index of a unit-stride rectangle: the offset plus the local coordinate. -/
theorem emb_val {s : Shape} (off size : Fin s.rank → ℕ) (inb) (x : (Rect.unit off size inb).shape.Idx) (a : Fin s.rank) :
    ((Rect.unit off size inb).emb x a).val = off a + (x a).val :=
  Rect.idx_unit_val off size inb x a

/-- A read of stored pieces is the function all pieces agree with, where some piece holds the index. -/
theorem canon_of {s : Shape} {e : EltTy} (L : List (View.Piece (Elt Ideal) s e)) (G : s.Idx → Elt Ideal e)
    (hL : ∀ P ∈ L, ∀ x, P.2 x = G (P.1.emb x)) (y : s.Idx) (hy : ∃ P ∈ L, y ∈ P.1.set) : View.canon L y = G y :=
  View.canon_eq_of_allAt L y _ hy fun P hP x hx => hx ▸ hL P hP x

/-- A load from stored pieces, at an index: the function all pieces agree with at the placed index. -/
theorem readCov_of {sig : RefSig} {κ : Kind} {sp : Space} {s : Shape} {e : EltTy} (v : View sig κ sp s e)
    (L : List (View.Piece (Elt Ideal) s e)) (G : s.Idx → Elt Ideal e)
    (hL : ∀ P ∈ L, ∀ x, P.2 x = G (P.1.emb x)) (hc : ∀ y, ∃ P ∈ L, y ∈ P.1.set) (r : Rect s) (x : r.shape.Idx) :
    v.readCov L r.toLoadRect x = G (r.emb x) := by
  rw [View.readCov_eq_canon_ld v L r hc]
  exact canon_of L G hL _ (hc _)

/-- A four-coordinate function of natural numbers on the score scratch. -/
abbrev at4 (S : ℕ → ℕ → ℕ → ℕ → EReal) (y : S2x4x128x576.Idx) : EReal := S (y 0).val (y 1).val (y 2).val (y 3).val

/-- A two-coordinate function of natural numbers on the output block. -/
abbrev at2 (G : ℕ → ℕ → EReal) (y : S1x512x512.Idx) : EReal := G (y 1).val (y 2).val

/-- One score tile of a chunk `j` and head pair `p` agrees with `S`. -/
theorem score_piece (S : ℕ → ℕ → ℕ → ℕ → EReal) (j p : ℕ) (inb) (w : FVec Ideal S1x1x128x576 .f32)
    (h : ∀ (r : Fin 128) (l : Fin 576), w (ix4 0 0 r l) = S j p r.val l.val)
    (x : (Rect.unit (s := S2x4x128x576) ![j, p, 0, 0] S1x1x128x576.size inb).shape.Idx) :
    w x = at4 S ((Rect.unit (s := S2x4x128x576) ![j, p, 0, 0] S1x1x128x576.size inb).emb x) := by
  obtain ⟨a, b, r, l, rfl⟩ : ∃ (a b : Fin 1) (r : Fin 128) (l : Fin 576), x = ix4 a b r l := ⟨_, _, _, _, (ix4_eta x).symm⟩
  obtain rfl : a = 0 := Subsingleton.elim _ _
  obtain rfl : b = 0 := Subsingleton.elim _ _
  rw [h]
  simp only [at4, emb_val]
  congr 1 <;> simp

/-- One chunk's weights (all head pairs) agree with `S`. -/
theorem exp_piece (S : ℕ → ℕ → ℕ → ℕ → EReal) (j : ℕ) (inb) (w : FVec Ideal S1x4x128x576 .bf16)
    (h : ∀ (p : Fin 4) (r : Fin 128) (l : Fin 576), w (ix4 0 p r l) = S j p.val r.val l.val)
    (x : (Rect.unit (s := S2x4x128x576) ![j, 0, 0, 0] S1x4x128x576.size inb).shape.Idx) :
    w x = at4 S ((Rect.unit (s := S2x4x128x576) ![j, 0, 0, 0] S1x4x128x576.size inb).emb x) := by
  obtain ⟨a, b, r, l, rfl⟩ : ∃ (a : Fin 1) (b : Fin 4) (r : Fin 128) (l : Fin 576), x = ix4 a b r l := ⟨_, _, _, _, (ix4_eta x).symm⟩
  obtain rfl : a = 0 := Subsingleton.elim _ _
  rw [h]
  simp only [at4, emb_val]
  congr 1 <;> simp

/-- A load of one chunk's scores out of the score scratch. -/
theorem chunk_read {e : EltTy} {sig : RefSig} {κ : Kind} {sp : Space} (v : View sig κ sp S2x4x128x576 e)
    (L : List (View.Piece (Elt Ideal) S2x4x128x576 e)) (G : S2x4x128x576.Idx → Elt Ideal e) (S : ℕ → ℕ → ℕ → ℕ → Elt Ideal e)
    (hG : ∀ y, G y = S (y 0).val (y 1).val (y 2).val (y 3).val)
    (hL : ∀ P ∈ L, ∀ x, P.2 x = G (P.1.emb x)) (hc : ∀ y, ∃ P ∈ L, y ∈ P.1.set) (j : ℕ) (inb) (p : Fin 4) (r : Fin 128) (l : Fin 576) :
    v.readCov L (Rect.unit (s := S2x4x128x576) ![j, 0, 0, 0] S1x4x128x576.size inb).toLoadRect (ix4 0 p r l) = S j p.val r.val l.val := by
  rw [readCov_of v L G hL hc, hG]
  simp only [emb_val]
  congr 1 <;> simp

/-- A load of one tile of weights out of the weight scratch. -/
theorem tile_read {e : EltTy} {sig : RefSig} {κ : Kind} {sp : Space} (v : View sig κ sp S2x4x128x576 e)
    (L : List (View.Piece (Elt Ideal) S2x4x128x576 e)) (G : S2x4x128x576.Idx → Elt Ideal e) (S : ℕ → ℕ → ℕ → ℕ → Elt Ideal e)
    (hG : ∀ y, G y = S (y 0).val (y 1).val (y 2).val (y 3).val)
    (hL : ∀ P ∈ L, ∀ x, P.2 x = G (P.1.emb x)) (hc : ∀ y, ∃ P ∈ L, y ∈ P.1.set) (j p : ℕ) (inb) (r : Fin 128) (l : Fin 576) :
    v.readCov L (Rect.unit (s := S2x4x128x576) ![j, p, 0, 0] S1x1x128x576.size inb).toLoadRect (ix4 0 0 r l) = S j p r.val l.val := by
  rw [readCov_of v L G hL hc, hG]
  simp only [emb_val]
  congr 1 <;> simp

/-- One output tile of a chunk `n` and head pair `p` agrees with `G`. -/
theorem out_piece (G : ℕ → ℕ → EReal) (off : Fin 3 → ℕ) (n p : ℕ) (ho : off = ![0, 64 * n, 128 * p]) (inb) (w : FVec Ideal S1x64x128 .f32)
    (h : ∀ (a : Fin 64) (l : Fin 128), w (ix3 0 a l) = G (64 * n + a.val) (128 * p + l.val))
    (x : (Rect.unit (s := S1x512x512) off S1x64x128.size inb).shape.Idx) :
    w x = at2 G ((Rect.unit (s := S1x512x512) off S1x64x128.size inb).emb x) := by
  subst ho
  obtain ⟨z, a, l, rfl⟩ : ∃ (z : Fin 1) (a : Fin 64) (l : Fin 128), x = ix3 z a l := ⟨_, _, _, (ix3_eta x).symm⟩
  obtain rfl : z = 0 := Subsingleton.elim _ _
  rw [h]
  simp only [at2, emb_val]
  congr 1 <;> simp

/-- A load of a query tile. -/
theorem q_read (M : Memref sig .tc .vmem S1x512x512 .f32) (X : BufTy.Contents (Elt Ideal) M.view.ty) (Q : ℕ → ℕ → EReal)
    (hQ : ∀ (a d : Fin 512), M.view.read (Elt Ideal) X (ix3 0 a d) = Q a.val d.val) (off : Fin 3 → ℕ) (A C : ℕ) (ho : off = ![0, A, C]) (inb)
    (a : Fin 64) (d : Fin 128) :
    View.readAt (Elt Ideal) M.view (Rect.unit (s := S1x512x512) off S1x64x128.size inb).toLoadRect X (ix3 0 a d) = Q (A + a.val) (C + d.val) := by
  subst ho
  have h1 := inb 1
  have h2 := inb 2
  simp only [Matrix.cons_val] at h1 h2
  have e : (Rect.unit (s := S1x512x512) ![0, A, C] S1x64x128.size inb).emb (ix3 0 a d)
      = ix3 (0 : Fin 1) (⟨A + a.val, by have := a.isLt; simp [Shape.size] at h1; omega⟩ : Fin 512) (⟨C + d.val, by have := d.isLt; simp [Shape.size] at h2; omega⟩ : Fin 512) := by
    refine funext fun b => Fin.ext ?_
    rw [emb_val]
    fin_cases b <;> rfl
  rw [View.readAt_eq_ld]
  exact (congrArg (M.view.read (Elt Ideal) X) e).trans (hQ _ _)

/-- A load of a padded key or value tile. -/
theorem kz_read (M : Memref sig .tc .vmem S1024x512 .bf16) (X : BufTy.Contents (Elt Ideal) M.view.ty) (K : ℕ → ℕ → EReal)
    (hK : ∀ (w : Fin 1024) (d : Fin 512), M.view.read (Elt Ideal) X (ix2 w d) = K w.val d.val) (off : Fin 2 → ℕ) (A C : ℕ) (ho : off = ![A, C]) (inb)
    (w : Fin 576) (d : Fin 128) :
    View.readAt (Elt Ideal) M.view (Rect.unit (s := S1024x512) off S576x128.size inb).toLoadRect X (ix2 w d) = K (A + w.val) (C + d.val) := by
  subst ho
  have h1 := inb 0
  have h2 := inb 1
  have e : (Rect.unit (s := S1024x512) ![A, C] S576x128.size inb).emb (ix2 w d)
      = ix2 (⟨A + w.val, by have := w.isLt; simp [Shape.size] at h1; omega⟩ : Fin 1024) (⟨C + d.val, by have := d.isLt; simp [Shape.size] at h2; omega⟩ : Fin 512) := by
    refine funext fun b => Fin.ext ?_
    rw [emb_val]
    fin_cases b <;> rfl
  rw [View.readAt_eq_ld]
  exact (congrArg (M.view.read (Elt Ideal) X) e).trans (hK _ _)

/-- A load of a key or value tile. -/
theorem k_read (M : Memref sig .tc .vmem S1x2048x512 .bf16) (X : BufTy.Contents (Elt Ideal) M.view.ty) (K : ℕ → ℕ → EReal)
    (hK : ∀ (w : Fin 2048) (d : Fin 512), M.view.read (Elt Ideal) X (ix3 0 w d) = K w.val d.val) (off : Fin 3 → ℕ) (A C : ℕ) (ho : off = ![0, A, C]) (inb)
    (w : Fin 576) (d : Fin 128) :
    View.readAt (Elt Ideal) M.view (Rect.unit (s := S1x2048x512) off S1x576x128.size inb).toLoadRect X (ix3 0 w d) = K (A + w.val) (C + d.val) := by
  subst ho
  have h1 := inb 1
  have h2 := inb 2
  have e : (Rect.unit (s := S1x2048x512) ![0, A, C] S1x576x128.size inb).emb (ix3 0 w d)
      = ix3 (0 : Fin 1) (⟨A + w.val, by have := w.isLt; simp [Shape.size] at h1; omega⟩ : Fin 2048) (⟨C + d.val, by have := d.isLt; simp [Shape.size] at h2; omega⟩ : Fin 512) := by
    refine funext fun b => Fin.ext ?_
    rw [emb_val]
    fin_cases b <;> rfl
  rw [View.readAt_eq_ld]
  exact (congrArg (M.view.read (Elt Ideal) X) e).trans (hK _ _)

/-- A load of one head pair's bias tile. -/
theorem b_read (M : Memref sig .tc .vmem S4x128x576 .f32) (X : BufTy.Contents (Elt Ideal) M.view.ty) (B : ℕ → ℕ → ℕ → EReal)
    (hB : ∀ (p : Fin 4) (r : Fin 128) (w : Fin 576), M.view.read (Elt Ideal) X (ix3 p r w) = B p.val r.val w.val) (p : ℕ) (inb)
    (r : Fin 128) (w : Fin 576) :
    View.readAt (Elt Ideal) M.view (Rect.unit (s := S4x128x576) ![p, 0, 0] S1x128x576.size inb).toLoadRect X (ix3 0 r w) = B p r.val w.val := by
  have h1 := inb 0
  have e : (Rect.unit (s := S4x128x576) ![p, 0, 0] S1x128x576.size inb).emb (ix3 0 r w)
      = ix3 (⟨p, by simp [Shape.size] at h1; omega⟩ : Fin 4) r w := by
    refine funext fun b => Fin.ext ?_
    rw [emb_val]
    fin_cases b <;> simp
  rw [View.readAt_eq_ld]
  exact (congrArg (M.view.read (Elt Ideal) X) e).trans (hB _ _ _)

end Cert.Band.KI

end
-- ==== Proof.KOff1.lean ====
module

public import proofs.«01_k».proof.Proof.KRead

@[expose] public section

noncomputable section

namespace Cert.Band.KI

open Cert.KernelIdeal Cert.KernelIdeal.Gen
open Idealize.ShloMosaic
open Idealize.ShloMosaic.TcCoe

/-- The score of chunk `n`, head pair `p`, at stacked row `r` and window row `w`. -/
def chunkS (Q K : ℕ → ℕ → EReal) (B : ℕ → ℕ → ℕ → EReal) (n p r w : ℕ) : EReal :=
  scoreN (fun a d => Q (64 * n + a) (128 * p + d)) (fun w d => K (64 * n + w) (128 * p + d)) (B p) r w

/-- The score with the rows before the sequence's start masked. -/
def maskS (Q K : ℕ → ℕ → EReal) (B : ℕ → ℕ → ℕ → EReal) (n p r w : ℕ) : EReal :=
  if 512 ≤ w + 64 * n then chunkS Q K B n p r w else ⊥

/-- The output of a row block at row `R` and lane `C`, from its (masked) scores `T` and value rows `V`. -/
def blockO (T : ℕ → ℕ → ℕ → ℕ → EReal) (V : ℕ → ℕ → EReal) (R C : ℕ) : EReal :=
  outN (T (R / 64) (C / 128)) (fun w l => V (64 * (R / 64) + w) (128 * (C / 128) + l)) (R % 64) (C % 128)

theorem blockO_at (T : ℕ → ℕ → ℕ → ℕ → EReal) (V : ℕ → ℕ → EReal) (n p : ℕ) (a : Fin 64) (l : Fin 128) :
    blockO T V (64 * n + a.val) (128 * p + l.val) = outN (T n p) (fun w l => V (64 * n + w) (128 * p + l)) a.val l.val := by
  unfold blockO
  have ha := a.isLt
  have hl := l.isLt
  rw [show (64 * n + a.val) / 64 = n by omega, show (64 * n + a.val) % 64 = a.val by omega,
    show (128 * p + l.val) / 128 = p by omega, show (128 * p + l.val) % 128 = l.val by omega]

theorem offq1_00 : ∀ k : Fin k0_t1_loop.trips, k0_off1 k 0#32 = ![0, 64 * (2 * k.val + 0), 128 * 0] := by decide

theorem offk1_00 (i : grid0.Coords) (hi : (i 1).val = 0) : ∀ k : Fin k0_t1_loop.trips, k0_off2 i k 0#32 = ![64 * (2 * k.val + 0), 128 * 0] := by
  unfold k0_off2
  rw [hi]
  decide

theorem offq1_10 : ∀ k : Fin k0_t1_loop.trips, k0_off1 k 1#32 = ![0, 64 * (2 * k.val + 1), 128 * 0] := by decide

theorem offk1_10 (i : grid0.Coords) (hi : (i 1).val = 0) : ∀ k : Fin k0_t1_loop.trips, k0_off2 i k 1#32 = ![64 * (2 * k.val + 1), 128 * 0] := by
  unfold k0_off2
  rw [hi]
  decide

theorem offq1_01 : ∀ k : Fin k0_t1_loop.trips, k0_off3 k 0#32 = ![0, 64 * (2 * k.val + 0), 128 * 1] := by decide

theorem offk1_01 (i : grid0.Coords) (hi : (i 1).val = 0) : ∀ k : Fin k0_t1_loop.trips, k0_off4 i k 0#32 = ![64 * (2 * k.val + 0), 128 * 1] := by
  unfold k0_off4
  rw [hi]
  decide

theorem offq1_11 : ∀ k : Fin k0_t1_loop.trips, k0_off3 k 1#32 = ![0, 64 * (2 * k.val + 1), 128 * 1] := by decide

theorem offk1_11 (i : grid0.Coords) (hi : (i 1).val = 0) : ∀ k : Fin k0_t1_loop.trips, k0_off4 i k 1#32 = ![64 * (2 * k.val + 1), 128 * 1] := by
  unfold k0_off4
  rw [hi]
  decide

theorem offq1_02 : ∀ k : Fin k0_t1_loop.trips, k0_off5 k 0#32 = ![0, 64 * (2 * k.val + 0), 128 * 2] := by decide

theorem offk1_02 (i : grid0.Coords) (hi : (i 1).val = 0) : ∀ k : Fin k0_t1_loop.trips, k0_off6 i k 0#32 = ![64 * (2 * k.val + 0), 128 * 2] := by
  unfold k0_off6
  rw [hi]
  decide

theorem offq1_12 : ∀ k : Fin k0_t1_loop.trips, k0_off5 k 1#32 = ![0, 64 * (2 * k.val + 1), 128 * 2] := by decide

theorem offk1_12 (i : grid0.Coords) (hi : (i 1).val = 0) : ∀ k : Fin k0_t1_loop.trips, k0_off6 i k 1#32 = ![64 * (2 * k.val + 1), 128 * 2] := by
  unfold k0_off6
  rw [hi]
  decide

theorem offq1_03 : ∀ k : Fin k0_t1_loop.trips, k0_off7 k 0#32 = ![0, 64 * (2 * k.val + 0), 128 * 3] := by decide

theorem offk1_03 (i : grid0.Coords) (hi : (i 1).val = 0) : ∀ k : Fin k0_t1_loop.trips, k0_off8 i k 0#32 = ![64 * (2 * k.val + 0), 128 * 3] := by
  unfold k0_off8
  rw [hi]
  decide

theorem offq1_13 : ∀ k : Fin k0_t1_loop.trips, k0_off7 k 1#32 = ![0, 64 * (2 * k.val + 1), 128 * 3] := by decide

theorem offk1_13 (i : grid0.Coords) (hi : (i 1).val = 0) : ∀ k : Fin k0_t1_loop.trips, k0_off8 i k 1#32 = ![64 * (2 * k.val + 1), 128 * 3] := by
  unfold k0_off8
  rw [hi]
  decide

theorem word1_0 : ∀ k : Fin k0_t1_loop.trips, trip_k0_t1.sl.v19 (BitVec.ofNat 32 0) k = BitVec.ofNat 32 (2 * k.val + 0) := by decide

theorem word1_1 : ∀ k : Fin k0_t1_loop.trips, trip_k0_t1.sl.v23 (BitVec.ofNat 32 0) k = BitVec.ofNat 32 (2 * k.val + 1) := by decide

end Cert.Band.KI

end
-- ==== Proof.KTrip1.lean ====
module

public import proofs.«01_k».proof.Proof.KOff1

@[expose] public section

noncomputable section

namespace Cert.Band.KI

open Cert.KernelIdeal Cert.KernelIdeal.Gen
open Idealize.ShloMosaic
open Idealize.ShloMosaic.TcCoe

variable (c : Dev nD) (i : grid0.Coords) (hi : (i 1).val = 0)
    (M2 : Memref sig .tc .vmem S1x512x512 .f32) (h2 : M2.IsWhole) (M3 : Memref sig .tc .vmem S1x2048x512 .bf16) (h3 : M3.IsWhole)
    (M4 : Memref sig .tc .vmem S1x2048x512 .bf16) (h4 : M4.IsWhole) (M5 : Memref sig .tc .vmem S4x128x576 .f32) (h5 : M5.IsWhole)
    (M6 : Memref sig .tc .vmem S1x512x512 .f32) (h6 : M6.IsWhole) (M7 : Memref sig .tc .vmem S2x4x128x576 .f32) (h7 : M7.IsWhole)
    (M8 : Memref sig .tc .vmem S2x4x128x576 .bf16) (h8 : M8.IsWhole) (M9 : Memref sig .tc .vmem S1024x512 .bf16) (h9 : M9.IsWhole)
    (M10 : Memref sig .tc .vmem S1024x512 .bf16) (h10 : M10.IsWhole)
    (X2 : BufTy.Contents (Elt Ideal) M2.view.ty) (X5 : BufTy.Contents (Elt Ideal) M5.view.ty)
    (X9 : BufTy.Contents (Elt Ideal) M9.view.ty) (X10 : BufTy.Contents (Elt Ideal) M10.view.ty)
    (hc : k0_cond2 i = 1#1) (Q K V : ℕ → ℕ → EReal) (B : ℕ → ℕ → ℕ → EReal)
    (hQ : ∀ (a d : Fin 512), M2.view.read (Elt Ideal) X2 (ix3 0 a d) = Q a.val d.val)
    (hK : ∀ (w : Fin 1024) (d : Fin 512), M9.view.read (Elt Ideal) X9 (ix2 w d) = K w.val d.val)
    (hV : ∀ (w : Fin 1024) (d : Fin 512), M10.view.read (Elt Ideal) X10 (ix2 w d) = V w.val d.val)
    (hB : ∀ (p : Fin 4) (r : Fin 128) (w : Fin 576), M5.view.read (Elt Ideal) X5 (ix3 p r w) = B p.val r.val w.val)
    (k : Fin k0_t1_loop.trips)

include hi hQ hK hB in
/-- Every score tile stored in a trip of the masked loop holds the scores of its chunk and head pair. -/
theorem scores1 : ∀ P ∈ (trip_k0_t1.sl.HW_arg7_8 i M2 M5 M9 hc X2 X5 X9 k), ∀ x,
    P.2 x = at4 (fun j => chunkS Q K B (2 * k.val + j)) (P.1.emb x) := by
  unfold trip_k0_t1.sl.HW_arg7_8
  refine List.forall_mem_cons.2 ⟨score_piece _ 1 3 inb_S2x4x128x576_S1x1x128x576_1_3_0_0 _ fun r l => score_apply (View.readAt (Elt Ideal) M2.view (Rect.unit (s := S1x512x512) (k0_off7 k 1#32) S1x64x128.size (k0_off7_inb i k hc 1)).toLoadRect X2)
    (View.readAt (Elt Ideal) M9.view (Rect.unit (s := S1024x512) (k0_off8 i k 1#32) S576x128.size (k0_off8_inb i k hc 1)).toLoadRect X9) (View.readAt (Elt Ideal) M5.view (Rect.unit (s := S4x128x576) ![3, 0, 0] S1x128x576.size inb_S4x128x576_S1x128x576_3_0_0).toLoadRect X5) _ _ _
    (q_read M2 X2 Q hQ _ _ _ (offq1_13 k) _) (kz_read M9 X9 K hK _ _ _ (offk1_13 i hi k) _) (b_read M5 X5 B hB 3 _) r l, ?_⟩
  refine List.forall_mem_cons.2 ⟨score_piece _ 1 2 inb_S2x4x128x576_S1x1x128x576_1_2_0_0 _ fun r l => score_apply (View.readAt (Elt Ideal) M2.view (Rect.unit (s := S1x512x512) (k0_off5 k 1#32) S1x64x128.size (k0_off5_inb i k hc 1)).toLoadRect X2)
    (View.readAt (Elt Ideal) M9.view (Rect.unit (s := S1024x512) (k0_off6 i k 1#32) S576x128.size (k0_off6_inb i k hc 1)).toLoadRect X9) (View.readAt (Elt Ideal) M5.view (Rect.unit (s := S4x128x576) ![2, 0, 0] S1x128x576.size inb_S4x128x576_S1x128x576_2_0_0).toLoadRect X5) _ _ _
    (q_read M2 X2 Q hQ _ _ _ (offq1_12 k) _) (kz_read M9 X9 K hK _ _ _ (offk1_12 i hi k) _) (b_read M5 X5 B hB 2 _) r l, ?_⟩
  refine List.forall_mem_cons.2 ⟨score_piece _ 1 1 inb_S2x4x128x576_S1x1x128x576_1_1_0_0 _ fun r l => score_apply (View.readAt (Elt Ideal) M2.view (Rect.unit (s := S1x512x512) (k0_off3 k 1#32) S1x64x128.size (k0_off3_inb i k hc 1)).toLoadRect X2)
    (View.readAt (Elt Ideal) M9.view (Rect.unit (s := S1024x512) (k0_off4 i k 1#32) S576x128.size (k0_off4_inb i k hc 1)).toLoadRect X9) (View.readAt (Elt Ideal) M5.view (Rect.unit (s := S4x128x576) ![1, 0, 0] S1x128x576.size inb_S4x128x576_S1x128x576_1_0_0).toLoadRect X5) _ _ _
    (q_read M2 X2 Q hQ _ _ _ (offq1_11 k) _) (kz_read M9 X9 K hK _ _ _ (offk1_11 i hi k) _) (b_read M5 X5 B hB 1 _) r l, ?_⟩
  refine List.forall_mem_cons.2 ⟨score_piece _ 1 0 inb_S2x4x128x576_S1x1x128x576_1_0_0_0 _ fun r l => score_apply (View.readAt (Elt Ideal) M2.view (Rect.unit (s := S1x512x512) (k0_off1 k 1#32) S1x64x128.size (k0_off1_inb i k hc 1)).toLoadRect X2)
    (View.readAt (Elt Ideal) M9.view (Rect.unit (s := S1024x512) (k0_off2 i k 1#32) S576x128.size (k0_off2_inb i k hc 1)).toLoadRect X9) (View.readAt (Elt Ideal) M5.view (Rect.unit (s := S4x128x576) ![0, 0, 0] S1x128x576.size inb_S4x128x576_S1x128x576_0_0_0).toLoadRect X5) _ _ _
    (q_read M2 X2 Q hQ _ _ _ (offq1_10 k) _) (kz_read M9 X9 K hK _ _ _ (offk1_10 i hi k) _) (b_read M5 X5 B hB 0 _) r l, ?_⟩
  refine List.forall_mem_cons.2 ⟨score_piece _ 0 3 inb_S2x4x128x576_S1x1x128x576_0_3_0_0 _ fun r l => score_apply (View.readAt (Elt Ideal) M2.view (Rect.unit (s := S1x512x512) (k0_off7 k 0#32) S1x64x128.size (k0_off7_inb i k hc 0)).toLoadRect X2)
    (View.readAt (Elt Ideal) M9.view (Rect.unit (s := S1024x512) (k0_off8 i k 0#32) S576x128.size (k0_off8_inb i k hc 0)).toLoadRect X9) (View.readAt (Elt Ideal) M5.view (Rect.unit (s := S4x128x576) ![3, 0, 0] S1x128x576.size inb_S4x128x576_S1x128x576_3_0_0).toLoadRect X5) _ _ _
    (q_read M2 X2 Q hQ _ _ _ (offq1_03 k) _) (kz_read M9 X9 K hK _ _ _ (offk1_03 i hi k) _) (b_read M5 X5 B hB 3 _) r l, ?_⟩
  refine List.forall_mem_cons.2 ⟨score_piece _ 0 2 inb_S2x4x128x576_S1x1x128x576_0_2_0_0 _ fun r l => score_apply (View.readAt (Elt Ideal) M2.view (Rect.unit (s := S1x512x512) (k0_off5 k 0#32) S1x64x128.size (k0_off5_inb i k hc 0)).toLoadRect X2)
    (View.readAt (Elt Ideal) M9.view (Rect.unit (s := S1024x512) (k0_off6 i k 0#32) S576x128.size (k0_off6_inb i k hc 0)).toLoadRect X9) (View.readAt (Elt Ideal) M5.view (Rect.unit (s := S4x128x576) ![2, 0, 0] S1x128x576.size inb_S4x128x576_S1x128x576_2_0_0).toLoadRect X5) _ _ _
    (q_read M2 X2 Q hQ _ _ _ (offq1_02 k) _) (kz_read M9 X9 K hK _ _ _ (offk1_02 i hi k) _) (b_read M5 X5 B hB 2 _) r l, ?_⟩
  refine List.forall_mem_cons.2 ⟨score_piece _ 0 1 inb_S2x4x128x576_S1x1x128x576_0_1_0_0 _ fun r l => score_apply (View.readAt (Elt Ideal) M2.view (Rect.unit (s := S1x512x512) (k0_off3 k 0#32) S1x64x128.size (k0_off3_inb i k hc 0)).toLoadRect X2)
    (View.readAt (Elt Ideal) M9.view (Rect.unit (s := S1024x512) (k0_off4 i k 0#32) S576x128.size (k0_off4_inb i k hc 0)).toLoadRect X9) (View.readAt (Elt Ideal) M5.view (Rect.unit (s := S4x128x576) ![1, 0, 0] S1x128x576.size inb_S4x128x576_S1x128x576_1_0_0).toLoadRect X5) _ _ _
    (q_read M2 X2 Q hQ _ _ _ (offq1_01 k) _) (kz_read M9 X9 K hK _ _ _ (offk1_01 i hi k) _) (b_read M5 X5 B hB 1 _) r l, ?_⟩
  refine List.forall_mem_cons.2 ⟨score_piece _ 0 0 inb_S2x4x128x576_S1x1x128x576_0_0_0_0 _ fun r l => score_apply (View.readAt (Elt Ideal) M2.view (Rect.unit (s := S1x512x512) (k0_off1 k 0#32) S1x64x128.size (k0_off1_inb i k hc 0)).toLoadRect X2)
    (View.readAt (Elt Ideal) M9.view (Rect.unit (s := S1024x512) (k0_off2 i k 0#32) S576x128.size (k0_off2_inb i k hc 0)).toLoadRect X9) (View.readAt (Elt Ideal) M5.view (Rect.unit (s := S4x128x576) ![0, 0, 0] S1x128x576.size inb_S4x128x576_S1x128x576_0_0_0).toLoadRect X5) _ _ _
    (q_read M2 X2 Q hQ _ _ _ (offq1_00 k) _) (kz_read M9 X9 K hK _ _ _ (offk1_00 i hi k) _) (b_read M5 X5 B hB 0 _) r l, ?_⟩
  intro P hP
  exact absurd hP List.not_mem_nil

/-- The score tiles of a trip of the masked loop fill the score scratch. -/
theorem scores1_cover : ∀ y, ∃ P ∈ (trip_k0_t1.sl.HW_arg7_8 i M2 M5 M9 hc X2 X5 X9 k), y ∈ P.1.set :=
  View.cover_of_tiledL _ ![1, 1, 128, 576] rfl

include hi hQ hK hB in
/-- The scores read back for chunk 0 of a trip of the masked loop. -/
theorem read1_0 (p : Fin 4) (r : Fin 128) (w : Fin 576) :
    M7.view.readCov (trip_k0_t1.sl.HW_arg7_8 i M2 M5 M9 hc X2 X5 X9 k) (Rect.unit (s := S2x4x128x576) ![0, 0, 0, 0] S1x4x128x576.size inb_S2x4x128x576_S1x4x128x576_0_0_0_0).toLoadRect (ix4 0 p r w)
      = chunkS Q K B (2 * k.val + 0) p.val r.val w.val :=
  chunk_read M7.view _ _ (fun j => chunkS Q K B (2 * k.val + j)) (fun y => rfl) (scores1 i hi M2 M5 M9 X2 X5 X9 hc Q K B hQ hK hB k)
    (scores1_cover i M2 M5 M9 X2 X5 X9 hc k) 0 _ p r w

include hi hQ hK hB in
/-- The scores read back for chunk 1 of a trip of the masked loop. -/
theorem read1_1 (p : Fin 4) (r : Fin 128) (w : Fin 576) :
    M7.view.readCov (trip_k0_t1.sl.HW_arg7_8 i M2 M5 M9 hc X2 X5 X9 k) (Rect.unit (s := S2x4x128x576) ![1, 0, 0, 0] S1x4x128x576.size inb_S2x4x128x576_S1x4x128x576_1_0_0_0).toLoadRect (ix4 0 p r w)
      = chunkS Q K B (2 * k.val + 1) p.val r.val w.val :=
  chunk_read M7.view _ _ (fun j => chunkS Q K B (2 * k.val + j)) (fun y => rfl) (scores1 i hi M2 M5 M9 X2 X5 X9 hc Q K B hQ hK hB k)
    (scores1_cover i M2 M5 M9 X2 X5 X9 hc k) 1 _ p r w

include hi in
theorem word1_0' : trip_k0_t1.sl.v19 (BitVec.ofNat 32 (i 1).val) k = BitVec.ofNat 32 (2 * k.val + 0) := by rw [hi]; exact word1_0 k

include hi in
theorem word1_1' : trip_k0_t1.sl.v23 (BitVec.ofNat 32 (i 1).val) k = BitVec.ofNat 32 (2 * k.val + 1) := by rw [hi]; exact word1_1 k

theorem trip1_lt (k : Fin k0_t1_loop.trips) : k.val < 4 := k.isLt

include hi hQ hK hB in
/-- Every tile of weights stored in a trip of the masked loop holds the weights of its chunk. -/
theorem exps1 : ∀ P ∈ (trip_k0_t1.sl.HW_arg8_2 i M2 M5 M7 M9 (BitVec.ofNat 32 (i 1).val) (iota .tc S1x1x576 32 [2] iota_S1x1x576_d2_w32) hc X2 X5 X9 k), ∀ x,
    P.2 x = at4 (fun j p r => expN (maskS Q K B (2 * k.val + j) p r)) (P.1.emb x) := by
  have hk := trip1_lt k
  unfold trip_k0_t1.sl.HW_arg8_2
  refine List.forall_mem_cons.2 ⟨exp_piece _ 1 inb_S2x4x128x576_S1x4x128x576_1_0_0_0 _ fun p r l => exp_tile_masked (M7.view.readCov (trip_k0_t1.sl.HW_arg7_8 i M2 M5 M9 hc X2 X5 X9 k) (Rect.unit (s := S2x4x128x576) ![1, 0, 0, 0] S1x4x128x576.size inb_S2x4x128x576_S1x4x128x576_1_0_0_0).toLoadRect) (2 * k.val + 1) (by omega) (trip_k0_t1.sl.v23 (BitVec.ofNat 32 (i 1).val) k) (word1_1' i hi k) (chunkS Q K B (2 * k.val + 1))
    (read1_1 i hi M2 M5 M7 M9 X2 X5 X9 hc Q K B hQ hK hB k) p r l, ?_⟩
  refine List.forall_mem_cons.2 ⟨exp_piece _ 0 inb_S2x4x128x576_S1x4x128x576_0_0_0_0 _ fun p r l => exp_tile_masked (M7.view.readCov (trip_k0_t1.sl.HW_arg7_8 i M2 M5 M9 hc X2 X5 X9 k) (Rect.unit (s := S2x4x128x576) ![0, 0, 0, 0] S1x4x128x576.size inb_S2x4x128x576_S1x4x128x576_0_0_0_0).toLoadRect) (2 * k.val + 0) (by omega) (trip_k0_t1.sl.v19 (BitVec.ofNat 32 (i 1).val) k) (word1_0' i hi k) (chunkS Q K B (2 * k.val + 0))
    (read1_0 i hi M2 M5 M7 M9 X2 X5 X9 hc Q K B hQ hK hB k) p r l, ?_⟩
  intro P hP
  exact absurd hP List.not_mem_nil

theorem exps1_cover : ∀ y, ∃ P ∈ (trip_k0_t1.sl.HW_arg8_2 i M2 M5 M7 M9 (BitVec.ofNat 32 (i 1).val) (iota .tc S1x1x576 32 [2] iota_S1x1x576_d2_w32) hc X2 X5 X9 k), y ∈ P.1.set :=
  View.cover_of_tiledL _ ![1, 4, 128, 576] rfl

include hi hQ hK hB hV in
/-- Every tile stored to the output in a trip of the masked loop holds the output of its chunk and head pair. -/
theorem trip1_pieces (f6 : BufTy.Contents (Elt Ideal) M6.view.ty) (f7 : BufTy.Contents (Elt Ideal) M7.view.ty) (f8 : BufTy.Contents (Elt Ideal) M8.view.ty) :
    ∀ P ∈ ((trip_k0_t1 (F := Ideal) Variants.none c none i M2 h2 M3 h3 M4 h4 M5 h5 M6 h6 M7 h7 M8 h8 M9 h9 M10 h10 (BitVec.ofNat 32 (i 1).val)
      (iota .tc S1x1x576 32 [2] iota_S1x1x576_d2_w32) hc X2 X5 X9 X10 k).1 f6 f7 f8), ∀ x,
    P.2 x = at2 (blockO (maskS Q K B) V) (P.1.emb x) := by
  have hk := trip1_lt k
  have he := exps1 i hi M2 M5 M7 M9 X2 X5 X9 hc Q K B hQ hK hB k
  have hcv := exps1_cover i M2 M5 M7 M9 X2 X5 X9 hc k
  unfold trip_k0_t1
  dsimp only
  refine List.forall_mem_cons.2 ⟨out_piece _ _ (2 * k.val + 1) 3 (offq1_13 k) (k0_off7_inb i k hc 1) _ fun a l => (out3_apply (k0_pay29 (iota .tc S1x1x576 32 [2] iota_S1x1x576_d2_w32) (trip_k0_t1.sl.v23 (BitVec.ofNat 32 (i 1).val) k) (M7.view.readCov (trip_k0_t1.sl.HW_arg7_8 i M2 M5 M9 hc X2 X5 X9 k) (Rect.unit (s := S2x4x128x576) ![1, 0, 0, 0] S1x4x128x576.size inb_S2x4x128x576_S1x4x128x576_1_0_0_0).toLoadRect))
    (M8.view.readCov (trip_k0_t1.sl.HW_arg8_2 i M2 M5 M7 M9 (BitVec.ofNat 32 (i 1).val) (iota .tc S1x1x576 32 [2] iota_S1x1x576_d2_w32) hc X2 X5 X9 k) (Rect.unit (s := S2x4x128x576) ![1, 3, 0, 0] S1x1x128x576.size inb_S2x4x128x576_S1x1x128x576_1_3_0_0).toLoadRect)
    (View.readAt (Elt Ideal) M10.view (Rect.unit (s := S1024x512) (k0_off8 i k 1#32) S576x128.size (k0_off8_inb i k hc 1)).toLoadRect X10) (maskS Q K B (2 * k.val + 1) 3) _
    (tile_read M8.view _ _ (fun j p r => expN (maskS Q K B (2 * k.val + j) p r)) (fun y => rfl) he hcv 1 3 _)
    (kz_read M10 X10 V hV _ _ _ (offk1_13 i hi k) _)
    (fun r => inv_masked_apply _ (2 * k.val + 1) (by omega) _ (word1_1' i hi k) _ (read1_1 i hi M2 M5 M7 M9 X2 X5 X9 hc Q K B hQ hK hB k) 3 r) a l).trans (blockO_at _ _ _ _ a l).symm, ?_⟩
  refine List.forall_mem_cons.2 ⟨out_piece _ _ (2 * k.val + 1) 2 (offq1_12 k) (k0_off5_inb i k hc 1) _ fun a l => (out2_apply (k0_pay29 (iota .tc S1x1x576 32 [2] iota_S1x1x576_d2_w32) (trip_k0_t1.sl.v23 (BitVec.ofNat 32 (i 1).val) k) (M7.view.readCov (trip_k0_t1.sl.HW_arg7_8 i M2 M5 M9 hc X2 X5 X9 k) (Rect.unit (s := S2x4x128x576) ![1, 0, 0, 0] S1x4x128x576.size inb_S2x4x128x576_S1x4x128x576_1_0_0_0).toLoadRect))
    (M8.view.readCov (trip_k0_t1.sl.HW_arg8_2 i M2 M5 M7 M9 (BitVec.ofNat 32 (i 1).val) (iota .tc S1x1x576 32 [2] iota_S1x1x576_d2_w32) hc X2 X5 X9 k) (Rect.unit (s := S2x4x128x576) ![1, 2, 0, 0] S1x1x128x576.size inb_S2x4x128x576_S1x1x128x576_1_2_0_0).toLoadRect)
    (View.readAt (Elt Ideal) M10.view (Rect.unit (s := S1024x512) (k0_off6 i k 1#32) S576x128.size (k0_off6_inb i k hc 1)).toLoadRect X10) (maskS Q K B (2 * k.val + 1) 2) _
    (tile_read M8.view _ _ (fun j p r => expN (maskS Q K B (2 * k.val + j) p r)) (fun y => rfl) he hcv 1 2 _)
    (kz_read M10 X10 V hV _ _ _ (offk1_12 i hi k) _)
    (fun r => inv_masked_apply _ (2 * k.val + 1) (by omega) _ (word1_1' i hi k) _ (read1_1 i hi M2 M5 M7 M9 X2 X5 X9 hc Q K B hQ hK hB k) 2 r) a l).trans (blockO_at _ _ _ _ a l).symm, ?_⟩
  refine List.forall_mem_cons.2 ⟨out_piece _ _ (2 * k.val + 1) 1 (offq1_11 k) (k0_off3_inb i k hc 1) _ fun a l => (out1_apply (k0_pay29 (iota .tc S1x1x576 32 [2] iota_S1x1x576_d2_w32) (trip_k0_t1.sl.v23 (BitVec.ofNat 32 (i 1).val) k) (M7.view.readCov (trip_k0_t1.sl.HW_arg7_8 i M2 M5 M9 hc X2 X5 X9 k) (Rect.unit (s := S2x4x128x576) ![1, 0, 0, 0] S1x4x128x576.size inb_S2x4x128x576_S1x4x128x576_1_0_0_0).toLoadRect))
    (M8.view.readCov (trip_k0_t1.sl.HW_arg8_2 i M2 M5 M7 M9 (BitVec.ofNat 32 (i 1).val) (iota .tc S1x1x576 32 [2] iota_S1x1x576_d2_w32) hc X2 X5 X9 k) (Rect.unit (s := S2x4x128x576) ![1, 1, 0, 0] S1x1x128x576.size inb_S2x4x128x576_S1x1x128x576_1_1_0_0).toLoadRect)
    (View.readAt (Elt Ideal) M10.view (Rect.unit (s := S1024x512) (k0_off4 i k 1#32) S576x128.size (k0_off4_inb i k hc 1)).toLoadRect X10) (maskS Q K B (2 * k.val + 1) 1) _
    (tile_read M8.view _ _ (fun j p r => expN (maskS Q K B (2 * k.val + j) p r)) (fun y => rfl) he hcv 1 1 _)
    (kz_read M10 X10 V hV _ _ _ (offk1_11 i hi k) _)
    (fun r => inv_masked_apply _ (2 * k.val + 1) (by omega) _ (word1_1' i hi k) _ (read1_1 i hi M2 M5 M7 M9 X2 X5 X9 hc Q K B hQ hK hB k) 1 r) a l).trans (blockO_at _ _ _ _ a l).symm, ?_⟩
  refine List.forall_mem_cons.2 ⟨out_piece _ _ (2 * k.val + 1) 0 (offq1_10 k) (k0_off1_inb i k hc 1) _ fun a l => (out0_apply (k0_pay29 (iota .tc S1x1x576 32 [2] iota_S1x1x576_d2_w32) (trip_k0_t1.sl.v23 (BitVec.ofNat 32 (i 1).val) k) (M7.view.readCov (trip_k0_t1.sl.HW_arg7_8 i M2 M5 M9 hc X2 X5 X9 k) (Rect.unit (s := S2x4x128x576) ![1, 0, 0, 0] S1x4x128x576.size inb_S2x4x128x576_S1x4x128x576_1_0_0_0).toLoadRect))
    (M8.view.readCov (trip_k0_t1.sl.HW_arg8_2 i M2 M5 M7 M9 (BitVec.ofNat 32 (i 1).val) (iota .tc S1x1x576 32 [2] iota_S1x1x576_d2_w32) hc X2 X5 X9 k) (Rect.unit (s := S2x4x128x576) ![1, 0, 0, 0] S1x1x128x576.size inb_S2x4x128x576_S1x1x128x576_1_0_0_0).toLoadRect)
    (View.readAt (Elt Ideal) M10.view (Rect.unit (s := S1024x512) (k0_off2 i k 1#32) S576x128.size (k0_off2_inb i k hc 1)).toLoadRect X10) (maskS Q K B (2 * k.val + 1) 0) _
    (tile_read M8.view _ _ (fun j p r => expN (maskS Q K B (2 * k.val + j) p r)) (fun y => rfl) he hcv 1 0 _)
    (kz_read M10 X10 V hV _ _ _ (offk1_10 i hi k) _)
    (fun r => inv_masked_apply _ (2 * k.val + 1) (by omega) _ (word1_1' i hi k) _ (read1_1 i hi M2 M5 M7 M9 X2 X5 X9 hc Q K B hQ hK hB k) 0 r) a l).trans (blockO_at _ _ _ _ a l).symm, ?_⟩
  refine List.forall_mem_cons.2 ⟨out_piece _ _ (2 * k.val + 0) 3 (offq1_03 k) (k0_off7_inb i k hc 0) _ fun a l => (out3_apply (k0_pay29 (iota .tc S1x1x576 32 [2] iota_S1x1x576_d2_w32) (trip_k0_t1.sl.v19 (BitVec.ofNat 32 (i 1).val) k) (M7.view.readCov (trip_k0_t1.sl.HW_arg7_8 i M2 M5 M9 hc X2 X5 X9 k) (Rect.unit (s := S2x4x128x576) ![0, 0, 0, 0] S1x4x128x576.size inb_S2x4x128x576_S1x4x128x576_0_0_0_0).toLoadRect))
    (M8.view.readCov (trip_k0_t1.sl.HW_arg8_2 i M2 M5 M7 M9 (BitVec.ofNat 32 (i 1).val) (iota .tc S1x1x576 32 [2] iota_S1x1x576_d2_w32) hc X2 X5 X9 k) (Rect.unit (s := S2x4x128x576) ![0, 3, 0, 0] S1x1x128x576.size inb_S2x4x128x576_S1x1x128x576_0_3_0_0).toLoadRect)
    (View.readAt (Elt Ideal) M10.view (Rect.unit (s := S1024x512) (k0_off8 i k 0#32) S576x128.size (k0_off8_inb i k hc 0)).toLoadRect X10) (maskS Q K B (2 * k.val + 0) 3) _
    (tile_read M8.view _ _ (fun j p r => expN (maskS Q K B (2 * k.val + j) p r)) (fun y => rfl) he hcv 0 3 _)
    (kz_read M10 X10 V hV _ _ _ (offk1_03 i hi k) _)
    (fun r => inv_masked_apply _ (2 * k.val + 0) (by omega) _ (word1_0' i hi k) _ (read1_0 i hi M2 M5 M7 M9 X2 X5 X9 hc Q K B hQ hK hB k) 3 r) a l).trans (blockO_at _ _ _ _ a l).symm, ?_⟩
  refine List.forall_mem_cons.2 ⟨out_piece _ _ (2 * k.val + 0) 2 (offq1_02 k) (k0_off5_inb i k hc 0) _ fun a l => (out2_apply (k0_pay29 (iota .tc S1x1x576 32 [2] iota_S1x1x576_d2_w32) (trip_k0_t1.sl.v19 (BitVec.ofNat 32 (i 1).val) k) (M7.view.readCov (trip_k0_t1.sl.HW_arg7_8 i M2 M5 M9 hc X2 X5 X9 k) (Rect.unit (s := S2x4x128x576) ![0, 0, 0, 0] S1x4x128x576.size inb_S2x4x128x576_S1x4x128x576_0_0_0_0).toLoadRect))
    (M8.view.readCov (trip_k0_t1.sl.HW_arg8_2 i M2 M5 M7 M9 (BitVec.ofNat 32 (i 1).val) (iota .tc S1x1x576 32 [2] iota_S1x1x576_d2_w32) hc X2 X5 X9 k) (Rect.unit (s := S2x4x128x576) ![0, 2, 0, 0] S1x1x128x576.size inb_S2x4x128x576_S1x1x128x576_0_2_0_0).toLoadRect)
    (View.readAt (Elt Ideal) M10.view (Rect.unit (s := S1024x512) (k0_off6 i k 0#32) S576x128.size (k0_off6_inb i k hc 0)).toLoadRect X10) (maskS Q K B (2 * k.val + 0) 2) _
    (tile_read M8.view _ _ (fun j p r => expN (maskS Q K B (2 * k.val + j) p r)) (fun y => rfl) he hcv 0 2 _)
    (kz_read M10 X10 V hV _ _ _ (offk1_02 i hi k) _)
    (fun r => inv_masked_apply _ (2 * k.val + 0) (by omega) _ (word1_0' i hi k) _ (read1_0 i hi M2 M5 M7 M9 X2 X5 X9 hc Q K B hQ hK hB k) 2 r) a l).trans (blockO_at _ _ _ _ a l).symm, ?_⟩
  refine List.forall_mem_cons.2 ⟨out_piece _ _ (2 * k.val + 0) 1 (offq1_01 k) (k0_off3_inb i k hc 0) _ fun a l => (out1_apply (k0_pay29 (iota .tc S1x1x576 32 [2] iota_S1x1x576_d2_w32) (trip_k0_t1.sl.v19 (BitVec.ofNat 32 (i 1).val) k) (M7.view.readCov (trip_k0_t1.sl.HW_arg7_8 i M2 M5 M9 hc X2 X5 X9 k) (Rect.unit (s := S2x4x128x576) ![0, 0, 0, 0] S1x4x128x576.size inb_S2x4x128x576_S1x4x128x576_0_0_0_0).toLoadRect))
    (M8.view.readCov (trip_k0_t1.sl.HW_arg8_2 i M2 M5 M7 M9 (BitVec.ofNat 32 (i 1).val) (iota .tc S1x1x576 32 [2] iota_S1x1x576_d2_w32) hc X2 X5 X9 k) (Rect.unit (s := S2x4x128x576) ![0, 1, 0, 0] S1x1x128x576.size inb_S2x4x128x576_S1x1x128x576_0_1_0_0).toLoadRect)
    (View.readAt (Elt Ideal) M10.view (Rect.unit (s := S1024x512) (k0_off4 i k 0#32) S576x128.size (k0_off4_inb i k hc 0)).toLoadRect X10) (maskS Q K B (2 * k.val + 0) 1) _
    (tile_read M8.view _ _ (fun j p r => expN (maskS Q K B (2 * k.val + j) p r)) (fun y => rfl) he hcv 0 1 _)
    (kz_read M10 X10 V hV _ _ _ (offk1_01 i hi k) _)
    (fun r => inv_masked_apply _ (2 * k.val + 0) (by omega) _ (word1_0' i hi k) _ (read1_0 i hi M2 M5 M7 M9 X2 X5 X9 hc Q K B hQ hK hB k) 1 r) a l).trans (blockO_at _ _ _ _ a l).symm, ?_⟩
  refine List.forall_mem_cons.2 ⟨out_piece _ _ (2 * k.val + 0) 0 (offq1_00 k) (k0_off1_inb i k hc 0) _ fun a l => (out0_apply (k0_pay29 (iota .tc S1x1x576 32 [2] iota_S1x1x576_d2_w32) (trip_k0_t1.sl.v19 (BitVec.ofNat 32 (i 1).val) k) (M7.view.readCov (trip_k0_t1.sl.HW_arg7_8 i M2 M5 M9 hc X2 X5 X9 k) (Rect.unit (s := S2x4x128x576) ![0, 0, 0, 0] S1x4x128x576.size inb_S2x4x128x576_S1x4x128x576_0_0_0_0).toLoadRect))
    (M8.view.readCov (trip_k0_t1.sl.HW_arg8_2 i M2 M5 M7 M9 (BitVec.ofNat 32 (i 1).val) (iota .tc S1x1x576 32 [2] iota_S1x1x576_d2_w32) hc X2 X5 X9 k) (Rect.unit (s := S2x4x128x576) ![0, 0, 0, 0] S1x1x128x576.size inb_S2x4x128x576_S1x1x128x576_0_0_0_0).toLoadRect)
    (View.readAt (Elt Ideal) M10.view (Rect.unit (s := S1024x512) (k0_off2 i k 0#32) S576x128.size (k0_off2_inb i k hc 0)).toLoadRect X10) (maskS Q K B (2 * k.val + 0) 0) _
    (tile_read M8.view _ _ (fun j p r => expN (maskS Q K B (2 * k.val + j) p r)) (fun y => rfl) he hcv 0 0 _)
    (kz_read M10 X10 V hV _ _ _ (offk1_00 i hi k) _)
    (fun r => inv_masked_apply _ (2 * k.val + 0) (by omega) _ (word1_0' i hi k) _ (read1_0 i hi M2 M5 M7 M9 X2 X5 X9 hc Q K B hQ hK hB k) 0 r) a l).trans (blockO_at _ _ _ _ a l).symm, ?_⟩
  intro P hP
  exact absurd hP List.not_mem_nil

end Cert.Band.KI

end
-- ==== Proof.KOff2.lean ====
module

public import proofs.«01_k».proof.Proof.KOff1
public import Mathlib.Tactic.IntervalCases

@[expose] public section

noncomputable section

namespace Cert.Band.KI

open Cert.KernelIdeal Cert.KernelIdeal.Gen
open Idealize.ShloMosaic
open Idealize.ShloMosaic.TcCoe

theorem offq2_00 : ∀ k : Fin k0_t2_loop.trips, k0_off9 k 0#32 = ![0, 64 * (2 * k.val + 0), 128 * 0] := by decide

theorem offk2_00 (i : grid0.Coords) (hi : (i 1).val ≠ 0) : ∀ k : Fin k0_t2_loop.trips, k0_off10 i k 0#32 = ![0, 512 * ((i 1).val - 1) + 64 * (2 * k.val + 0), 128 * 0] := by
  have h4 : (i 1).val < 4 := (i 1).isLt
  unfold k0_off10
  generalize (i 1).val = n at hi h4
  interval_cases n <;> first | exact absurd rfl hi | decide

theorem offq2_10 : ∀ k : Fin k0_t2_loop.trips, k0_off9 k 1#32 = ![0, 64 * (2 * k.val + 1), 128 * 0] := by decide

theorem offk2_10 (i : grid0.Coords) (hi : (i 1).val ≠ 0) : ∀ k : Fin k0_t2_loop.trips, k0_off10 i k 1#32 = ![0, 512 * ((i 1).val - 1) + 64 * (2 * k.val + 1), 128 * 0] := by
  have h4 : (i 1).val < 4 := (i 1).isLt
  unfold k0_off10
  generalize (i 1).val = n at hi h4
  interval_cases n <;> first | exact absurd rfl hi | decide

theorem offq2_01 : ∀ k : Fin k0_t2_loop.trips, k0_off11 k 0#32 = ![0, 64 * (2 * k.val + 0), 128 * 1] := by decide

theorem offk2_01 (i : grid0.Coords) (hi : (i 1).val ≠ 0) : ∀ k : Fin k0_t2_loop.trips, k0_off12 i k 0#32 = ![0, 512 * ((i 1).val - 1) + 64 * (2 * k.val + 0), 128 * 1] := by
  have h4 : (i 1).val < 4 := (i 1).isLt
  unfold k0_off12
  generalize (i 1).val = n at hi h4
  interval_cases n <;> first | exact absurd rfl hi | decide

theorem offq2_11 : ∀ k : Fin k0_t2_loop.trips, k0_off11 k 1#32 = ![0, 64 * (2 * k.val + 1), 128 * 1] := by decide

theorem offk2_11 (i : grid0.Coords) (hi : (i 1).val ≠ 0) : ∀ k : Fin k0_t2_loop.trips, k0_off12 i k 1#32 = ![0, 512 * ((i 1).val - 1) + 64 * (2 * k.val + 1), 128 * 1] := by
  have h4 : (i 1).val < 4 := (i 1).isLt
  unfold k0_off12
  generalize (i 1).val = n at hi h4
  interval_cases n <;> first | exact absurd rfl hi | decide

theorem offq2_02 : ∀ k : Fin k0_t2_loop.trips, k0_off13 k 0#32 = ![0, 64 * (2 * k.val + 0), 128 * 2] := by decide

theorem offk2_02 (i : grid0.Coords) (hi : (i 1).val ≠ 0) : ∀ k : Fin k0_t2_loop.trips, k0_off14 i k 0#32 = ![0, 512 * ((i 1).val - 1) + 64 * (2 * k.val + 0), 128 * 2] := by
  have h4 : (i 1).val < 4 := (i 1).isLt
  unfold k0_off14
  generalize (i 1).val = n at hi h4
  interval_cases n <;> first | exact absurd rfl hi | decide

theorem offq2_12 : ∀ k : Fin k0_t2_loop.trips, k0_off13 k 1#32 = ![0, 64 * (2 * k.val + 1), 128 * 2] := by decide

theorem offk2_12 (i : grid0.Coords) (hi : (i 1).val ≠ 0) : ∀ k : Fin k0_t2_loop.trips, k0_off14 i k 1#32 = ![0, 512 * ((i 1).val - 1) + 64 * (2 * k.val + 1), 128 * 2] := by
  have h4 : (i 1).val < 4 := (i 1).isLt
  unfold k0_off14
  generalize (i 1).val = n at hi h4
  interval_cases n <;> first | exact absurd rfl hi | decide

theorem offq2_03 : ∀ k : Fin k0_t2_loop.trips, k0_off15 k 0#32 = ![0, 64 * (2 * k.val + 0), 128 * 3] := by decide

theorem offk2_03 (i : grid0.Coords) (hi : (i 1).val ≠ 0) : ∀ k : Fin k0_t2_loop.trips, k0_off16 i k 0#32 = ![0, 512 * ((i 1).val - 1) + 64 * (2 * k.val + 0), 128 * 3] := by
  have h4 : (i 1).val < 4 := (i 1).isLt
  unfold k0_off16
  generalize (i 1).val = n at hi h4
  interval_cases n <;> first | exact absurd rfl hi | decide

theorem offq2_13 : ∀ k : Fin k0_t2_loop.trips, k0_off15 k 1#32 = ![0, 64 * (2 * k.val + 1), 128 * 3] := by decide

theorem offk2_13 (i : grid0.Coords) (hi : (i 1).val ≠ 0) : ∀ k : Fin k0_t2_loop.trips, k0_off16 i k 1#32 = ![0, 512 * ((i 1).val - 1) + 64 * (2 * k.val + 1), 128 * 3] := by
  have h4 : (i 1).val < 4 := (i 1).isLt
  unfold k0_off16
  generalize (i 1).val = n at hi h4
  interval_cases n <;> first | exact absurd rfl hi | decide

end Cert.Band.KI

end
-- ==== Proof.KTrip2.lean ====
module

public import proofs.«01_k».proof.Proof.KOff2

@[expose] public section

noncomputable section

namespace Cert.Band.KI

open Cert.KernelIdeal Cert.KernelIdeal.Gen
open Idealize.ShloMosaic
open Idealize.ShloMosaic.TcCoe

/-- Rows of a matrix read from row `o` on. -/
abbrev fromRow (o : ℕ) (K : ℕ → ℕ → EReal) (w d : ℕ) : EReal := K (o + w) d

/-- A slab with its unit axis dropped, at an index. -/
theorem slab_apply (k : Vec Ideal S1x576x128 .bf16) (w : Fin 576) (d : Fin 128) :
    shapeCast (α := Elt Ideal .bf16) S576x128 k shapeCasts_S1x576x128_S576x128 (ix2 w d) = k (ix3 0 w d) := by
  pointwise

variable (c : Dev nD) (i : grid0.Coords) (hi : (i 1).val ≠ 0)
    (M2 : Memref sig .tc .vmem S1x512x512 .f32) (h2 : M2.IsWhole) (M3 : Memref sig .tc .vmem S1x2048x512 .bf16) (h3 : M3.IsWhole)
    (M4 : Memref sig .tc .vmem S1x2048x512 .bf16) (h4 : M4.IsWhole) (M5 : Memref sig .tc .vmem S4x128x576 .f32) (h5 : M5.IsWhole)
    (M6 : Memref sig .tc .vmem S1x512x512 .f32) (h6 : M6.IsWhole) (M7 : Memref sig .tc .vmem S2x4x128x576 .f32) (h7 : M7.IsWhole)
    (M8 : Memref sig .tc .vmem S2x4x128x576 .bf16) (h8 : M8.IsWhole) (M9 : Memref sig .tc .vmem S1024x512 .bf16) (h9 : M9.IsWhole)
    (M10 : Memref sig .tc .vmem S1024x512 .bf16) (h10 : M10.IsWhole)
    (X2 : BufTy.Contents (Elt Ideal) M2.view.ty) (X3 : BufTy.Contents (Elt Ideal) M3.view.ty)
    (X4 : BufTy.Contents (Elt Ideal) M4.view.ty) (X5 : BufTy.Contents (Elt Ideal) M5.view.ty)
    (hc : k0_cond3 i = 1#1) (Q K V : ℕ → ℕ → EReal) (B : ℕ → ℕ → ℕ → EReal)
    (hQ : ∀ (a d : Fin 512), M2.view.read (Elt Ideal) X2 (ix3 0 a d) = Q a.val d.val)
    (hK : ∀ (w : Fin 2048) (d : Fin 512), M3.view.read (Elt Ideal) X3 (ix3 0 w d) = K w.val d.val)
    (hV : ∀ (w : Fin 2048) (d : Fin 512), M4.view.read (Elt Ideal) X4 (ix3 0 w d) = V w.val d.val)
    (hB : ∀ (p : Fin 4) (r : Fin 128) (w : Fin 576), M5.view.read (Elt Ideal) X5 (ix3 p r w) = B p.val r.val w.val)
    (k : Fin k0_t2_loop.trips)

include hi hQ hK hB in
/-- Every score tile stored in a trip of the unmasked loop holds the scores of its chunk and head pair. -/
theorem scores2 : ∀ P ∈ (trip_k0_t2.sl.HW_arg7_8 i M2 M3 M5 hc X2 X3 X5 k), ∀ x,
    P.2 x = at4 (fun j => chunkS Q (fromRow (512 * ((i 1).val - 1)) K) B (2 * k.val + j)) (P.1.emb x) := by
  unfold trip_k0_t2.sl.HW_arg7_8
  refine List.forall_mem_cons.2 ⟨score_piece _ 1 3 inb_S2x4x128x576_S1x1x128x576_1_3_0_0 _ fun r l => score_apply (View.readAt (Elt Ideal) M2.view (Rect.unit (s := S1x512x512) (k0_off15 k 1#32) S1x64x128.size (k0_off15_inb i k hc 1)).toLoadRect X2)
    (shapeCast S576x128 (View.readAt (Elt Ideal) M3.view (Rect.unit (s := S1x2048x512) (k0_off16 i k 1#32) S1x576x128.size (k0_off16_inb i k hc 1)).toLoadRect X3) shapeCasts_S1x576x128_S576x128) (View.readAt (Elt Ideal) M5.view (Rect.unit (s := S4x128x576) ![3, 0, 0] S1x128x576.size inb_S4x128x576_S1x128x576_3_0_0).toLoadRect X5) _ (fun w d => fromRow (512 * ((i 1).val - 1)) K (64 * (2 * k.val + 1) + w) (128 * 3 + d)) _
    (q_read M2 X2 Q hQ _ _ _ (offq2_13 k) _) (fun w d => (slab_apply _ w d).trans ((k_read M3 X3 K hK _ _ _ (offk2_13 i hi k) _ w d).trans (by rw [Nat.add_assoc]))) (b_read M5 X5 B hB 3 _) r l, ?_⟩
  refine List.forall_mem_cons.2 ⟨score_piece _ 1 2 inb_S2x4x128x576_S1x1x128x576_1_2_0_0 _ fun r l => score_apply (View.readAt (Elt Ideal) M2.view (Rect.unit (s := S1x512x512) (k0_off13 k 1#32) S1x64x128.size (k0_off13_inb i k hc 1)).toLoadRect X2)
    (shapeCast S576x128 (View.readAt (Elt Ideal) M3.view (Rect.unit (s := S1x2048x512) (k0_off14 i k 1#32) S1x576x128.size (k0_off14_inb i k hc 1)).toLoadRect X3) shapeCasts_S1x576x128_S576x128) (View.readAt (Elt Ideal) M5.view (Rect.unit (s := S4x128x576) ![2, 0, 0] S1x128x576.size inb_S4x128x576_S1x128x576_2_0_0).toLoadRect X5) _ (fun w d => fromRow (512 * ((i 1).val - 1)) K (64 * (2 * k.val + 1) + w) (128 * 2 + d)) _
    (q_read M2 X2 Q hQ _ _ _ (offq2_12 k) _) (fun w d => (slab_apply _ w d).trans ((k_read M3 X3 K hK _ _ _ (offk2_12 i hi k) _ w d).trans (by rw [Nat.add_assoc]))) (b_read M5 X5 B hB 2 _) r l, ?_⟩
  refine List.forall_mem_cons.2 ⟨score_piece _ 1 1 inb_S2x4x128x576_S1x1x128x576_1_1_0_0 _ fun r l => score_apply (View.readAt (Elt Ideal) M2.view (Rect.unit (s := S1x512x512) (k0_off11 k 1#32) S1x64x128.size (k0_off11_inb i k hc 1)).toLoadRect X2)
    (shapeCast S576x128 (View.readAt (Elt Ideal) M3.view (Rect.unit (s := S1x2048x512) (k0_off12 i k 1#32) S1x576x128.size (k0_off12_inb i k hc 1)).toLoadRect X3) shapeCasts_S1x576x128_S576x128) (View.readAt (Elt Ideal) M5.view (Rect.unit (s := S4x128x576) ![1, 0, 0] S1x128x576.size inb_S4x128x576_S1x128x576_1_0_0).toLoadRect X5) _ (fun w d => fromRow (512 * ((i 1).val - 1)) K (64 * (2 * k.val + 1) + w) (128 * 1 + d)) _
    (q_read M2 X2 Q hQ _ _ _ (offq2_11 k) _) (fun w d => (slab_apply _ w d).trans ((k_read M3 X3 K hK _ _ _ (offk2_11 i hi k) _ w d).trans (by rw [Nat.add_assoc]))) (b_read M5 X5 B hB 1 _) r l, ?_⟩
  refine List.forall_mem_cons.2 ⟨score_piece _ 1 0 inb_S2x4x128x576_S1x1x128x576_1_0_0_0 _ fun r l => score_apply (View.readAt (Elt Ideal) M2.view (Rect.unit (s := S1x512x512) (k0_off9 k 1#32) S1x64x128.size (k0_off9_inb i k hc 1)).toLoadRect X2)
    (shapeCast S576x128 (View.readAt (Elt Ideal) M3.view (Rect.unit (s := S1x2048x512) (k0_off10 i k 1#32) S1x576x128.size (k0_off10_inb i k hc 1)).toLoadRect X3) shapeCasts_S1x576x128_S576x128) (View.readAt (Elt Ideal) M5.view (Rect.unit (s := S4x128x576) ![0, 0, 0] S1x128x576.size inb_S4x128x576_S1x128x576_0_0_0).toLoadRect X5) _ (fun w d => fromRow (512 * ((i 1).val - 1)) K (64 * (2 * k.val + 1) + w) (128 * 0 + d)) _
    (q_read M2 X2 Q hQ _ _ _ (offq2_10 k) _) (fun w d => (slab_apply _ w d).trans ((k_read M3 X3 K hK _ _ _ (offk2_10 i hi k) _ w d).trans (by rw [Nat.add_assoc]))) (b_read M5 X5 B hB 0 _) r l, ?_⟩
  refine List.forall_mem_cons.2 ⟨score_piece _ 0 3 inb_S2x4x128x576_S1x1x128x576_0_3_0_0 _ fun r l => score_apply (View.readAt (Elt Ideal) M2.view (Rect.unit (s := S1x512x512) (k0_off15 k 0#32) S1x64x128.size (k0_off15_inb i k hc 0)).toLoadRect X2)
    (shapeCast S576x128 (View.readAt (Elt Ideal) M3.view (Rect.unit (s := S1x2048x512) (k0_off16 i k 0#32) S1x576x128.size (k0_off16_inb i k hc 0)).toLoadRect X3) shapeCasts_S1x576x128_S576x128) (View.readAt (Elt Ideal) M5.view (Rect.unit (s := S4x128x576) ![3, 0, 0] S1x128x576.size inb_S4x128x576_S1x128x576_3_0_0).toLoadRect X5) _ (fun w d => fromRow (512 * ((i 1).val - 1)) K (64 * (2 * k.val + 0) + w) (128 * 3 + d)) _
    (q_read M2 X2 Q hQ _ _ _ (offq2_03 k) _) (fun w d => (slab_apply _ w d).trans ((k_read M3 X3 K hK _ _ _ (offk2_03 i hi k) _ w d).trans (by rw [Nat.add_assoc]))) (b_read M5 X5 B hB 3 _) r l, ?_⟩
  refine List.forall_mem_cons.2 ⟨score_piece _ 0 2 inb_S2x4x128x576_S1x1x128x576_0_2_0_0 _ fun r l => score_apply (View.readAt (Elt Ideal) M2.view (Rect.unit (s := S1x512x512) (k0_off13 k 0#32) S1x64x128.size (k0_off13_inb i k hc 0)).toLoadRect X2)
    (shapeCast S576x128 (View.readAt (Elt Ideal) M3.view (Rect.unit (s := S1x2048x512) (k0_off14 i k 0#32) S1x576x128.size (k0_off14_inb i k hc 0)).toLoadRect X3) shapeCasts_S1x576x128_S576x128) (View.readAt (Elt Ideal) M5.view (Rect.unit (s := S4x128x576) ![2, 0, 0] S1x128x576.size inb_S4x128x576_S1x128x576_2_0_0).toLoadRect X5) _ (fun w d => fromRow (512 * ((i 1).val - 1)) K (64 * (2 * k.val + 0) + w) (128 * 2 + d)) _
    (q_read M2 X2 Q hQ _ _ _ (offq2_02 k) _) (fun w d => (slab_apply _ w d).trans ((k_read M3 X3 K hK _ _ _ (offk2_02 i hi k) _ w d).trans (by rw [Nat.add_assoc]))) (b_read M5 X5 B hB 2 _) r l, ?_⟩
  refine List.forall_mem_cons.2 ⟨score_piece _ 0 1 inb_S2x4x128x576_S1x1x128x576_0_1_0_0 _ fun r l => score_apply (View.readAt (Elt Ideal) M2.view (Rect.unit (s := S1x512x512) (k0_off11 k 0#32) S1x64x128.size (k0_off11_inb i k hc 0)).toLoadRect X2)
    (shapeCast S576x128 (View.readAt (Elt Ideal) M3.view (Rect.unit (s := S1x2048x512) (k0_off12 i k 0#32) S1x576x128.size (k0_off12_inb i k hc 0)).toLoadRect X3) shapeCasts_S1x576x128_S576x128) (View.readAt (Elt Ideal) M5.view (Rect.unit (s := S4x128x576) ![1, 0, 0] S1x128x576.size inb_S4x128x576_S1x128x576_1_0_0).toLoadRect X5) _ (fun w d => fromRow (512 * ((i 1).val - 1)) K (64 * (2 * k.val + 0) + w) (128 * 1 + d)) _
    (q_read M2 X2 Q hQ _ _ _ (offq2_01 k) _) (fun w d => (slab_apply _ w d).trans ((k_read M3 X3 K hK _ _ _ (offk2_01 i hi k) _ w d).trans (by rw [Nat.add_assoc]))) (b_read M5 X5 B hB 1 _) r l, ?_⟩
  refine List.forall_mem_cons.2 ⟨score_piece _ 0 0 inb_S2x4x128x576_S1x1x128x576_0_0_0_0 _ fun r l => score_apply (View.readAt (Elt Ideal) M2.view (Rect.unit (s := S1x512x512) (k0_off9 k 0#32) S1x64x128.size (k0_off9_inb i k hc 0)).toLoadRect X2)
    (shapeCast S576x128 (View.readAt (Elt Ideal) M3.view (Rect.unit (s := S1x2048x512) (k0_off10 i k 0#32) S1x576x128.size (k0_off10_inb i k hc 0)).toLoadRect X3) shapeCasts_S1x576x128_S576x128) (View.readAt (Elt Ideal) M5.view (Rect.unit (s := S4x128x576) ![0, 0, 0] S1x128x576.size inb_S4x128x576_S1x128x576_0_0_0).toLoadRect X5) _ (fun w d => fromRow (512 * ((i 1).val - 1)) K (64 * (2 * k.val + 0) + w) (128 * 0 + d)) _
    (q_read M2 X2 Q hQ _ _ _ (offq2_00 k) _) (fun w d => (slab_apply _ w d).trans ((k_read M3 X3 K hK _ _ _ (offk2_00 i hi k) _ w d).trans (by rw [Nat.add_assoc]))) (b_read M5 X5 B hB 0 _) r l, ?_⟩
  intro P hP
  exact absurd hP List.not_mem_nil

/-- The score tiles of a trip of the unmasked loop fill the score scratch. -/
theorem scores2_cover : ∀ y, ∃ P ∈ (trip_k0_t2.sl.HW_arg7_8 i M2 M3 M5 hc X2 X3 X5 k), y ∈ P.1.set :=
  View.cover_of_tiledL _ ![1, 1, 128, 576] rfl

include hi hQ hK hB in
/-- The scores read back for chunk 0 of a trip of the unmasked loop. -/
theorem read2_0 (p : Fin 4) (r : Fin 128) (w : Fin 576) :
    M7.view.readCov (trip_k0_t2.sl.HW_arg7_8 i M2 M3 M5 hc X2 X3 X5 k) (Rect.unit (s := S2x4x128x576) ![0, 0, 0, 0] S1x4x128x576.size inb_S2x4x128x576_S1x4x128x576_0_0_0_0).toLoadRect (ix4 0 p r w)
      = chunkS Q (fromRow (512 * ((i 1).val - 1)) K) B (2 * k.val + 0) p.val r.val w.val :=
  chunk_read M7.view _ _ (fun j => chunkS Q (fromRow (512 * ((i 1).val - 1)) K) B (2 * k.val + j)) (fun y => rfl) (scores2 i hi M2 M3 M5 X2 X3 X5 hc Q K B hQ hK hB k)
    (scores2_cover i M2 M3 M5 X2 X3 X5 hc k) 0 _ p r w

include hi hQ hK hB in
/-- The scores read back for chunk 1 of a trip of the unmasked loop. -/
theorem read2_1 (p : Fin 4) (r : Fin 128) (w : Fin 576) :
    M7.view.readCov (trip_k0_t2.sl.HW_arg7_8 i M2 M3 M5 hc X2 X3 X5 k) (Rect.unit (s := S2x4x128x576) ![1, 0, 0, 0] S1x4x128x576.size inb_S2x4x128x576_S1x4x128x576_1_0_0_0).toLoadRect (ix4 0 p r w)
      = chunkS Q (fromRow (512 * ((i 1).val - 1)) K) B (2 * k.val + 1) p.val r.val w.val :=
  chunk_read M7.view _ _ (fun j => chunkS Q (fromRow (512 * ((i 1).val - 1)) K) B (2 * k.val + j)) (fun y => rfl) (scores2 i hi M2 M3 M5 X2 X3 X5 hc Q K B hQ hK hB k)
    (scores2_cover i M2 M3 M5 X2 X3 X5 hc k) 1 _ p r w

include hi hQ hK hB in
/-- Every tile of weights stored in a trip of the unmasked loop holds the weights of its chunk. -/
theorem exps2 : ∀ P ∈ (trip_k0_t2.sl.HW_arg8_2 i M2 M3 M5 M7 hc X2 X3 X5 k), ∀ x,
    P.2 x = at4 (fun j p r => expN (chunkS Q (fromRow (512 * ((i 1).val - 1)) K) B (2 * k.val + j) p r)) (P.1.emb x) := by
  unfold trip_k0_t2.sl.HW_arg8_2
  refine List.forall_mem_cons.2 ⟨exp_piece _ 1 inb_S2x4x128x576_S1x4x128x576_1_0_0_0 _ fun p r l => exp_tile_plain (M7.view.readCov (trip_k0_t2.sl.HW_arg7_8 i M2 M3 M5 hc X2 X3 X5 k) (Rect.unit (s := S2x4x128x576) ![1, 0, 0, 0] S1x4x128x576.size inb_S2x4x128x576_S1x4x128x576_1_0_0_0).toLoadRect) (chunkS Q (fromRow (512 * ((i 1).val - 1)) K) B (2 * k.val + 1))
    (read2_1 i hi M2 M3 M5 M7 X2 X3 X5 hc Q K B hQ hK hB k) p r l, ?_⟩
  refine List.forall_mem_cons.2 ⟨exp_piece _ 0 inb_S2x4x128x576_S1x4x128x576_0_0_0_0 _ fun p r l => exp_tile_plain (M7.view.readCov (trip_k0_t2.sl.HW_arg7_8 i M2 M3 M5 hc X2 X3 X5 k) (Rect.unit (s := S2x4x128x576) ![0, 0, 0, 0] S1x4x128x576.size inb_S2x4x128x576_S1x4x128x576_0_0_0_0).toLoadRect) (chunkS Q (fromRow (512 * ((i 1).val - 1)) K) B (2 * k.val + 0))
    (read2_0 i hi M2 M3 M5 M7 X2 X3 X5 hc Q K B hQ hK hB k) p r l, ?_⟩
  intro P hP
  exact absurd hP List.not_mem_nil

theorem exps2_cover : ∀ y, ∃ P ∈ (trip_k0_t2.sl.HW_arg8_2 i M2 M3 M5 M7 hc X2 X3 X5 k), y ∈ P.1.set :=
  View.cover_of_tiledL _ ![1, 4, 128, 576] rfl

include hi hQ hK hB hV in
/-- Every tile stored to the output in a trip of the unmasked loop holds the output of its chunk and head pair. -/
theorem trip2_pieces (f6 : BufTy.Contents (Elt Ideal) M6.view.ty) (f7 : BufTy.Contents (Elt Ideal) M7.view.ty) (f8 : BufTy.Contents (Elt Ideal) M8.view.ty) :
    ∀ P ∈ ((trip_k0_t2 (F := Ideal) Variants.none c none i M2 h2 M3 h3 M4 h4 M5 h5 M6 h6 M7 h7 M8 h8 M9 h9 M10 h10 (BitVec.ofNat 32 (i 1).val)
      hc X2 X3 X4 X5 k).1 f6 f7 f8), ∀ x,
    P.2 x = at2 (blockO (chunkS Q (fromRow (512 * ((i 1).val - 1)) K) B) (fromRow (512 * ((i 1).val - 1)) V)) (P.1.emb x) := by
  have he := exps2 i hi M2 M3 M5 M7 X2 X3 X5 hc Q K B hQ hK hB k
  have hcv := exps2_cover i M2 M3 M5 M7 X2 X3 X5 hc k
  unfold trip_k0_t2
  dsimp only
  refine List.forall_mem_cons.2 ⟨out_piece _ _ (2 * k.val + 1) 3 (offq2_13 k) (k0_off15_inb i k hc 1) _ fun a l => (out3_apply (k0_pay69 (M7.view.readCov (trip_k0_t2.sl.HW_arg7_8 i M2 M3 M5 hc X2 X3 X5 k) (Rect.unit (s := S2x4x128x576) ![1, 0, 0, 0] S1x4x128x576.size inb_S2x4x128x576_S1x4x128x576_1_0_0_0).toLoadRect))
    (M8.view.readCov (trip_k0_t2.sl.HW_arg8_2 i M2 M3 M5 M7 hc X2 X3 X5 k) (Rect.unit (s := S2x4x128x576) ![1, 3, 0, 0] S1x1x128x576.size inb_S2x4x128x576_S1x1x128x576_1_3_0_0).toLoadRect)
    (shapeCast S576x128 (View.readAt (Elt Ideal) M4.view (Rect.unit (s := S1x2048x512) (k0_off16 i k 1#32) S1x576x128.size (k0_off16_inb i k hc 1)).toLoadRect X4) shapeCasts_S1x576x128_S576x128) (chunkS Q (fromRow (512 * ((i 1).val - 1)) K) B (2 * k.val + 1) 3) (fun w d => fromRow (512 * ((i 1).val - 1)) V (64 * (2 * k.val + 1) + w) (128 * 3 + d))
    (tile_read M8.view _ _ (fun j p r => expN (chunkS Q (fromRow (512 * ((i 1).val - 1)) K) B (2 * k.val + j) p r)) (fun y => rfl) he hcv 1 3 _)
    (fun w d => (slab_apply _ w d).trans ((k_read M4 X4 V hV _ _ _ (offk2_13 i hi k) _ w d).trans (by rw [Nat.add_assoc])))
    (fun r => inv_plain_apply _ _ (read2_1 i hi M2 M3 M5 M7 X2 X3 X5 hc Q K B hQ hK hB k) 3 r) a l).trans (blockO_at _ _ _ _ a l).symm, ?_⟩
  refine List.forall_mem_cons.2 ⟨out_piece _ _ (2 * k.val + 1) 2 (offq2_12 k) (k0_off13_inb i k hc 1) _ fun a l => (out2_apply (k0_pay69 (M7.view.readCov (trip_k0_t2.sl.HW_arg7_8 i M2 M3 M5 hc X2 X3 X5 k) (Rect.unit (s := S2x4x128x576) ![1, 0, 0, 0] S1x4x128x576.size inb_S2x4x128x576_S1x4x128x576_1_0_0_0).toLoadRect))
    (M8.view.readCov (trip_k0_t2.sl.HW_arg8_2 i M2 M3 M5 M7 hc X2 X3 X5 k) (Rect.unit (s := S2x4x128x576) ![1, 2, 0, 0] S1x1x128x576.size inb_S2x4x128x576_S1x1x128x576_1_2_0_0).toLoadRect)
    (shapeCast S576x128 (View.readAt (Elt Ideal) M4.view (Rect.unit (s := S1x2048x512) (k0_off14 i k 1#32) S1x576x128.size (k0_off14_inb i k hc 1)).toLoadRect X4) shapeCasts_S1x576x128_S576x128) (chunkS Q (fromRow (512 * ((i 1).val - 1)) K) B (2 * k.val + 1) 2) (fun w d => fromRow (512 * ((i 1).val - 1)) V (64 * (2 * k.val + 1) + w) (128 * 2 + d))
    (tile_read M8.view _ _ (fun j p r => expN (chunkS Q (fromRow (512 * ((i 1).val - 1)) K) B (2 * k.val + j) p r)) (fun y => rfl) he hcv 1 2 _)
    (fun w d => (slab_apply _ w d).trans ((k_read M4 X4 V hV _ _ _ (offk2_12 i hi k) _ w d).trans (by rw [Nat.add_assoc])))
    (fun r => inv_plain_apply _ _ (read2_1 i hi M2 M3 M5 M7 X2 X3 X5 hc Q K B hQ hK hB k) 2 r) a l).trans (blockO_at _ _ _ _ a l).symm, ?_⟩
  refine List.forall_mem_cons.2 ⟨out_piece _ _ (2 * k.val + 1) 1 (offq2_11 k) (k0_off11_inb i k hc 1) _ fun a l => (out1_apply (k0_pay69 (M7.view.readCov (trip_k0_t2.sl.HW_arg7_8 i M2 M3 M5 hc X2 X3 X5 k) (Rect.unit (s := S2x4x128x576) ![1, 0, 0, 0] S1x4x128x576.size inb_S2x4x128x576_S1x4x128x576_1_0_0_0).toLoadRect))
    (M8.view.readCov (trip_k0_t2.sl.HW_arg8_2 i M2 M3 M5 M7 hc X2 X3 X5 k) (Rect.unit (s := S2x4x128x576) ![1, 1, 0, 0] S1x1x128x576.size inb_S2x4x128x576_S1x1x128x576_1_1_0_0).toLoadRect)
    (shapeCast S576x128 (View.readAt (Elt Ideal) M4.view (Rect.unit (s := S1x2048x512) (k0_off12 i k 1#32) S1x576x128.size (k0_off12_inb i k hc 1)).toLoadRect X4) shapeCasts_S1x576x128_S576x128) (chunkS Q (fromRow (512 * ((i 1).val - 1)) K) B (2 * k.val + 1) 1) (fun w d => fromRow (512 * ((i 1).val - 1)) V (64 * (2 * k.val + 1) + w) (128 * 1 + d))
    (tile_read M8.view _ _ (fun j p r => expN (chunkS Q (fromRow (512 * ((i 1).val - 1)) K) B (2 * k.val + j) p r)) (fun y => rfl) he hcv 1 1 _)
    (fun w d => (slab_apply _ w d).trans ((k_read M4 X4 V hV _ _ _ (offk2_11 i hi k) _ w d).trans (by rw [Nat.add_assoc])))
    (fun r => inv_plain_apply _ _ (read2_1 i hi M2 M3 M5 M7 X2 X3 X5 hc Q K B hQ hK hB k) 1 r) a l).trans (blockO_at _ _ _ _ a l).symm, ?_⟩
  refine List.forall_mem_cons.2 ⟨out_piece _ _ (2 * k.val + 1) 0 (offq2_10 k) (k0_off9_inb i k hc 1) _ fun a l => (out0_apply (k0_pay69 (M7.view.readCov (trip_k0_t2.sl.HW_arg7_8 i M2 M3 M5 hc X2 X3 X5 k) (Rect.unit (s := S2x4x128x576) ![1, 0, 0, 0] S1x4x128x576.size inb_S2x4x128x576_S1x4x128x576_1_0_0_0).toLoadRect))
    (M8.view.readCov (trip_k0_t2.sl.HW_arg8_2 i M2 M3 M5 M7 hc X2 X3 X5 k) (Rect.unit (s := S2x4x128x576) ![1, 0, 0, 0] S1x1x128x576.size inb_S2x4x128x576_S1x1x128x576_1_0_0_0).toLoadRect)
    (shapeCast S576x128 (View.readAt (Elt Ideal) M4.view (Rect.unit (s := S1x2048x512) (k0_off10 i k 1#32) S1x576x128.size (k0_off10_inb i k hc 1)).toLoadRect X4) shapeCasts_S1x576x128_S576x128) (chunkS Q (fromRow (512 * ((i 1).val - 1)) K) B (2 * k.val + 1) 0) (fun w d => fromRow (512 * ((i 1).val - 1)) V (64 * (2 * k.val + 1) + w) (128 * 0 + d))
    (tile_read M8.view _ _ (fun j p r => expN (chunkS Q (fromRow (512 * ((i 1).val - 1)) K) B (2 * k.val + j) p r)) (fun y => rfl) he hcv 1 0 _)
    (fun w d => (slab_apply _ w d).trans ((k_read M4 X4 V hV _ _ _ (offk2_10 i hi k) _ w d).trans (by rw [Nat.add_assoc])))
    (fun r => inv_plain_apply _ _ (read2_1 i hi M2 M3 M5 M7 X2 X3 X5 hc Q K B hQ hK hB k) 0 r) a l).trans (blockO_at _ _ _ _ a l).symm, ?_⟩
  refine List.forall_mem_cons.2 ⟨out_piece _ _ (2 * k.val + 0) 3 (offq2_03 k) (k0_off15_inb i k hc 0) _ fun a l => (out3_apply (k0_pay69 (M7.view.readCov (trip_k0_t2.sl.HW_arg7_8 i M2 M3 M5 hc X2 X3 X5 k) (Rect.unit (s := S2x4x128x576) ![0, 0, 0, 0] S1x4x128x576.size inb_S2x4x128x576_S1x4x128x576_0_0_0_0).toLoadRect))
    (M8.view.readCov (trip_k0_t2.sl.HW_arg8_2 i M2 M3 M5 M7 hc X2 X3 X5 k) (Rect.unit (s := S2x4x128x576) ![0, 3, 0, 0] S1x1x128x576.size inb_S2x4x128x576_S1x1x128x576_0_3_0_0).toLoadRect)
    (shapeCast S576x128 (View.readAt (Elt Ideal) M4.view (Rect.unit (s := S1x2048x512) (k0_off16 i k 0#32) S1x576x128.size (k0_off16_inb i k hc 0)).toLoadRect X4) shapeCasts_S1x576x128_S576x128) (chunkS Q (fromRow (512 * ((i 1).val - 1)) K) B (2 * k.val + 0) 3) (fun w d => fromRow (512 * ((i 1).val - 1)) V (64 * (2 * k.val + 0) + w) (128 * 3 + d))
    (tile_read M8.view _ _ (fun j p r => expN (chunkS Q (fromRow (512 * ((i 1).val - 1)) K) B (2 * k.val + j) p r)) (fun y => rfl) he hcv 0 3 _)
    (fun w d => (slab_apply _ w d).trans ((k_read M4 X4 V hV _ _ _ (offk2_03 i hi k) _ w d).trans (by rw [Nat.add_assoc])))
    (fun r => inv_plain_apply _ _ (read2_0 i hi M2 M3 M5 M7 X2 X3 X5 hc Q K B hQ hK hB k) 3 r) a l).trans (blockO_at _ _ _ _ a l).symm, ?_⟩
  refine List.forall_mem_cons.2 ⟨out_piece _ _ (2 * k.val + 0) 2 (offq2_02 k) (k0_off13_inb i k hc 0) _ fun a l => (out2_apply (k0_pay69 (M7.view.readCov (trip_k0_t2.sl.HW_arg7_8 i M2 M3 M5 hc X2 X3 X5 k) (Rect.unit (s := S2x4x128x576) ![0, 0, 0, 0] S1x4x128x576.size inb_S2x4x128x576_S1x4x128x576_0_0_0_0).toLoadRect))
    (M8.view.readCov (trip_k0_t2.sl.HW_arg8_2 i M2 M3 M5 M7 hc X2 X3 X5 k) (Rect.unit (s := S2x4x128x576) ![0, 2, 0, 0] S1x1x128x576.size inb_S2x4x128x576_S1x1x128x576_0_2_0_0).toLoadRect)
    (shapeCast S576x128 (View.readAt (Elt Ideal) M4.view (Rect.unit (s := S1x2048x512) (k0_off14 i k 0#32) S1x576x128.size (k0_off14_inb i k hc 0)).toLoadRect X4) shapeCasts_S1x576x128_S576x128) (chunkS Q (fromRow (512 * ((i 1).val - 1)) K) B (2 * k.val + 0) 2) (fun w d => fromRow (512 * ((i 1).val - 1)) V (64 * (2 * k.val + 0) + w) (128 * 2 + d))
    (tile_read M8.view _ _ (fun j p r => expN (chunkS Q (fromRow (512 * ((i 1).val - 1)) K) B (2 * k.val + j) p r)) (fun y => rfl) he hcv 0 2 _)
    (fun w d => (slab_apply _ w d).trans ((k_read M4 X4 V hV _ _ _ (offk2_02 i hi k) _ w d).trans (by rw [Nat.add_assoc])))
    (fun r => inv_plain_apply _ _ (read2_0 i hi M2 M3 M5 M7 X2 X3 X5 hc Q K B hQ hK hB k) 2 r) a l).trans (blockO_at _ _ _ _ a l).symm, ?_⟩
  refine List.forall_mem_cons.2 ⟨out_piece _ _ (2 * k.val + 0) 1 (offq2_01 k) (k0_off11_inb i k hc 0) _ fun a l => (out1_apply (k0_pay69 (M7.view.readCov (trip_k0_t2.sl.HW_arg7_8 i M2 M3 M5 hc X2 X3 X5 k) (Rect.unit (s := S2x4x128x576) ![0, 0, 0, 0] S1x4x128x576.size inb_S2x4x128x576_S1x4x128x576_0_0_0_0).toLoadRect))
    (M8.view.readCov (trip_k0_t2.sl.HW_arg8_2 i M2 M3 M5 M7 hc X2 X3 X5 k) (Rect.unit (s := S2x4x128x576) ![0, 1, 0, 0] S1x1x128x576.size inb_S2x4x128x576_S1x1x128x576_0_1_0_0).toLoadRect)
    (shapeCast S576x128 (View.readAt (Elt Ideal) M4.view (Rect.unit (s := S1x2048x512) (k0_off12 i k 0#32) S1x576x128.size (k0_off12_inb i k hc 0)).toLoadRect X4) shapeCasts_S1x576x128_S576x128) (chunkS Q (fromRow (512 * ((i 1).val - 1)) K) B (2 * k.val + 0) 1) (fun w d => fromRow (512 * ((i 1).val - 1)) V (64 * (2 * k.val + 0) + w) (128 * 1 + d))
    (tile_read M8.view _ _ (fun j p r => expN (chunkS Q (fromRow (512 * ((i 1).val - 1)) K) B (2 * k.val + j) p r)) (fun y => rfl) he hcv 0 1 _)
    (fun w d => (slab_apply _ w d).trans ((k_read M4 X4 V hV _ _ _ (offk2_01 i hi k) _ w d).trans (by rw [Nat.add_assoc])))
    (fun r => inv_plain_apply _ _ (read2_0 i hi M2 M3 M5 M7 X2 X3 X5 hc Q K B hQ hK hB k) 1 r) a l).trans (blockO_at _ _ _ _ a l).symm, ?_⟩
  refine List.forall_mem_cons.2 ⟨out_piece _ _ (2 * k.val + 0) 0 (offq2_00 k) (k0_off9_inb i k hc 0) _ fun a l => (out0_apply (k0_pay69 (M7.view.readCov (trip_k0_t2.sl.HW_arg7_8 i M2 M3 M5 hc X2 X3 X5 k) (Rect.unit (s := S2x4x128x576) ![0, 0, 0, 0] S1x4x128x576.size inb_S2x4x128x576_S1x4x128x576_0_0_0_0).toLoadRect))
    (M8.view.readCov (trip_k0_t2.sl.HW_arg8_2 i M2 M3 M5 M7 hc X2 X3 X5 k) (Rect.unit (s := S2x4x128x576) ![0, 0, 0, 0] S1x1x128x576.size inb_S2x4x128x576_S1x1x128x576_0_0_0_0).toLoadRect)
    (shapeCast S576x128 (View.readAt (Elt Ideal) M4.view (Rect.unit (s := S1x2048x512) (k0_off10 i k 0#32) S1x576x128.size (k0_off10_inb i k hc 0)).toLoadRect X4) shapeCasts_S1x576x128_S576x128) (chunkS Q (fromRow (512 * ((i 1).val - 1)) K) B (2 * k.val + 0) 0) (fun w d => fromRow (512 * ((i 1).val - 1)) V (64 * (2 * k.val + 0) + w) (128 * 0 + d))
    (tile_read M8.view _ _ (fun j p r => expN (chunkS Q (fromRow (512 * ((i 1).val - 1)) K) B (2 * k.val + j) p r)) (fun y => rfl) he hcv 0 0 _)
    (fun w d => (slab_apply _ w d).trans ((k_read M4 X4 V hV _ _ _ (offk2_00 i hi k) _ w d).trans (by rw [Nat.add_assoc])))
    (fun r => inv_plain_apply _ _ (read2_0 i hi M2 M3 M5 M7 X2 X3 X5 hc Q K B hQ hK hB k) 0 r) a l).trans (blockO_at _ _ _ _ a l).symm, ?_⟩
  intro P hP
  exact absurd hP List.not_mem_nil

end Cert.Band.KI

end
-- ==== Proof.KOut.lean ====
module

public import proofs.«01_k».proof.Proof.KTrip1
public import proofs.«01_k».proof.Proof.KTrip2

@[expose] public section

noncomputable section

namespace Cert.Band.KI

open Cert.KernelIdeal Cert.KernelIdeal.Gen
open Idealize.ShloMosaic
open Idealize.ShloMosaic.TcCoe

/-- Membership in a tile of the output block, by coordinates. -/
theorem mem_tile (y : S1x512x512.Idx) (off : Fin 3 → ℕ) (h) (A C : ℕ) (e : off = ![0, A, C])
    (ha : A ≤ (y 1).val) (ha' : (y 1).val < A + 64) (hc : C ≤ (y 2).val) (hc' : (y 2).val < C + 128) :
    y ∈ (Rect.unit (s := S1x512x512) off S1x64x128.size h).set := by
  subst e
  refine Rect.mem_set_unit.2 fun a => ?_
  fin_cases a
  · exact ⟨Nat.zero_le _, (show (y 0).val < 0 + 1 from (y 0).isLt)⟩
  · exact ⟨ha, ha'⟩
  · exact ⟨hc, hc'⟩

section

variable (c : Dev nD) (i : grid0.Coords) (hi : (i 1).val = 0)
    (M2 : Memref sig .tc .vmem S1x512x512 .f32) (h2 : M2.IsWhole) (M3 : Memref sig .tc .vmem S1x2048x512 .bf16) (h3 : M3.IsWhole)
    (M4 : Memref sig .tc .vmem S1x2048x512 .bf16) (h4 : M4.IsWhole) (M5 : Memref sig .tc .vmem S4x128x576 .f32) (h5 : M5.IsWhole)
    (M6 : Memref sig .tc .vmem S1x512x512 .f32) (h6 : M6.IsWhole) (M7 : Memref sig .tc .vmem S2x4x128x576 .f32) (h7 : M7.IsWhole)
    (M8 : Memref sig .tc .vmem S2x4x128x576 .bf16) (h8 : M8.IsWhole) (M9 : Memref sig .tc .vmem S1024x512 .bf16) (h9 : M9.IsWhole)
    (M10 : Memref sig .tc .vmem S1024x512 .bf16) (h10 : M10.IsWhole)
    (X2 : BufTy.Contents (Elt Ideal) M2.view.ty) (X5 : BufTy.Contents (Elt Ideal) M5.view.ty)
    (X9 : BufTy.Contents (Elt Ideal) M9.view.ty) (X10 : BufTy.Contents (Elt Ideal) M10.view.ty)
    (hc : k0_cond2 i = 1#1) (Q K V : ℕ → ℕ → EReal) (B : ℕ → ℕ → ℕ → EReal)
    (hQ : ∀ (a d : Fin 512), M2.view.read (Elt Ideal) X2 (ix3 0 a d) = Q a.val d.val)
    (hK : ∀ (w : Fin 1024) (d : Fin 512), M9.view.read (Elt Ideal) X9 (ix2 w d) = K w.val d.val)
    (hV : ∀ (w : Fin 1024) (d : Fin 512), M10.view.read (Elt Ideal) X10 (ix2 w d) = V w.val d.val)
    (hB : ∀ (p : Fin 4) (r : Fin 128) (w : Fin 576), M5.view.read (Elt Ideal) X5 (ix3 p r w) = B p.val r.val w.val)
    (f6 : BufTy.Contents (Elt Ideal) M6.view.ty) (f7 : BufTy.Contents (Elt Ideal) M7.view.ty) (f8 : BufTy.Contents (Elt Ideal) M8.view.ty)

include hi hQ hK hB hV in
/-- Every tile stored to the output in the first `n` trips of the masked loop holds the output of its chunk and head pair. -/
theorem all1_pieces (n : ℕ) (hn : n ≤ k0_t1_loop.trips) : ∀ P ∈ (pb_k0_t1 (F := Ideal) Variants.none c none i M2 h2 M3 h3 M4 h4 M5 h5 M6 h6 M7 h7 M8 h8 M9 h9 M10 h10 (BitVec.ofNat 32 (i 1).val) (iota .tc S1x1x576 32 [2] iota_S1x1x576_d2_w32)
      hc X2 X5 X9 X10 f6 f7 f8 (n)).1, ∀ x,
    P.2 x = at2 (blockO (maskS Q K B) V) (P.1.emb x) := by
  induction n with
  | zero => exact fun P hP => absurd hP List.not_mem_nil
  | succ n ih =>
    intro P hP
    rw [show n + 1 = (⟨n, hn⟩ : Fin k0_t1_loop.trips).val + 1 from rfl, pb_k0_t1_succ] at hP
    rcases List.mem_append.1 hP with h | h
    · exact trip1_pieces c i hi M2 h2 M3 h3 M4 h4 M5 h5 M6 h6 M7 h7 M8 h8 M9 h9 M10 h10 X2 X5 X9 X10 hc Q K V B hQ hK hV hB ⟨n, hn⟩ _ _ _ P h
    · exact ih (Nat.le_of_succ_le hn) P h

/-- The tiles stored in trip `k` of the masked loop fill rows `128 k` to `128 k + 127` of the output block. -/
theorem trip1_cover (k : Fin k0_t1_loop.trips) (y : S1x512x512.Idx) (hy : 128 * k.val ≤ (y 1).val) (hy' : (y 1).val < 128 * k.val + 128) :
    ∃ P ∈ ((trip_k0_t1 (F := Ideal) Variants.none c none i M2 h2 M3 h3 M4 h4 M5 h5 M6 h6 M7 h7 M8 h8 M9 h9 M10 h10 (BitVec.ofNat 32 (i 1).val) (iota .tc S1x1x576 32 [2] iota_S1x1x576_d2_w32)
      hc X2 X5 X9 X10 k).1 f6 f7 f8), y ∈ P.1.set := by
  have h512 : (y 2).val < 512 := (y 2).isLt
  unfold trip_k0_t1
  dsimp only
  rcases Nat.lt_or_ge (y 1).val (128 * k.val + 64) with hr | hr
  · rcases (show (y 2).val / 128 = 0 ∨ (y 2).val / 128 = 1 ∨ (y 2).val / 128 = 2 ∨ (y 2).val / 128 = 3 by omega) with hl | hl | hl | hl
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_tile y _ (k0_off1_inb i k hc 0) _ _ (offq1_00 k) (by omega) (by omega) (by omega) (by omega)⟩
    · exact ⟨_, (List.mem_cons_of_mem _ (List.mem_cons_of_mem _ (List.mem_cons_of_mem _ (List.mem_cons_of_mem _ (List.mem_cons_of_mem _ (List.mem_cons_of_mem _ List.mem_cons_self)))))), mem_tile y _ (k0_off3_inb i k hc 0) _ _ (offq1_01 k) (by omega) (by omega) (by omega) (by omega)⟩
    · exact ⟨_, (List.mem_cons_of_mem _ (List.mem_cons_of_mem _ (List.mem_cons_of_mem _ (List.mem_cons_of_mem _ (List.mem_cons_of_mem _ List.mem_cons_self))))), mem_tile y _ (k0_off5_inb i k hc 0) _ _ (offq1_02 k) (by omega) (by omega) (by omega) (by omega)⟩
    · exact ⟨_, (List.mem_cons_of_mem _ (List.mem_cons_of_mem _ (List.mem_cons_of_mem _ (List.mem_cons_of_mem _ List.mem_cons_self)))), mem_tile y _ (k0_off7_inb i k hc 0) _ _ (offq1_03 k) (by omega) (by omega) (by omega) (by omega)⟩
  · rcases (show (y 2).val / 128 = 0 ∨ (y 2).val / 128 = 1 ∨ (y 2).val / 128 = 2 ∨ (y 2).val / 128 = 3 by omega) with hl | hl | hl | hl
    · exact ⟨_, (List.mem_cons_of_mem _ (List.mem_cons_of_mem _ (List.mem_cons_of_mem _ List.mem_cons_self))), mem_tile y _ (k0_off1_inb i k hc 1) _ _ (offq1_10 k) (by omega) (by omega) (by omega) (by omega)⟩
    · exact ⟨_, (List.mem_cons_of_mem _ (List.mem_cons_of_mem _ List.mem_cons_self)), mem_tile y _ (k0_off3_inb i k hc 1) _ _ (offq1_11 k) (by omega) (by omega) (by omega) (by omega)⟩
    · exact ⟨_, (List.mem_cons_of_mem _ List.mem_cons_self), mem_tile y _ (k0_off5_inb i k hc 1) _ _ (offq1_12 k) (by omega) (by omega) (by omega) (by omega)⟩
    · exact ⟨_, List.mem_cons_self, mem_tile y _ (k0_off7_inb i k hc 1) _ _ (offq1_13 k) (by omega) (by omega) (by omega) (by omega)⟩

/-- The tiles stored in the first `n` trips of the masked loop fill the first `128 n` rows of the output block. -/
theorem all1_cover (n : ℕ) (hn : n ≤ k0_t1_loop.trips) (y : S1x512x512.Idx) (hy : (y 1).val < 128 * n) :
    ∃ P ∈ (pb_k0_t1 (F := Ideal) Variants.none c none i M2 h2 M3 h3 M4 h4 M5 h5 M6 h6 M7 h7 M8 h8 M9 h9 M10 h10 (BitVec.ofNat 32 (i 1).val) (iota .tc S1x1x576 32 [2] iota_S1x1x576_d2_w32)
      hc X2 X5 X9 X10 f6 f7 f8 (n)).1, y ∈ P.1.set := by
  induction n with
  | zero => omega
  | succ n ih =>
    rw [show n + 1 = (⟨n, hn⟩ : Fin k0_t1_loop.trips).val + 1 from rfl, pb_k0_t1_succ]
    rcases Nat.lt_or_ge (y 1).val (128 * n) with h | h
    · obtain ⟨P, hP, hm⟩ := ih (Nat.le_of_succ_le hn) h
      exact ⟨P, List.mem_append_right _ hP, hm⟩
    · obtain ⟨P, hP, hm⟩ := trip1_cover c i M2 h2 M3 h3 M4 h4 M5 h5 M6 h6 M7 h7 M8 h8 M9 h9 M10 h10 X2 X5 X9 X10 hc _ _ _ ⟨n, hn⟩ y h (by simpa [Nat.mul_add] using hy)
      exact ⟨P, List.mem_append_left _ hP, hm⟩

include hi hQ hK hB hV in
/-- The output block after the masked loop. -/
theorem all1_read (y : S1x512x512.Idx) :
    M6.view.read (Elt Ideal) (M6.view.writes (Elt Ideal) f6 (pb_k0_t1 (F := Ideal) Variants.none c none i M2 h2 M3 h3 M4 h4 M5 h5 M6 h6 M7 h7 M8 h8 M9 h9 M10 h10 (BitVec.ofNat 32 (i 1).val) (iota .tc S1x1x576 32 [2] iota_S1x1x576_d2_w32)
      hc X2 X5 X9 X10 f6 f7 f8 (k0_t1_loop.trips)).1) y = at2 (blockO (maskS Q K B) V) y :=
  View.read_writes_apply_of_pieces M6.view f6 _ _
    (all1_pieces c i hi M2 h2 M3 h3 M4 h4 M5 h5 M6 h6 M7 h7 M8 h8 M9 h9 M10 h10 X2 X5 X9 X10 hc Q K V B hQ hK hV hB f6 f7 f8 _ (le_refl _)) y
    (all1_cover c i M2 h2 M3 h3 M4 h4 M5 h5 M6 h6 M7 h7 M8 h8 M9 h9 M10 h10 X2 X5 X9 X10 hc f6 f7 f8 _ (le_refl _) y (lt_of_lt_of_le (y 1).isLt (by decide)))

end

section

variable (c : Dev nD) (i : grid0.Coords) (hi : (i 1).val ≠ 0)
    (M2 : Memref sig .tc .vmem S1x512x512 .f32) (h2 : M2.IsWhole) (M3 : Memref sig .tc .vmem S1x2048x512 .bf16) (h3 : M3.IsWhole)
    (M4 : Memref sig .tc .vmem S1x2048x512 .bf16) (h4 : M4.IsWhole) (M5 : Memref sig .tc .vmem S4x128x576 .f32) (h5 : M5.IsWhole)
    (M6 : Memref sig .tc .vmem S1x512x512 .f32) (h6 : M6.IsWhole) (M7 : Memref sig .tc .vmem S2x4x128x576 .f32) (h7 : M7.IsWhole)
    (M8 : Memref sig .tc .vmem S2x4x128x576 .bf16) (h8 : M8.IsWhole) (M9 : Memref sig .tc .vmem S1024x512 .bf16) (h9 : M9.IsWhole)
    (M10 : Memref sig .tc .vmem S1024x512 .bf16) (h10 : M10.IsWhole)
    (X2 : BufTy.Contents (Elt Ideal) M2.view.ty) (X3 : BufTy.Contents (Elt Ideal) M3.view.ty)
    (X4 : BufTy.Contents (Elt Ideal) M4.view.ty) (X5 : BufTy.Contents (Elt Ideal) M5.view.ty)
    (hc : k0_cond3 i = 1#1) (Q K V : ℕ → ℕ → EReal) (B : ℕ → ℕ → ℕ → EReal)
    (hQ : ∀ (a d : Fin 512), M2.view.read (Elt Ideal) X2 (ix3 0 a d) = Q a.val d.val)
    (hK : ∀ (w : Fin 2048) (d : Fin 512), M3.view.read (Elt Ideal) X3 (ix3 0 w d) = K w.val d.val)
    (hV : ∀ (w : Fin 2048) (d : Fin 512), M4.view.read (Elt Ideal) X4 (ix3 0 w d) = V w.val d.val)
    (hB : ∀ (p : Fin 4) (r : Fin 128) (w : Fin 576), M5.view.read (Elt Ideal) X5 (ix3 p r w) = B p.val r.val w.val)
    (f6 : BufTy.Contents (Elt Ideal) M6.view.ty) (f7 : BufTy.Contents (Elt Ideal) M7.view.ty) (f8 : BufTy.Contents (Elt Ideal) M8.view.ty)

include hi hQ hK hB hV in
/-- Every tile stored to the output in the first `n` trips of the unmasked loop holds the output of its chunk and head pair. -/
theorem all2_pieces (n : ℕ) (hn : n ≤ k0_t2_loop.trips) : ∀ P ∈ (pb_k0_t2 (F := Ideal) Variants.none c none i M2 h2 M3 h3 M4 h4 M5 h5 M6 h6 M7 h7 M8 h8 M9 h9 M10 h10 (BitVec.ofNat 32 (i 1).val)
      hc X2 X3 X4 X5 f6 f7 f8 (n)).1, ∀ x,
    P.2 x = at2 (blockO (chunkS Q (fromRow (512 * ((i 1).val - 1)) K) B) (fromRow (512 * ((i 1).val - 1)) V)) (P.1.emb x) := by
  induction n with
  | zero => exact fun P hP => absurd hP List.not_mem_nil
  | succ n ih =>
    intro P hP
    rw [show n + 1 = (⟨n, hn⟩ : Fin k0_t2_loop.trips).val + 1 from rfl, pb_k0_t2_succ] at hP
    rcases List.mem_append.1 hP with h | h
    · exact trip2_pieces c i hi M2 h2 M3 h3 M4 h4 M5 h5 M6 h6 M7 h7 M8 h8 M9 h9 M10 h10 X2 X3 X4 X5 hc Q K V B hQ hK hV hB ⟨n, hn⟩ _ _ _ P h
    · exact ih (Nat.le_of_succ_le hn) P h

/-- The tiles stored in trip `k` of the unmasked loop fill rows `128 k` to `128 k + 127` of the output block. -/
theorem trip2_cover (k : Fin k0_t2_loop.trips) (y : S1x512x512.Idx) (hy : 128 * k.val ≤ (y 1).val) (hy' : (y 1).val < 128 * k.val + 128) :
    ∃ P ∈ ((trip_k0_t2 (F := Ideal) Variants.none c none i M2 h2 M3 h3 M4 h4 M5 h5 M6 h6 M7 h7 M8 h8 M9 h9 M10 h10 (BitVec.ofNat 32 (i 1).val)
      hc X2 X3 X4 X5 k).1 f6 f7 f8), y ∈ P.1.set := by
  have h512 : (y 2).val < 512 := (y 2).isLt
  unfold trip_k0_t2
  dsimp only
  rcases Nat.lt_or_ge (y 1).val (128 * k.val + 64) with hr | hr
  · rcases (show (y 2).val / 128 = 0 ∨ (y 2).val / 128 = 1 ∨ (y 2).val / 128 = 2 ∨ (y 2).val / 128 = 3 by omega) with hl | hl | hl | hl
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_tile y _ (k0_off9_inb i k hc 0) _ _ (offq2_00 k) (by omega) (by omega) (by omega) (by omega)⟩
    · exact ⟨_, (List.mem_cons_of_mem _ (List.mem_cons_of_mem _ (List.mem_cons_of_mem _ (List.mem_cons_of_mem _ (List.mem_cons_of_mem _ (List.mem_cons_of_mem _ List.mem_cons_self)))))), mem_tile y _ (k0_off11_inb i k hc 0) _ _ (offq2_01 k) (by omega) (by omega) (by omega) (by omega)⟩
    · exact ⟨_, (List.mem_cons_of_mem _ (List.mem_cons_of_mem _ (List.mem_cons_of_mem _ (List.mem_cons_of_mem _ (List.mem_cons_of_mem _ List.mem_cons_self))))), mem_tile y _ (k0_off13_inb i k hc 0) _ _ (offq2_02 k) (by omega) (by omega) (by omega) (by omega)⟩
    · exact ⟨_, (List.mem_cons_of_mem _ (List.mem_cons_of_mem _ (List.mem_cons_of_mem _ (List.mem_cons_of_mem _ List.mem_cons_self)))), mem_tile y _ (k0_off15_inb i k hc 0) _ _ (offq2_03 k) (by omega) (by omega) (by omega) (by omega)⟩
  · rcases (show (y 2).val / 128 = 0 ∨ (y 2).val / 128 = 1 ∨ (y 2).val / 128 = 2 ∨ (y 2).val / 128 = 3 by omega) with hl | hl | hl | hl
    · exact ⟨_, (List.mem_cons_of_mem _ (List.mem_cons_of_mem _ (List.mem_cons_of_mem _ List.mem_cons_self))), mem_tile y _ (k0_off9_inb i k hc 1) _ _ (offq2_10 k) (by omega) (by omega) (by omega) (by omega)⟩
    · exact ⟨_, (List.mem_cons_of_mem _ (List.mem_cons_of_mem _ List.mem_cons_self)), mem_tile y _ (k0_off11_inb i k hc 1) _ _ (offq2_11 k) (by omega) (by omega) (by omega) (by omega)⟩
    · exact ⟨_, (List.mem_cons_of_mem _ List.mem_cons_self), mem_tile y _ (k0_off13_inb i k hc 1) _ _ (offq2_12 k) (by omega) (by omega) (by omega) (by omega)⟩
    · exact ⟨_, List.mem_cons_self, mem_tile y _ (k0_off15_inb i k hc 1) _ _ (offq2_13 k) (by omega) (by omega) (by omega) (by omega)⟩

/-- The tiles stored in the first `n` trips of the unmasked loop fill the first `128 n` rows of the output block. -/
theorem all2_cover (n : ℕ) (hn : n ≤ k0_t2_loop.trips) (y : S1x512x512.Idx) (hy : (y 1).val < 128 * n) :
    ∃ P ∈ (pb_k0_t2 (F := Ideal) Variants.none c none i M2 h2 M3 h3 M4 h4 M5 h5 M6 h6 M7 h7 M8 h8 M9 h9 M10 h10 (BitVec.ofNat 32 (i 1).val)
      hc X2 X3 X4 X5 f6 f7 f8 (n)).1, y ∈ P.1.set := by
  induction n with
  | zero => omega
  | succ n ih =>
    rw [show n + 1 = (⟨n, hn⟩ : Fin k0_t2_loop.trips).val + 1 from rfl, pb_k0_t2_succ]
    rcases Nat.lt_or_ge (y 1).val (128 * n) with h | h
    · obtain ⟨P, hP, hm⟩ := ih (Nat.le_of_succ_le hn) h
      exact ⟨P, List.mem_append_right _ hP, hm⟩
    · obtain ⟨P, hP, hm⟩ := trip2_cover c i M2 h2 M3 h3 M4 h4 M5 h5 M6 h6 M7 h7 M8 h8 M9 h9 M10 h10 X2 X3 X4 X5 hc _ _ _ ⟨n, hn⟩ y h (by simpa [Nat.mul_add] using hy)
      exact ⟨P, List.mem_append_left _ hP, hm⟩

include hi hQ hK hB hV in
/-- The output block after the unmasked loop. -/
theorem all2_read (y : S1x512x512.Idx) :
    M6.view.read (Elt Ideal) (M6.view.writes (Elt Ideal) f6 (pb_k0_t2 (F := Ideal) Variants.none c none i M2 h2 M3 h3 M4 h4 M5 h5 M6 h6 M7 h7 M8 h8 M9 h9 M10 h10 (BitVec.ofNat 32 (i 1).val)
      hc X2 X3 X4 X5 f6 f7 f8 (k0_t2_loop.trips)).1) y = at2 (blockO (chunkS Q (fromRow (512 * ((i 1).val - 1)) K) B) (fromRow (512 * ((i 1).val - 1)) V)) y :=
  View.read_writes_apply_of_pieces M6.view f6 _ _
    (all2_pieces c i hi M2 h2 M3 h3 M4 h4 M5 h5 M6 h6 M7 h7 M8 h8 M9 h9 M10 h10 X2 X3 X4 X5 hc Q K V B hQ hK hV hB f6 f7 f8 _ (le_refl _)) y
    (all2_cover c i M2 h2 M3 h3 M4 h4 M5 h5 M6 h6 M7 h7 M8 h8 M9 h9 M10 h10 X2 X3 X4 X5 hc f6 f7 f8 _ (le_refl _) y (lt_of_lt_of_le (y 1).isLt (by decide)))

end

end Cert.Band.KI

end
-- ==== Proof.KRun.lean ====
module

public import proofs.«01_k».proof.Proof.KOut
public import proofs.«01_k».proof.Proof.KFrame
public import Idealize.ShloMosaic.Lib.Pipeline.ValueKit.Geometry

@[expose] public section

noncomputable section

namespace Cert.Band.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

local notation "𝕄" => MT nD τ sig Unit (Elt Ideal) ℕ (UR sig nD τ) ℕ

/-- A matrix with 512 zero rows put before it. -/
def padRows (K : ℕ → ℕ → EReal) (w d : ℕ) : EReal := if w < 512 then 0 else K (w - 512) d

/-- The output of row block `n` of a batch entry, from its own query rows and the whole keys and values. -/
def pointO (n : ℕ) (Q K V : ℕ → ℕ → EReal) (B : ℕ → ℕ → ℕ → EReal) (R C : ℕ) : EReal :=
  blockO (fun c p r w => if 512 ≤ w + 64 * (8 * n + c) then chunkS Q (fromRow (512 * n) (padRows K)) B c p r w else ⊥)
    (fromRow (512 * n) (padRows V)) R C

/-- The output of a batch entry, from its queries, keys, values and the pairs' bias. -/
def attO (Q K V : ℕ → ℕ → EReal) (B : ℕ → ℕ → ℕ → EReal) (R C : ℕ) : EReal :=
  blockO (maskS Q (padRows K) B) (padRows V) R C

/-- The first row block: no row is skipped, and the padded keys are read from their first row. -/
theorem pointO_first (Q K V : ℕ → ℕ → EReal) (B : ℕ → ℕ → ℕ → EReal) :
    pointO 0 Q K V B = blockO (maskS Q (padRows K) B) (padRows V) := by
  funext R C
  unfold pointO
  have h : ∀ X : ℕ → ℕ → EReal, fromRow (512 * 0) X = X := fun X => by funext w d; simp [fromRow]
  simp only [h, maskS, Nat.mul_zero, Nat.zero_add]
  rfl

/-- A later row block: every row it reads lies inside the sequence, so nothing is masked. -/
theorem pointO_later (n : ℕ) (hn : n ≠ 0) (Q K V : ℕ → ℕ → EReal) (B : ℕ → ℕ → ℕ → EReal) :
    pointO n Q K V B = blockO (chunkS Q (fromRow (512 * (n - 1)) K) B) (fromRow (512 * (n - 1)) V) := by
  funext R C
  unfold pointO
  have h : ∀ X : ℕ → ℕ → EReal, fromRow (512 * n) (padRows X) = fromRow (512 * (n - 1)) X := fun X => by
    funext w d
    simp only [fromRow, padRows]
    rw [if_neg (by omega), show 512 * n + w - 512 = 512 * (n - 1) + w by omega]
  rw [h, h]
  congr 1
  funext c p r w
  rw [if_pos (by omega)]

/-- The row blocks of a batch entry put together. -/
theorem pointO_eq (n : ℕ) (Q K V : ℕ → ℕ → EReal) (B : ℕ → ℕ → ℕ → EReal) (R C : ℕ) :
    pointO n (fromRow (512 * n) Q) K V B R C = attO Q K V B (512 * n + R) C := by
  unfold pointO attO blockO
  have h1 : (512 * n + R) / 64 = 8 * n + R / 64 := by omega
  have h2 : (512 * n + R) % 64 = R % 64 := by omega
  rw [h1, h2]
  have hk : ∀ w : ℕ, 512 * n + (64 * (R / 64) + w) = 64 * (8 * n + R / 64) + w := fun w => by omega
  simp only [maskS, chunkS, fromRow, hk]
  rfl

/-- The zero-padded copy of the keys or values, read at an index. -/
theorem pad_read9 (M3 : Memref sig .tc .vmem S1x2048x512 .bf16) (M9 : Memref sig .tc .vmem S1024x512 .bf16)
    (X3 : BufTy.Contents (Elt Ideal) M3.view.ty) (f9 : BufTy.Contents (Elt Ideal) M9.view.ty) (K : ℕ → ℕ → EReal)
    (hK : ∀ (w : Fin 2048) (d : Fin 512), M3.view.read (Elt Ideal) X3 (ix3 0 w d) = K w.val d.val)
    (k1 : FVec Ideal S512x512 .bf16) (h1 : ∀ a d : Fin 512, k1 (ix2 a d) = 0)
    (w : Fin 1024) (d : Fin 512) :
    M9.view.read (Elt Ideal) (M9.view.writes (Elt Ideal) f9
      [⟨Rect.unit (s := S1024x512) ![512, 0] S512x512.size inb_S1024x512_S512x512_512_0,
      k0_pay3 (F := Ideal)
        (View.readAt (Elt Ideal) M3.view (Rect.unit (s := S1x2048x512) ![0, 0, 0] S1x512x512.size inb_S1x2048x512_S1x512x512_0_0_0).toLoadRect
          X3)⟩,
    ⟨Rect.unit (s := S1024x512) ![0, 0] S512x512.size inb_S1024x512_S512x512_0_0, k1⟩]) (ix2 w d) = padRows K w.val d.val := by
  refine (View.read_writes_apply_of_pieces M9.view f9 (fun y : S1024x512.Idx => padRows K (y 0).val (y 1).val) _ ?_ (ix2 w d) ?_).trans rfl
  · refine List.forall_mem_cons.2 ⟨fun x => ?_, List.forall_mem_cons.2 ⟨fun x => ?_, fun P hP => absurd hP List.not_mem_nil⟩⟩
    · obtain ⟨a, b, rfl⟩ : ∃ a b : Fin 512, x = (ix2 a b : S512x512.Idx) := ⟨x 0, x 1, by funext t; fin_cases t <;> rfl⟩
      have e : k0_pay3 (F := Ideal) (View.readAt (Elt Ideal) M3.view (Rect.unit (s := S1x2048x512) ![0, 0, 0] S1x512x512.size inb_S1x2048x512_S1x512x512_0_0_0).toLoadRect X3) (ix2 a b)
          = View.readAt (Elt Ideal) M3.view (Rect.unit (s := S1x2048x512) ![0, 0, 0] S1x512x512.size inb_S1x2048x512_S1x512x512_0_0_0).toLoadRect X3 (ix3 0 a b) := by
        pointwise [k0_pay3]
      refine e.trans ?_
      have ei : (Rect.unit (s := S1x2048x512) ![0, 0, 0] S1x512x512.size inb_S1x2048x512_S1x512x512_0_0_0).emb (ix3 0 a b)
          = (ix3 0 ⟨a.val, by omega⟩ b : S1x2048x512.Idx) := by
        funext t; fin_cases t <;> exact Fin.ext (by rw [emb_val]; simp [ix3])
      refine (congrArg (M3.view.read (Elt Ideal) X3) ei).trans ((hK _ _).trans ?_)
      show K a.val b.val = padRows K _ _
      rw [emb_val, emb_val]
      show K a.val b.val = padRows K (512 + a.val) (0 + b.val)
      unfold padRows
      rw [if_neg (by omega), Nat.add_sub_cancel_left, Nat.zero_add]
    · obtain ⟨a, b, rfl⟩ : ∃ a b : Fin 512, x = (ix2 a b : S512x512.Idx) := ⟨x 0, x 1, by funext t; fin_cases t <;> rfl⟩
      refine (h1 a b).trans ?_
      show (0 : EReal) = padRows K _ _
      rw [emb_val, emb_val]
      show (0 : EReal) = padRows K (0 + a.val) (0 + b.val)
      unfold padRows
      rw [if_pos (by omega)]
  · rcases Nat.lt_or_ge w.val 512 with h | h
    · refine ⟨_, List.mem_cons_of_mem _ List.mem_cons_self, (Rect.mem_set_unit (inb := inb_S1024x512_S512x512_0_0)).2 fun t => ?_⟩
      fin_cases t
      · exact ⟨Nat.zero_le _, (show w.val < 0 + 512 by omega)⟩
      · exact ⟨Nat.zero_le _, (show d.val < 0 + 512 by omega)⟩
    · refine ⟨_, List.mem_cons_self, (Rect.mem_set_unit (inb := inb_S1024x512_S512x512_512_0)).2 fun t => ?_⟩
      fin_cases t
      · exact ⟨h, (show w.val < 512 + 512 by omega)⟩
      · exact ⟨Nat.zero_le _, (show d.val < 0 + 512 by omega)⟩

/-- The zero tile. -/
theorem zero_pay1 (a d : Fin 512) : k0_pay1 (F := Ideal) (ix2 a d) = 0 := by
  pointwise [k0_pay1]

theorem zero_pay2 (a d : Fin 512) : k0_pay2 (F := Ideal) (ix2 a d) = 0 := by
  pointwise [k0_pay2]

section

variable (c : Dev nD) (i : grid0.Coords)
    (M2 : Memref sig .tc .vmem S1x512x512 .f32) (h2 : M2.IsWhole) (M3 : Memref sig .tc .vmem S1x2048x512 .bf16) (h3 : M3.IsWhole)
    (M4 : Memref sig .tc .vmem S1x2048x512 .bf16) (h4 : M4.IsWhole) (M5 : Memref sig .tc .vmem S4x128x576 .f32) (h5 : M5.IsWhole)
    (M6 : Memref sig .tc .vmem S1x512x512 .f32) (h6 : M6.IsWhole) (M7 : Memref sig .tc .vmem S2x4x128x576 .f32) (h7 : M7.IsWhole)
    (M8 : Memref sig .tc .vmem S2x4x128x576 .bf16) (h8 : M8.IsWhole) (M9 : Memref sig .tc .vmem S1024x512 .bf16) (h9 : M9.IsWhole)
    (M10 : Memref sig .tc .vmem S1024x512 .bf16) (h10 : M10.IsWhole)
    (X2 : BufTy.Contents (Elt Ideal) M2.view.ty) (X3 : BufTy.Contents (Elt Ideal) M3.view.ty)
    (X4 : BufTy.Contents (Elt Ideal) M4.view.ty) (X5 : BufTy.Contents (Elt Ideal) M5.view.ty)
    (Q K V : ℕ → ℕ → EReal) (B : ℕ → ℕ → ℕ → EReal)
    (hQ : ∀ (a d : Fin 512), M2.view.read (Elt Ideal) X2 (ix3 0 a d) = Q a.val d.val)
    (hK : ∀ (w : Fin 2048) (d : Fin 512), M3.view.read (Elt Ideal) X3 (ix3 0 w d) = K w.val d.val)
    (hV : ∀ (w : Fin 2048) (d : Fin 512), M4.view.read (Elt Ideal) X4 (ix3 0 w d) = V w.val d.val)
    (hB : ∀ (p : Fin 4) (r : Fin 128) (w : Fin 576), M5.view.read (Elt Ideal) X5 (ix3 p r w) = B p.val r.val w.val)
    (f6 : BufTy.Contents (Elt Ideal) M6.view.ty) (f7 : BufTy.Contents (Elt Ideal) M7.view.ty) (f8 : BufTy.Contents (Elt Ideal) M8.view.ty)
    (f9 : BufTy.Contents (Elt Ideal) M9.view.ty) (f10 : BufTy.Contents (Elt Ideal) M10.view.ty)

include hQ hK hV hB in
/-- What the body leaves in the output block at the first row block of a batch entry. -/
theorem first_read (hi : (i 1).val = 0) (y : S1x512x512.Idx) :
    M6.view.read (Elt Ideal) (M6.view.writes (Elt Ideal) f6
      (runFirst c i hi M2 h2 M3 h3 M4 h4 M5 h5 M6 h6 M7 h7 M8 h8 M9 h9 M10 h10 X2 X3 X4 X5 f6 f7 f8 f9 f10).1) y
      = at2 (pointO (i 1).val Q K V B) y := by
  rw [hi, pointO_first]
  unfold runFirst
  obtain ⟨hc1, hc2, hc3⟩ := conds_first i hi
  exact all1_read c i hi M2 h2 M3 h3 M4 h4 M5 h5 M6 h6 M7 h7 M8 h8 M9 h9 M10 h10 X2 X5 _ _ hc2 Q (padRows K) (padRows V) B hQ
    (pad_read9 M3 M9 X3 _ K hK _ zero_pay1) (pad_read9 M4 M10 X4 _ V hV _ zero_pay2) hB f6 f7 f8 y

include hQ hK hV hB in
/-- What the body leaves in the output block at a later row block of a batch entry. -/
theorem later_read (hi : (i 1).val ≠ 0) (y : S1x512x512.Idx) :
    M6.view.read (Elt Ideal) (M6.view.writes (Elt Ideal) f6
      (runLater c i hi M2 h2 M3 h3 M4 h4 M5 h5 M6 h6 M7 h7 M8 h8 M9 h9 M10 h10 X2 X3 X4 X5 f6 f7 f8 f9 f10).1) y
      = at2 (pointO (i 1).val Q K V B) y := by
  rw [pointO_later _ hi]
  unfold runLater
  obtain ⟨hc1, hc2, hc3⟩ := conds_later i hi
  exact all2_read c i hi M2 h2 M3 h3 M4 h4 M5 h5 M6 h6 M7 h7 M8 h8 M9 h9 M10 h10 X2 X3 X4 X5 hc3 Q K V B hQ hK hV hB f6 f7 f8 y

end

end Cert.Band.KI

end
-- ==== Proof.KVal.lean ====
module

public import proofs.«01_k».proof.Proof.KRun
public import Idealize.ShloMosaic.Lib.Pipeline.ValueKit.Geometry

@[expose] public section

noncomputable section

namespace Cert.Band.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

local notation "𝕄" => MT nD τ sig Unit (Elt Ideal) ℕ (UR sig nD τ) ℕ

/-- Both kinds of row block at once: from the four input blocks the body leaves the row block's output in the output block. -/
theorem runPoint (c : Dev nD) (i : grid0.Coords)
    (M2 : Memref sig .tc .vmem S1x512x512 .f32) (h2 : M2.IsWhole) (M3 : Memref sig .tc .vmem S1x2048x512 .bf16) (h3 : M3.IsWhole)
    (M4 : Memref sig .tc .vmem S1x2048x512 .bf16) (h4 : M4.IsWhole) (M5 : Memref sig .tc .vmem S4x128x576 .f32) (h5 : M5.IsWhole)
    (M6 : Memref sig .tc .vmem S1x512x512 .f32) (h6 : M6.IsWhole)
    (x2 : Vec Ideal S1x512x512 .f32) (x3 x4 : Vec Ideal S1x2048x512 .bf16) (x5 : Vec Ideal S4x128x576 .f32)
    (Q K V : ℕ → ℕ → EReal) (B : ℕ → ℕ → ℕ → EReal)
    (hQ : ∀ (a d : Fin 512), x2 (ix3 0 a d) = Q a.val d.val) (hK : ∀ (w : Fin 2048) (d : Fin 512), x3 (ix3 0 w d) = K w.val d.val)
    (hV : ∀ (w : Fin 2048) (d : Fin 512), x4 (ix3 0 w d) = V w.val d.val)
    (hB : ∀ (p : Fin 4) (r : Fin 128) (w : Fin 576), x5 (ix3 p r w) = B p.val r.val w.val)
    (E : Set ℕ) (Kt : PUnit → sProp 𝕄) :
    iprop(owns (c : Thread nD τ) M2 fullShare x2 ∗ owns (c : Thread nD τ) M3 fullShare x3
        ∗ owns (c : Thread nD τ) M4 fullShare x4 ∗ owns (c : Thread nD τ) M5 fullShare x5
        ∗ (∃ d, owns (c : Thread nD τ) M6 fullShare d)
        ∗ Pipeline.scopedRest (Ix := Unit) (Name := ℕ) (U := UR sig nD τ) (Lvl := ℕ) (Val := Elt Ideal) spec0 c
        ∗ (iprop(owns (c : Thread nD τ) M2 fullShare x2 ∗ owns (c : Thread nD τ) M3 fullShare x3
            ∗ owns (c : Thread nD τ) M4 fullShare x4 ∗ owns (c : Thread nD τ) M5 fullShare x5
            ∗ owns (c : Thread nD τ) M6 fullShare (at2 (pointO (i 1).val Q K V B) : Vec Ideal S1x512x512 .f32)
            ∗ Pipeline.scopedRest (Ix := Unit) (Name := ℕ) (U := UR sig nD τ) (Lvl := ℕ) (Val := Elt Ideal) spec0 c) -∗ Kt ⟨⟩))
      ⊢ wp frame (wpE (defs₀ (F := Ideal)) Variants.none c none) E
          (cc0_band_attn i M2 h2 M3 h3 M4 h4 M5 h5 M6 h6 (Memref.whole cc0_scratch0) (Memref.isWhole_whole _)
            (Memref.whole cc0_scratch1) (Memref.isWhole_whole _) (Memref.whole cc0_scratch2) (Memref.isWhole_whole _)
            (Memref.whole cc0_scratch3) (Memref.isWhole_whole _)) Kt := by
  rw [scratch_form]
  unfold owns
  iintro ⟨⟨%f2, %hf2, H2⟩, ⟨%f3, %hf3, H3⟩, ⟨%f4, %hf4, H4⟩, ⟨%f5, %hf5, H5⟩, ⟨%d6, %f6, -, H6⟩, ⟨⟨%f7, H7⟩, ⟨%f8, H8⟩, ⟨%f9, H9⟩, ⟨%f10, H10⟩⟩, Hk⟩
  rcases Classical.em ((i 1).val = 0) with hi | hi
  · iapply ((runFirst c i hi M2 h2 M3 h3 M4 h4 M5 h5 M6 h6 (Memref.whole cc0_scratch0) (Memref.isWhole_whole _)
            (Memref.whole cc0_scratch1) (Memref.isWhole_whole _) (Memref.whole cc0_scratch2) (Memref.isWhole_whole _)
            (Memref.whole cc0_scratch3) (Memref.isWhole_whole _) f2 f3 f4 f5 f6 f7 f8 f9 f10).2 E Kt)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H2, H3, H4, H5, H6, H7, H8, H9, H10⟩
    iapply Hk
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; swap; · iexact H6
                    ipureintro
                    exact funext fun y => first_read c i M2 h2 M3 h3 M4 h4 M5 h5 M6 h6 (Memref.whole cc0_scratch0) (Memref.isWhole_whole _)
                      (Memref.whole cc0_scratch1) (Memref.isWhole_whole _) (Memref.whole cc0_scratch2) (Memref.isWhole_whole _)
                      (Memref.whole cc0_scratch3) (Memref.isWhole_whole _) f2 f3 f4 f5 Q K V B (fun a d => (congrFun hf2 _).trans (hQ a d))
                      (fun w d => (congrFun hf3 _).trans (hK w d)) (fun w d => (congrFun hf4 _).trans (hV w d))
                      (fun p r w => (congrFun hf5 _).trans (hB p r w)) f6 f7 f8 f9 f10 hi y
    isplitl [H7]; · iexact H7
    isplitl [H8]; · iexact H8
    isplitl [H9]; · iexact H9
    iexact H10
  · iapply ((runLater c i hi M2 h2 M3 h3 M4 h4 M5 h5 M6 h6 (Memref.whole cc0_scratch0) (Memref.isWhole_whole _)
            (Memref.whole cc0_scratch1) (Memref.isWhole_whole _) (Memref.whole cc0_scratch2) (Memref.isWhole_whole _)
            (Memref.whole cc0_scratch3) (Memref.isWhole_whole _) f2 f3 f4 f5 f6 f7 f8 f9 f10).2 E Kt)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H2, H3, H4, H5, H6, H7, H8, H9, H10⟩
    iapply Hk
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; swap; · iexact H6
                    ipureintro
                    exact funext fun y => later_read c i M2 h2 M3 h3 M4 h4 M5 h5 M6 h6 (Memref.whole cc0_scratch0) (Memref.isWhole_whole _)
                      (Memref.whole cc0_scratch1) (Memref.isWhole_whole _) (Memref.whole cc0_scratch2) (Memref.isWhole_whole _)
                      (Memref.whole cc0_scratch3) (Memref.isWhole_whole _) f2 f3 f4 f5 Q K V B (fun a d => (congrFun hf2 _).trans (hQ a d))
                      (fun w d => (congrFun hf3 _).trans (hK w d)) (fun w d => (congrFun hf4 _).trans (hV w d))
                      (fun p r w => (congrFun hf5 _).trans (hB p r w)) f6 f7 f8 f9 f10 hi y
    isplitl [H7]; · iexact H7
    isplitl [H8]; · iexact H8
    isplitl [H9]; · iexact H9
    iexact H10

/-- An array of sixteen matrices as one function of natural numbers. -/
def nat3 (A : S16x2048x512.Idx → EReal) (b a d : ℕ) : EReal :=
  if h : b < 16 ∧ a < 2048 ∧ d < 512 then A (ix3 ⟨b, h.1⟩ ⟨a, h.2.1⟩ ⟨d, h.2.2⟩) else 0

/-- The pairs' bias as a function of natural numbers. -/
def natB (A : S4x128x576.Idx → EReal) (p r w : ℕ) : EReal :=
  if h : p < 4 ∧ r < 128 ∧ w < 576 then A (ix3 ⟨p, h.1⟩ ⟨r, h.2.1⟩ ⟨w, h.2.2⟩) else 0

theorem nat3_at (A : S16x2048x512.Idx → EReal) (y : S16x2048x512.Idx) (b a d : ℕ) (h0 : (y 0).val = b) (h1 : (y 1).val = a)
    (h2 : (y 2).val = d) : A y = nat3 A b a d := by
  subst h0 h1 h2
  unfold nat3
  rw [dif_pos ⟨(y 0).isLt, (y 1).isLt, (y 2).isLt⟩]
  congr 1
  funext t; fin_cases t <;> rfl

theorem natB_at (A : S4x128x576.Idx → EReal) (y : S4x128x576.Idx) (b a d : ℕ) (h0 : (y 0).val = b) (h1 : (y 1).val = a)
    (h2 : (y 2).val = d) : A y = natB A b a d := by
  subst h0 h1 h2
  unfold natB
  rw [dif_pos ⟨(y 0).isLt, (y 1).isLt, (y 2).isLt⟩]
  congr 1
  funext t; fin_cases t <;> rfl

variable (m : (ℓ : Loc nD τ sig) → Buf (Elt Ideal) ℓ) (ρ : Dev nD → PrngReg)

theorem index0 : ∀ t : Fin cfg0.N, win0_0.index t = ![(grid0.coords t 0).val, (grid0.coords t 1).val, 0] := by decide +kernel
theorem index1 : ∀ t : Fin cfg0.N, win0_1.index t = ![(grid0.coords t 0).val, 0, 0] := by decide +kernel
theorem index2 : ∀ t : Fin cfg0.N, win0_2.index t = ![(grid0.coords t 0).val, 0, 0] := by decide +kernel
theorem index3 : ∀ t : Fin cfg0.N, win0_3.index t = ![0, 0, 0] := by decide +kernel
theorem index4 : ∀ t : Fin cfg0.N, win0_4.index t = ![(grid0.coords t 0).val, (grid0.coords t 1).val, 0] := by decide +kernel

theorem blk_q (c : Dev nD) (t : Fin cfg0.N) (a d : Fin 512) : iblk m c 0 t (ix3 0 a d)
    = fromRow (512 * (grid0.coords t 1).val) (nat3 (V m c main_arg0) (grid0.coords t 0).val) a.val d.val := by
  refine nat3_at (V m c main_arg0) ((win0_0.blk t).view.emb (ix3 0 a d)) _ _ _ ?_ ?_ ?_ <;> blk_simp [index0] <;> simp [ix3] <;> omega

theorem blk_k (c : Dev nD) (t : Fin cfg0.N) (a : Fin 2048) (d : Fin 512) : iblk m c 1 t (ix3 0 a d)
    = nat3 (V m c main_arg1) (grid0.coords t 0).val a.val d.val := by
  refine nat3_at (V m c main_arg1) ((win0_1.blk t).view.emb (ix3 0 a d)) _ _ _ ?_ ?_ ?_ <;> blk_simp [index1] <;> simp [ix3] <;> omega

theorem blk_v (c : Dev nD) (t : Fin cfg0.N) (a : Fin 2048) (d : Fin 512) : iblk m c 2 t (ix3 0 a d)
    = nat3 (V m c main_arg2) (grid0.coords t 0).val a.val d.val := by
  refine nat3_at (V m c main_arg2) ((win0_2.blk t).view.emb (ix3 0 a d)) _ _ _ ?_ ?_ ?_ <;> blk_simp [index2] <;> simp [ix3] <;> omega

theorem blk_b (c : Dev nD) (t : Fin cfg0.N) (p : Fin 4) (r : Fin 128) (w : Fin 576) : iblk m c 3 t (ix3 p r w)
    = natB (V m c main_v138) p.val r.val w.val := by
  refine natB_at (V m c main_v138) ((win0_3.blk t).view.emb (ix3 p r w)) _ _ _ ?_ ?_ ?_ <;> blk_simp [index3] <;> simp [ix3] <;> omega

/-- What the body leaves in the output block at point `t`. -/
def gpoint (c : Dev nD) (t : Fin cfg0.N) : Vec Ideal S1x512x512 .f32 :=
  at2 (pointO (grid0.coords t 1).val (fromRow (512 * (grid0.coords t 1).val) (nat3 (V m c main_arg0) (grid0.coords t 0).val))
    (nat3 (V m c main_arg1) (grid0.coords t 0).val) (nat3 (V m c main_arg2) (grid0.coords t 0).val) (natB (V m c main_v138)))

/-- The proof data: each input's array as the region finds it and its block after the body; the output block at the
    row block's output; the invariant the core's scratch and generator at anything; full shares; nothing owed. -/
def gdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => gpoint m c t
  Φ _ := Pipeline.ΦA spec0 c
  q _ := fullShare
  owed _ := 0

theorem gA_eq (c : Dev nD) (w : Fin cfg0.W) : (gdats m 0 c).A w = V m c (Pipeline.arrRef spec0 w) := rfl
theorem gafter_0 (c : Dev nD) (t : Fin cfg0.N) : (gdats m 0 c).after 0 t = iblk m c 0 t := by dsimp only [gdats]
theorem gafter_1 (c : Dev nD) (t : Fin cfg0.N) : (gdats m 0 c).after 1 t = iblk m c 1 t := by dsimp only [gdats]
theorem gafter_2 (c : Dev nD) (t : Fin cfg0.N) : (gdats m 0 c).after 2 t = iblk m c 2 t := by dsimp only [gdats]
theorem gafter_3 (c : Dev nD) (t : Fin cfg0.N) : (gdats m 0 c).after 3 t = iblk m c 3 t := by dsimp only [gdats]
theorem gafter_4 (c : Dev nD) (t : Fin cfg0.N) : (gdats m 0 c).after 4 t = gpoint m c t := by dsimp only [gdats]

theorem gbefore_0 (c : Dev nD) (t : Fin cfg0.N) (d) : (gdats m 0 c).before 0 t d = iblk m c 0 t :=
  before0_0_of m (gdats m 0 c) (gA_eq m c 0) (gafter_0 m c) t d
theorem gbefore_1 (c : Dev nD) (t : Fin cfg0.N) (d) : (gdats m 0 c).before 1 t d = iblk m c 1 t :=
  before0_1_of m (gdats m 0 c) (gA_eq m c 1) (gafter_1 m c) t d
theorem gbefore_2 (c : Dev nD) (t : Fin cfg0.N) (d) : (gdats m 0 c).before 2 t d = iblk m c 2 t :=
  before0_2_of m (gdats m 0 c) (gA_eq m c 2) (gafter_2 m c) t d
theorem gbefore_3 (c : Dev nD) (t : Fin cfg0.N) (d) : (gdats m 0 c).before 3 t d = iblk m c 3 t :=
  before0_3_of m (gdats m 0 c) (gA_eq m c 3) (gafter_3 m c) t d

/-- No point leaves the output block alone: one of the two loops runs at each. -/
theorem busy4 (i : grid0.Coords) : idle0 4 i = false := by
  show (!(k0_cond2 i == 1#1) && !(k0_cond3 i == 1#1)) = false
  rcases Classical.em ((i 1).val = 0) with hi | hi
  · rw [(conds_first i hi).2.1]; rfl
  · rw [(conds_later i hi).2.2]; simp

theorem gbody (c : Dev nD) : BodyObligation (gdats m 0 c) (defs₀ (F := Ideal)) Variants.none () Set.univ := fun t => by
  rw [bigSep_W0, bigSep_W0]
  sl_whnfR [defs₀, Defs.onTc]
  simp only [gbefore_0, gbefore_1, gbefore_2, gbefore_3]
  rw [show (gdats m 0 c).Φ t.succ = (gdats m 0 c).Φ t.castSucc from rfl,
    show (gdats m 0 c).owesAt () t.succ = (gdats m 0 c).owesAt () t.castSucc from rfl, gafter_0, gafter_1, gafter_2, gafter_3, gafter_4,
    show (gdats m 0 c).Φ t.castSucc = Pipeline.ΦA spec0 c from rfl]
  rw [busy4 (grid0.coords t)]
  unfold Pipeline.ΦA
  iintro ⟨⟨HS, Hg⟩, Ho, ⟨%d0, H0⟩, ⟨%d1, H1⟩, ⟨%d2, H2⟩, ⟨%d3, H3⟩, ⟨%d4, H4⟩⟩
  iapply (runPoint c _ _ _ _ _ _ _ _ _ _ _ (iblk m c 0 t) (iblk m c 1 t) (iblk m c 2 t) (iblk m c 3 t)
    (fromRow (512 * (grid0.coords t 1).val) (nat3 (V m c main_arg0) (grid0.coords t 0).val))
    (nat3 (V m c main_arg1) (grid0.coords t 0).val) (nat3 (V m c main_arg2) (grid0.coords t 0).val) (natB (V m c main_v138))
    (blk_q m c t) (blk_k m c t) (blk_v m c t) (blk_b m c t) Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  iexact H4

/-- The whole result of the call: at batch entry `b`, row `R` and lane `C`. -/
def gout (c : Dev nD) : S16x2048x512.Idx → EReal := fun y =>
  attO (nat3 (V m c main_arg0) (y 0).val) (nat3 (V m c main_arg1) (y 0).val) (nat3 (V m c main_arg2) (y 0).val) (natB (V m c main_v138))
    (y 1).val (y 2).val

/-- The output's array after every point. -/
theorem garr (c : Dev nD) : (gdats m 0 c).arrAt 4 cfg0.N = gout m c := by
  refine (gdats m 0 c).arrAt_eq_of_covers 4 _ (by decide +kernel) fun t hf y => ?_
  blk_simp
  rw [gafter_4]
  refine (pointO_eq _ _ _ _ _ _ _).trans ?_
  have e0 : (((win0_4.blk t).view.emb y) 0 : ℕ) = (grid0.coords t 0).val := by
    have h0 : (y 0).val < 1 := (y 0).isLt
    blk_simp [index4]
  have e1 : (((win0_4.blk t).view.emb y) 1 : ℕ) = 512 * (grid0.coords t 1).val + (y 1).val := by
    blk_simp [index4]; simp; try omega
  have e2 : (((win0_4.blk t).view.emb y) 2 : ℕ) = (y 2).val := by
    blk_simp [index4]
  unfold gout
  rw [e0, e1, e2]

set_option backward.isDefEq.respectTransparency.types false in
/-- From any memory with zero counters: every run of @main ends with the call's result at `gout` and the arguments unchanged. -/
theorem grun : θ_run defs (onTc (τ := τ) (main (F := Ideal))) ⟨m, fun _ => 0, ρ⟩ (fun r => ∀ c : Dev nD,
      r.2.mem ((c.tc : Thread nD τ).loc main_v139) = gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_frame cfgs (gdats m) (0 : Fin 1) launch0 defs₀ Variants.none m ρ main
    (hbody := fun c => (gbody m c).loose) (hshare := fun c => (gdats m 0 c).share_full fun _ => rfl)
    (howed := fun _ _ => rfl) (V := V m) (hmain := hmain m Variants.none) (hA := fun _ _ => rfl) (hΦ := fun _ _ => rfl)
    (Q' := _) (hQ' := fun r h c => ⟨((h.1 c).1 4).trans (garr m c),
      ((h.1 c).1 0).trans (((gdats m 0 c).arrAt_in 0 rfl _).trans ((gA_eq m c 0).trans (V_main_arg0 m c))),
      ((h.1 c).1 1).trans (((gdats m 0 c).arrAt_in 1 rfl _).trans ((gA_eq m c 1).trans (V_main_arg1 m c))),
      ((h.1 c).1 2).trans (((gdats m 0 c).arrAt_in 2 rfl _).trans ((gA_eq m c 2).trans (V_main_arg2 m c))),
      ((h.1 c).2 main_arg3 (Pipeline.mem_restRefs_of main_arg3 (by decide) (by decide))).trans (V_main_arg3 m c)⟩)

end Cert.Band.KI

end
-- ==== Proof.KBias.lean ====
module

public import proofs.«01_k».proof.Proof.Gen.KernelIdeal.Frame
public import Idealize.ShloMosaic.Lib.StableHlo.RunRead
public import Idealize.ShloMosaic.Lib.Pipeline.Value
public import Mathlib.Tactic.FinCases
public import Idealize.ShloMosaic.Lib.Pointwise

@[expose] public section

noncomputable section

namespace Cert.Band.KI

open Cert.KernelIdeal Cert.KernelIdeal.Gen
open Idealize.ShloMosaic Idealize.ShloMosaic.TcCoe
open Idealize.ShloMosaic.StableHlo

/-- Sixteen one-row slabs stacked: row `r` is slab `r`. -/
theorem stack16 (f : Fin 16 → FVec Ideal S8x1x576 .f32) (a : Fin 8) (r : Fin 16) (w : Fin 576) :
    concatenate S8x16x576 1 [⟨S8x1x576, f 0⟩, ⟨S8x1x576, f 1⟩, ⟨S8x1x576, f 2⟩, ⟨S8x1x576, f 3⟩, ⟨S8x1x576, f 4⟩, ⟨S8x1x576, f 5⟩, ⟨S8x1x576, f 6⟩, ⟨S8x1x576, f 7⟩, ⟨S8x1x576, f 8⟩, ⟨S8x1x576, f 9⟩, ⟨S8x1x576, f 10⟩, ⟨S8x1x576, f 11⟩, ⟨S8x1x576, f 12⟩, ⟨S8x1x576, f 13⟩, ⟨S8x1x576, f 14⟩, ⟨S8x1x576, f 15⟩] concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 (ix3 a r w) = f r (ix3 a 0 w) :=
  concatenate_ofFn_apply (s₁ := S8x1x576) 1 f concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 rfl 1 rfl (ix3 a r w) r (Nat.div_one _) (ix3 a 0 w) (Nat.mod_one _).symm
    (by intro b hb; fin_cases b <;> first | rfl | exact absurd rfl hb)

/-- Four stacks of sixteen rows stacked: row `r` is row `r % 16` of stack `r / 16`. -/
theorem stack4 (f : Fin 4 → FVec Ideal S8x16x576 .f32) (a : Fin 8) (r : Fin 64) (w : Fin 576) :
    concatenate S8x64x576 1 [⟨S8x16x576, f 0⟩, ⟨S8x16x576, f 1⟩, ⟨S8x16x576, f 2⟩, ⟨S8x16x576, f 3⟩] concatenates_S8x16x576_S8x16x576_S8x16x576_S8x16x576_S8x64x576_d1 (ix3 a r w)
      = f ⟨r.val / 16, by omega⟩ (ix3 a ⟨r.val % 16, by omega⟩ w) :=
  concatenate_ofFn_apply (s₁ := S8x16x576) 1 f concatenates_S8x16x576_S8x16x576_S8x16x576_S8x16x576_S8x64x576_d1 rfl 16 rfl (ix3 a r w) ⟨r.val / 16, by omega⟩ rfl (ix3 a ⟨r.val % 16, by omega⟩ w) rfl
    (by intro b hb; fin_cases b <;> first | rfl | exact absurd rfl hb)

/-- The bias table's columns, extended by the last one and reversed. -/
def revT (T : FVec Ideal S8x320 .f32) : FVec Ideal S8x639 .f32 :=
  Host.reverse [1] (concatenate S8x639 1 [⟨S8x320, T⟩, ⟨S8x319, broadcastInDim S8x319 ![0, 1] bcast_S8x1_S8x319_0_1 (extractStridedSlice S8x1 ![0, 319] T slices_S8x320_S8x1_0_319)⟩] concatenates_S8x320_S8x319_S8x639_d1)

/-- A row's slice of the reversed columns is inside them. -/
theorem slabFits (i : Fin 64) : S8x639.Slices ![0, 63 - i.val] S8x576 := by
  refine ⟨rfl, fun a => ?_⟩
  have := i.isLt
  fin_cases a
  · show 0 + 8 ≤ 8
    omega
  · show 63 - i.val + 576 ≤ 639
    omega

/-- The rows of a chunk's bias, one slab per query. -/
def slabT (R : FVec Ideal S8x639 .f32) (i : Fin 64) : FVec Ideal S8x1x576 .f32 :=
  broadcastInDim S8x1x576 ![0, 2] bcast_S8x576_S8x1x576_0_2 (extractStridedSlice S8x576 ![0, 63 - i.val] R (slabFits i))

/-- Sixteen of them stacked. -/
def stackT (R : FVec Ideal S8x639 .f32) (g : Fin 4) : FVec Ideal S8x16x576 .f32 :=
  concatenate S8x16x576 1 [⟨S8x1x576, slabT R ⟨16 * g.val + 0, by omega⟩⟩, ⟨S8x1x576, slabT R ⟨16 * g.val + 1, by omega⟩⟩, ⟨S8x1x576, slabT R ⟨16 * g.val + 2, by omega⟩⟩, ⟨S8x1x576, slabT R ⟨16 * g.val + 3, by omega⟩⟩, ⟨S8x1x576, slabT R ⟨16 * g.val + 4, by omega⟩⟩, ⟨S8x1x576, slabT R ⟨16 * g.val + 5, by omega⟩⟩, ⟨S8x1x576, slabT R ⟨16 * g.val + 6, by omega⟩⟩, ⟨S8x1x576, slabT R ⟨16 * g.val + 7, by omega⟩⟩, ⟨S8x1x576, slabT R ⟨16 * g.val + 8, by omega⟩⟩, ⟨S8x1x576, slabT R ⟨16 * g.val + 9, by omega⟩⟩, ⟨S8x1x576, slabT R ⟨16 * g.val + 10, by omega⟩⟩, ⟨S8x1x576, slabT R ⟨16 * g.val + 11, by omega⟩⟩, ⟨S8x1x576, slabT R ⟨16 * g.val + 12, by omega⟩⟩, ⟨S8x1x576, slabT R ⟨16 * g.val + 13, by omega⟩⟩, ⟨S8x1x576, slabT R ⟨16 * g.val + 14, by omega⟩⟩, ⟨S8x1x576, slabT R ⟨16 * g.val + 15, by omega⟩⟩] concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1

/-- The bias the kernel is handed, of the table. -/
def biasT (T : FVec Ideal S8x320 .f32) : FVec Ideal S4x128x576 .f32 :=
  shapeCast S4x128x576 (shapeCast S1x4x128x576 (concatenate S8x64x576 1 [⟨S8x16x576, stackT (revT T) 0⟩, ⟨S8x16x576, stackT (revT T) 1⟩, ⟨S8x16x576, stackT (revT T) 2⟩, ⟨S8x16x576, stackT (revT T) 3⟩] concatenates_S8x16x576_S8x16x576_S8x16x576_S8x16x576_S8x64x576_d1) shapeCasts_S8x64x576_S1x4x128x576) shapeCasts_S1x4x128x576_S4x128x576

/-- The extended, reversed columns at an index. -/
theorem revT_apply (T : FVec Ideal S8x320 .f32) (a : Fin 8) (j : Fin 639) :
    revT T (ix2 a j) = T (ix2 a ⟨min (638 - j.val) 319, by omega⟩) := by
  unfold revT
  pointwise
  show (if h : j.rev.val < 320 then T (ix2 a ⟨j.rev.val, h⟩) else T (ix2 a 319)) = _
  have hv : j.rev.val = 638 - j.val := by rw [Fin.val_rev]; omega
  by_cases h : j.rev.val < 320
  · rw [dif_pos h]
    refine congrArg T (congrArg (ix2 a) (Fin.ext ?_))
    show j.rev.val = min (638 - j.val) 319
    omega
  · rw [dif_neg h]
    refine congrArg T (congrArg (ix2 a) (Fin.ext ?_))
    show 319 = min (638 - j.val) 319
    omega

/-- A slab at an index. -/
theorem slabT_apply (R : FVec Ideal S8x639 .f32) (i : Fin 64) (a : Fin 8) (w : Fin 576) :
    slabT R i (ix3 a 0 w) = R (ix2 a ⟨63 - i.val + w.val, by omega⟩) := by
  unfold slabT
  pointwise

/-- The stacked slabs at an index. -/
theorem stackT_apply (R : FVec Ideal S8x639 .f32) (g : Fin 4) (a : Fin 8) (r : Fin 16) (w : Fin 576) :
    stackT R g (ix3 a r w) = R (ix2 a ⟨63 - (16 * g.val + r.val) + w.val, by omega⟩) :=
  (stack16 (fun k => slabT R ⟨16 * g.val + k.val, by omega⟩) a r w).trans (slabT_apply R _ a w)

/-- The bias the kernel is handed at an index: the table's column for the query and the window's position. -/
theorem biasT_apply (T : FVec Ideal S8x320 .f32) (p : Fin 4) (r : Fin 128) (w : Fin 576) :
    biasT T (ix3 p r w) = T (ix2 ⟨2 * p.val + r.val / 64, by omega⟩ ⟨min (r.val % 64 + 575 - w.val) 319, by omega⟩) := by
  unfold biasT
  have key : ∀ (a : Fin 8) (r : Fin 64) (w : Fin 576), _ = stackT (revT T) ⟨r.val / 16, by omega⟩ (ix3 a ⟨r.val % 16, by omega⟩ w) := stack4 (fun g => stackT (revT T) g)
  generalize concatenate S8x64x576 1 [⟨S8x16x576, stackT (revT T) 0⟩, ⟨S8x16x576, stackT (revT T) 1⟩, ⟨S8x16x576, stackT (revT T) 2⟩, ⟨S8x16x576, stackT (revT T) 3⟩] concatenates_S8x16x576_S8x16x576_S8x16x576_S8x16x576_S8x64x576_d1 = Y at key ⊢
  pointwise
  refine (key _ _ w).trans ?_
  rw [stackT_apply, revT_apply]
  refine congrArg T (congrArg₂ ix2 (Fin.ext ?_) (Fin.ext ?_))
  · show p.val * 2 + r.val / 64 = 2 * p.val + r.val / 64
    omega
  · show min (638 - (63 - (16 * (r.val % 64 / 16) + r.val % 64 % 16) + w.val)) 319 = min (r.val % 64 + 575 - w.val) 319
    omega

end Cert.Band.KI

end
-- ==== Proof.KBiasB.lean ====
module

public import proofs.«01_k».proof.Proof.KBias

@[expose] public section

noncomputable section

namespace Cert.Band.KI

open Cert.KernelIdeal Cert.KernelIdeal.Gen
open Idealize.ShloMosaic Idealize.ShloMosaic.TcCoe
open Idealize.ShloMosaic.StableHlo

/-- The operations computing the slices, of the reversed table. -/
def opsB : List (HloOp τ sig (Elt Ideal)) := (hostOps0.drop 4).take 64

/-- What they leave in the result of number 0. -/
theorem readB0 (W : Valuation τ sig (Elt Ideal)) : StableHlo.after opsB W (Proc.devRef .tc main_v4) = (extractStridedSlice S8x576 ![0, 63] (W (Proc.devRef .tc main_v3) : FVec Ideal S8x639 .f32) slices_S8x639_S8x576_0_63 : FVec Ideal S8x576 .f32) := by
  simp only [opsB, hostOps0, List.drop_succ_cons, List.drop_zero, List.take_succ_cons, List.take_zero]
  after_reads_simp
/-- What they leave in the result of number 1. -/
theorem readB1 (W : Valuation τ sig (Elt Ideal)) : StableHlo.after opsB W (Proc.devRef .tc main_v5) = (extractStridedSlice S8x576 ![0, 62] (W (Proc.devRef .tc main_v3) : FVec Ideal S8x639 .f32) slices_S8x639_S8x576_0_62 : FVec Ideal S8x576 .f32) := by
  simp only [opsB, hostOps0, List.drop_succ_cons, List.drop_zero, List.take_succ_cons, List.take_zero]
  after_reads_simp
/-- What they leave in the result of number 2. -/
theorem readB2 (W : Valuation τ sig (Elt Ideal)) : StableHlo.after opsB W (Proc.devRef .tc main_v6) = (extractStridedSlice S8x576 ![0, 61] (W (Proc.devRef .tc main_v3) : FVec Ideal S8x639 .f32) slices_S8x639_S8x576_0_61 : FVec Ideal S8x576 .f32) := by
  simp only [opsB, hostOps0, List.drop_succ_cons, List.drop_zero, List.take_succ_cons, List.take_zero]
  after_reads_simp
/-- What they leave in the result of number 3. -/
theorem readB3 (W : Valuation τ sig (Elt Ideal)) : StableHlo.after opsB W (Proc.devRef .tc main_v7) = (extractStridedSlice S8x576 ![0, 60] (W (Proc.devRef .tc main_v3) : FVec Ideal S8x639 .f32) slices_S8x639_S8x576_0_60 : FVec Ideal S8x576 .f32) := by
  simp only [opsB, hostOps0, List.drop_succ_cons, List.drop_zero, List.take_succ_cons, List.take_zero]
  after_reads_simp
/-- What they leave in the result of number 4. -/
theorem readB4 (W : Valuation τ sig (Elt Ideal)) : StableHlo.after opsB W (Proc.devRef .tc main_v8) = (extractStridedSlice S8x576 ![0, 59] (W (Proc.devRef .tc main_v3) : FVec Ideal S8x639 .f32) slices_S8x639_S8x576_0_59 : FVec Ideal S8x576 .f32) := by
  simp only [opsB, hostOps0, List.drop_succ_cons, List.drop_zero, List.take_succ_cons, List.take_zero]
  after_reads_simp
/-- What they leave in the result of number 5. -/
theorem readB5 (W : Valuation τ sig (Elt Ideal)) : StableHlo.after opsB W (Proc.devRef .tc main_v9) = (extractStridedSlice S8x576 ![0, 58] (W (Proc.devRef .tc main_v3) : FVec Ideal S8x639 .f32) slices_S8x639_S8x576_0_58 : FVec Ideal S8x576 .f32) := by
  simp only [opsB, hostOps0, List.drop_succ_cons, List.drop_zero, List.take_succ_cons, List.take_zero]
  after_reads_simp
/-- What they leave in the result of number 6. -/
theorem readB6 (W : Valuation τ sig (Elt Ideal)) : StableHlo.after opsB W (Proc.devRef .tc main_v10) = (extractStridedSlice S8x576 ![0, 57] (W (Proc.devRef .tc main_v3) : FVec Ideal S8x639 .f32) slices_S8x639_S8x576_0_57 : FVec Ideal S8x576 .f32) := by
  simp only [opsB, hostOps0, List.drop_succ_cons, List.drop_zero, List.take_succ_cons, List.take_zero]
  after_reads_simp
/-- What they leave in the result of number 7. -/
theorem readB7 (W : Valuation τ sig (Elt Ideal)) : StableHlo.after opsB W (Proc.devRef .tc main_v11) = (extractStridedSlice S8x576 ![0, 56] (W (Proc.devRef .tc main_v3) : FVec Ideal S8x639 .f32) slices_S8x639_S8x576_0_56 : FVec Ideal S8x576 .f32) := by
  simp only [opsB, hostOps0, List.drop_succ_cons, List.drop_zero, List.take_succ_cons, List.take_zero]
  after_reads_simp
/-- What they leave in the result of number 8. -/
theorem readB8 (W : Valuation τ sig (Elt Ideal)) : StableHlo.after opsB W (Proc.devRef .tc main_v12) = (extractStridedSlice S8x576 ![0, 55] (W (Proc.devRef .tc main_v3) : FVec Ideal S8x639 .f32) slices_S8x639_S8x576_0_55 : FVec Ideal S8x576 .f32) := by
  simp only [opsB, hostOps0, List.drop_succ_cons, List.drop_zero, List.take_succ_cons, List.take_zero]
  after_reads_simp
/-- What they leave in the result of number 9. -/
theorem readB9 (W : Valuation τ sig (Elt Ideal)) : StableHlo.after opsB W (Proc.devRef .tc main_v13) = (extractStridedSlice S8x576 ![0, 54] (W (Proc.devRef .tc main_v3) : FVec Ideal S8x639 .f32) slices_S8x639_S8x576_0_54 : FVec Ideal S8x576 .f32) := by
  simp only [opsB, hostOps0, List.drop_succ_cons, List.drop_zero, List.take_succ_cons, List.take_zero]
  after_reads_simp
/-- What they leave in the result of number 10. -/
theorem readB10 (W : Valuation τ sig (Elt Ideal)) : StableHlo.after opsB W (Proc.devRef .tc main_v14) = (extractStridedSlice S8x576 ![0, 53] (W (Proc.devRef .tc main_v3) : FVec Ideal S8x639 .f32) slices_S8x639_S8x576_0_53 : FVec Ideal S8x576 .f32) := by
  simp only [opsB, hostOps0, List.drop_succ_cons, List.drop_zero, List.take_succ_cons, List.take_zero]
  after_reads_simp
/-- What they leave in the result of number 11. -/
theorem readB11 (W : Valuation τ sig (Elt Ideal)) : StableHlo.after opsB W (Proc.devRef .tc main_v15) = (extractStridedSlice S8x576 ![0, 52] (W (Proc.devRef .tc main_v3) : FVec Ideal S8x639 .f32) slices_S8x639_S8x576_0_52 : FVec Ideal S8x576 .f32) := by
  simp only [opsB, hostOps0, List.drop_succ_cons, List.drop_zero, List.take_succ_cons, List.take_zero]
  after_reads_simp
/-- What they leave in the result of number 12. -/
theorem readB12 (W : Valuation τ sig (Elt Ideal)) : StableHlo.after opsB W (Proc.devRef .tc main_v16) = (extractStridedSlice S8x576 ![0, 51] (W (Proc.devRef .tc main_v3) : FVec Ideal S8x639 .f32) slices_S8x639_S8x576_0_51 : FVec Ideal S8x576 .f32) := by
  simp only [opsB, hostOps0, List.drop_succ_cons, List.drop_zero, List.take_succ_cons, List.take_zero]
  after_reads_simp
/-- What they leave in the result of number 13. -/
theorem readB13 (W : Valuation τ sig (Elt Ideal)) : StableHlo.after opsB W (Proc.devRef .tc main_v17) = (extractStridedSlice S8x576 ![0, 50] (W (Proc.devRef .tc main_v3) : FVec Ideal S8x639 .f32) slices_S8x639_S8x576_0_50 : FVec Ideal S8x576 .f32) := by
  simp only [opsB, hostOps0, List.drop_succ_cons, List.drop_zero, List.take_succ_cons, List.take_zero]
  after_reads_simp
/-- What they leave in the result of number 14. -/
theorem readB14 (W : Valuation τ sig (Elt Ideal)) : StableHlo.after opsB W (Proc.devRef .tc main_v18) = (extractStridedSlice S8x576 ![0, 49] (W (Proc.devRef .tc main_v3) : FVec Ideal S8x639 .f32) slices_S8x639_S8x576_0_49 : FVec Ideal S8x576 .f32) := by
  simp only [opsB, hostOps0, List.drop_succ_cons, List.drop_zero, List.take_succ_cons, List.take_zero]
  after_reads_simp
/-- What they leave in the result of number 15. -/
theorem readB15 (W : Valuation τ sig (Elt Ideal)) : StableHlo.after opsB W (Proc.devRef .tc main_v19) = (extractStridedSlice S8x576 ![0, 48] (W (Proc.devRef .tc main_v3) : FVec Ideal S8x639 .f32) slices_S8x639_S8x576_0_48 : FVec Ideal S8x576 .f32) := by
  simp only [opsB, hostOps0, List.drop_succ_cons, List.drop_zero, List.take_succ_cons, List.take_zero]
  after_reads_simp
/-- What they leave in the result of number 16. -/
theorem readB16 (W : Valuation τ sig (Elt Ideal)) : StableHlo.after opsB W (Proc.devRef .tc main_v20) = (extractStridedSlice S8x576 ![0, 47] (W (Proc.devRef .tc main_v3) : FVec Ideal S8x639 .f32) slices_S8x639_S8x576_0_47 : FVec Ideal S8x576 .f32) := by
  simp only [opsB, hostOps0, List.drop_succ_cons, List.drop_zero, List.take_succ_cons, List.take_zero]
  after_reads_simp
/-- What they leave in the result of number 17. -/
theorem readB17 (W : Valuation τ sig (Elt Ideal)) : StableHlo.after opsB W (Proc.devRef .tc main_v21) = (extractStridedSlice S8x576 ![0, 46] (W (Proc.devRef .tc main_v3) : FVec Ideal S8x639 .f32) slices_S8x639_S8x576_0_46 : FVec Ideal S8x576 .f32) := by
  simp only [opsB, hostOps0, List.drop_succ_cons, List.drop_zero, List.take_succ_cons, List.take_zero]
  after_reads_simp
/-- What they leave in the result of number 18. -/
theorem readB18 (W : Valuation τ sig (Elt Ideal)) : StableHlo.after opsB W (Proc.devRef .tc main_v22) = (extractStridedSlice S8x576 ![0, 45] (W (Proc.devRef .tc main_v3) : FVec Ideal S8x639 .f32) slices_S8x639_S8x576_0_45 : FVec Ideal S8x576 .f32) := by
  simp only [opsB, hostOps0, List.drop_succ_cons, List.drop_zero, List.take_succ_cons, List.take_zero]
  after_reads_simp
/-- What they leave in the result of number 19. -/
theorem readB19 (W : Valuation τ sig (Elt Ideal)) : StableHlo.after opsB W (Proc.devRef .tc main_v23) = (extractStridedSlice S8x576 ![0, 44] (W (Proc.devRef .tc main_v3) : FVec Ideal S8x639 .f32) slices_S8x639_S8x576_0_44 : FVec Ideal S8x576 .f32) := by
  simp only [opsB, hostOps0, List.drop_succ_cons, List.drop_zero, List.take_succ_cons, List.take_zero]
  after_reads_simp
/-- What they leave in the result of number 20. -/
theorem readB20 (W : Valuation τ sig (Elt Ideal)) : StableHlo.after opsB W (Proc.devRef .tc main_v24) = (extractStridedSlice S8x576 ![0, 43] (W (Proc.devRef .tc main_v3) : FVec Ideal S8x639 .f32) slices_S8x639_S8x576_0_43 : FVec Ideal S8x576 .f32) := by
  simp only [opsB, hostOps0, List.drop_succ_cons, List.drop_zero, List.take_succ_cons, List.take_zero]
  after_reads_simp
/-- What they leave in the result of number 21. -/
theorem readB21 (W : Valuation τ sig (Elt Ideal)) : StableHlo.after opsB W (Proc.devRef .tc main_v25) = (extractStridedSlice S8x576 ![0, 42] (W (Proc.devRef .tc main_v3) : FVec Ideal S8x639 .f32) slices_S8x639_S8x576_0_42 : FVec Ideal S8x576 .f32) := by
  simp only [opsB, hostOps0, List.drop_succ_cons, List.drop_zero, List.take_succ_cons, List.take_zero]
  after_reads_simp
/-- What they leave in the result of number 22. -/
theorem readB22 (W : Valuation τ sig (Elt Ideal)) : StableHlo.after opsB W (Proc.devRef .tc main_v26) = (extractStridedSlice S8x576 ![0, 41] (W (Proc.devRef .tc main_v3) : FVec Ideal S8x639 .f32) slices_S8x639_S8x576_0_41 : FVec Ideal S8x576 .f32) := by
  simp only [opsB, hostOps0, List.drop_succ_cons, List.drop_zero, List.take_succ_cons, List.take_zero]
  after_reads_simp
/-- What they leave in the result of number 23. -/
theorem readB23 (W : Valuation τ sig (Elt Ideal)) : StableHlo.after opsB W (Proc.devRef .tc main_v27) = (extractStridedSlice S8x576 ![0, 40] (W (Proc.devRef .tc main_v3) : FVec Ideal S8x639 .f32) slices_S8x639_S8x576_0_40 : FVec Ideal S8x576 .f32) := by
  simp only [opsB, hostOps0, List.drop_succ_cons, List.drop_zero, List.take_succ_cons, List.take_zero]
  after_reads_simp
/-- What they leave in the result of number 24. -/
theorem readB24 (W : Valuation τ sig (Elt Ideal)) : StableHlo.after opsB W (Proc.devRef .tc main_v28) = (extractStridedSlice S8x576 ![0, 39] (W (Proc.devRef .tc main_v3) : FVec Ideal S8x639 .f32) slices_S8x639_S8x576_0_39 : FVec Ideal S8x576 .f32) := by
  simp only [opsB, hostOps0, List.drop_succ_cons, List.drop_zero, List.take_succ_cons, List.take_zero]
  after_reads_simp
/-- What they leave in the result of number 25. -/
theorem readB25 (W : Valuation τ sig (Elt Ideal)) : StableHlo.after opsB W (Proc.devRef .tc main_v29) = (extractStridedSlice S8x576 ![0, 38] (W (Proc.devRef .tc main_v3) : FVec Ideal S8x639 .f32) slices_S8x639_S8x576_0_38 : FVec Ideal S8x576 .f32) := by
  simp only [opsB, hostOps0, List.drop_succ_cons, List.drop_zero, List.take_succ_cons, List.take_zero]
  after_reads_simp
/-- What they leave in the result of number 26. -/
theorem readB26 (W : Valuation τ sig (Elt Ideal)) : StableHlo.after opsB W (Proc.devRef .tc main_v30) = (extractStridedSlice S8x576 ![0, 37] (W (Proc.devRef .tc main_v3) : FVec Ideal S8x639 .f32) slices_S8x639_S8x576_0_37 : FVec Ideal S8x576 .f32) := by
  simp only [opsB, hostOps0, List.drop_succ_cons, List.drop_zero, List.take_succ_cons, List.take_zero]
  after_reads_simp
/-- What they leave in the result of number 27. -/
theorem readB27 (W : Valuation τ sig (Elt Ideal)) : StableHlo.after opsB W (Proc.devRef .tc main_v31) = (extractStridedSlice S8x576 ![0, 36] (W (Proc.devRef .tc main_v3) : FVec Ideal S8x639 .f32) slices_S8x639_S8x576_0_36 : FVec Ideal S8x576 .f32) := by
  simp only [opsB, hostOps0, List.drop_succ_cons, List.drop_zero, List.take_succ_cons, List.take_zero]
  after_reads_simp
/-- What they leave in the result of number 28. -/
theorem readB28 (W : Valuation τ sig (Elt Ideal)) : StableHlo.after opsB W (Proc.devRef .tc main_v32) = (extractStridedSlice S8x576 ![0, 35] (W (Proc.devRef .tc main_v3) : FVec Ideal S8x639 .f32) slices_S8x639_S8x576_0_35 : FVec Ideal S8x576 .f32) := by
  simp only [opsB, hostOps0, List.drop_succ_cons, List.drop_zero, List.take_succ_cons, List.take_zero]
  after_reads_simp
/-- What they leave in the result of number 29. -/
theorem readB29 (W : Valuation τ sig (Elt Ideal)) : StableHlo.after opsB W (Proc.devRef .tc main_v33) = (extractStridedSlice S8x576 ![0, 34] (W (Proc.devRef .tc main_v3) : FVec Ideal S8x639 .f32) slices_S8x639_S8x576_0_34 : FVec Ideal S8x576 .f32) := by
  simp only [opsB, hostOps0, List.drop_succ_cons, List.drop_zero, List.take_succ_cons, List.take_zero]
  after_reads_simp
/-- What they leave in the result of number 30. -/
theorem readB30 (W : Valuation τ sig (Elt Ideal)) : StableHlo.after opsB W (Proc.devRef .tc main_v34) = (extractStridedSlice S8x576 ![0, 33] (W (Proc.devRef .tc main_v3) : FVec Ideal S8x639 .f32) slices_S8x639_S8x576_0_33 : FVec Ideal S8x576 .f32) := by
  simp only [opsB, hostOps0, List.drop_succ_cons, List.drop_zero, List.take_succ_cons, List.take_zero]
  after_reads_simp
/-- What they leave in the result of number 31. -/
theorem readB31 (W : Valuation τ sig (Elt Ideal)) : StableHlo.after opsB W (Proc.devRef .tc main_v35) = (extractStridedSlice S8x576 ![0, 32] (W (Proc.devRef .tc main_v3) : FVec Ideal S8x639 .f32) slices_S8x639_S8x576_0_32 : FVec Ideal S8x576 .f32) := by
  simp only [opsB, hostOps0, List.drop_succ_cons, List.drop_zero, List.take_succ_cons, List.take_zero]
  after_reads_simp
/-- What they leave in the result of number 32. -/
theorem readB32 (W : Valuation τ sig (Elt Ideal)) : StableHlo.after opsB W (Proc.devRef .tc main_v36) = (extractStridedSlice S8x576 ![0, 31] (W (Proc.devRef .tc main_v3) : FVec Ideal S8x639 .f32) slices_S8x639_S8x576_0_31 : FVec Ideal S8x576 .f32) := by
  simp only [opsB, hostOps0, List.drop_succ_cons, List.drop_zero, List.take_succ_cons, List.take_zero]
  after_reads_simp
/-- What they leave in the result of number 33. -/
theorem readB33 (W : Valuation τ sig (Elt Ideal)) : StableHlo.after opsB W (Proc.devRef .tc main_v37) = (extractStridedSlice S8x576 ![0, 30] (W (Proc.devRef .tc main_v3) : FVec Ideal S8x639 .f32) slices_S8x639_S8x576_0_30 : FVec Ideal S8x576 .f32) := by
  simp only [opsB, hostOps0, List.drop_succ_cons, List.drop_zero, List.take_succ_cons, List.take_zero]
  after_reads_simp
/-- What they leave in the result of number 34. -/
theorem readB34 (W : Valuation τ sig (Elt Ideal)) : StableHlo.after opsB W (Proc.devRef .tc main_v38) = (extractStridedSlice S8x576 ![0, 29] (W (Proc.devRef .tc main_v3) : FVec Ideal S8x639 .f32) slices_S8x639_S8x576_0_29 : FVec Ideal S8x576 .f32) := by
  simp only [opsB, hostOps0, List.drop_succ_cons, List.drop_zero, List.take_succ_cons, List.take_zero]
  after_reads_simp
/-- What they leave in the result of number 35. -/
theorem readB35 (W : Valuation τ sig (Elt Ideal)) : StableHlo.after opsB W (Proc.devRef .tc main_v39) = (extractStridedSlice S8x576 ![0, 28] (W (Proc.devRef .tc main_v3) : FVec Ideal S8x639 .f32) slices_S8x639_S8x576_0_28 : FVec Ideal S8x576 .f32) := by
  simp only [opsB, hostOps0, List.drop_succ_cons, List.drop_zero, List.take_succ_cons, List.take_zero]
  after_reads_simp
/-- What they leave in the result of number 36. -/
theorem readB36 (W : Valuation τ sig (Elt Ideal)) : StableHlo.after opsB W (Proc.devRef .tc main_v40) = (extractStridedSlice S8x576 ![0, 27] (W (Proc.devRef .tc main_v3) : FVec Ideal S8x639 .f32) slices_S8x639_S8x576_0_27 : FVec Ideal S8x576 .f32) := by
  simp only [opsB, hostOps0, List.drop_succ_cons, List.drop_zero, List.take_succ_cons, List.take_zero]
  after_reads_simp
/-- What they leave in the result of number 37. -/
theorem readB37 (W : Valuation τ sig (Elt Ideal)) : StableHlo.after opsB W (Proc.devRef .tc main_v41) = (extractStridedSlice S8x576 ![0, 26] (W (Proc.devRef .tc main_v3) : FVec Ideal S8x639 .f32) slices_S8x639_S8x576_0_26 : FVec Ideal S8x576 .f32) := by
  simp only [opsB, hostOps0, List.drop_succ_cons, List.drop_zero, List.take_succ_cons, List.take_zero]
  after_reads_simp
/-- What they leave in the result of number 38. -/
theorem readB38 (W : Valuation τ sig (Elt Ideal)) : StableHlo.after opsB W (Proc.devRef .tc main_v42) = (extractStridedSlice S8x576 ![0, 25] (W (Proc.devRef .tc main_v3) : FVec Ideal S8x639 .f32) slices_S8x639_S8x576_0_25 : FVec Ideal S8x576 .f32) := by
  simp only [opsB, hostOps0, List.drop_succ_cons, List.drop_zero, List.take_succ_cons, List.take_zero]
  after_reads_simp
/-- What they leave in the result of number 39. -/
theorem readB39 (W : Valuation τ sig (Elt Ideal)) : StableHlo.after opsB W (Proc.devRef .tc main_v43) = (extractStridedSlice S8x576 ![0, 24] (W (Proc.devRef .tc main_v3) : FVec Ideal S8x639 .f32) slices_S8x639_S8x576_0_24 : FVec Ideal S8x576 .f32) := by
  simp only [opsB, hostOps0, List.drop_succ_cons, List.drop_zero, List.take_succ_cons, List.take_zero]
  after_reads_simp
/-- What they leave in the result of number 40. -/
theorem readB40 (W : Valuation τ sig (Elt Ideal)) : StableHlo.after opsB W (Proc.devRef .tc main_v44) = (extractStridedSlice S8x576 ![0, 23] (W (Proc.devRef .tc main_v3) : FVec Ideal S8x639 .f32) slices_S8x639_S8x576_0_23 : FVec Ideal S8x576 .f32) := by
  simp only [opsB, hostOps0, List.drop_succ_cons, List.drop_zero, List.take_succ_cons, List.take_zero]
  after_reads_simp
/-- What they leave in the result of number 41. -/
theorem readB41 (W : Valuation τ sig (Elt Ideal)) : StableHlo.after opsB W (Proc.devRef .tc main_v45) = (extractStridedSlice S8x576 ![0, 22] (W (Proc.devRef .tc main_v3) : FVec Ideal S8x639 .f32) slices_S8x639_S8x576_0_22 : FVec Ideal S8x576 .f32) := by
  simp only [opsB, hostOps0, List.drop_succ_cons, List.drop_zero, List.take_succ_cons, List.take_zero]
  after_reads_simp
/-- What they leave in the result of number 42. -/
theorem readB42 (W : Valuation τ sig (Elt Ideal)) : StableHlo.after opsB W (Proc.devRef .tc main_v46) = (extractStridedSlice S8x576 ![0, 21] (W (Proc.devRef .tc main_v3) : FVec Ideal S8x639 .f32) slices_S8x639_S8x576_0_21 : FVec Ideal S8x576 .f32) := by
  simp only [opsB, hostOps0, List.drop_succ_cons, List.drop_zero, List.take_succ_cons, List.take_zero]
  after_reads_simp
/-- What they leave in the result of number 43. -/
theorem readB43 (W : Valuation τ sig (Elt Ideal)) : StableHlo.after opsB W (Proc.devRef .tc main_v47) = (extractStridedSlice S8x576 ![0, 20] (W (Proc.devRef .tc main_v3) : FVec Ideal S8x639 .f32) slices_S8x639_S8x576_0_20 : FVec Ideal S8x576 .f32) := by
  simp only [opsB, hostOps0, List.drop_succ_cons, List.drop_zero, List.take_succ_cons, List.take_zero]
  after_reads_simp
/-- What they leave in the result of number 44. -/
theorem readB44 (W : Valuation τ sig (Elt Ideal)) : StableHlo.after opsB W (Proc.devRef .tc main_v48) = (extractStridedSlice S8x576 ![0, 19] (W (Proc.devRef .tc main_v3) : FVec Ideal S8x639 .f32) slices_S8x639_S8x576_0_19 : FVec Ideal S8x576 .f32) := by
  simp only [opsB, hostOps0, List.drop_succ_cons, List.drop_zero, List.take_succ_cons, List.take_zero]
  after_reads_simp
/-- What they leave in the result of number 45. -/
theorem readB45 (W : Valuation τ sig (Elt Ideal)) : StableHlo.after opsB W (Proc.devRef .tc main_v49) = (extractStridedSlice S8x576 ![0, 18] (W (Proc.devRef .tc main_v3) : FVec Ideal S8x639 .f32) slices_S8x639_S8x576_0_18 : FVec Ideal S8x576 .f32) := by
  simp only [opsB, hostOps0, List.drop_succ_cons, List.drop_zero, List.take_succ_cons, List.take_zero]
  after_reads_simp
/-- What they leave in the result of number 46. -/
theorem readB46 (W : Valuation τ sig (Elt Ideal)) : StableHlo.after opsB W (Proc.devRef .tc main_v50) = (extractStridedSlice S8x576 ![0, 17] (W (Proc.devRef .tc main_v3) : FVec Ideal S8x639 .f32) slices_S8x639_S8x576_0_17 : FVec Ideal S8x576 .f32) := by
  simp only [opsB, hostOps0, List.drop_succ_cons, List.drop_zero, List.take_succ_cons, List.take_zero]
  after_reads_simp
/-- What they leave in the result of number 47. -/
theorem readB47 (W : Valuation τ sig (Elt Ideal)) : StableHlo.after opsB W (Proc.devRef .tc main_v51) = (extractStridedSlice S8x576 ![0, 16] (W (Proc.devRef .tc main_v3) : FVec Ideal S8x639 .f32) slices_S8x639_S8x576_0_16 : FVec Ideal S8x576 .f32) := by
  simp only [opsB, hostOps0, List.drop_succ_cons, List.drop_zero, List.take_succ_cons, List.take_zero]
  after_reads_simp
/-- What they leave in the result of number 48. -/
theorem readB48 (W : Valuation τ sig (Elt Ideal)) : StableHlo.after opsB W (Proc.devRef .tc main_v52) = (extractStridedSlice S8x576 ![0, 15] (W (Proc.devRef .tc main_v3) : FVec Ideal S8x639 .f32) slices_S8x639_S8x576_0_15 : FVec Ideal S8x576 .f32) := by
  simp only [opsB, hostOps0, List.drop_succ_cons, List.drop_zero, List.take_succ_cons, List.take_zero]
  after_reads_simp
/-- What they leave in the result of number 49. -/
theorem readB49 (W : Valuation τ sig (Elt Ideal)) : StableHlo.after opsB W (Proc.devRef .tc main_v53) = (extractStridedSlice S8x576 ![0, 14] (W (Proc.devRef .tc main_v3) : FVec Ideal S8x639 .f32) slices_S8x639_S8x576_0_14 : FVec Ideal S8x576 .f32) := by
  simp only [opsB, hostOps0, List.drop_succ_cons, List.drop_zero, List.take_succ_cons, List.take_zero]
  after_reads_simp
/-- What they leave in the result of number 50. -/
theorem readB50 (W : Valuation τ sig (Elt Ideal)) : StableHlo.after opsB W (Proc.devRef .tc main_v54) = (extractStridedSlice S8x576 ![0, 13] (W (Proc.devRef .tc main_v3) : FVec Ideal S8x639 .f32) slices_S8x639_S8x576_0_13 : FVec Ideal S8x576 .f32) := by
  simp only [opsB, hostOps0, List.drop_succ_cons, List.drop_zero, List.take_succ_cons, List.take_zero]
  after_reads_simp
/-- What they leave in the result of number 51. -/
theorem readB51 (W : Valuation τ sig (Elt Ideal)) : StableHlo.after opsB W (Proc.devRef .tc main_v55) = (extractStridedSlice S8x576 ![0, 12] (W (Proc.devRef .tc main_v3) : FVec Ideal S8x639 .f32) slices_S8x639_S8x576_0_12 : FVec Ideal S8x576 .f32) := by
  simp only [opsB, hostOps0, List.drop_succ_cons, List.drop_zero, List.take_succ_cons, List.take_zero]
  after_reads_simp
/-- What they leave in the result of number 52. -/
theorem readB52 (W : Valuation τ sig (Elt Ideal)) : StableHlo.after opsB W (Proc.devRef .tc main_v56) = (extractStridedSlice S8x576 ![0, 11] (W (Proc.devRef .tc main_v3) : FVec Ideal S8x639 .f32) slices_S8x639_S8x576_0_11 : FVec Ideal S8x576 .f32) := by
  simp only [opsB, hostOps0, List.drop_succ_cons, List.drop_zero, List.take_succ_cons, List.take_zero]
  after_reads_simp
/-- What they leave in the result of number 53. -/
theorem readB53 (W : Valuation τ sig (Elt Ideal)) : StableHlo.after opsB W (Proc.devRef .tc main_v57) = (extractStridedSlice S8x576 ![0, 10] (W (Proc.devRef .tc main_v3) : FVec Ideal S8x639 .f32) slices_S8x639_S8x576_0_10 : FVec Ideal S8x576 .f32) := by
  simp only [opsB, hostOps0, List.drop_succ_cons, List.drop_zero, List.take_succ_cons, List.take_zero]
  after_reads_simp
/-- What they leave in the result of number 54. -/
theorem readB54 (W : Valuation τ sig (Elt Ideal)) : StableHlo.after opsB W (Proc.devRef .tc main_v58) = (extractStridedSlice S8x576 ![0, 9] (W (Proc.devRef .tc main_v3) : FVec Ideal S8x639 .f32) slices_S8x639_S8x576_0_9 : FVec Ideal S8x576 .f32) := by
  simp only [opsB, hostOps0, List.drop_succ_cons, List.drop_zero, List.take_succ_cons, List.take_zero]
  after_reads_simp
/-- What they leave in the result of number 55. -/
theorem readB55 (W : Valuation τ sig (Elt Ideal)) : StableHlo.after opsB W (Proc.devRef .tc main_v59) = (extractStridedSlice S8x576 ![0, 8] (W (Proc.devRef .tc main_v3) : FVec Ideal S8x639 .f32) slices_S8x639_S8x576_0_8 : FVec Ideal S8x576 .f32) := by
  simp only [opsB, hostOps0, List.drop_succ_cons, List.drop_zero, List.take_succ_cons, List.take_zero]
  after_reads_simp
/-- What they leave in the result of number 56. -/
theorem readB56 (W : Valuation τ sig (Elt Ideal)) : StableHlo.after opsB W (Proc.devRef .tc main_v60) = (extractStridedSlice S8x576 ![0, 7] (W (Proc.devRef .tc main_v3) : FVec Ideal S8x639 .f32) slices_S8x639_S8x576_0_7 : FVec Ideal S8x576 .f32) := by
  simp only [opsB, hostOps0, List.drop_succ_cons, List.drop_zero, List.take_succ_cons, List.take_zero]
  after_reads_simp
/-- What they leave in the result of number 57. -/
theorem readB57 (W : Valuation τ sig (Elt Ideal)) : StableHlo.after opsB W (Proc.devRef .tc main_v61) = (extractStridedSlice S8x576 ![0, 6] (W (Proc.devRef .tc main_v3) : FVec Ideal S8x639 .f32) slices_S8x639_S8x576_0_6 : FVec Ideal S8x576 .f32) := by
  simp only [opsB, hostOps0, List.drop_succ_cons, List.drop_zero, List.take_succ_cons, List.take_zero]
  after_reads_simp
/-- What they leave in the result of number 58. -/
theorem readB58 (W : Valuation τ sig (Elt Ideal)) : StableHlo.after opsB W (Proc.devRef .tc main_v62) = (extractStridedSlice S8x576 ![0, 5] (W (Proc.devRef .tc main_v3) : FVec Ideal S8x639 .f32) slices_S8x639_S8x576_0_5 : FVec Ideal S8x576 .f32) := by
  simp only [opsB, hostOps0, List.drop_succ_cons, List.drop_zero, List.take_succ_cons, List.take_zero]
  after_reads_simp
/-- What they leave in the result of number 59. -/
theorem readB59 (W : Valuation τ sig (Elt Ideal)) : StableHlo.after opsB W (Proc.devRef .tc main_v63) = (extractStridedSlice S8x576 ![0, 4] (W (Proc.devRef .tc main_v3) : FVec Ideal S8x639 .f32) slices_S8x639_S8x576_0_4 : FVec Ideal S8x576 .f32) := by
  simp only [opsB, hostOps0, List.drop_succ_cons, List.drop_zero, List.take_succ_cons, List.take_zero]
  after_reads_simp
/-- What they leave in the result of number 60. -/
theorem readB60 (W : Valuation τ sig (Elt Ideal)) : StableHlo.after opsB W (Proc.devRef .tc main_v64) = (extractStridedSlice S8x576 ![0, 3] (W (Proc.devRef .tc main_v3) : FVec Ideal S8x639 .f32) slices_S8x639_S8x576_0_3 : FVec Ideal S8x576 .f32) := by
  simp only [opsB, hostOps0, List.drop_succ_cons, List.drop_zero, List.take_succ_cons, List.take_zero]
  after_reads_simp
/-- What they leave in the result of number 61. -/
theorem readB61 (W : Valuation τ sig (Elt Ideal)) : StableHlo.after opsB W (Proc.devRef .tc main_v65) = (extractStridedSlice S8x576 ![0, 2] (W (Proc.devRef .tc main_v3) : FVec Ideal S8x639 .f32) slices_S8x639_S8x576_0_2 : FVec Ideal S8x576 .f32) := by
  simp only [opsB, hostOps0, List.drop_succ_cons, List.drop_zero, List.take_succ_cons, List.take_zero]
  after_reads_simp
/-- What they leave in the result of number 62. -/
theorem readB62 (W : Valuation τ sig (Elt Ideal)) : StableHlo.after opsB W (Proc.devRef .tc main_v66) = (extractStridedSlice S8x576 ![0, 1] (W (Proc.devRef .tc main_v3) : FVec Ideal S8x639 .f32) slices_S8x639_S8x576_0_1 : FVec Ideal S8x576 .f32) := by
  simp only [opsB, hostOps0, List.drop_succ_cons, List.drop_zero, List.take_succ_cons, List.take_zero]
  after_reads_simp
/-- What they leave in the result of number 63. -/
theorem readB63 (W : Valuation τ sig (Elt Ideal)) : StableHlo.after opsB W (Proc.devRef .tc main_v67) = (extractStridedSlice S8x576 ![0, 0] (W (Proc.devRef .tc main_v3) : FVec Ideal S8x639 .f32) slices_S8x639_S8x576_0_0 : FVec Ideal S8x576 .f32) := by
  simp only [opsB, hostOps0, List.drop_succ_cons, List.drop_zero, List.take_succ_cons, List.take_zero]
  after_reads_simp

end Cert.Band.KI

end
-- ==== Proof.KBiasC.lean ====
module

public import proofs.«01_k».proof.Proof.KBias

@[expose] public section

noncomputable section

namespace Cert.Band.KI

open Cert.KernelIdeal Cert.KernelIdeal.Gen
open Idealize.ShloMosaic Idealize.ShloMosaic.TcCoe
open Idealize.ShloMosaic.StableHlo

/-- The operations computing the slabs, of the slices. -/
def opsC : List (HloOp τ sig (Elt Ideal)) := (hostOps0.drop 68).take 64

/-- What they leave in the result of number 0. -/
theorem readC0 (W : Valuation τ sig (Elt Ideal)) : StableHlo.after opsC W (Proc.devRef .tc main_v68) = (broadcastInDim S8x1x576 ![0, 2] bcast_S8x576_S8x1x576_0_2 (W (Proc.devRef .tc main_v4) : FVec Ideal S8x576 .f32) : FVec Ideal S8x1x576 .f32) := by
  simp only [opsC, hostOps0, List.drop_succ_cons, List.drop_zero, List.take_succ_cons, List.take_zero]
  after_reads_simp
/-- What they leave in the result of number 1. -/
theorem readC1 (W : Valuation τ sig (Elt Ideal)) : StableHlo.after opsC W (Proc.devRef .tc main_v69) = (broadcastInDim S8x1x576 ![0, 2] bcast_S8x576_S8x1x576_0_2 (W (Proc.devRef .tc main_v5) : FVec Ideal S8x576 .f32) : FVec Ideal S8x1x576 .f32) := by
  simp only [opsC, hostOps0, List.drop_succ_cons, List.drop_zero, List.take_succ_cons, List.take_zero]
  after_reads_simp
/-- What they leave in the result of number 2. -/
theorem readC2 (W : Valuation τ sig (Elt Ideal)) : StableHlo.after opsC W (Proc.devRef .tc main_v70) = (broadcastInDim S8x1x576 ![0, 2] bcast_S8x576_S8x1x576_0_2 (W (Proc.devRef .tc main_v6) : FVec Ideal S8x576 .f32) : FVec Ideal S8x1x576 .f32) := by
  simp only [opsC, hostOps0, List.drop_succ_cons, List.drop_zero, List.take_succ_cons, List.take_zero]
  after_reads_simp
/-- What they leave in the result of number 3. -/
theorem readC3 (W : Valuation τ sig (Elt Ideal)) : StableHlo.after opsC W (Proc.devRef .tc main_v71) = (broadcastInDim S8x1x576 ![0, 2] bcast_S8x576_S8x1x576_0_2 (W (Proc.devRef .tc main_v7) : FVec Ideal S8x576 .f32) : FVec Ideal S8x1x576 .f32) := by
  simp only [opsC, hostOps0, List.drop_succ_cons, List.drop_zero, List.take_succ_cons, List.take_zero]
  after_reads_simp
/-- What they leave in the result of number 4. -/
theorem readC4 (W : Valuation τ sig (Elt Ideal)) : StableHlo.after opsC W (Proc.devRef .tc main_v72) = (broadcastInDim S8x1x576 ![0, 2] bcast_S8x576_S8x1x576_0_2 (W (Proc.devRef .tc main_v8) : FVec Ideal S8x576 .f32) : FVec Ideal S8x1x576 .f32) := by
  simp only [opsC, hostOps0, List.drop_succ_cons, List.drop_zero, List.take_succ_cons, List.take_zero]
  after_reads_simp
/-- What they leave in the result of number 5. -/
theorem readC5 (W : Valuation τ sig (Elt Ideal)) : StableHlo.after opsC W (Proc.devRef .tc main_v73) = (broadcastInDim S8x1x576 ![0, 2] bcast_S8x576_S8x1x576_0_2 (W (Proc.devRef .tc main_v9) : FVec Ideal S8x576 .f32) : FVec Ideal S8x1x576 .f32) := by
  simp only [opsC, hostOps0, List.drop_succ_cons, List.drop_zero, List.take_succ_cons, List.take_zero]
  after_reads_simp
/-- What they leave in the result of number 6. -/
theorem readC6 (W : Valuation τ sig (Elt Ideal)) : StableHlo.after opsC W (Proc.devRef .tc main_v74) = (broadcastInDim S8x1x576 ![0, 2] bcast_S8x576_S8x1x576_0_2 (W (Proc.devRef .tc main_v10) : FVec Ideal S8x576 .f32) : FVec Ideal S8x1x576 .f32) := by
  simp only [opsC, hostOps0, List.drop_succ_cons, List.drop_zero, List.take_succ_cons, List.take_zero]
  after_reads_simp
/-- What they leave in the result of number 7. -/
theorem readC7 (W : Valuation τ sig (Elt Ideal)) : StableHlo.after opsC W (Proc.devRef .tc main_v75) = (broadcastInDim S8x1x576 ![0, 2] bcast_S8x576_S8x1x576_0_2 (W (Proc.devRef .tc main_v11) : FVec Ideal S8x576 .f32) : FVec Ideal S8x1x576 .f32) := by
  simp only [opsC, hostOps0, List.drop_succ_cons, List.drop_zero, List.take_succ_cons, List.take_zero]
  after_reads_simp
/-- What they leave in the result of number 8. -/
theorem readC8 (W : Valuation τ sig (Elt Ideal)) : StableHlo.after opsC W (Proc.devRef .tc main_v76) = (broadcastInDim S8x1x576 ![0, 2] bcast_S8x576_S8x1x576_0_2 (W (Proc.devRef .tc main_v12) : FVec Ideal S8x576 .f32) : FVec Ideal S8x1x576 .f32) := by
  simp only [opsC, hostOps0, List.drop_succ_cons, List.drop_zero, List.take_succ_cons, List.take_zero]
  after_reads_simp
/-- What they leave in the result of number 9. -/
theorem readC9 (W : Valuation τ sig (Elt Ideal)) : StableHlo.after opsC W (Proc.devRef .tc main_v77) = (broadcastInDim S8x1x576 ![0, 2] bcast_S8x576_S8x1x576_0_2 (W (Proc.devRef .tc main_v13) : FVec Ideal S8x576 .f32) : FVec Ideal S8x1x576 .f32) := by
  simp only [opsC, hostOps0, List.drop_succ_cons, List.drop_zero, List.take_succ_cons, List.take_zero]
  after_reads_simp
/-- What they leave in the result of number 10. -/
theorem readC10 (W : Valuation τ sig (Elt Ideal)) : StableHlo.after opsC W (Proc.devRef .tc main_v78) = (broadcastInDim S8x1x576 ![0, 2] bcast_S8x576_S8x1x576_0_2 (W (Proc.devRef .tc main_v14) : FVec Ideal S8x576 .f32) : FVec Ideal S8x1x576 .f32) := by
  simp only [opsC, hostOps0, List.drop_succ_cons, List.drop_zero, List.take_succ_cons, List.take_zero]
  after_reads_simp
/-- What they leave in the result of number 11. -/
theorem readC11 (W : Valuation τ sig (Elt Ideal)) : StableHlo.after opsC W (Proc.devRef .tc main_v79) = (broadcastInDim S8x1x576 ![0, 2] bcast_S8x576_S8x1x576_0_2 (W (Proc.devRef .tc main_v15) : FVec Ideal S8x576 .f32) : FVec Ideal S8x1x576 .f32) := by
  simp only [opsC, hostOps0, List.drop_succ_cons, List.drop_zero, List.take_succ_cons, List.take_zero]
  after_reads_simp
/-- What they leave in the result of number 12. -/
theorem readC12 (W : Valuation τ sig (Elt Ideal)) : StableHlo.after opsC W (Proc.devRef .tc main_v80) = (broadcastInDim S8x1x576 ![0, 2] bcast_S8x576_S8x1x576_0_2 (W (Proc.devRef .tc main_v16) : FVec Ideal S8x576 .f32) : FVec Ideal S8x1x576 .f32) := by
  simp only [opsC, hostOps0, List.drop_succ_cons, List.drop_zero, List.take_succ_cons, List.take_zero]
  after_reads_simp
/-- What they leave in the result of number 13. -/
theorem readC13 (W : Valuation τ sig (Elt Ideal)) : StableHlo.after opsC W (Proc.devRef .tc main_v81) = (broadcastInDim S8x1x576 ![0, 2] bcast_S8x576_S8x1x576_0_2 (W (Proc.devRef .tc main_v17) : FVec Ideal S8x576 .f32) : FVec Ideal S8x1x576 .f32) := by
  simp only [opsC, hostOps0, List.drop_succ_cons, List.drop_zero, List.take_succ_cons, List.take_zero]
  after_reads_simp
/-- What they leave in the result of number 14. -/
theorem readC14 (W : Valuation τ sig (Elt Ideal)) : StableHlo.after opsC W (Proc.devRef .tc main_v82) = (broadcastInDim S8x1x576 ![0, 2] bcast_S8x576_S8x1x576_0_2 (W (Proc.devRef .tc main_v18) : FVec Ideal S8x576 .f32) : FVec Ideal S8x1x576 .f32) := by
  simp only [opsC, hostOps0, List.drop_succ_cons, List.drop_zero, List.take_succ_cons, List.take_zero]
  after_reads_simp
/-- What they leave in the result of number 15. -/
theorem readC15 (W : Valuation τ sig (Elt Ideal)) : StableHlo.after opsC W (Proc.devRef .tc main_v83) = (broadcastInDim S8x1x576 ![0, 2] bcast_S8x576_S8x1x576_0_2 (W (Proc.devRef .tc main_v19) : FVec Ideal S8x576 .f32) : FVec Ideal S8x1x576 .f32) := by
  simp only [opsC, hostOps0, List.drop_succ_cons, List.drop_zero, List.take_succ_cons, List.take_zero]
  after_reads_simp
/-- What they leave in the result of number 16. -/
theorem readC16 (W : Valuation τ sig (Elt Ideal)) : StableHlo.after opsC W (Proc.devRef .tc main_v84) = (broadcastInDim S8x1x576 ![0, 2] bcast_S8x576_S8x1x576_0_2 (W (Proc.devRef .tc main_v20) : FVec Ideal S8x576 .f32) : FVec Ideal S8x1x576 .f32) := by
  simp only [opsC, hostOps0, List.drop_succ_cons, List.drop_zero, List.take_succ_cons, List.take_zero]
  after_reads_simp
/-- What they leave in the result of number 17. -/
theorem readC17 (W : Valuation τ sig (Elt Ideal)) : StableHlo.after opsC W (Proc.devRef .tc main_v85) = (broadcastInDim S8x1x576 ![0, 2] bcast_S8x576_S8x1x576_0_2 (W (Proc.devRef .tc main_v21) : FVec Ideal S8x576 .f32) : FVec Ideal S8x1x576 .f32) := by
  simp only [opsC, hostOps0, List.drop_succ_cons, List.drop_zero, List.take_succ_cons, List.take_zero]
  after_reads_simp
/-- What they leave in the result of number 18. -/
theorem readC18 (W : Valuation τ sig (Elt Ideal)) : StableHlo.after opsC W (Proc.devRef .tc main_v86) = (broadcastInDim S8x1x576 ![0, 2] bcast_S8x576_S8x1x576_0_2 (W (Proc.devRef .tc main_v22) : FVec Ideal S8x576 .f32) : FVec Ideal S8x1x576 .f32) := by
  simp only [opsC, hostOps0, List.drop_succ_cons, List.drop_zero, List.take_succ_cons, List.take_zero]
  after_reads_simp
/-- What they leave in the result of number 19. -/
theorem readC19 (W : Valuation τ sig (Elt Ideal)) : StableHlo.after opsC W (Proc.devRef .tc main_v87) = (broadcastInDim S8x1x576 ![0, 2] bcast_S8x576_S8x1x576_0_2 (W (Proc.devRef .tc main_v23) : FVec Ideal S8x576 .f32) : FVec Ideal S8x1x576 .f32) := by
  simp only [opsC, hostOps0, List.drop_succ_cons, List.drop_zero, List.take_succ_cons, List.take_zero]
  after_reads_simp
/-- What they leave in the result of number 20. -/
theorem readC20 (W : Valuation τ sig (Elt Ideal)) : StableHlo.after opsC W (Proc.devRef .tc main_v88) = (broadcastInDim S8x1x576 ![0, 2] bcast_S8x576_S8x1x576_0_2 (W (Proc.devRef .tc main_v24) : FVec Ideal S8x576 .f32) : FVec Ideal S8x1x576 .f32) := by
  simp only [opsC, hostOps0, List.drop_succ_cons, List.drop_zero, List.take_succ_cons, List.take_zero]
  after_reads_simp
/-- What they leave in the result of number 21. -/
theorem readC21 (W : Valuation τ sig (Elt Ideal)) : StableHlo.after opsC W (Proc.devRef .tc main_v89) = (broadcastInDim S8x1x576 ![0, 2] bcast_S8x576_S8x1x576_0_2 (W (Proc.devRef .tc main_v25) : FVec Ideal S8x576 .f32) : FVec Ideal S8x1x576 .f32) := by
  simp only [opsC, hostOps0, List.drop_succ_cons, List.drop_zero, List.take_succ_cons, List.take_zero]
  after_reads_simp
/-- What they leave in the result of number 22. -/
theorem readC22 (W : Valuation τ sig (Elt Ideal)) : StableHlo.after opsC W (Proc.devRef .tc main_v90) = (broadcastInDim S8x1x576 ![0, 2] bcast_S8x576_S8x1x576_0_2 (W (Proc.devRef .tc main_v26) : FVec Ideal S8x576 .f32) : FVec Ideal S8x1x576 .f32) := by
  simp only [opsC, hostOps0, List.drop_succ_cons, List.drop_zero, List.take_succ_cons, List.take_zero]
  after_reads_simp
/-- What they leave in the result of number 23. -/
theorem readC23 (W : Valuation τ sig (Elt Ideal)) : StableHlo.after opsC W (Proc.devRef .tc main_v91) = (broadcastInDim S8x1x576 ![0, 2] bcast_S8x576_S8x1x576_0_2 (W (Proc.devRef .tc main_v27) : FVec Ideal S8x576 .f32) : FVec Ideal S8x1x576 .f32) := by
  simp only [opsC, hostOps0, List.drop_succ_cons, List.drop_zero, List.take_succ_cons, List.take_zero]
  after_reads_simp
/-- What they leave in the result of number 24. -/
theorem readC24 (W : Valuation τ sig (Elt Ideal)) : StableHlo.after opsC W (Proc.devRef .tc main_v92) = (broadcastInDim S8x1x576 ![0, 2] bcast_S8x576_S8x1x576_0_2 (W (Proc.devRef .tc main_v28) : FVec Ideal S8x576 .f32) : FVec Ideal S8x1x576 .f32) := by
  simp only [opsC, hostOps0, List.drop_succ_cons, List.drop_zero, List.take_succ_cons, List.take_zero]
  after_reads_simp
/-- What they leave in the result of number 25. -/
theorem readC25 (W : Valuation τ sig (Elt Ideal)) : StableHlo.after opsC W (Proc.devRef .tc main_v93) = (broadcastInDim S8x1x576 ![0, 2] bcast_S8x576_S8x1x576_0_2 (W (Proc.devRef .tc main_v29) : FVec Ideal S8x576 .f32) : FVec Ideal S8x1x576 .f32) := by
  simp only [opsC, hostOps0, List.drop_succ_cons, List.drop_zero, List.take_succ_cons, List.take_zero]
  after_reads_simp
/-- What they leave in the result of number 26. -/
theorem readC26 (W : Valuation τ sig (Elt Ideal)) : StableHlo.after opsC W (Proc.devRef .tc main_v94) = (broadcastInDim S8x1x576 ![0, 2] bcast_S8x576_S8x1x576_0_2 (W (Proc.devRef .tc main_v30) : FVec Ideal S8x576 .f32) : FVec Ideal S8x1x576 .f32) := by
  simp only [opsC, hostOps0, List.drop_succ_cons, List.drop_zero, List.take_succ_cons, List.take_zero]
  after_reads_simp
/-- What they leave in the result of number 27. -/
theorem readC27 (W : Valuation τ sig (Elt Ideal)) : StableHlo.after opsC W (Proc.devRef .tc main_v95) = (broadcastInDim S8x1x576 ![0, 2] bcast_S8x576_S8x1x576_0_2 (W (Proc.devRef .tc main_v31) : FVec Ideal S8x576 .f32) : FVec Ideal S8x1x576 .f32) := by
  simp only [opsC, hostOps0, List.drop_succ_cons, List.drop_zero, List.take_succ_cons, List.take_zero]
  after_reads_simp
/-- What they leave in the result of number 28. -/
theorem readC28 (W : Valuation τ sig (Elt Ideal)) : StableHlo.after opsC W (Proc.devRef .tc main_v96) = (broadcastInDim S8x1x576 ![0, 2] bcast_S8x576_S8x1x576_0_2 (W (Proc.devRef .tc main_v32) : FVec Ideal S8x576 .f32) : FVec Ideal S8x1x576 .f32) := by
  simp only [opsC, hostOps0, List.drop_succ_cons, List.drop_zero, List.take_succ_cons, List.take_zero]
  after_reads_simp
/-- What they leave in the result of number 29. -/
theorem readC29 (W : Valuation τ sig (Elt Ideal)) : StableHlo.after opsC W (Proc.devRef .tc main_v97) = (broadcastInDim S8x1x576 ![0, 2] bcast_S8x576_S8x1x576_0_2 (W (Proc.devRef .tc main_v33) : FVec Ideal S8x576 .f32) : FVec Ideal S8x1x576 .f32) := by
  simp only [opsC, hostOps0, List.drop_succ_cons, List.drop_zero, List.take_succ_cons, List.take_zero]
  after_reads_simp
/-- What they leave in the result of number 30. -/
theorem readC30 (W : Valuation τ sig (Elt Ideal)) : StableHlo.after opsC W (Proc.devRef .tc main_v98) = (broadcastInDim S8x1x576 ![0, 2] bcast_S8x576_S8x1x576_0_2 (W (Proc.devRef .tc main_v34) : FVec Ideal S8x576 .f32) : FVec Ideal S8x1x576 .f32) := by
  simp only [opsC, hostOps0, List.drop_succ_cons, List.drop_zero, List.take_succ_cons, List.take_zero]
  after_reads_simp
/-- What they leave in the result of number 31. -/
theorem readC31 (W : Valuation τ sig (Elt Ideal)) : StableHlo.after opsC W (Proc.devRef .tc main_v99) = (broadcastInDim S8x1x576 ![0, 2] bcast_S8x576_S8x1x576_0_2 (W (Proc.devRef .tc main_v35) : FVec Ideal S8x576 .f32) : FVec Ideal S8x1x576 .f32) := by
  simp only [opsC, hostOps0, List.drop_succ_cons, List.drop_zero, List.take_succ_cons, List.take_zero]
  after_reads_simp
/-- What they leave in the result of number 32. -/
theorem readC32 (W : Valuation τ sig (Elt Ideal)) : StableHlo.after opsC W (Proc.devRef .tc main_v100) = (broadcastInDim S8x1x576 ![0, 2] bcast_S8x576_S8x1x576_0_2 (W (Proc.devRef .tc main_v36) : FVec Ideal S8x576 .f32) : FVec Ideal S8x1x576 .f32) := by
  simp only [opsC, hostOps0, List.drop_succ_cons, List.drop_zero, List.take_succ_cons, List.take_zero]
  after_reads_simp
/-- What they leave in the result of number 33. -/
theorem readC33 (W : Valuation τ sig (Elt Ideal)) : StableHlo.after opsC W (Proc.devRef .tc main_v101) = (broadcastInDim S8x1x576 ![0, 2] bcast_S8x576_S8x1x576_0_2 (W (Proc.devRef .tc main_v37) : FVec Ideal S8x576 .f32) : FVec Ideal S8x1x576 .f32) := by
  simp only [opsC, hostOps0, List.drop_succ_cons, List.drop_zero, List.take_succ_cons, List.take_zero]
  after_reads_simp
/-- What they leave in the result of number 34. -/
theorem readC34 (W : Valuation τ sig (Elt Ideal)) : StableHlo.after opsC W (Proc.devRef .tc main_v102) = (broadcastInDim S8x1x576 ![0, 2] bcast_S8x576_S8x1x576_0_2 (W (Proc.devRef .tc main_v38) : FVec Ideal S8x576 .f32) : FVec Ideal S8x1x576 .f32) := by
  simp only [opsC, hostOps0, List.drop_succ_cons, List.drop_zero, List.take_succ_cons, List.take_zero]
  after_reads_simp
/-- What they leave in the result of number 35. -/
theorem readC35 (W : Valuation τ sig (Elt Ideal)) : StableHlo.after opsC W (Proc.devRef .tc main_v103) = (broadcastInDim S8x1x576 ![0, 2] bcast_S8x576_S8x1x576_0_2 (W (Proc.devRef .tc main_v39) : FVec Ideal S8x576 .f32) : FVec Ideal S8x1x576 .f32) := by
  simp only [opsC, hostOps0, List.drop_succ_cons, List.drop_zero, List.take_succ_cons, List.take_zero]
  after_reads_simp
/-- What they leave in the result of number 36. -/
theorem readC36 (W : Valuation τ sig (Elt Ideal)) : StableHlo.after opsC W (Proc.devRef .tc main_v104) = (broadcastInDim S8x1x576 ![0, 2] bcast_S8x576_S8x1x576_0_2 (W (Proc.devRef .tc main_v40) : FVec Ideal S8x576 .f32) : FVec Ideal S8x1x576 .f32) := by
  simp only [opsC, hostOps0, List.drop_succ_cons, List.drop_zero, List.take_succ_cons, List.take_zero]
  after_reads_simp
/-- What they leave in the result of number 37. -/
theorem readC37 (W : Valuation τ sig (Elt Ideal)) : StableHlo.after opsC W (Proc.devRef .tc main_v105) = (broadcastInDim S8x1x576 ![0, 2] bcast_S8x576_S8x1x576_0_2 (W (Proc.devRef .tc main_v41) : FVec Ideal S8x576 .f32) : FVec Ideal S8x1x576 .f32) := by
  simp only [opsC, hostOps0, List.drop_succ_cons, List.drop_zero, List.take_succ_cons, List.take_zero]
  after_reads_simp
/-- What they leave in the result of number 38. -/
theorem readC38 (W : Valuation τ sig (Elt Ideal)) : StableHlo.after opsC W (Proc.devRef .tc main_v106) = (broadcastInDim S8x1x576 ![0, 2] bcast_S8x576_S8x1x576_0_2 (W (Proc.devRef .tc main_v42) : FVec Ideal S8x576 .f32) : FVec Ideal S8x1x576 .f32) := by
  simp only [opsC, hostOps0, List.drop_succ_cons, List.drop_zero, List.take_succ_cons, List.take_zero]
  after_reads_simp
/-- What they leave in the result of number 39. -/
theorem readC39 (W : Valuation τ sig (Elt Ideal)) : StableHlo.after opsC W (Proc.devRef .tc main_v107) = (broadcastInDim S8x1x576 ![0, 2] bcast_S8x576_S8x1x576_0_2 (W (Proc.devRef .tc main_v43) : FVec Ideal S8x576 .f32) : FVec Ideal S8x1x576 .f32) := by
  simp only [opsC, hostOps0, List.drop_succ_cons, List.drop_zero, List.take_succ_cons, List.take_zero]
  after_reads_simp
/-- What they leave in the result of number 40. -/
theorem readC40 (W : Valuation τ sig (Elt Ideal)) : StableHlo.after opsC W (Proc.devRef .tc main_v108) = (broadcastInDim S8x1x576 ![0, 2] bcast_S8x576_S8x1x576_0_2 (W (Proc.devRef .tc main_v44) : FVec Ideal S8x576 .f32) : FVec Ideal S8x1x576 .f32) := by
  simp only [opsC, hostOps0, List.drop_succ_cons, List.drop_zero, List.take_succ_cons, List.take_zero]
  after_reads_simp
/-- What they leave in the result of number 41. -/
theorem readC41 (W : Valuation τ sig (Elt Ideal)) : StableHlo.after opsC W (Proc.devRef .tc main_v109) = (broadcastInDim S8x1x576 ![0, 2] bcast_S8x576_S8x1x576_0_2 (W (Proc.devRef .tc main_v45) : FVec Ideal S8x576 .f32) : FVec Ideal S8x1x576 .f32) := by
  simp only [opsC, hostOps0, List.drop_succ_cons, List.drop_zero, List.take_succ_cons, List.take_zero]
  after_reads_simp
/-- What they leave in the result of number 42. -/
theorem readC42 (W : Valuation τ sig (Elt Ideal)) : StableHlo.after opsC W (Proc.devRef .tc main_v110) = (broadcastInDim S8x1x576 ![0, 2] bcast_S8x576_S8x1x576_0_2 (W (Proc.devRef .tc main_v46) : FVec Ideal S8x576 .f32) : FVec Ideal S8x1x576 .f32) := by
  simp only [opsC, hostOps0, List.drop_succ_cons, List.drop_zero, List.take_succ_cons, List.take_zero]
  after_reads_simp
/-- What they leave in the result of number 43. -/
theorem readC43 (W : Valuation τ sig (Elt Ideal)) : StableHlo.after opsC W (Proc.devRef .tc main_v111) = (broadcastInDim S8x1x576 ![0, 2] bcast_S8x576_S8x1x576_0_2 (W (Proc.devRef .tc main_v47) : FVec Ideal S8x576 .f32) : FVec Ideal S8x1x576 .f32) := by
  simp only [opsC, hostOps0, List.drop_succ_cons, List.drop_zero, List.take_succ_cons, List.take_zero]
  after_reads_simp
/-- What they leave in the result of number 44. -/
theorem readC44 (W : Valuation τ sig (Elt Ideal)) : StableHlo.after opsC W (Proc.devRef .tc main_v112) = (broadcastInDim S8x1x576 ![0, 2] bcast_S8x576_S8x1x576_0_2 (W (Proc.devRef .tc main_v48) : FVec Ideal S8x576 .f32) : FVec Ideal S8x1x576 .f32) := by
  simp only [opsC, hostOps0, List.drop_succ_cons, List.drop_zero, List.take_succ_cons, List.take_zero]
  after_reads_simp
/-- What they leave in the result of number 45. -/
theorem readC45 (W : Valuation τ sig (Elt Ideal)) : StableHlo.after opsC W (Proc.devRef .tc main_v113) = (broadcastInDim S8x1x576 ![0, 2] bcast_S8x576_S8x1x576_0_2 (W (Proc.devRef .tc main_v49) : FVec Ideal S8x576 .f32) : FVec Ideal S8x1x576 .f32) := by
  simp only [opsC, hostOps0, List.drop_succ_cons, List.drop_zero, List.take_succ_cons, List.take_zero]
  after_reads_simp
/-- What they leave in the result of number 46. -/
theorem readC46 (W : Valuation τ sig (Elt Ideal)) : StableHlo.after opsC W (Proc.devRef .tc main_v114) = (broadcastInDim S8x1x576 ![0, 2] bcast_S8x576_S8x1x576_0_2 (W (Proc.devRef .tc main_v50) : FVec Ideal S8x576 .f32) : FVec Ideal S8x1x576 .f32) := by
  simp only [opsC, hostOps0, List.drop_succ_cons, List.drop_zero, List.take_succ_cons, List.take_zero]
  after_reads_simp
/-- What they leave in the result of number 47. -/
theorem readC47 (W : Valuation τ sig (Elt Ideal)) : StableHlo.after opsC W (Proc.devRef .tc main_v115) = (broadcastInDim S8x1x576 ![0, 2] bcast_S8x576_S8x1x576_0_2 (W (Proc.devRef .tc main_v51) : FVec Ideal S8x576 .f32) : FVec Ideal S8x1x576 .f32) := by
  simp only [opsC, hostOps0, List.drop_succ_cons, List.drop_zero, List.take_succ_cons, List.take_zero]
  after_reads_simp
/-- What they leave in the result of number 48. -/
theorem readC48 (W : Valuation τ sig (Elt Ideal)) : StableHlo.after opsC W (Proc.devRef .tc main_v116) = (broadcastInDim S8x1x576 ![0, 2] bcast_S8x576_S8x1x576_0_2 (W (Proc.devRef .tc main_v52) : FVec Ideal S8x576 .f32) : FVec Ideal S8x1x576 .f32) := by
  simp only [opsC, hostOps0, List.drop_succ_cons, List.drop_zero, List.take_succ_cons, List.take_zero]
  after_reads_simp
/-- What they leave in the result of number 49. -/
theorem readC49 (W : Valuation τ sig (Elt Ideal)) : StableHlo.after opsC W (Proc.devRef .tc main_v117) = (broadcastInDim S8x1x576 ![0, 2] bcast_S8x576_S8x1x576_0_2 (W (Proc.devRef .tc main_v53) : FVec Ideal S8x576 .f32) : FVec Ideal S8x1x576 .f32) := by
  simp only [opsC, hostOps0, List.drop_succ_cons, List.drop_zero, List.take_succ_cons, List.take_zero]
  after_reads_simp
/-- What they leave in the result of number 50. -/
theorem readC50 (W : Valuation τ sig (Elt Ideal)) : StableHlo.after opsC W (Proc.devRef .tc main_v118) = (broadcastInDim S8x1x576 ![0, 2] bcast_S8x576_S8x1x576_0_2 (W (Proc.devRef .tc main_v54) : FVec Ideal S8x576 .f32) : FVec Ideal S8x1x576 .f32) := by
  simp only [opsC, hostOps0, List.drop_succ_cons, List.drop_zero, List.take_succ_cons, List.take_zero]
  after_reads_simp
/-- What they leave in the result of number 51. -/
theorem readC51 (W : Valuation τ sig (Elt Ideal)) : StableHlo.after opsC W (Proc.devRef .tc main_v119) = (broadcastInDim S8x1x576 ![0, 2] bcast_S8x576_S8x1x576_0_2 (W (Proc.devRef .tc main_v55) : FVec Ideal S8x576 .f32) : FVec Ideal S8x1x576 .f32) := by
  simp only [opsC, hostOps0, List.drop_succ_cons, List.drop_zero, List.take_succ_cons, List.take_zero]
  after_reads_simp
/-- What they leave in the result of number 52. -/
theorem readC52 (W : Valuation τ sig (Elt Ideal)) : StableHlo.after opsC W (Proc.devRef .tc main_v120) = (broadcastInDim S8x1x576 ![0, 2] bcast_S8x576_S8x1x576_0_2 (W (Proc.devRef .tc main_v56) : FVec Ideal S8x576 .f32) : FVec Ideal S8x1x576 .f32) := by
  simp only [opsC, hostOps0, List.drop_succ_cons, List.drop_zero, List.take_succ_cons, List.take_zero]
  after_reads_simp
/-- What they leave in the result of number 53. -/
theorem readC53 (W : Valuation τ sig (Elt Ideal)) : StableHlo.after opsC W (Proc.devRef .tc main_v121) = (broadcastInDim S8x1x576 ![0, 2] bcast_S8x576_S8x1x576_0_2 (W (Proc.devRef .tc main_v57) : FVec Ideal S8x576 .f32) : FVec Ideal S8x1x576 .f32) := by
  simp only [opsC, hostOps0, List.drop_succ_cons, List.drop_zero, List.take_succ_cons, List.take_zero]
  after_reads_simp
/-- What they leave in the result of number 54. -/
theorem readC54 (W : Valuation τ sig (Elt Ideal)) : StableHlo.after opsC W (Proc.devRef .tc main_v122) = (broadcastInDim S8x1x576 ![0, 2] bcast_S8x576_S8x1x576_0_2 (W (Proc.devRef .tc main_v58) : FVec Ideal S8x576 .f32) : FVec Ideal S8x1x576 .f32) := by
  simp only [opsC, hostOps0, List.drop_succ_cons, List.drop_zero, List.take_succ_cons, List.take_zero]
  after_reads_simp
/-- What they leave in the result of number 55. -/
theorem readC55 (W : Valuation τ sig (Elt Ideal)) : StableHlo.after opsC W (Proc.devRef .tc main_v123) = (broadcastInDim S8x1x576 ![0, 2] bcast_S8x576_S8x1x576_0_2 (W (Proc.devRef .tc main_v59) : FVec Ideal S8x576 .f32) : FVec Ideal S8x1x576 .f32) := by
  simp only [opsC, hostOps0, List.drop_succ_cons, List.drop_zero, List.take_succ_cons, List.take_zero]
  after_reads_simp
/-- What they leave in the result of number 56. -/
theorem readC56 (W : Valuation τ sig (Elt Ideal)) : StableHlo.after opsC W (Proc.devRef .tc main_v124) = (broadcastInDim S8x1x576 ![0, 2] bcast_S8x576_S8x1x576_0_2 (W (Proc.devRef .tc main_v60) : FVec Ideal S8x576 .f32) : FVec Ideal S8x1x576 .f32) := by
  simp only [opsC, hostOps0, List.drop_succ_cons, List.drop_zero, List.take_succ_cons, List.take_zero]
  after_reads_simp
/-- What they leave in the result of number 57. -/
theorem readC57 (W : Valuation τ sig (Elt Ideal)) : StableHlo.after opsC W (Proc.devRef .tc main_v125) = (broadcastInDim S8x1x576 ![0, 2] bcast_S8x576_S8x1x576_0_2 (W (Proc.devRef .tc main_v61) : FVec Ideal S8x576 .f32) : FVec Ideal S8x1x576 .f32) := by
  simp only [opsC, hostOps0, List.drop_succ_cons, List.drop_zero, List.take_succ_cons, List.take_zero]
  after_reads_simp
/-- What they leave in the result of number 58. -/
theorem readC58 (W : Valuation τ sig (Elt Ideal)) : StableHlo.after opsC W (Proc.devRef .tc main_v126) = (broadcastInDim S8x1x576 ![0, 2] bcast_S8x576_S8x1x576_0_2 (W (Proc.devRef .tc main_v62) : FVec Ideal S8x576 .f32) : FVec Ideal S8x1x576 .f32) := by
  simp only [opsC, hostOps0, List.drop_succ_cons, List.drop_zero, List.take_succ_cons, List.take_zero]
  after_reads_simp
/-- What they leave in the result of number 59. -/
theorem readC59 (W : Valuation τ sig (Elt Ideal)) : StableHlo.after opsC W (Proc.devRef .tc main_v127) = (broadcastInDim S8x1x576 ![0, 2] bcast_S8x576_S8x1x576_0_2 (W (Proc.devRef .tc main_v63) : FVec Ideal S8x576 .f32) : FVec Ideal S8x1x576 .f32) := by
  simp only [opsC, hostOps0, List.drop_succ_cons, List.drop_zero, List.take_succ_cons, List.take_zero]
  after_reads_simp
/-- What they leave in the result of number 60. -/
theorem readC60 (W : Valuation τ sig (Elt Ideal)) : StableHlo.after opsC W (Proc.devRef .tc main_v128) = (broadcastInDim S8x1x576 ![0, 2] bcast_S8x576_S8x1x576_0_2 (W (Proc.devRef .tc main_v64) : FVec Ideal S8x576 .f32) : FVec Ideal S8x1x576 .f32) := by
  simp only [opsC, hostOps0, List.drop_succ_cons, List.drop_zero, List.take_succ_cons, List.take_zero]
  after_reads_simp
/-- What they leave in the result of number 61. -/
theorem readC61 (W : Valuation τ sig (Elt Ideal)) : StableHlo.after opsC W (Proc.devRef .tc main_v129) = (broadcastInDim S8x1x576 ![0, 2] bcast_S8x576_S8x1x576_0_2 (W (Proc.devRef .tc main_v65) : FVec Ideal S8x576 .f32) : FVec Ideal S8x1x576 .f32) := by
  simp only [opsC, hostOps0, List.drop_succ_cons, List.drop_zero, List.take_succ_cons, List.take_zero]
  after_reads_simp
/-- What they leave in the result of number 62. -/
theorem readC62 (W : Valuation τ sig (Elt Ideal)) : StableHlo.after opsC W (Proc.devRef .tc main_v130) = (broadcastInDim S8x1x576 ![0, 2] bcast_S8x576_S8x1x576_0_2 (W (Proc.devRef .tc main_v66) : FVec Ideal S8x576 .f32) : FVec Ideal S8x1x576 .f32) := by
  simp only [opsC, hostOps0, List.drop_succ_cons, List.drop_zero, List.take_succ_cons, List.take_zero]
  after_reads_simp
/-- What they leave in the result of number 63. -/
theorem readC63 (W : Valuation τ sig (Elt Ideal)) : StableHlo.after opsC W (Proc.devRef .tc main_v131) = (broadcastInDim S8x1x576 ![0, 2] bcast_S8x576_S8x1x576_0_2 (W (Proc.devRef .tc main_v67) : FVec Ideal S8x576 .f32) : FVec Ideal S8x1x576 .f32) := by
  simp only [opsC, hostOps0, List.drop_succ_cons, List.drop_zero, List.take_succ_cons, List.take_zero]
  after_reads_simp

end Cert.Band.KI

end
-- ==== Proof.KBiasD.lean ====
module

public import proofs.«01_k».proof.Proof.KBias

@[expose] public section

noncomputable section

namespace Cert.Band.KI

open Cert.KernelIdeal Cert.KernelIdeal.Gen
open Idealize.ShloMosaic Idealize.ShloMosaic.TcCoe
open Idealize.ShloMosaic.StableHlo

/-- The last operations of the bias: the stacking of the slabs. -/
def opsD : List (HloOp τ sig (Elt Ideal)) := hostOps0.drop 132

set_option maxHeartbeats 4000000 in
set_option maxRecDepth 16384 in
/-- What they leave, of the slabs. -/
theorem readD (W : Valuation τ sig (Elt Ideal)) : StableHlo.after opsD W (Proc.devRef .tc main_v138) =
    (shapeCast S4x128x576 (shapeCast S1x4x128x576 (concatenate S8x64x576 1 [⟨S8x16x576, (concatenate S8x16x576 1 [⟨S8x1x576, (W (Proc.devRef .tc main_v68) : FVec Ideal S8x1x576 .f32)⟩, ⟨S8x1x576, (W (Proc.devRef .tc main_v69) : FVec Ideal S8x1x576 .f32)⟩, ⟨S8x1x576, (W (Proc.devRef .tc main_v70) : FVec Ideal S8x1x576 .f32)⟩, ⟨S8x1x576, (W (Proc.devRef .tc main_v71) : FVec Ideal S8x1x576 .f32)⟩, ⟨S8x1x576, (W (Proc.devRef .tc main_v72) : FVec Ideal S8x1x576 .f32)⟩, ⟨S8x1x576, (W (Proc.devRef .tc main_v73) : FVec Ideal S8x1x576 .f32)⟩, ⟨S8x1x576, (W (Proc.devRef .tc main_v74) : FVec Ideal S8x1x576 .f32)⟩, ⟨S8x1x576, (W (Proc.devRef .tc main_v75) : FVec Ideal S8x1x576 .f32)⟩, ⟨S8x1x576, (W (Proc.devRef .tc main_v76) : FVec Ideal S8x1x576 .f32)⟩, ⟨S8x1x576, (W (Proc.devRef .tc main_v77) : FVec Ideal S8x1x576 .f32)⟩, ⟨S8x1x576, (W (Proc.devRef .tc main_v78) : FVec Ideal S8x1x576 .f32)⟩, ⟨S8x1x576, (W (Proc.devRef .tc main_v79) : FVec Ideal S8x1x576 .f32)⟩, ⟨S8x1x576, (W (Proc.devRef .tc main_v80) : FVec Ideal S8x1x576 .f32)⟩, ⟨S8x1x576, (W (Proc.devRef .tc main_v81) : FVec Ideal S8x1x576 .f32)⟩, ⟨S8x1x576, (W (Proc.devRef .tc main_v82) : FVec Ideal S8x1x576 .f32)⟩, ⟨S8x1x576, (W (Proc.devRef .tc main_v83) : FVec Ideal S8x1x576 .f32)⟩] concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 : FVec Ideal S8x16x576 .f32)⟩, ⟨S8x16x576, (concatenate S8x16x576 1 [⟨S8x1x576, (W (Proc.devRef .tc main_v84) : FVec Ideal S8x1x576 .f32)⟩, ⟨S8x1x576, (W (Proc.devRef .tc main_v85) : FVec Ideal S8x1x576 .f32)⟩, ⟨S8x1x576, (W (Proc.devRef .tc main_v86) : FVec Ideal S8x1x576 .f32)⟩, ⟨S8x1x576, (W (Proc.devRef .tc main_v87) : FVec Ideal S8x1x576 .f32)⟩, ⟨S8x1x576, (W (Proc.devRef .tc main_v88) : FVec Ideal S8x1x576 .f32)⟩, ⟨S8x1x576, (W (Proc.devRef .tc main_v89) : FVec Ideal S8x1x576 .f32)⟩, ⟨S8x1x576, (W (Proc.devRef .tc main_v90) : FVec Ideal S8x1x576 .f32)⟩, ⟨S8x1x576, (W (Proc.devRef .tc main_v91) : FVec Ideal S8x1x576 .f32)⟩, ⟨S8x1x576, (W (Proc.devRef .tc main_v92) : FVec Ideal S8x1x576 .f32)⟩, ⟨S8x1x576, (W (Proc.devRef .tc main_v93) : FVec Ideal S8x1x576 .f32)⟩, ⟨S8x1x576, (W (Proc.devRef .tc main_v94) : FVec Ideal S8x1x576 .f32)⟩, ⟨S8x1x576, (W (Proc.devRef .tc main_v95) : FVec Ideal S8x1x576 .f32)⟩, ⟨S8x1x576, (W (Proc.devRef .tc main_v96) : FVec Ideal S8x1x576 .f32)⟩, ⟨S8x1x576, (W (Proc.devRef .tc main_v97) : FVec Ideal S8x1x576 .f32)⟩, ⟨S8x1x576, (W (Proc.devRef .tc main_v98) : FVec Ideal S8x1x576 .f32)⟩, ⟨S8x1x576, (W (Proc.devRef .tc main_v99) : FVec Ideal S8x1x576 .f32)⟩] concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 : FVec Ideal S8x16x576 .f32)⟩, ⟨S8x16x576, (concatenate S8x16x576 1 [⟨S8x1x576, (W (Proc.devRef .tc main_v100) : FVec Ideal S8x1x576 .f32)⟩, ⟨S8x1x576, (W (Proc.devRef .tc main_v101) : FVec Ideal S8x1x576 .f32)⟩, ⟨S8x1x576, (W (Proc.devRef .tc main_v102) : FVec Ideal S8x1x576 .f32)⟩, ⟨S8x1x576, (W (Proc.devRef .tc main_v103) : FVec Ideal S8x1x576 .f32)⟩, ⟨S8x1x576, (W (Proc.devRef .tc main_v104) : FVec Ideal S8x1x576 .f32)⟩, ⟨S8x1x576, (W (Proc.devRef .tc main_v105) : FVec Ideal S8x1x576 .f32)⟩, ⟨S8x1x576, (W (Proc.devRef .tc main_v106) : FVec Ideal S8x1x576 .f32)⟩, ⟨S8x1x576, (W (Proc.devRef .tc main_v107) : FVec Ideal S8x1x576 .f32)⟩, ⟨S8x1x576, (W (Proc.devRef .tc main_v108) : FVec Ideal S8x1x576 .f32)⟩, ⟨S8x1x576, (W (Proc.devRef .tc main_v109) : FVec Ideal S8x1x576 .f32)⟩, ⟨S8x1x576, (W (Proc.devRef .tc main_v110) : FVec Ideal S8x1x576 .f32)⟩, ⟨S8x1x576, (W (Proc.devRef .tc main_v111) : FVec Ideal S8x1x576 .f32)⟩, ⟨S8x1x576, (W (Proc.devRef .tc main_v112) : FVec Ideal S8x1x576 .f32)⟩, ⟨S8x1x576, (W (Proc.devRef .tc main_v113) : FVec Ideal S8x1x576 .f32)⟩, ⟨S8x1x576, (W (Proc.devRef .tc main_v114) : FVec Ideal S8x1x576 .f32)⟩, ⟨S8x1x576, (W (Proc.devRef .tc main_v115) : FVec Ideal S8x1x576 .f32)⟩] concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 : FVec Ideal S8x16x576 .f32)⟩, ⟨S8x16x576, (concatenate S8x16x576 1 [⟨S8x1x576, (W (Proc.devRef .tc main_v116) : FVec Ideal S8x1x576 .f32)⟩, ⟨S8x1x576, (W (Proc.devRef .tc main_v117) : FVec Ideal S8x1x576 .f32)⟩, ⟨S8x1x576, (W (Proc.devRef .tc main_v118) : FVec Ideal S8x1x576 .f32)⟩, ⟨S8x1x576, (W (Proc.devRef .tc main_v119) : FVec Ideal S8x1x576 .f32)⟩, ⟨S8x1x576, (W (Proc.devRef .tc main_v120) : FVec Ideal S8x1x576 .f32)⟩, ⟨S8x1x576, (W (Proc.devRef .tc main_v121) : FVec Ideal S8x1x576 .f32)⟩, ⟨S8x1x576, (W (Proc.devRef .tc main_v122) : FVec Ideal S8x1x576 .f32)⟩, ⟨S8x1x576, (W (Proc.devRef .tc main_v123) : FVec Ideal S8x1x576 .f32)⟩, ⟨S8x1x576, (W (Proc.devRef .tc main_v124) : FVec Ideal S8x1x576 .f32)⟩, ⟨S8x1x576, (W (Proc.devRef .tc main_v125) : FVec Ideal S8x1x576 .f32)⟩, ⟨S8x1x576, (W (Proc.devRef .tc main_v126) : FVec Ideal S8x1x576 .f32)⟩, ⟨S8x1x576, (W (Proc.devRef .tc main_v127) : FVec Ideal S8x1x576 .f32)⟩, ⟨S8x1x576, (W (Proc.devRef .tc main_v128) : FVec Ideal S8x1x576 .f32)⟩, ⟨S8x1x576, (W (Proc.devRef .tc main_v129) : FVec Ideal S8x1x576 .f32)⟩, ⟨S8x1x576, (W (Proc.devRef .tc main_v130) : FVec Ideal S8x1x576 .f32)⟩, ⟨S8x1x576, (W (Proc.devRef .tc main_v131) : FVec Ideal S8x1x576 .f32)⟩] concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 : FVec Ideal S8x16x576 .f32)⟩] concatenates_S8x16x576_S8x16x576_S8x16x576_S8x16x576_S8x64x576_d1) shapeCasts_S8x64x576_S1x4x128x576) shapeCasts_S1x4x128x576_S4x128x576 : FVec Ideal S4x128x576 .f32) := by
  simp only [opsD, hostOps0, List.drop_succ_cons, List.drop_zero, List.take_succ_cons, List.take_zero]
  after_reads_simp
  rfl

end Cert.Band.KI

end
-- ==== Proof.KBiasV.lean ====
module

public import proofs.«01_k».proof.Proof.KBiasB
public import proofs.«01_k».proof.Proof.KBiasC
public import proofs.«01_k».proof.Proof.KBiasD

@[expose] public section

noncomputable section

namespace Cert.Band.KI

open Cert.KernelIdeal Cert.KernelIdeal.Gen
open Idealize.ShloMosaic Idealize.ShloMosaic.TcCoe
open Idealize.ShloMosaic.StableHlo

/-- The first operations of the bias: the reversed table. -/
def opsA : List (HloOp τ sig (Elt Ideal)) := hostOps0.take 4

/-- What they leave, of the table. -/
theorem readA {W} : StableHlo.after opsA W (Proc.devRef .tc main_v3) = revT (W (Proc.devRef .tc main_arg3)) := by
  simp only [opsA, hostOps0, List.take_succ_cons, List.take_zero]
  after_reads_simp
  rfl

/-- Two lines of operations run one after the other. -/
theorem after_both (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l₁ ih => exact ih _

/-- The operations are the four lines in a row. -/
theorem ops_lines : (hostOps0 : List (HloOp τ sig (Elt Ideal))) = opsA ++ (opsB ++ (opsC ++ opsD)) := rfl

variable (m : (ℓ : Loc nD τ sig) → Buf (Elt Ideal) ℓ)

set_option maxHeartbeats 4000000 in
set_option maxRecDepth 16384 in
/-- The region finds the bias so computed of the table. -/
theorem V_main_v138 (c : Dev nD) : V m c main_v138 = biasT (m ((c : Thread nD τ).loc main_arg3)) := by
  show StableHlo.after hostOps0 (fun b => m (c, b)) (Proc.devRef .tc main_v138) = _
  rw [ops_lines, after_both, after_both, after_both, readD]
  rw [readC0, readC1, readC2, readC3, readC4, readC5, readC6, readC7, readC8, readC9, readC10, readC11, readC12, readC13, readC14, readC15, readC16, readC17, readC18, readC19, readC20, readC21, readC22, readC23, readC24, readC25, readC26, readC27, readC28, readC29, readC30, readC31, readC32, readC33, readC34, readC35, readC36, readC37, readC38, readC39, readC40, readC41, readC42, readC43, readC44, readC45, readC46, readC47, readC48, readC49, readC50, readC51, readC52, readC53, readC54, readC55, readC56, readC57, readC58, readC59, readC60, readC61, readC62, readC63]
  rw [readB0, readB1, readB2, readB3, readB4, readB5, readB6, readB7, readB8, readB9, readB10, readB11, readB12, readB13, readB14, readB15, readB16, readB17, readB18, readB19, readB20, readB21, readB22, readB23, readB24, readB25, readB26, readB27, readB28, readB29, readB30, readB31, readB32, readB33, readB34, readB35, readB36, readB37, readB38, readB39, readB40, readB41, readB42, readB43, readB44, readB45, readB46, readB47, readB48, readB49, readB50, readB51, readB52, readB53, readB54, readB55, readB56, readB57, readB58, readB59, readB60, readB61, readB62, readB63]
  rw [readA]
  rfl

end Cert.Band.KI

end
-- ==== Proof.RVec.lean ====
module

public import proofs.«01_k».proof.Proof.Gen.ReferenceIdeal.Run
public import Idealize.ShloMosaic.Lib.Pointwise
public import Mathlib.Tactic.IntervalCases
public import Mathlib.Tactic.FinCases

@[expose] public section

noncomputable section

namespace Cert.Band.RI

open Cert.ReferenceIdeal Cert.ReferenceIdeal.Gen Cert.ReferenceIdeal.Value
open Idealize.ShloMosaic Idealize.ShloMosaic.TcCoe
open Idealize.ShloMosaic.StableHlo

/-- The masked scores of a chunk, of its queries, its window of keys, the window's mask and the bias. -/
def scoreV (qs : FVec Ideal S16x8x64x64 .f32) (ks : FVec Ideal S16x8x576x64 .f32) (mk : IVec S576 1) (bs : FVec Ideal S8x64x576 .f32) :
    FVec Ideal S16x8x64x576 .f32 :=
  select (broadcastInDim S16x8x64x576 ![3] bcast_S576_S16x8x64x576_3 mk)
    (addf (mulf (Host.dotGeneral dot_S16x8x64x64_S16x8x576x64_S16x8x64x576_3_3_2_2_01_01 none qs ks)
      (broadcastInDim S16x8x64x576 ![] bcast_S_S16x8x64x576 (constant S_ .f32 0x3E000000#32)))
      (broadcastInDim S16x8x64x576 ![0, 1, 2, 3] bcast_S1x8x64x576_S16x8x64x576_0_1_2_3 (broadcastInDim S1x8x64x576 ![1, 2, 3] bcast_S8x64x576_S1x8x64x576_1_2_3 bs)))
    (broadcastInDim S16x8x64x576 ![] bcast_S_S16x8x64x576 (id (constant S_ .f32 0xFF800000#32)))

/-- The row maxima of a chunk's scores. -/
def maxV (s : FVec Ideal S16x8x64x576 .f32) : FVec Ideal S16x8x64 .f32 :=
  Host.reduce FloatOps.maximumf s (constant S_ .f32 0xFF800000#32) reducesTo_S16x8x64x576_S16x8x64_d3 h_S_

/-- The weights of a chunk before normalizing, of its scores and its row maxima. -/
def expV (s : FVec Ideal S16x8x64x576 .f32) (r : FVec Ideal S16x8x64 .f32) : FVec Ideal S16x8x64x576 .f32 :=
  Host.exp (subf s (broadcastInDim S16x8x64x576 ![0, 1, 2, 3] bcast_S16x8x64x1_S16x8x64x576_0_1_2_3 (broadcastInDim S16x8x64x1 ![0, 1, 2] bcast_S16x8x64_S16x8x64x1_0_1_2 (maximumf (broadcastInDim S16x8x64 ![] bcast_S_S16x8x64 (constant S_ .f32 0xFF800000#32)) r))))

/-- The output of a chunk, of its weights and its window of values. -/
def outV (e : FVec Ideal S16x8x64x576 .f32) (vs : FVec Ideal S16x8x576x64 .f32) : FVec Ideal S16x8x64x64 .f32 :=
  Host.dotGeneral dot_S16x8x64x576_S16x8x576x64_S16x8x64x64_3_2_2_3_01_01 none (Host.divf e (broadcastInDim S16x8x64x576 ![0, 1, 2, 3] bcast_S16x8x64x1_S16x8x64x576_0_1_2_3 (broadcastInDim S16x8x64x1 ![0, 1, 2] bcast_S16x8x64_S16x8x64x1_0_1_2 (Host.reduceAdd e (constant S_ .f32 0x00000000#32) reducesTo_S16x8x64x576_S16x8x64_d3 h_S_)))) vs

/-- The scores at a row: the dot product over the head, scaled, plus the bias, where the mask holds. -/
theorem scoreV_apply (qs : FVec Ideal S16x8x64x64 .f32) (ks : FVec Ideal S16x8x576x64 .f32) (mk : IVec S576 1) (bs : FVec Ideal S8x64x576 .f32)
    (x : Fin 16) (h : Fin 8) (q : Fin 64) (w : Fin 576) :
    scoreV qs ks mk bs (ix4 x h q w) = Scalar.select (mk (ix1 w))
      ((∑ d : Fin 64, (qs (ix4 x h q d) : EReal) * ks (ix4 x h w d)) * Ideal.ofBits FTy.f32 1040187392#32 + bs (ix3 h q w))
      (Ideal.ofBits FTy.f32 4286578688#32) := by
  unfold scoreV
  pointwise
  rfl

/-- The weights at a row: the exponential of the score less the row's maximum. -/
theorem expV_apply (s : FVec Ideal S16x8x64x576 .f32) (r : FVec Ideal S16x8x64 .f32) (x : Fin 16) (h : Fin 8) (q : Fin 64) (w : Fin 576) :
    expV s r (ix4 x h q w) = Ideal.exp (s (ix4 x h q w) - max (Ideal.ofBits FTy.f32 4286578688#32) (r (ix3 x h q) : EReal)) := by
  unfold expV
  pointwise

/-- The output at a lane: the normalized weights against the window's values. -/
theorem outV_apply (e : FVec Ideal S16x8x64x576 .f32) (vs : FVec Ideal S16x8x576x64 .f32) (x : Fin 16) (h : Fin 8) (q : Fin 64) (d : Fin 64) :
    outV e vs (ix4 x h q d) = ∑ w : Fin 576, Ideal.div (e (ix4 x h q w)) (∑ z : Fin 576, (e (ix4 x h q z) : EReal)) * vs (ix4 x h w d) := by
  unfold outV
  pointwise

end Cert.Band.RI

end
-- ==== Proof.RSlice.lean ====
module

public import proofs.«01_k».proof.Proof.RVec

@[expose] public section

noncomputable section

namespace Cert.Band.RI

open Cert.ReferenceIdeal Cert.ReferenceIdeal.Gen Cert.ReferenceIdeal.Value
open Idealize.ShloMosaic Idealize.ShloMosaic.TcCoe
open Idealize.ShloMosaic.StableHlo

/-- A chunk's first key, of the list of chunks and the chunk's number. -/
def baseV (S : IVec S32 32) (c : IVec S_ 32) : IVec S_ 32 :=
  muli (shapeCast S_ (Host.dynamicSlice S1 S (fun k => (((![c] : Fin 1 → (⟨S_, .i32⟩ : BufTy).Contents (Elt Ideal))) k (Shape.Idx.first h_S_)).toInt) sliceFits_S32_S1) shapeCasts_S1_S_) (constantI S_ 32 64#32)

/-- A chunk's queries, of all of them and the chunk's number. -/
def queryV (X : FVec Ideal S32x16x8x64x64 .f32) (c : IVec S_ 32) : FVec Ideal S16x8x64x64 .f32 :=
  shapeCast S16x8x64x64 (Host.dynamicSlice S1x16x8x64x64 X (fun k => (((![c, constantI S_ 32 0#32, constantI S_ 32 0#32, constantI S_ 32 0#32, constantI S_ 32 0#32] : Fin 5 → (⟨S_, .i32⟩ : BufTy).Contents (Elt Ideal))) k (Shape.Idx.first h_S_)).toInt) sliceFits_S32x16x8x64x64_S1x16x8x64x64) shapeCasts_S1x16x8x64x64_S16x8x64x64

/-- A chunk's window of keys or values, of all of them and the window's first row. -/
def windowV (X : FVec Ideal S16x8x2560x64 .f32) (b : IVec S_ 32) : FVec Ideal S16x8x576x64 .f32 :=
  Host.dynamicSlice S16x8x576x64 X (fun k => (((![constantI S_ 32 0#32, constantI S_ 32 0#32, select (cmpi .slt b (constantI S_ 32 0#32)) (addi b (constantI S_ 32 2560#32)) b, constantI S_ 32 0#32] : Fin 4 → (⟨S_, .i32⟩ : BufTy).Contents (Elt Ideal))) k (Shape.Idx.first h_S_)).toInt) sliceFits_S16x8x2560x64_S16x8x576x64

/-- The outputs with a chunk's output put in. -/
def putV (O : FVec Ideal S32x16x8x64x64 .f32) (r : FVec Ideal S16x8x64x64 .f32) (c : IVec S_ 32) : FVec Ideal S32x16x8x64x64 .f32 :=
  id (Host.dynamicUpdateSlice O (broadcastInDim S1x16x8x64x64 ![1, 2, 3, 4] bcast_S16x8x64x64_S1x16x8x64x64_1_2_3_4 r) (fun k => (((![c, constantI S_ 32 0#32, constantI S_ 32 0#32, constantI S_ 32 0#32, constantI S_ 32 0#32] : Fin 5 → (⟨S_, .i32⟩ : BufTy).Contents (Elt Ideal))) k (Shape.Idx.first h_S_)).toInt) updateFits_S32x16x8x64x64_S1x16x8x64x64)

/-- Where a chunk's window is masked. -/
def maskV (b : IVec S_ 32) (off : IVec S576 32) : IVec S576 1 :=
  cmpi .sge (addi (broadcastInDim S576 ![] bcast_S_S576 b) off) (broadcastInDim S576 ![] bcast_S_S576 (constantI S_ 32 0#32))

/-- The word of a small number, read signed. -/
theorem toInt_small (n : ℕ) (h : n < 2 ^ 31) : (BitVec.ofNat 32 n).toInt = n := by
  rw [BitVec.toInt_eq_toNat_of_lt] <;> simp only [BitVec.toNat_ofNat] <;> omega

/-- A chunk's first key is sixty-four times its number. -/
theorem baseV_apply (S : IVec S32 32) (hS : S = fun y => BitVec.ofNat 32 (y 0).val) (n : ℕ) (hn : n < 32) :
    baseV S (fun _ => BitVec.ofNat 32 n) = fun _ => BitVec.ofNat 32 (64 * n) := by
  funext y
  unfold baseV
  have hc : Host.clampedStart S32 S1 sliceFits_S32_S1.1 (fun k => (((![fun _ => BitVec.ofNat 32 n] : Fin 1 → (⟨S_, .i32⟩ : BufTy).Contents (Elt Ideal))) k (Shape.Idx.first h_S_)).toInt) 0 = n :=
    Host.clampedStart_of_le _ _ _ _ (toInt_small n (by omega)) (by show n + 1 ≤ 32; omega)
  have key : Host.dynamicSlice S1 S (fun k => (((![fun _ => BitVec.ofNat 32 n] : Fin 1 → (⟨S_, .i32⟩ : BufTy).Contents (Elt Ideal))) k (Shape.Idx.first h_S_)).toInt) sliceFits_S32_S1 = fun _ => BitVec.ofNat 32 n := by
    funext z
    rw [Host.dynamicSlice_apply, hS]
    refine congrArg (BitVec.ofNat 32) ((congrArg (· + (z 0).val) hc).trans ?_)
    have : (z 0).val < 1 := (z 0).isLt
    show n + (z 0).val = n
    omega
  rw [key]
  show IntOp.muli (BitVec.ofNat 32 n) (BitVec.ofNat 32 64) = _
  clear hc key
  interval_cases n <;> rfl

/-- A chunk's queries at an index. -/
theorem queryV_apply (X : FVec Ideal S32x16x8x64x64 .f32) (n : ℕ) (hn : n < 32) (x : Fin 16) (h : Fin 8) (q d : Fin 64) :
    queryV X (fun _ => BitVec.ofNat 32 n) (ix4 x h q d) = X (ix5 ⟨n, hn⟩ x h q d) := by
  unfold queryV
  generalize hs : (fun k => (((![fun _ => BitVec.ofNat 32 n, constantI S_ 32 0#32, constantI S_ 32 0#32, constantI S_ 32 0#32, constantI S_ 32 0#32] : Fin 5 → (⟨S_, .i32⟩ : BufTy).Contents (Elt Ideal))) k (Shape.Idx.first h_S_)).toInt) = st
  have h0 : Host.clampedStart S32x16x8x64x64 S1x16x8x64x64 sliceFits_S32x16x8x64x64_S1x16x8x64x64.1 st 0 = n :=
    Host.clampedStart_of_le _ _ _ _ (by rw [← hs]; exact toInt_small n (by omega)) (by show n + 1 ≤ 32; omega)
  have h1 : Host.clampedStart S32x16x8x64x64 S1x16x8x64x64 sliceFits_S32x16x8x64x64_S1x16x8x64x64.1 st 1 = 0 :=
    Host.clampedStart_of_le _ _ _ _ (by rw [← hs]; rfl) (by decide)
  have h2 : Host.clampedStart S32x16x8x64x64 S1x16x8x64x64 sliceFits_S32x16x8x64x64_S1x16x8x64x64.1 st 2 = 0 :=
    Host.clampedStart_of_le _ _ _ _ (by rw [← hs]; rfl) (by decide)
  have h3 : Host.clampedStart S32x16x8x64x64 S1x16x8x64x64 sliceFits_S32x16x8x64x64_S1x16x8x64x64.1 st 3 = 0 :=
    Host.clampedStart_of_le _ _ _ _ (by rw [← hs]; rfl) (by decide)
  have h4 : Host.clampedStart S32x16x8x64x64 S1x16x8x64x64 sliceFits_S32x16x8x64x64_S1x16x8x64x64.1 st 4 = 0 :=
    Host.clampedStart_of_le _ _ _ _ (by rw [← hs]; rfl) (by decide)
  clear hs
  have key : ∀ x h q d, Host.dynamicSlice S1x16x8x64x64 X st sliceFits_S32x16x8x64x64_S1x16x8x64x64 (ix5 0 x h q d) = X (ix5 ⟨n, hn⟩ x h q d) := by
    intro x h q d
    rw [Host.dynamicSlice_apply]
    refine congrArg X (funext fun a => Fin.ext ?_)
    fin_cases a
    · exact (congrArg (· + 0) h0)
    · exact (congrArg (· + x.val) h1).trans (Nat.zero_add _)
    · exact (congrArg (· + h.val) h2).trans (Nat.zero_add _)
    · exact (congrArg (· + q.val) h3).trans (Nat.zero_add _)
    · exact (congrArg (· + d.val) h4).trans (Nat.zero_add _)
  generalize Host.dynamicSlice S1x16x8x64x64 X st sliceFits_S32x16x8x64x64_S1x16x8x64x64 = Y at key ⊢
  pointwise
  exact key _ _ _ _

/-- A chunk's window at an index. -/
theorem windowV_apply (X : FVec Ideal S16x8x2560x64 .f32) (n : ℕ) (hn : n < 32) (x : Fin 16) (h : Fin 8) (w : Fin 576) (d : Fin 64) :
    windowV X (fun _ => BitVec.ofNat 32 (64 * n)) (ix4 x h w d) = X (ix4 x h ⟨64 * n + w.val, by omega⟩ d) := by
  unfold windowV
  generalize hs : (fun k => (((![constantI S_ 32 0#32, constantI S_ 32 0#32, select (cmpi .slt (fun _ => BitVec.ofNat 32 (64 * n)) (constantI S_ 32 0#32)) (addi (fun _ => BitVec.ofNat 32 (64 * n)) (constantI S_ 32 2560#32)) (fun _ => BitVec.ofNat 32 (64 * n)), constantI S_ 32 0#32] : Fin 4 → (⟨S_, .i32⟩ : BufTy).Contents (Elt Ideal))) k (Shape.Idx.first h_S_)).toInt) = st
  have e2 : st 2 = (64 * n : ℕ) := by
    rw [← hs]
    clear hs st
    interval_cases n <;> rfl
  have h2 : Host.clampedStart S16x8x2560x64 S16x8x576x64 sliceFits_S16x8x2560x64_S16x8x576x64.1 st 2 = 64 * n :=
    Host.clampedStart_of_le _ _ _ _ e2 (by show 64 * n + 576 ≤ 2560; omega)
  have h0 : Host.clampedStart S16x8x2560x64 S16x8x576x64 sliceFits_S16x8x2560x64_S16x8x576x64.1 st 0 = 0 :=
    Host.clampedStart_of_le _ _ _ _ (by rw [← hs]; rfl) (by decide)
  have h1 : Host.clampedStart S16x8x2560x64 S16x8x576x64 sliceFits_S16x8x2560x64_S16x8x576x64.1 st 1 = 0 :=
    Host.clampedStart_of_le _ _ _ _ (by rw [← hs]; rfl) (by decide)
  have h3 : Host.clampedStart S16x8x2560x64 S16x8x576x64 sliceFits_S16x8x2560x64_S16x8x576x64.1 st 3 = 0 :=
    Host.clampedStart_of_le _ _ _ _ (by rw [← hs]; rfl) (by decide)
  clear hs
  rw [Host.dynamicSlice_apply]
  refine congrArg X (funext fun a => Fin.ext ?_)
  fin_cases a
  · exact (congrArg (· + x.val) h0).trans (Nat.zero_add _)
  · exact (congrArg (· + h.val) h1).trans (Nat.zero_add _)
  · exact congrArg (· + w.val) h2
  · exact (congrArg (· + d.val) h3).trans (Nat.zero_add _)

set_option maxHeartbeats 2000000 in
/-- The chunk's slot holds the chunk's output, every other one what it held. -/
theorem putV_apply (O : FVec Ideal S32x16x8x64x64 .f32) (r : FVec Ideal S16x8x64x64 .f32) (n : ℕ) (hn : n < 32) (i : Fin 32) (x : Fin 16)
    (h : Fin 8) (q d : Fin 64) :
    putV O r (fun _ => BitVec.ofNat 32 n) (ix5 i x h q d) = if i.val = n then r (ix4 x h q d) else O (ix5 i x h q d) := by
  unfold putV
  generalize hs : (fun k => (((![fun _ => BitVec.ofNat 32 n, constantI S_ 32 0#32, constantI S_ 32 0#32, constantI S_ 32 0#32, constantI S_ 32 0#32] : Fin 5 → (⟨S_, .i32⟩ : BufTy).Contents (Elt Ideal))) k (Shape.Idx.first h_S_)).toInt) = st
  have h0 : Host.clampedStart S32x16x8x64x64 S1x16x8x64x64 updateFits_S32x16x8x64x64_S1x16x8x64x64.1 st 0 = n :=
    Host.clampedStart_of_le _ _ _ _ (by rw [← hs]; exact toInt_small n (by omega)) (by show n + 1 ≤ 32; omega)
  have h1 : Host.clampedStart S32x16x8x64x64 S1x16x8x64x64 updateFits_S32x16x8x64x64_S1x16x8x64x64.1 st 1 = 0 :=
    Host.clampedStart_of_le _ _ _ _ (by rw [← hs]; rfl) (by decide)
  have h2 : Host.clampedStart S32x16x8x64x64 S1x16x8x64x64 updateFits_S32x16x8x64x64_S1x16x8x64x64.1 st 2 = 0 :=
    Host.clampedStart_of_le _ _ _ _ (by rw [← hs]; rfl) (by decide)
  have h3 : Host.clampedStart S32x16x8x64x64 S1x16x8x64x64 updateFits_S32x16x8x64x64_S1x16x8x64x64.1 st 3 = 0 :=
    Host.clampedStart_of_le _ _ _ _ (by rw [← hs]; rfl) (by decide)
  have h4 : Host.clampedStart S32x16x8x64x64 S1x16x8x64x64 updateFits_S32x16x8x64x64_S1x16x8x64x64.1 st 4 = 0 :=
    Host.clampedStart_of_le _ _ _ _ (by rw [← hs]; rfl) (by decide)
  clear hs
  have key : ∀ x h q d, broadcastInDim S1x16x8x64x64 ![1, 2, 3, 4] bcast_S16x8x64x64_S1x16x8x64x64_1_2_3_4 r (ix5 0 x h q d) = r (ix4 x h q d) := by
    intro x h q d
    pointwise
  generalize broadcastInDim S1x16x8x64x64 ![1, 2, 3, 4] bcast_S16x8x64x64_S1x16x8x64x64_1_2_3_4 r = Y at key ⊢
  rw [id, Host.dynamicUpdateSlice_apply]
  by_cases hi : i.val = n
  · rw [if_pos hi, dif_pos]
    · refine (congrArg Y (funext fun a => Fin.ext ?_)).trans (key x h q d)
      fin_cases a
      · show i.val - Host.clampedStart S32x16x8x64x64 S1x16x8x64x64 updateFits_S32x16x8x64x64_S1x16x8x64x64.1 st 0 = 0
        rw [h0]; omega
      · show x.val - Host.clampedStart S32x16x8x64x64 S1x16x8x64x64 updateFits_S32x16x8x64x64_S1x16x8x64x64.1 st 1 = x.val
        rw [h1]; rfl
      · show h.val - Host.clampedStart S32x16x8x64x64 S1x16x8x64x64 updateFits_S32x16x8x64x64_S1x16x8x64x64.1 st 2 = h.val
        rw [h2]; rfl
      · show q.val - Host.clampedStart S32x16x8x64x64 S1x16x8x64x64 updateFits_S32x16x8x64x64_S1x16x8x64x64.1 st 3 = q.val
        rw [h3]; rfl
      · show d.val - Host.clampedStart S32x16x8x64x64 S1x16x8x64x64 updateFits_S32x16x8x64x64_S1x16x8x64x64.1 st 4 = d.val
        rw [h4]; rfl
    · intro a
      fin_cases a
      · show Host.clampedStart S32x16x8x64x64 S1x16x8x64x64 updateFits_S32x16x8x64x64_S1x16x8x64x64.1 st 0 ≤ i.val ∧ i.val < Host.clampedStart S32x16x8x64x64 S1x16x8x64x64 updateFits_S32x16x8x64x64_S1x16x8x64x64.1 st 0 + 1
        rw [h0]; omega
      · show Host.clampedStart S32x16x8x64x64 S1x16x8x64x64 updateFits_S32x16x8x64x64_S1x16x8x64x64.1 st 1 ≤ x.val ∧ x.val < Host.clampedStart S32x16x8x64x64 S1x16x8x64x64 updateFits_S32x16x8x64x64_S1x16x8x64x64.1 st 1 + 16
        rw [h1]; omega
      · show Host.clampedStart S32x16x8x64x64 S1x16x8x64x64 updateFits_S32x16x8x64x64_S1x16x8x64x64.1 st 2 ≤ h.val ∧ h.val < Host.clampedStart S32x16x8x64x64 S1x16x8x64x64 updateFits_S32x16x8x64x64_S1x16x8x64x64.1 st 2 + 8
        rw [h2]; omega
      · show Host.clampedStart S32x16x8x64x64 S1x16x8x64x64 updateFits_S32x16x8x64x64_S1x16x8x64x64.1 st 3 ≤ q.val ∧ q.val < Host.clampedStart S32x16x8x64x64 S1x16x8x64x64 updateFits_S32x16x8x64x64_S1x16x8x64x64.1 st 3 + 64
        rw [h3]; omega
      · show Host.clampedStart S32x16x8x64x64 S1x16x8x64x64 updateFits_S32x16x8x64x64_S1x16x8x64x64.1 st 4 ≤ d.val ∧ d.val < Host.clampedStart S32x16x8x64x64 S1x16x8x64x64 updateFits_S32x16x8x64x64_S1x16x8x64x64.1 st 4 + 64
        rw [h4]; omega
  · rw [if_neg hi, dif_neg]
    intro hh
    have := hh 0
    have : Host.clampedStart S32x16x8x64x64 S1x16x8x64x64 updateFits_S32x16x8x64x64_S1x16x8x64x64.1 st 0 ≤ i.val ∧ i.val < Host.clampedStart S32x16x8x64x64 S1x16x8x64x64 updateFits_S32x16x8x64x64_S1x16x8x64x64.1 st 0 + 1 := this
    rw [h0] at this
    omega

/-- A window's position is masked out exactly where it reaches before the first key. -/
theorem maskV_apply (n : ℕ) (hn : n < 32) (off : IVec S576 32) (hoff : off = fun y => BitVec.ofInt 32 ((y 0).val - 512)) (w : Fin 576) :
    maskV (fun _ => BitVec.ofNat 32 (64 * n)) off (ix1 w) = if 512 ≤ 64 * n + w.val then 1#1 else 0#1 := by
  subst hoff
  unfold maskV
  pointwise
  have hw := w.isLt
  have e : IntOp.addi (BitVec.ofNat 32 (64 * n)) (BitVec.ofInt 32 ((w.val : ℤ) - 512)) = BitVec.ofInt 32 ((64 * n + w.val : ℤ) - 512) := by
    show BitVec.ofNat 32 (64 * n) + BitVec.ofInt 32 ((w.val : ℤ) - 512) = _
    rw [show BitVec.ofNat 32 (64 * n) = BitVec.ofInt 32 (64 * n : ℤ) by simp [← BitVec.ofInt_natCast], ← BitVec.ofInt_add]
    congr 1
    ring
  have t : (BitVec.ofInt 32 ((64 * n + w.val : ℤ) - 512)).toInt = (64 * n + w.val : ℤ) - 512 := by
    rw [BitVec.toInt_ofInt]
    apply Int.bmod_eq_of_le <;> omega
  rw [e]
  show BitVec.ofBool (decide ((0#32).toInt ≤ (BitVec.ofInt 32 ((64 * n + w.val : ℤ) - 512)).toInt)) = _
  rw [t, BitVec.toInt_zero]
  by_cases h : 512 ≤ 64 * n + w.val
  · rw [if_pos h, decide_eq_true (by omega)]; rfl
  · rw [if_neg h, decide_eq_false (by omega)]; rfl

end Cert.Band.RI

end
-- ==== Proof.RPre.lean ====
module

public import proofs.«01_k».proof.Proof.RSlice

@[expose] public section

noncomputable section

namespace Cert.Band.RI

open Cert.ReferenceIdeal Cert.ReferenceIdeal.Gen Cert.ReferenceIdeal.Value
open Idealize.ShloMosaic Idealize.ShloMosaic.TcCoe
open Idealize.ShloMosaic.StableHlo

/-- The queries by chunk and head. -/
def queryT (A : FVec Ideal S16x2048x512 .f32) : FVec Ideal S32x16x8x64x64 .f32 :=
  (transpose S32x16x8x64x64 [1, 0, 3, 2, 4] (shapeCast S16x32x64x8x64 (shapeCast S16x2048x8x64 A shapeCasts_S16x2048x512_S16x2048x8x64) shapeCasts_S16x2048x8x64_S16x32x64x8x64) transposes_S16x32x64x8x64_S32x16x8x64x64_1_0_3_2_4)

/-- The keys or values by head, with 512 rows of zeros before the first. -/
def padT (A : FVec Ideal S16x2048x512 .bf16) : FVec Ideal S16x8x2560x64 .f32 :=
  (transpose S16x8x2560x64 [0, 2, 1, 3] (pad S16x2560x8x64 ![0, 512, 0, 0] ![0, 0, 0, 0] ![0, 0, 0, 0] (shapeCast S16x2048x8x64 (extf .f32 A bitsLt_bf16_f32) shapeCasts_S16x2048x512_S16x2048x8x64) (sitofp .f32 (constantI S_ 32 0#32)) pads_S16x2048x8x64_S16x2560x8x64_000_51200_000_000 h_S_) transposes_S16x2560x8x64_S16x8x2560x64_0_2_1_3)

/-- The column of the bias table that a query and a window's position read, before a negative one is wrapped. -/
def colT : IVec S64x576 32 :=
  addi (minsi (broadcastInDim S64x576 ![] bcast_S_S64x576 (constantI S_ 32 256#32)) (maxsi (broadcastInDim S64x576 ![] bcast_S_S64x576 (constantI S_ 32 4294967233#32))
    (subi (broadcastInDim S64x576 ![0, 1] bcast_S64x1_S64x576_0_1 (broadcastInDim S64x1 ![0] bcast_S64_S64x1_0 (iotaInDim S64 32 0)))
      (broadcastInDim S64x576 ![0, 1] bcast_S1x576_S64x576_0_1 (subi (broadcastInDim S1x576 ![1] bcast_S576_S1x576_1 (iotaInDim S576 32 0)) (broadcastInDim S1x576 ![] bcast_S_S1x576 (constantI S_ 32 512#32)))))))
    (broadcastInDim S64x576 ![] bcast_S_S64x576 (constantI S_ 32 63#32))

/-- The column read. -/
def wrapT : IVec S64x576x1 32 :=
  broadcastInDim S64x576x1 ![0, 1] bcast_S64x576_S64x576x1_0_1 (select (cmpi .slt colT (broadcastInDim S64x576 ![] bcast_S_S64x576 (constantI S_ 32 0#32))) (addi colT (broadcastInDim S64x576 ![] bcast_S_S64x576 (constantI S_ 32 320#32))) colT)

/-- The bias, of the table. -/
def gatherT (T : FVec Ideal S8x320 .f32) : FVec Ideal S8x64x576 .f32 :=
  (Host.gather gather_S8x320_S64x576x1_S8x64x576_0_1_n_n_1_2_81 T wrapT)

/-- A window's positions, from the first key. -/
def offT : IVec S576 32 :=
  (subi (iotaInDim S576 32 0) (broadcastInDim S576 ![] bcast_S_S576 (constantI S_ 32 512#32)))

/-- The number of the zero word. -/
theorem sitofp_zero : (FloatOps.sitofp (F := Ideal) FTy.f32 (0#32) : EReal) = 0 := by
  show (((0#32 : BitVec 32).toInt : ℝ) : EReal) = 0
  simp

/-- The queries at an index. -/
theorem queryT_apply (A : FVec Ideal S16x2048x512 .f32) (n : Fin 32) (x : Fin 16) (h : Fin 8) (q d : Fin 64) :
    queryT A (ix5 n x h q d) = A (ix3 x ⟨64 * n.val + q.val, by omega⟩ ⟨64 * h.val + d.val, by omega⟩) := by
  unfold queryT
  pointwise
  refine congrArg A (congrArg₂ (ix3 x) (Fin.ext ?_) (Fin.ext ?_))
  · exact congrArg (· + q.val) (Nat.mul_comm _ _)
  · exact congrArg (· + d.val) (Nat.mul_comm _ _)

/-- The padded keys or values at an index. -/
theorem padT_apply (A : FVec Ideal S16x2048x512 .bf16) (x : Fin 16) (h : Fin 8) (r : Fin 2560) (d : Fin 64) (hr : 512 ≤ r.val) :
    padT A (ix4 x h r d) = A (ix3 x ⟨r.val - 512, by omega⟩ ⟨64 * h.val + d.val, by omega⟩) := by
  unfold padT
  pointwise
  rw [dif_pos ⟨hr, by omega⟩]
  refine congrArg A (congrArg (ix3 x _) (Fin.ext ?_))
  exact congrArg (· + d.val) (Nat.mul_comm _ _)

/-- The padded rows are zero. -/
theorem padT_zero (A : FVec Ideal S16x2048x512 .bf16) (x : Fin 16) (h : Fin 8) (r : Fin 2560) (d : Fin 64) (hr : r.val < 512) :
    padT A (ix4 x h r d) = (0 : EReal) := by
  unfold padT
  pointwise
  rw [dif_neg (fun hh => absurd hh.1 (by omega))]
  exact sitofp_zero

/-- The word of a difference of two small numbers. -/
theorem sub_word (a b : ℤ) : IntOp.subi (BitVec.ofInt 32 a) (BitVec.ofInt 32 b) = BitVec.ofInt 32 (a - b) := by
  show BitVec.ofInt 32 a - BitVec.ofInt 32 b = _
  rw [BitVec.sub_eq_add_neg, ← BitVec.ofInt_neg, ← BitVec.ofInt_add]
  rfl

/-- A small number's word, read signed. -/
theorem toInt_word (z : ℤ) (h : -1000000 < z ∧ z < 1000000) : (BitVec.ofInt 32 z).toInt = z := by
  rw [BitVec.toInt_ofInt]
  apply Int.bmod_eq_of_le <;> omega

/-- The word of a natural number. -/
theorem nat_word (n : ℕ) : BitVec.ofNat 32 n = BitVec.ofInt 32 (n : ℤ) := by simp

/-- A window's positions, from the first key, as words. -/
theorem offT_eq : offT = fun y => BitVec.ofInt 32 ((y 0).val - 512) := by
  funext y
  show IntOp.subi (BitVec.ofNat 32 (y 0).val) (BitVec.ofInt 32 512) = _
  rw [nat_word, sub_word]

/-- The larger of two small words. -/
theorem max_word (a b : ℤ) (ha : -1000000 < a ∧ a < 1000000) (hb : -1000000 < b ∧ b < 1000000) :
    IntOp.maxsi (BitVec.ofInt 32 a) (BitVec.ofInt 32 b) = BitVec.ofInt 32 (max a b) := by
  unfold IntOp.maxsi
  rw [BitVec.slt, toInt_word a ha, toInt_word b hb]
  by_cases h : b < a
  · rw [if_pos (by simpa using h), max_eq_left h.le]
  · rw [if_neg (by simpa using h), max_eq_right (not_lt.mp h)]

/-- The smaller of two small words. -/
theorem min_word (a b : ℤ) (ha : -1000000 < a ∧ a < 1000000) (hb : -1000000 < b ∧ b < 1000000) :
    IntOp.minsi (BitVec.ofInt 32 a) (BitVec.ofInt 32 b) = BitVec.ofInt 32 (min a b) := by
  unfold IntOp.minsi
  rw [BitVec.slt, toInt_word a ha, toInt_word b hb]
  by_cases h : a < b
  · rw [if_pos (by simpa using h), min_eq_left h.le]
  · rw [if_neg (by simpa using h), min_eq_right (not_lt.mp h)]

/-- The column a query and a window's position read. -/
theorem colT_apply (i : Fin 64) (w : Fin 576) :
    colT (ix2 i w) = BitVec.ofNat 32 (min (i.val + 575 - w.val) 319) := by
  have hi := i.isLt
  have hw := w.isLt
  unfold colT
  pointwise
  rw [nat_word i.val, nat_word w.val, show (512#32 : BitVec 32) = BitVec.ofInt 32 512 from rfl, sub_word, sub_word,
    show (4294967233#32 : BitVec 32) = BitVec.ofInt 32 (-63) from rfl, show (256#32 : BitVec 32) = BitVec.ofInt 32 256 from rfl,
    max_word _ _ (by omega) (by omega), min_word _ _ (by omega) (by omega)]
  show BitVec.ofInt 32 _ + BitVec.ofInt 32 63 = _
  rw [← BitVec.ofInt_add, nat_word]
  congr 1
  omega

/-- The wrapped column is that column. -/
theorem wrapT_apply (i : Fin 64) (w : Fin 576) :
    wrapT (ix3 i w 0) = BitVec.ofNat 32 (min (i.val + 575 - w.val) 319) := by
  unfold wrapT
  generalize hC : colT = C
  pointwise
  rw [← hC, colT_apply]
  have e : IntOp.cmpi .slt (BitVec.ofNat 32 (min (i.val + 575 - w.val) 319)) 0#32 = 0#1 := by
    show BitVec.ofBool (decide ((BitVec.ofNat 32 (min (i.val + 575 - w.val) 319)).toInt < (0#32).toInt)) = _
    rw [toInt_small _ (by omega), BitVec.toInt_zero, decide_eq_false (by omega)]
    rfl
  rw [e]
  rfl

variable (m : (l : Loc nD τ sig) → Buf (Elt Ideal) l)

/-- The chunk numbers the loop starts with. -/
theorem entry_0 (c : Dev nD) : entryContents preI m c (Proc.devRef .tc main_v35_0) = (iotaInDim S32 32 0 : IVec S32 32) := by
  simp only [entryContents, afterL_cons, afterL_nil]
  after_reads_simp
  rfl

/-- The queries the loop starts with. -/
theorem entry_1 (c : Dev nD) : entryContents preI m c (Proc.devRef .tc main_v35_1) = queryT (m ((c.tc : Thread nD τ).loc main_arg0)) := by
  simp only [entryContents, afterL_cons, afterL_nil]
  after_reads_simp
  rfl

/-- The keys the loop starts with. -/
theorem entry_2 (c : Dev nD) : entryContents preI m c (Proc.devRef .tc main_v35_2) = padT (m ((c.tc : Thread nD τ).loc main_arg1)) := by
  simp only [entryContents, afterL_cons, afterL_nil]
  after_reads_simp
  rfl

/-- The values the loop starts with. -/
theorem entry_3 (c : Dev nD) : entryContents preI m c (Proc.devRef .tc main_v35_3) = padT (m ((c.tc : Thread nD τ).loc main_arg2)) := by
  simp only [entryContents, afterL_cons, afterL_nil]
  after_reads_simp
  rfl

/-- The bias the loop starts with. -/
theorem entry_4 (c : Dev nD) : entryContents preI m c (Proc.devRef .tc main_v35_4) = gatherT (m ((c.tc : Thread nD τ).loc main_arg3)) := by
  simp only [entryContents, afterL_cons, afterL_nil]
  after_reads_simp
  rfl

/-- The window positions the loop starts with. -/
theorem entry_5 (c : Dev nD) : entryContents preI m c (Proc.devRef .tc main_v35_5) = offT := by
  simp only [entryContents, afterL_cons, afterL_nil]
  after_reads_simp
  rfl

end Cert.Band.RI

end
-- ==== Proof.RGat.lean ====
module

public import proofs.«01_k».proof.Proof.RSlice

@[expose] public section

noncomputable section

namespace Cert.Band.RI

open Cert.ReferenceIdeal Cert.ReferenceIdeal.Gen Cert.ReferenceIdeal.Value
open Idealize.ShloMosaic Idealize.ShloMosaic.TcCoe
open Idealize.ShloMosaic.StableHlo

/-- The gather along the table's columns at an index, where the column word is in range. -/
theorem gatherCol (T : FVec Ideal S8x320 .f32) (I : IVec S64x576x1 32) (h : Fin 8) (i : Fin 64) (w : Fin 576) (k : ℕ) (hk : k < 320)
    (hI : I (ix3 i w 0) = BitVec.ofNat 32 k) :
    Host.gather gather_S8x320_S64x576x1_S8x64x576_0_1_n_n_1_2_81 T I (ix3 h i w) = T (ix2 h ⟨k, hk⟩) := by
  unfold Host.gather
  refine congrArg T (funext fun a => Fin.ext ?_)
  have e : (gather_S8x320_S64x576x1_S8x64x576_0_1_n_n_1_2_81).siIdx (ix3 h i w) ⟨0, by decide⟩ = ix3 i w 0 := by
    funext b
    fin_cases b <;> rfl
  fin_cases a
  · show _ + _ + h.val = h.val
    exact Nat.zero_add _
  · show min (I ((gather_S8x320_S64x576x1_S8x64x576_0_1_n_n_1_2_81).siIdx (ix3 h i w) ⟨0, by decide⟩)).toInt.toNat (320 - 1) + 0 + 0 = k
    rw [e, hI, toInt_small k (by omega)]
    omega

end Cert.Band.RI

end
-- ==== Proof.RMax.lean ====
module

public import proofs.«01_k».proof.Proof.RVec

@[expose] public section

noncomputable section

namespace Cert.Band.RI

open Cert.ReferenceIdeal Cert.ReferenceIdeal.Gen Cert.ReferenceIdeal.Value
open Idealize.ShloMosaic Idealize.ShloMosaic.TcCoe
open Idealize.ShloMosaic.StableHlo

/-- A maximum along the last of four axes, at an index. -/
theorem rowMax {a b c n : Nat} (s : FVec Ideal ⟨4, ![a, b, c, n]⟩ .f32) (v : FVec Ideal S_ .f32)
    (hr : (⟨4, ![a, b, c, n]⟩ : Shape).ReducesTo [3] ⟨3, ![a, b, c]⟩) (hs : 0 < S_.numel) (i : Fin a) (j : Fin b) (k : Fin c) :
    Host.reduce FloatOps.maximumf s v hr hs (ix3 i j k)
      = Finset.fold max (v (Shape.Idx.first hs) : EReal) (fun w : Fin n => (s (ix4 i j k w) : EReal)) Finset.univ := by
  rw [Host.reduce_eq_fold, Shape.ReducesTo.fold_fiber_r4_a3]
  rfl

/-- The row maxima of a chunk at a row. -/
theorem maxV_apply (s : FVec Ideal S16x8x64x576 .f32) (x : Fin 16) (h : Fin 8) (q : Fin 64) :
    maxV s (ix3 x h q) = Finset.fold max (Ideal.ofBits FTy.f32 4286578688#32) (fun w : Fin 576 => (s (ix4 x h q w) : EReal)) Finset.univ :=
  rowMax s _ _ _ x h q

end Cert.Band.RI

end
-- ==== Proof.RStep.lean ====
module

public import proofs.«01_k».proof.Proof.RSlice
public import proofs.«01_k».proof.Proof.RMax

@[expose] public section

noncomputable section

namespace Cert.Band.RI

open Cert.ReferenceIdeal Cert.ReferenceIdeal.Gen Cert.ReferenceIdeal.Value
open Idealize.ShloMosaic Idealize.ShloMosaic.TcCoe
open Idealize.ShloMosaic.StableHlo

/-- A row's scores, of its query, its window's keys and its bias: masked before the first key. -/
def rowS (q : Fin 64 → EReal) (k : Fin 576 → Fin 64 → EReal) (b : Fin 576 → EReal) (n : ℕ) (w : Fin 576) : EReal :=
  if 512 ≤ 64 * n + w.val then (∑ d : Fin 64, q d * k w d) * Ideal.ofBits FTy.f32 1040187392#32 + b w else Ideal.ofBits FTy.f32 4286578688#32

/-- A row's weights before normalizing, of its scores. -/
def rowE (s : Fin 576 → EReal) (w : Fin 576) : EReal :=
  Ideal.exp (s w - max (Ideal.ofBits FTy.f32 4286578688#32) (Finset.fold max (Ideal.ofBits FTy.f32 4286578688#32) s Finset.univ))

/-- A row's output at a lane, of its weights and the lane's values. -/
def rowO (e : Fin 576 → EReal) (v : Fin 576 → EReal) : EReal :=
  ∑ w : Fin 576, Ideal.div (e w) (∑ z : Fin 576, e z) * v w

/-- Chunk `n`'s output, of the queries, the padded keys and values and the bias. -/
def chunkO (Q : S32x16x8x64x64.Idx → EReal) (K U : S16x8x2560x64.Idx → EReal) (B : S8x64x576.Idx → EReal) (n : ℕ) (hn : n < 32)
    (x : Fin 16) (h : Fin 8) (q d : Fin 64) : EReal :=
  rowO (rowE (rowS (fun l => Q (ix5 ⟨n, hn⟩ x h q l)) (fun w l => K (ix4 x h ⟨64 * n + w.val, by omega⟩ l)) (fun w => B (ix3 h q w)) n))
    (fun w => U (ix4 x h ⟨64 * n + w.val, by omega⟩ d))

variable (V0 : Valuation τ sig (Elt Ideal))

set_option maxRecDepth 8192 in
theorem v40_eq : res_main_while0b_v40 V0 = baseV (V0 (Proc.devRef .tc main_v35_0)) (V0 (Proc.devRef .tc main_v35_6)) := rfl

set_option maxRecDepth 8192 in
theorem v59_eq : res_main_while0b_v59 V0 = scoreV (queryV (V0 (Proc.devRef .tc main_v35_1)) (V0 (Proc.devRef .tc main_v35_6)))
    (windowV (V0 (Proc.devRef .tc main_v35_2)) (res_main_while0b_v40 V0))
    (maskV (res_main_while0b_v40 V0) (V0 (Proc.devRef .tc main_v35_5))) (V0 (Proc.devRef .tc main_v35_4)) := rfl

set_option maxRecDepth 8192 in
theorem v66_eq : res_main_while0b_v66 V0 = expV (res_main_while0b_v59 V0) (maxV (res_main_while0b_v59 V0)) := rfl

set_option maxRecDepth 8192 in
theorem step_eq : step_main_v35_7 V0 = putV (V0 (Proc.devRef .tc main_v35_7))
    (outV (res_main_while0b_v66 V0) (windowV (V0 (Proc.devRef .tc main_v35_3)) (res_main_while0b_v40 V0)))
    (V0 (Proc.devRef .tc main_v35_6)) := rfl

/-- The scores of chunk `n` at an index. -/
theorem score_at (Q : FVec Ideal S32x16x8x64x64 .f32) (K : FVec Ideal S16x8x2560x64 .f32) (B : FVec Ideal S8x64x576 .f32) (off : IVec S576 32)
    (hoff : off = fun y => BitVec.ofInt 32 ((y 0).val - 512)) (n : ℕ) (hn : n < 32) (x : Fin 16) (h : Fin 8) (q : Fin 64) (w : Fin 576) :
    scoreV (queryV Q (fun _ => BitVec.ofNat 32 n)) (windowV K (fun _ => BitVec.ofNat 32 (64 * n))) (maskV (fun _ => BitVec.ofNat 32 (64 * n)) off) B (ix4 x h q w)
      = rowS (fun l => Q (ix5 ⟨n, hn⟩ x h q l)) (fun w l => K (ix4 x h ⟨64 * n + w.val, by omega⟩ l)) (fun w => B (ix3 h q w)) n w := by
  rw [scoreV_apply, maskV_apply n hn _ hoff]
  simp only [queryV_apply _ n hn, windowV_apply _ n hn]
  unfold rowS
  by_cases hw : 512 ≤ 64 * n + w.val
  · rw [if_pos hw, if_pos hw]; rfl
  · rw [if_neg hw, if_neg hw]; rfl

/-- The weights of scores at an index. -/
theorem weight_at (s : FVec Ideal S16x8x64x576 .f32) (x : Fin 16) (h : Fin 8) (q : Fin 64) (w : Fin 576) :
    expV s (maxV s) (ix4 x h q w) = rowE (fun w => s (ix4 x h q w)) w := by
  rw [expV_apply, maxV_apply]
  rfl

/-- A trip's outputs, of the vectors it reads. -/
def tripV (S : IVec S32 32) (Q : FVec Ideal S32x16x8x64x64 .f32) (K U : FVec Ideal S16x8x2560x64 .f32) (B : FVec Ideal S8x64x576 .f32)
    (off : IVec S576 32) (c : IVec S_ 32) (O : FVec Ideal S32x16x8x64x64 .f32) : FVec Ideal S32x16x8x64x64 .f32 :=
  putV O (outV (expV (scoreV (queryV Q c) (windowV K (baseV S c)) (maskV (baseV S c) off) B)
    (maxV (scoreV (queryV Q c) (windowV K (baseV S c)) (maskV (baseV S c) off) B))) (windowV U (baseV S c))) c

/-- A trip's outputs at an index: the chunk's output in the chunk's slot. -/
theorem trip_at (S : IVec S32 32) (Q : FVec Ideal S32x16x8x64x64 .f32) (K U : FVec Ideal S16x8x2560x64 .f32) (B : FVec Ideal S8x64x576 .f32)
    (off : IVec S576 32) (c : IVec S_ 32) (O : FVec Ideal S32x16x8x64x64 .f32) (hS : S = fun y => BitVec.ofNat 32 (y 0).val)
    (hoff : off = fun y => BitVec.ofInt 32 ((y 0).val - 512)) (n : ℕ) (hn : n < 32) (hc : c = fun _ => BitVec.ofNat 32 n)
    (i : Fin 32) (x : Fin 16) (h : Fin 8) (q d : Fin 64) :
    tripV S Q K U B off c O (ix5 i x h q d) = if i.val = n then chunkO Q K U B n hn x h q d else O (ix5 i x h q d) := by
  subst hc
  unfold tripV
  rw [baseV_apply _ hS n hn, putV_apply _ _ n hn]
  by_cases hi : i.val = n
  · rw [if_pos hi, if_pos hi, outV_apply]
    simp only [weight_at, score_at _ _ _ _ hoff n hn, windowV_apply _ n hn]
    rfl
  · rw [if_neg hi, if_neg hi]

/-- A trip's new outputs, of the carried buffers. -/
theorem step_trip : step_main_v35_7 V0 = tripV (V0 (Proc.devRef .tc main_v35_0)) (V0 (Proc.devRef .tc main_v35_1)) (V0 (Proc.devRef .tc main_v35_2))
    (V0 (Proc.devRef .tc main_v35_3)) (V0 (Proc.devRef .tc main_v35_4)) (V0 (Proc.devRef .tc main_v35_5)) (V0 (Proc.devRef .tc main_v35_6)) (V0 (Proc.devRef .tc main_v35_7)) := by
  rw [step_eq, v66_eq, v59_eq, v40_eq]
  rfl

/-- The next trip's number. -/
theorem next_eq (n : ℕ) (hc : V0 (Proc.devRef .tc main_v35_6) = fun _ => BitVec.ofNat 32 n) :
    STEP V0 (Proc.devRef .tc main_v35_6) = fun _ => BitVec.ofNat 32 (n + 1) := by
  rw [STEP_main_v35_6]
  unfold step_main_v35_6
  rw [hc]
  funext y
  exact (BitVec.ofNat_add n 1).symm

/-- After `k` trips the lists, queries, keys, values, bias and offsets stand as they stood, the counter is `k`, and the slots of the first `k` chunks hold their outputs. -/
theorem trips (S : IVec S32 32) (Q : FVec Ideal S32x16x8x64x64 .f32) (K U : FVec Ideal S16x8x2560x64 .f32) (B : FVec Ideal S8x64x576 .f32)
    (off : IVec S576 32) (hS : S = fun y => BitVec.ofNat 32 (y 0).val) (hoff : off = fun y => BitVec.ofInt 32 ((y 0).val - 512))
    (h0 : V0 (Proc.devRef .tc main_v35_0) = S) (h1 : V0 (Proc.devRef .tc main_v35_1) = Q) (h2 : V0 (Proc.devRef .tc main_v35_2) = K)
    (h3 : V0 (Proc.devRef .tc main_v35_3) = U) (h4 : V0 (Proc.devRef .tc main_v35_4) = B) (h5 : V0 (Proc.devRef .tc main_v35_5) = off)
    (h6 : V0 (Proc.devRef .tc main_v35_6) = fun _ => BitVec.ofNat 32 0) (k : ℕ) (hk : k ≤ 32) :
    (STEP^[k] V0) (Proc.devRef .tc main_v35_0) = S ∧ (STEP^[k] V0) (Proc.devRef .tc main_v35_1) = Q ∧ (STEP^[k] V0) (Proc.devRef .tc main_v35_2) = K ∧
    (STEP^[k] V0) (Proc.devRef .tc main_v35_3) = U ∧ (STEP^[k] V0) (Proc.devRef .tc main_v35_4) = B ∧ (STEP^[k] V0) (Proc.devRef .tc main_v35_5) = off ∧
    (STEP^[k] V0) (Proc.devRef .tc main_v35_6) = (fun _ => BitVec.ofNat 32 k) ∧
    ∃ O : FVec Ideal S32x16x8x64x64 .f32, (STEP^[k] V0) (Proc.devRef .tc main_v35_7) = O ∧
      ∀ (i : Fin 32) (x : Fin 16) (h : Fin 8) (q d : Fin 64), i.val < k → O (ix5 i x h q d) = chunkO Q K U B i.val i.isLt x h q d := by
  induction k with
  | zero => exact ⟨h0, h1, h2, h3, h4, h5, h6, _, rfl, fun i x h q d hi => absurd hi (Nat.not_lt_zero _)⟩
  | succ k ih =>
    obtain ⟨e0, e1, e2, e3, e4, e5, e6, O, e7, hO⟩ := ih (by omega)
    simp only [Function.iterate_succ_apply']
    refine ⟨?_, ?_, ?_, ?_, ?_, ?_, next_eq _ k e6, _, rfl, ?_⟩
    · rw [STEP_main_v35_0, e0]
    · rw [STEP_main_v35_1, e1]
    · rw [STEP_main_v35_2, e2]
    · rw [STEP_main_v35_3, e3]
    · rw [STEP_main_v35_4, e4]
    · rw [STEP_main_v35_5, e5]
    · intro i x h q d hi
      rw [STEP_main_v35_7, step_trip, e0, e1, e2, e3, e4, e5, e6, e7]
      refine (trip_at S Q K U B off _ O hS hoff k (by omega) rfl i x h q d).trans ?_
      by_cases hik : i.val = k
      · rw [if_pos hik]
        subst hik
        rfl
      · rw [if_neg hik]
        exact hO i x h q d (by omega)

end Cert.Band.RI

end
-- ==== Proof.Soft.lean ====
module

public import proofs.«01_k».proof.Proof.KOff1
public import proofs.«01_k».proof.Proof.RStep

@[expose] public section

noncomputable section

namespace Cert.Band

open Idealize.ShloMosaic

/-- The word for minus infinity. -/
theorem neg_inf : Ideal.ofBits FTy.f32 4286578688#32 = ⊥ := by
  simp [Ideal.ofBits, Ideal.ieee]

/-- The word for one eighth. -/
theorem eighth : Ideal.ofBits FTy.f32 1040187392#32 = (((1 / 8 : ℝ)) : EReal) := by
  simp [Ideal.ofBits, Ideal.ieee, -EReal.coe_mul]
  norm_num

/-- A sum times a nonnegative real is the sum of the products, whatever the terms. -/
theorem sum_mul_real {ι : Type} (t : Finset ι) (f : ι → EReal) (c : ℝ) (hc : 0 ≤ c) :
    (∑ i ∈ t, f i) * (c : EReal) = ∑ i ∈ t, f i * (c : EReal) := by
  classical
  induction t using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- A sum of reals, read as extended reals. -/
theorem coe_sum {ι : Type} (t : Finset ι) (f : ι → ℝ) : ((∑ i ∈ t, f i : ℝ) : EReal) = ∑ i ∈ t, (f i : EReal) := by
  classical
  induction t using Finset.induction_on with
  | empty => simp
  | insert a s ha ih => rw [Finset.sum_insert ha, Finset.sum_insert ha, ← ih, EReal.coe_add]

/-- A fold of maxima from minus infinity is the supremum. -/
theorem fold_sup {n : ℕ} (s : Fin n → EReal) : Finset.fold max (⊥ : EReal) s Finset.univ = Finset.univ.sup s := rfl

section row

variable (P : Fin 576 → Prop) [DecidablePred P] (a : Fin 576 → ℝ) (L : ℝ) (hL : 0 < L)

/-- The maximum of masked scores is the largest unmasked score, and scaling the scores scales it. -/
theorem max_masked (hP : ∃ w, P w) : ∃ M : ℝ,
    Finset.fold max (⊥ : EReal) (fun w => if P w then (a w : EReal) else ⊥) Finset.univ = (M : EReal)
    ∧ ∀ L : ℝ, 0 < L → Finset.fold max (⊥ : EReal) (fun w => if P w then ((a w * L : ℝ) : EReal) else ⊥) Finset.univ = ((M * L : ℝ) : EReal) := by
  classical
  obtain ⟨w0, h0⟩ := hP
  have hne : (Finset.univ.filter P).Nonempty := ⟨w0, by simpa using h0⟩
  obtain ⟨w1, hw1, hmax⟩ := Finset.exists_max_image (Finset.univ.filter P) a hne
  have p1 : P w1 := by simpa using hw1
  have hm : ∀ w, P w → a w ≤ a w1 := fun w hw => hmax w (by simpa using hw)
  refine ⟨a w1, ?_, fun L hL => ?_⟩
  · rw [fold_sup]
    refine le_antisymm (Finset.sup_le fun w _ => ?_) ?_
    · by_cases hw : P w
      · rw [if_pos hw]; exact_mod_cast hm w hw
      · rw [if_neg hw]; exact bot_le
    · have := Finset.le_sup (f := fun w => if P w then (a w : EReal) else ⊥) (Finset.mem_univ w1)
      simpa [p1] using this
  · rw [fold_sup]
    refine le_antisymm (Finset.sup_le fun w _ => ?_) ?_
    · by_cases hw : P w
      · rw [if_pos hw]; exact_mod_cast mul_le_mul_of_nonneg_right (hm w hw) hL.le
      · rw [if_neg hw]; exact bot_le
    · have := Finset.le_sup (f := fun w => if P w then ((a w * L : ℝ) : EReal) else ⊥) (Finset.mem_univ w1)
      simpa [p1] using this

/-- The two forms of a row's output agree: powers of two of the scaled scores, normalized after the sum over the values, and
    exponentials of the scores, normalized before. -/
theorem row_eq (hP : ∃ w, P w) (v : Fin 576 → EReal) (f : ℕ → EReal) (s : Fin 576 → EReal)
    (hf : ∀ w : Fin 576, f w.val = if P w then ((a w * (Real.log 2)⁻¹ : ℝ) : EReal) else ⊥)
    (hs : ∀ w : Fin 576, s w = if P w then (a w : EReal) else ⊥) :
    (∑ w : Fin 576, KI.expN f w.val * v w) * KI.invN f = RI.rowO (RI.rowE s) v := by
  classical
  obtain ⟨M, h1, h2⟩ := max_masked P a hP
  have hl : 0 < Real.log 2 := Real.log_pos (by norm_num)
  have hs' : s = fun w => if P w then (a w : EReal) else ⊥ := funext hs
  let e : Fin 576 → ℝ := fun w => if P w then Real.exp (a w - M) else 0
  have he : ∀ w, RI.rowE s w = (e w : EReal) := by
    intro w
    unfold RI.rowE
    rw [neg_inf, hs', h1, max_eq_right bot_le]
    by_cases hw : P w
    · simp only [e, if_pos hw]
      rw [← EReal.coe_sub]
      rfl
    · simp only [e, if_neg hw]
      rw [EReal.bot_sub]
      rfl
  have hk : ∀ w : Fin 576, KI.expN f w.val = (e w : EReal) := by
    intro w
    unfold KI.expN
    rw [neg_inf, funext hf, h2 _ (inv_pos.mpr hl), hf]
    by_cases hw : P w
    · simp only [e, if_pos hw]
      rw [← EReal.coe_sub]
      show ((Real.rpow 2 (a w * (Real.log 2)⁻¹ - M * (Real.log 2)⁻¹) : ℝ) : EReal) = _
      congr 1
      show (2 : ℝ) ^ (a w * (Real.log 2)⁻¹ - M * (Real.log 2)⁻¹) = _
      rw [Real.rpow_def_of_pos (by norm_num)]
      congr 1
      field_simp
    · simp only [e, if_neg hw]
      rw [EReal.bot_sub]
      rfl
  have e0 : ∀ w, 0 ≤ e w := fun w => by
    simp only [e]; split
    · exact (Real.exp_pos _).le
    · exact le_refl _
  have hZ : 0 < ∑ w, e w := by
    obtain ⟨w0, h0⟩ := hP
    refine Finset.sum_pos' (fun w _ => e0 w) ⟨w0, Finset.mem_univ _, ?_⟩
    simp only [e, if_pos h0]
    exact Real.exp_pos _
  have hZe : ((∑ w, e w : ℝ) : EReal) ≠ 0 := by exact_mod_cast hZ.ne'
  unfold KI.invN RI.rowO
  simp only [hk, he, ← coe_sum]
  rw [Ideal.div, if_neg hZe, one_mul, ← EReal.coe_inv, sum_mul_real _ _ _ (inv_nonneg.mpr hZ.le)]
  refine Finset.sum_congr rfl fun w _ => ?_
  rw [Ideal.div, if_neg hZe, ← EReal.coe_inv, mul_right_comm]

end row

/-- A score of the head pair's stacked rows is the scaled score of its own head. -/
theorem score_eq (q k b : ℕ → ℕ → EReal) (a w l : ℕ) (ha : a < 64) (hl : l < 128)
    (qr kr : Fin 64 → ℝ) (br : ℝ)
    (hq : ∀ d : Fin 64, q a (64 * (l / 64) + d.val) = (qr d : EReal)) (hk : ∀ d : Fin 64, k w (64 * (l / 64) + d.val) = (kr d : EReal))
    (hb : b (if l < 64 then a else 64 + a) w = (br : EReal)) :
    KI.scoreN q k b (if l < 64 then a else 64 + a) w
      = ((((∑ d, qr d * kr d) * (1 / 8) + br) * (Real.log 2)⁻¹ : ℝ) : EReal) := by
  unfold KI.scoreN
  rw [hb]
  have key : (∑ d : Fin 128, (if ((if l < 64 then a else 64 + a) < 64 ↔ d.val < 64) then q ((if l < 64 then a else 64 + a) % 64) d.val * KI.sclE else 0) * k w d.val)
      = ∑ d : Fin 64, ((qr d * ((1 / 8) * (Real.log 2)⁻¹) * kr d : ℝ) : EReal) := by
    rw [show (∑ d : Fin 128, (if ((if l < 64 then a else 64 + a) < 64 ↔ d.val < 64) then q ((if l < 64 then a else 64 + a) % 64) d.val * KI.sclE else 0) * k w d.val)
      = ∑ d : Fin (64 + 64), (if ((if l < 64 then a else 64 + a) < 64 ↔ d.val < 64) then q ((if l < 64 then a else 64 + a) % 64) d.val * KI.sclE else 0) * k w d.val from rfl, Fin.sum_univ_add]
    by_cases h : l < 64
    · have h0 : l / 64 = 0 := by omega
      simp only [h0, Nat.mul_zero, Nat.zero_add] at hq hk
      simp only [if_pos h, Fin.val_castAdd, Fin.val_natAdd]
      refine (congrArg₂ (· + ·) (Finset.sum_congr rfl fun d _ => ?_) (Finset.sum_eq_zero fun d _ => ?_)).trans (add_zero _)
      · have hd := d.isLt
        rw [if_pos (by omega), Nat.mod_eq_of_lt ha, hq, hk]
        unfold KI.sclE
        rw [← EReal.coe_mul, ← EReal.coe_mul]
      · have hd := d.isLt
        rw [if_neg (by omega), zero_mul]
    · have h0 : l / 64 = 1 := by omega
      simp only [h0, Nat.mul_one] at hq hk
      simp only [if_neg h, Fin.val_castAdd, Fin.val_natAdd]
      refine (congrArg₂ (· + ·) (Finset.sum_eq_zero fun d _ => ?_) (Finset.sum_congr rfl fun d _ => ?_)).trans (zero_add _)
      · have hd := d.isLt
        rw [if_neg (by omega), zero_mul]
      · have hd := d.isLt
        rw [if_pos (by omega), show (64 + a) % 64 = a by omega, hq, hk]
        unfold KI.sclE
        rw [← EReal.coe_mul, ← EReal.coe_mul]
  rw [key, ← coe_sum]
  unfold KI.l2eE
  rw [← EReal.coe_mul, ← EReal.coe_add]
  congr 1
  rw [add_mul, Finset.sum_mul, Finset.sum_mul]
  congr 1
  exact Finset.sum_congr rfl fun d _ => by ring

end Cert.Band

end
-- ==== Proof.Meet.lean ====
module

public import proofs.«01_k».proof.Proof.KVal
public import proofs.«01_k».proof.Proof.KBiasV
public import proofs.«01_k».proof.Proof.RPre
public import proofs.«01_k».proof.Proof.RGat
public import proofs.«01_k».proof.Proof.Soft

@[expose] public section

noncomputable section

namespace Cert.Band

open Idealize.ShloMosaic

/-- The queries, keys and values as functions of natural numbers are real where the array is. -/
theorem nat3_real (A : Cert.KernelIdeal.S16x2048x512.Idx → EReal) (hA : ∀ y, ∃ r : ℝ, A y = r) (b a d : ℕ) : ∃ r : ℝ, KI.nat3 A b a d = r := by
  unfold KI.nat3
  split
  · exact hA _
  · exact ⟨0, rfl⟩

/-- The reference's padded rows are the kernel's. -/
theorem pad_eq (A : Cert.KernelIdeal.S16x2048x512.Idx → EReal) (x : Fin 16) (h : Fin 8) (r : Fin 2560) (d : Fin 64) (j : ℕ) (hj : j = 64 * h.val + d.val) :
    RI.padT A (ix4 x h r d) = KI.padRows (KI.nat3 A x.val) r.val j := by
  subst hj
  unfold KI.padRows
  by_cases hr : r.val < 512
  · rw [if_pos hr, RI.padT_zero A x h r d hr]
  · rw [if_neg hr, RI.padT_apply A x h r d (by omega)]
    exact KI.nat3_at A _ _ _ _ rfl rfl rfl

/-- The two biases agree. -/
theorem bias_eq (T : Cert.KernelIdeal.S8x320.Idx → EReal) (r l w : ℕ) (hr : r < 2048) (hl : l < 512) (hw : w < 576) :
    KI.natB (KI.biasT T) (l / 128) (if l % 128 < 64 then r % 64 else 64 + r % 64) w
      = RI.gatherT T (ix3 ⟨l / 64, by omega⟩ ⟨r % 64, by omega⟩ ⟨w, hw⟩) := by
  have hg : RI.gatherT T (ix3 ⟨l / 64, by omega⟩ ⟨r % 64, by omega⟩ ⟨w, hw⟩) = T (ix2 ⟨l / 64, by omega⟩ ⟨min (r % 64 + 575 - w) 319, by omega⟩) :=
    RI.gatherCol T RI.wrapT ⟨l / 64, by omega⟩ ⟨r % 64, by omega⟩ ⟨w, hw⟩ _ (by omega) (RI.wrapT_apply ⟨r % 64, by omega⟩ ⟨w, hw⟩)
  have hs : (if l % 128 < 64 then r % 64 else 64 + r % 64) < 128 := by split <;> omega
  rw [hg]
  refine (KI.natB_at (KI.biasT T) (ix3 ⟨l / 128, by omega⟩ ⟨_, hs⟩ ⟨w, hw⟩) _ _ _ rfl rfl rfl).symm.trans ?_
  rw [KI.biasT_apply]
  refine congrArg T (congrArg₂ ix2 (Fin.ext ?_) (Fin.ext ?_))
  · show 2 * (l / 128) + (if l % 128 < 64 then r % 64 else 64 + r % 64) / 64 = l / 64
    split <;> omega
  · show min ((if l % 128 < 64 then r % 64 else 64 + r % 64) % 64 + 575 - w) 319 = min (r % 64 + 575 - w) 319
    split <;> omega

/-- At every index the kernel's output is the reference's, where queries, keys and table are real. -/
theorem meet (A0 A1 A2 : Cert.KernelIdeal.S16x2048x512.Idx → EReal) (T : Cert.KernelIdeal.S8x320.Idx → EReal)
    (h0 : ∀ y, ∃ r : ℝ, A0 y = r) (h1 : ∀ y, ∃ r : ℝ, A1 y = r) (hT : ∀ y, ∃ r : ℝ, T y = r)
    (x : Fin 16) (r : Fin 2048) (l : Fin 512) :
    KI.attO (KI.nat3 A0 x.val) (KI.nat3 A1 x.val) (KI.nat3 A2 x.val) (KI.natB (KI.biasT T)) r.val l.val
      = RI.chunkO (RI.queryT A0) (RI.padT A1) (RI.padT A2) (RI.gatherT T) (r.val / 64) (by omega) x ⟨l.val / 64, by omega⟩ ⟨r.val % 64, by omega⟩ ⟨l.val % 64, by omega⟩ := by
  have hr := r.isLt
  have hl := l.isLt
  choose qn hq using nat3_real A0 h0
  choose kn hk using nat3_real A1 h1
  have hB : ∀ w : Fin 576, ∃ b : ℝ, RI.gatherT T (ix3 ⟨l.val / 64, by omega⟩ ⟨r.val % 64, by omega⟩ w) = b := fun w => by
    rw [show RI.gatherT T (ix3 ⟨l.val / 64, by omega⟩ ⟨r.val % 64, by omega⟩ w) = T (ix2 ⟨l.val / 64, by omega⟩ ⟨min (r.val % 64 + 575 - w.val) 319, by omega⟩) from
      RI.gatherCol T RI.wrapT ⟨l.val / 64, by omega⟩ ⟨r.val % 64, by omega⟩ w _ (by omega) (RI.wrapT_apply ⟨r.val % 64, by omega⟩ w)]
    exact hT _
  choose bn hb using hB
  have hd : ∀ d : ℕ, 128 * (l.val / 128) + (64 * (l.val % 128 / 64) + d) = 64 * (l.val / 64) + d := fun d => by omega
  unfold KI.attO KI.blockO KI.outN RI.chunkO
  refine (row_eq (fun w : Fin 576 => 512 ≤ 64 * (r.val / 64) + w.val)
    (fun w => (∑ d : Fin 64, qn x.val (64 * (r.val / 64) + r.val % 64) (64 * (l.val / 64) + d.val) * kn x.val (64 * (r.val / 64) + w.val - 512) (64 * (l.val / 64) + d.val)) * (1 / 8) + bn w)
    ⟨575, by show 512 ≤ 64 * (r.val / 64) + 575; omega⟩
    (fun w => KI.padRows (KI.nat3 A2 x.val) (64 * (r.val / 64) + w.val) (128 * (l.val / 128) + l.val % 128))
    _ (RI.rowS (fun d => RI.queryT A0 (ix5 ⟨r.val / 64, by omega⟩ x ⟨l.val / 64, by omega⟩ ⟨r.val % 64, by omega⟩ d))
      (fun w d => RI.padT A1 (ix4 x ⟨l.val / 64, by omega⟩ ⟨64 * (r.val / 64) + w.val, by omega⟩ d))
      (fun w => RI.gatherT T (ix3 ⟨l.val / 64, by omega⟩ ⟨r.val % 64, by omega⟩ w)) (r.val / 64)) ?_ ?_).trans ?_
  · intro w
    unfold KI.maskS
    by_cases hw : 512 ≤ 64 * (r.val / 64) + w.val
    · rw [if_pos (by omega), if_pos hw]
      unfold KI.chunkS
      refine score_eq _ _ _ (r.val % 64) w.val (l.val % 128) (by omega) (by omega) _ _ _ (fun d => ?_) (fun d => ?_) ?_
      · show KI.nat3 A0 x.val (64 * (r.val / 64) + r.val % 64) (128 * (l.val / 128) + (64 * (l.val % 128 / 64) + d.val)) = _
        rw [hd, hq]
      · show KI.padRows (KI.nat3 A1 x.val) (64 * (r.val / 64) + w.val) (128 * (l.val / 128) + (64 * (l.val % 128 / 64) + d.val)) = _
        unfold KI.padRows
        rw [if_neg (by omega), hd, hk]
      · rw [bias_eq T r.val l.val w.val hr hl w.isLt]
        exact hb w
    · rw [if_neg (by omega), if_neg hw]
  · intro w
    unfold RI.rowS
    by_cases hw : 512 ≤ 64 * (r.val / 64) + w.val
    · rw [if_pos hw, if_pos hw, eighth]
      beta_reduce
      rw [hb w, EReal.coe_add, EReal.coe_mul, coe_sum]
      refine congrArg (· + (bn w : EReal)) (congrArg (· * (((1 / 8 : ℝ)) : EReal)) (Finset.sum_congr rfl fun d _ => ?_))
      rw [EReal.coe_mul]
      refine congrArg₂ (· * ·) ?_ ?_
      · rw [← hq]
        exact (RI.queryT_apply A0 _ x _ _ d).trans (KI.nat3_at A0 _ _ _ _ rfl rfl rfl)
      · rw [← hk, pad_eq A1 x _ _ d (64 * (l.val / 64) + d.val) rfl]
        unfold KI.padRows
        rw [if_neg (by show ¬ (64 * (r.val / 64) + w.val < 512); omega)]
    · rw [if_neg hw, if_neg hw, neg_inf]
  · unfold RI.rowO
    refine Finset.sum_congr rfl fun w _ => congrArg₂ (· * ·) rfl ?_
    exact (pad_eq A2 x ⟨l.val / 64, by omega⟩ ⟨64 * (r.val / 64) + w.val, by omega⟩ ⟨l.val % 64, by omega⟩ (128 * (l.val / 128) + l.val % 128) (by show 128 * (l.val / 128) + l.val % 128 = 64 * (l.val / 64) + l.val % 64; omega)).symm

end Cert.Band

end
-- ==== Proof.RFin.lean ====
module

public import proofs.«01_k».proof.Proof.RStep
public import proofs.«01_k».proof.Proof.RPre

@[expose] public section

noncomputable section

namespace Cert.Band.RI

open Cert.ReferenceIdeal Cert.ReferenceIdeal.Gen Cert.ReferenceIdeal.Value
open Idealize.ShloMosaic Idealize.ShloMosaic.TcCoe Idealize.SL.Sem
open Idealize.ShloMosaic.StableHlo

/-- The chunks' outputs put back in rows. -/
def rowsT (O : FVec Ideal S32x16x8x64x64 .f32) : FVec Ideal S16x2048x512 .f32 :=
  shapeCast S16x2048x512 (transpose S16x32x64x8x64 [1, 0, 3, 2, 4] O transposes_S32x16x8x64x64_S16x32x64x8x64_1_0_3_2_4) shapeCasts_S16x32x64x8x64_S16x2048x512

/-- A row's output is its chunk's. -/
theorem rowsT_apply (O : FVec Ideal S32x16x8x64x64 .f32) (x : Fin 16) (r : Fin 2048) (l : Fin 512) :
    rowsT O (ix3 x r l) = O (ix5 ⟨r.val / 64, by omega⟩ x ⟨l.val / 64, by omega⟩ ⟨r.val % 64, by omega⟩ ⟨l.val % 64, by omega⟩) := by
  unfold rowsT
  pointwise

variable (m : (l : Loc nD τ sig) → Buf (Elt Ideal) l)

/-- The reference's output, from the memory it starts in. -/
def rout (c : Dev nD) : S16x2048x512.Idx → EReal :=
  out_main_v37 (STEP^[32] (entryContents preI m c))

/-- The reference runs, leaving its output and its arguments as they were. -/
theorem rrun (g : Dev nD → PrngReg) : θ_run (defs (F := Ideal)) (onTc (τ := τ) (main (F := Ideal))) ⟨m, fun _ => 0, g⟩ fun r => ∀ c : Dev nD,
      r.2.mem ((c.tc : Thread nD τ).loc main_v37) = rout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run m g

/-- The reference's output at an index: the chunk's output. -/
theorem ref_at (c : Dev nD) (x : Fin 16) (r : Fin 2048) (l : Fin 512) (A0 A1 A2 : S16x2048x512.Idx → EReal) (T : S8x320.Idx → EReal)
    (r0 : m ((c.tc : Thread nD τ).loc main_arg0) = A0) (r1 : m ((c.tc : Thread nD τ).loc main_arg1) = A1)
    (r2 : m ((c.tc : Thread nD τ).loc main_arg2) = A2) (r3 : m ((c.tc : Thread nD τ).loc main_arg3) = T) :
    rout m c (ix3 x r l)
      = chunkO (queryT A0) (padT A1) (padT A2) (gatherT T) (r.val / 64) (by omega) x ⟨l.val / 64, by omega⟩ ⟨r.val % 64, by omega⟩ ⟨l.val % 64, by omega⟩ := by
  subst r0 r1 r2 r3
  obtain ⟨_, _, _, _, _, _, _, O, e7, hO⟩ := trips (entryContents preI m c) _ _ _ _ _ _ rfl offT_eq (entry_0 m c) (entry_1 m c) (entry_2 m c) (entry_3 m c)
    (entry_4 m c) (entry_5 m c) (ctr_entry m c) 32 le_rfl
  have e : rout m c = rowsT O := by
    unfold rout
    rw [← e7]
    rfl
  rw [e]
  exact (rowsT_apply O x r l).trans (hO _ _ _ _ _ (by show r.val / 64 < 32; omega))

end Cert.Band.RI

end
-- ==== Proof.Finite.lean ====
module

public import proofs.«01_k».proof.Pre_finite_scores
public import Idealize.ShloMosaic.Lib.ReduceAll
public import proofs.«01_k».proof.Proof.Soft

@[expose] public section

noncomputable section

namespace Cert.Band

open Idealize.ShloMosaic

/-- A number whose absolute value is below infinity is real. -/
theorem real_of_abs (x : EReal) (h : Ideal.cmp .olt (max x (-x)) (Ideal.ofBits FTy.f32 0x7F800000#32) = 1#1) : ∃ r : ℝ, x = r := by
  have hi : Ideal.ofBits FTy.f32 0x7F800000#32 = (⊤ : EReal) := by simp [Ideal.ofBits, Ideal.ieee]
  rw [hi] at h
  induction x with
  | bot => simp [Ideal.cmp] at h
  | top => simp [Ideal.cmp] at h
  | coe r => exact ⟨r, rfl⟩

/-- An `and` of two bits that is 1 had both bits 1. -/
theorem both_one : ∀ a b : BitVec 1, IntOp.andi a b = 1#1 → a = 1#1 ∧ b = 1#1 := by
  decide

/-- A result of no dimension has one index. -/
instance oneIdx : Subsingleton Cert.Pre_finite_scores.S_.Idx := ⟨fun a b => funext fun d : Fin 0 => d.elim0⟩

/-- The precondition makes the queries, the keys and the table real. -/
theorem real_inputs [Cert.Pre_finite_scores.Facts] (a0 a1 a2 : Cert.Pre_finite_scores.S16x2048x512.Idx → EReal) (a3 : Cert.Pre_finite_scores.S8x320.Idx → EReal)
    (h : Cert.Pre_finite_scores.fn (F := Ideal) a0 a1 a2 a3 = fun _ => 1#1) :
    (∀ y, ∃ r : ℝ, a0 y = r) ∧ (∀ y, ∃ r : ℝ, a1 y = r) ∧ ∀ y, ∃ r : ℝ, a3 y = r := by
  have h' := congrFun h (fun d : Fin 0 => d.elim0)
  unfold Cert.Pre_finite_scores.fn at h'
  obtain ⟨h01, h3⟩ := both_one _ _ h'
  obtain ⟨h0, h1⟩ := both_one _ _ h01
  exact ⟨fun y => real_of_abs _ (Host.reduce_andi_all _ _ _ _ _ h0 y), fun y => real_of_abs _ (Host.reduce_andi_all _ _ _ _ _ h1 y),
    fun y => real_of_abs _ (Host.reduce_andi_all _ _ _ _ _ h3 y)⟩

end Cert.Band

end
-- ==== Proof.Final.lean ====
module

public import proofs.«01_k».proof.Defs
public import proofs.«01_k».proof.Proof.Meet
public import proofs.«01_k».proof.Proof.RFin
public import proofs.«01_k».proof.Proof.Finite

@[expose] public section

noncomputable section

namespace Cert.Band.KI

open Cert.KernelIdeal Cert.KernelIdeal.Gen
open Idealize.ShloMosaic
open Idealize.ShloMosaic.TcCoe Idealize.SL.Sem

/-- The kernel's output at an index, from the arguments. -/
theorem gout_at (m : (l : Loc nD τ sig) → Buf (Elt Ideal) l) (c : Dev nD) (A0 A1 A2 : S16x2048x512.Idx → EReal) (T : S8x320.Idx → EReal)
    (k0 : m ((c : Thread nD τ).loc main_arg0) = A0) (k1 : m ((c : Thread nD τ).loc main_arg1) = A1)
    (k2 : m ((c : Thread nD τ).loc main_arg2) = A2) (k3 : m ((c : Thread nD τ).loc main_arg3) = T)
    (x : Fin 16) (r : Fin 2048) (l : Fin 512) :
    gout m c (ix3 x r l) = attO (nat3 A0 x.val) (nat3 A1 x.val) (nat3 A2 x.val) (natB (biasT T)) r.val l.val := by
  subst k0 k1 k2 k3
  show attO (nat3 (V m c main_arg0) x.val) (nat3 (V m c main_arg1) x.val) (nat3 (V m c main_arg2) x.val) (natB (V m c main_v138)) r.val l.val = _
  rw [V_main_arg0 m c, V_main_arg1 m c, V_main_arg2 m c, V_main_v138 m c]

end Cert.Band.KI

namespace Cert.Band

open Idealize.ShloMosaic Idealize.SL.Sem

/-- An index of the output is its three coordinates. -/
theorem out_idx (y : Cert.KernelIdeal.S16x2048x512.Idx) : ∃ (x : Fin 16) (r : Fin 2048) (l : Fin 512), y = ix3 x r l :=
  ⟨y 0, y 1, y 2, funext fun d => by fin_cases d <;> rfl⟩

/-- From memories that agree on the arguments, with real queries, keys and table, the kernel's output is the reference's. -/
theorem outs_eq (m : (l : Loc Cert.KernelIdeal.nD Cert.KernelIdeal.τ Cert.KernelIdeal.sig) → Buf (Elt Ideal) l)
    (m' : (l : Loc Cert.ReferenceIdeal.nD Cert.ReferenceIdeal.τ Cert.ReferenceIdeal.sig) → Buf (Elt Ideal) l) (c : Dev Cert.KernelIdeal.nD)
    (A0 A1 A2 : Cert.KernelIdeal.S16x2048x512.Idx → EReal) (T : Cert.KernelIdeal.S8x320.Idx → EReal)
    (k0 : m ((c.tc : Thread Cert.KernelIdeal.nD Cert.KernelIdeal.τ).loc Cert.KernelIdeal.main_arg0) = A0)
    (k1 : m ((c.tc : Thread Cert.KernelIdeal.nD Cert.KernelIdeal.τ).loc Cert.KernelIdeal.main_arg1) = A1)
    (k2 : m ((c.tc : Thread Cert.KernelIdeal.nD Cert.KernelIdeal.τ).loc Cert.KernelIdeal.main_arg2) = A2)
    (k3 : m ((c.tc : Thread Cert.KernelIdeal.nD Cert.KernelIdeal.τ).loc Cert.KernelIdeal.main_arg3) = T)
    (r0 : m' ((c.tc : Thread Cert.ReferenceIdeal.nD Cert.ReferenceIdeal.τ).loc Cert.ReferenceIdeal.main_arg0) = A0)
    (r1 : m' ((c.tc : Thread Cert.ReferenceIdeal.nD Cert.ReferenceIdeal.τ).loc Cert.ReferenceIdeal.main_arg1) = A1)
    (r2 : m' ((c.tc : Thread Cert.ReferenceIdeal.nD Cert.ReferenceIdeal.τ).loc Cert.ReferenceIdeal.main_arg2) = A2)
    (r3 : m' ((c.tc : Thread Cert.ReferenceIdeal.nD Cert.ReferenceIdeal.τ).loc Cert.ReferenceIdeal.main_arg3) = T)
    (h0 : ∀ y, ∃ r : ℝ, A0 y = r) (h1 : ∀ y, ∃ r : ℝ, A1 y = r) (hT : ∀ y, ∃ r : ℝ, T y = r) (y : Cert.KernelIdeal.S16x2048x512.Idx) :
    RI.rout m' c y
      = KI.gout m c y := by
  obtain ⟨x, r, l, rfl⟩ := out_idx y
  exact (RI.ref_at m' c x r l A0 A1 A2 T r0 r1 r2 r3).trans ((meet A0 A1 A2 T h0 h1 hT x r l).symm.trans (KI.gout_at m c A0 A1 A2 T k0 k1 k2 k3 x r l).symm)

/-- The value claim: with real queries, keys and table, the idealized kernel and the reference end with equal outputs. -/
theorem algebraic [hp : Cert.Pre_finite_scores.Facts] :
    Cert.algebraic_KernelIdeal_ReferenceIdeal_pre_finite_scores (hKernelIdeal := Cert.KernelIdeal.Gen.facts) (hReferenceIdeal := Cert.ReferenceIdeal.Gen.facts) (hPre_finite_scores := hp) := by
  intro m g m' g' hpre hm
  refine ⟨fun c => KI.gout m c, KI.grun m g, (θ_run _ _ _).mono (fun r h c => ⟨(h c).1.trans (funext fun y => ?_), (h c).2⟩) (RI.rrun m' g')⟩
  obtain ⟨f0, f1, f3⟩ := real_inputs _ _ _ _ (hpre c)
  obtain ⟨a0, a1, a2, a3⟩ := hm c
  exact outs_eq m m' c _ _ _ _ rfl rfl rfl rfl a0 a1 a2 a3 f0 f1 f3 y

end Cert.Band

end
-- ==== Proof.InSpec.lean ====
module

public import Idealize.ShloMosaic.Lib.Pointwise
public import Idealize.ShloMosaic.PureOps.Ideal

@[expose] public section

noncomputable section

namespace Cert.Inp

open Idealize.ShloMosaic

/-- A row normalized by its root mean square, scaled by the gains. -/
def normF (x g : Fin 1024 → EReal) (k : Fin 1024) : EReal :=
  x k * Ideal.rsqrt (Ideal.div (∑ d, x d * x d) (Ideal.ofBits FTy.f32 0x44800000#32) + Ideal.ofBits FTy.f32 0x358637BD#32) * g k

/-- One entry of the projection of a normalized row. -/
def projF (x g w : Fin 1024 → EReal) : EReal := ∑ k, normF x g k * w k

/-- A head's entries normalized by their root mean square, scaled by the gains. -/
def headF (p g : Fin 64 → EReal) (d : Fin 64) : EReal :=
  p d * Ideal.rsqrt (Ideal.div (∑ e, p e * p e) (Ideal.ofBits FTy.f32 0x42800000#32) + Ideal.ofBits FTy.f32 0x358637BD#32) * g d

/-- The sum of the squares of the half of the lanes that lane `l` is in. -/
def halfF (p : Fin 128 → EReal) (l : Fin 128) : EReal :=
  if l.val < 64 then ∑ x : Fin 128, (if x.val < 64 then p x * p x else 0) else ∑ x : Fin 128, if x.val < 64 then 0 else p x * p x

/-- Two heads side by side, each normalized by its own half of the lanes. -/
def pairF (p : Fin 128 → EReal) (g : EReal) (l : Fin 128) : EReal :=
  p l * Ideal.rsqrt (halfF p l * Ideal.ofBits FTy.f32 0x3C800000#32 + Ideal.ofBits FTy.f32 0x358637BD#32) * g

/-- A sum over the lanes is the sums over the two halves. -/
theorem sum_halves (f : Fin 128 → EReal) : ∑ x, f x = (∑ e : Fin 64, f ⟨e.val, by omega⟩) + ∑ e : Fin 64, f ⟨64 + e.val, by omega⟩ :=
  Fin.sum_univ_add (a := 64) (b := 64) f

/-- The half's sum is the head's. -/
theorem halfF_eq (p : Fin 128 → EReal) (l : Fin 128) :
    halfF p l = ∑ e : Fin 64, p ⟨64 * (l.val / 64) + e.val, by omega⟩ * p ⟨64 * (l.val / 64) + e.val, by omega⟩ := by
  unfold halfF
  have h0 : ∀ e : Fin 64, e.val < 64 := fun e => e.isLt
  have h1 : ∀ e : Fin 64, ¬ (64 + e.val < 64) := fun e => by omega
  split
  · rw [sum_halves]
    simp only [h0, h1, if_true, if_false, Finset.sum_const_zero, add_zero]
    refine Finset.sum_congr rfl fun e _ => ?_
    have : l.val / 64 = 0 := by omega
    simp only [this, Nat.mul_zero, Nat.zero_add]
  · rw [sum_halves]
    simp only [h0, h1, if_true, if_false, Finset.sum_const_zero, zero_add]
    refine Finset.sum_congr rfl fun e _ => ?_
    have : l.val / 64 = 1 := by omega
    simp only [this, Nat.mul_one]

/-- The two constants are 64 and one over 64. -/
theorem over64 (s : EReal) : s * Ideal.ofBits FTy.f32 0x3C800000#32 = Ideal.div s (Ideal.ofBits FTy.f32 0x42800000#32) := by
  have h1 : Ideal.ofBits FTy.f32 0x3C800000#32 = (((64 : ℝ)⁻¹ : ℝ) : EReal) := by
    simp [Ideal.ofBits, Ideal.ieee]; rw [← EReal.coe_mul]; norm_num
  have h2 : Ideal.ofBits FTy.f32 0x42800000#32 = ((64 : ℝ) : EReal) := by
    simp [Ideal.ofBits, Ideal.ieee]; rw [← EReal.coe_mul]; norm_num
  have h3 : ((64 : ℝ) : EReal) ≠ 0 := by
    intro h
    have := EReal.coe_eq_zero.1 h
    norm_num at this
  rw [h1, h2, Ideal.div, if_neg h3, EReal.coe_inv]

/-- A pair of heads at a lane is the lane's head. -/
theorem pairF_eq (p : Fin 128 → EReal) (g : Fin 64 → EReal) (gl : EReal) (l : Fin 128) (hg : gl = g ⟨l.val % 64, by omega⟩) :
    pairF p gl l = headF (fun e => p ⟨64 * (l.val / 64) + e.val, by omega⟩) g ⟨l.val % 64, by omega⟩ := by
  unfold pairF headF
  rw [halfF_eq, over64, hg]
  have : l = ⟨64 * (l.val / 64) + l.val % 64, by omega⟩ := Fin.ext (by show l.val = 64 * (l.val / 64) + l.val % 64; omega)
  exact congrArg (fun z => z * _ * _) (congrArg p this)

end Cert.Inp

end
-- ==== Proof.InPay.lean ====
module

public import proofs.«01_k».proof.Proof.Gen.InKernelIdeal.Value
public import proofs.«01_k».proof.Proof.InSpec

@[expose] public section

noncomputable section

namespace Cert.Inp

open Cert.InKernelIdeal Cert.InKernelIdeal.Gen
open Idealize.ShloMosaic

/-- The lane mask: one on the lower half of the lanes. -/
theorem lower_lanes {α : Type} (x : Fin 128) (a b : α) :
    Scalar.select (IntOp.cmpi CmpIPredicate.slt (BitVec.ofNat 32 x.val) 64#32) a b = if x.val < 64 then a else b := by
  have h : IntOp.cmpi CmpIPredicate.slt (BitVec.ofNat 32 x.val) 64#32 = if x.val < 64 then 1#1 else 0#1 := by
    revert x; decide
  rw [h]
  split <;> rfl

/-- The normalized rows. -/
theorem norm_apply (x : Vec Ideal S512x1024 .f32) (g : Vec Ideal S1x1024 .f32) (a : Fin 512) (k : Fin 1024) :
    k0_pay1 x g (ix2 a k) = normF (fun k => x (ix2 a k)) (fun k => g (ix2 0 k)) k := by
  pointwise [k0_pay1]
  rfl

/-- A band of the projection. -/
theorem band_apply (h : FVec Ideal S512x1024 .bf16) (w : Vec Ideal S1024x256 .bf16) (a : Fin 512) (j : Fin 256) :
    k0_pay6 h w (ix2 a j) = ∑ k, h (ix2 a k) * w (ix2 k j) := by
  pointwise [k0_pay6]

/-- The heads' projection. -/
theorem wide_apply (h : FVec Ideal S512x1024 .bf16) (w : Vec Ideal S1024x512 .bf16) (a : Fin 512) (j : Fin 512) :
    k0_pay10 h w (ix2 a j) = ∑ k, h (ix2 a k) * w (ix2 k j) := by
  pointwise [k0_pay10]

/-- The values' projection. -/
theorem values_apply (h : FVec Ideal S512x1024 .bf16) (w : Vec Ideal S1024x512 .bf16) (a : Fin 512) (j : Fin 512) :
    k0_pay33 h w (ix2 a j) = ∑ k, h (ix2 a k) * w (ix2 k j) := by
  pointwise [k0_pay33]

/-- The first pair of query heads. -/
theorem q0_apply (h : FVec Ideal S512x1024 .bf16) (w : Vec Ideal S1024x512 .bf16) (g : Vec Ideal S1x128 .f32) (P : FVec Ideal S512x512 .f32)
    (hP : P = k0_pay10 h w) (a : Fin 512) (l : Fin 128) :
    k0_pay15 k0_pay9 (k0_pay11 h w) (k0_pay13 h w) (k0_pay14 h w) g (ix2 a l) = pairF (fun x => P (ix2 a ⟨x.val, by omega⟩)) (g (ix2 0 l)) l := by
  subst hP
  pointwise [k0_pay15, k0_pay9, k0_pay11, k0_pay12, k0_pay13, k0_pay14]
  simp only [lower_lanes]
  unfold pairF halfF
  rfl

/-- The second pair of query heads. -/
theorem q1_apply (P : FVec Ideal S512x512 .f32) (g : Vec Ideal S1x128 .f32) (a : Fin 512) (l : Fin 128) :
    k0_pay16 k0_pay9 P g (ix2 a l) = pairF (fun x => P (ix2 a ⟨128 + x.val, by omega⟩)) (g (ix2 0 l)) l := by
  pointwise [k0_pay16, k0_pay9]
  simp only [lower_lanes]
  unfold pairF halfF
  rfl

/-- The third pair of query heads. -/
theorem q2_apply (P : FVec Ideal S512x512 .f32) (g : Vec Ideal S1x128 .f32) (a : Fin 512) (l : Fin 128) :
    k0_pay19 k0_pay9 (k0_pay17 P) (k0_pay18 P) g (ix2 a l) = pairF (fun x => P (ix2 a ⟨256 + x.val, by omega⟩)) (g (ix2 0 l)) l := by
  pointwise [k0_pay19, k0_pay17, k0_pay18, k0_pay9]
  simp only [lower_lanes]
  unfold pairF halfF
  rfl

/-- The fourth pair of query heads. -/
theorem q3_apply (P : FVec Ideal S512x512 .f32) (g : Vec Ideal S1x128 .f32) (a : Fin 512) (l : Fin 128) :
    k0_pay22 (k0_pay20 P) (k0_pay21 k0_pay9 P) g (ix2 a l) = pairF (fun x => P (ix2 a ⟨384 + x.val, by omega⟩)) (g (ix2 0 l)) l := by
  pointwise [k0_pay22, k0_pay20, k0_pay21, k0_pay9]
  simp only [lower_lanes]
  unfold pairF halfF
  rfl

/-- The first pair of key heads. -/
theorem k0_apply (h : FVec Ideal S512x1024 .bf16) (w : Vec Ideal S1024x512 .bf16) (g : Vec Ideal S1x128 .f32) (a : Fin 512) (l : Fin 128) :
    k0_pay24 h k0_pay9 w g (ix2 a l) = pairF (fun x => k0_pay10 h w (ix2 a ⟨x.val, by omega⟩)) (g (ix2 0 l)) l := by
  rw [show k0_pay10 h w = k0_pay23 h w from rfl]
  pointwise [k0_pay24, k0_pay9]
  simp only [lower_lanes]
  unfold pairF halfF
  rfl

/-- The second pair of key heads. -/
theorem k1_apply (h : FVec Ideal S512x1024 .bf16) (w : Vec Ideal S1024x512 .bf16) (g : Vec Ideal S1x128 .f32) (a : Fin 512) (l : Fin 128) :
    k0_pay28 k0_pay9 (k0_pay25 h w) (k0_pay26 h w) k0_pay27 g (ix2 a l) = pairF (fun x => k0_pay10 h w (ix2 a ⟨128 + x.val, by omega⟩)) (g (ix2 0 l)) l := by
  rw [show k0_pay10 h w = k0_pay23 h w from rfl]
  pointwise [k0_pay28, k0_pay25, k0_pay26, k0_pay27, k0_pay9]
  simp only [lower_lanes]
  unfold pairF halfF
  rfl

/-- The third pair of key heads. -/
theorem k2_apply (P : FVec Ideal S512x512 .f32) (g : Vec Ideal S1x128 .f32) (a : Fin 512) (l : Fin 128) :
    k0_pay31 (k0_pay29 P) (k0_pay30 k0_pay9 P) g (ix2 a l) = pairF (fun x => P (ix2 a ⟨256 + x.val, by omega⟩)) (g (ix2 0 l)) l := by
  pointwise [k0_pay31, k0_pay29, k0_pay30, k0_pay9]
  simp only [lower_lanes]
  unfold pairF halfF
  rfl

/-- The fourth pair of key heads. -/
theorem k3_apply (P : FVec Ideal S512x512 .f32) (g : Vec Ideal S1x128 .f32) (a : Fin 512) (l : Fin 128) :
    k0_pay32 k0_pay9 P g (ix2 a l) = pairF (fun x => P (ix2 a ⟨384 + x.val, by omega⟩)) (g (ix2 0 l)) l := by
  pointwise [k0_pay32, k0_pay9]
  simp only [lower_lanes]
  unfold pairF halfF
  rfl

end Cert.Inp

end
-- ==== Proof.InBlk.lean ====
module

public import proofs.«01_k».proof.Proof.InPay
public import proofs.«01_k».proof.Proof.KRead
public import Idealize.ShloMosaic.Lib.Pipeline.ValueKit.Tiles

@[expose] public section

noncomputable section

namespace Cert.Inp

open Cert.InKernelIdeal Cert.InKernelIdeal.Gen
open Idealize.ShloMosaic
open Cert.Band.KI (canon_of emb_val)

/-- A column of the weights. -/
def colW (w : S1024x3328.Idx → EReal) (n : ℕ) (k : Fin 1024) : EReal := if h : n < 3328 then w (ix2 k ⟨n, h⟩) else 0

/-- One entry of the projection of the row `x`. -/
def entryF (x g : Fin 1024 → EReal) (w : S1024x3328.Idx → EReal) (n : ℕ) : EReal := projF x g (colW w n)

/-- One entry of the normalized heads of the projection of the row `x`; the heads begin at column `o`. -/
def headsF (x g : Fin 1024 → EReal) (w : S1024x3328.Idx → EReal) (G : Fin 64 → EReal) (o l : ℕ) : EReal :=
  headF (fun e => entryF x g w (o + (64 * (l / 64) + e.val))) G ⟨l % 64, by omega⟩

/-- A load of 256 columns of the weights. -/
theorem ld_w256 (X : S1024x3328.Idx → EReal) (o : ℕ) (inb) (k : Fin 1024) (b : Fin 256) :
    View.ld (Val := Elt Ideal) (e' := .bf16) X (Rect.unit (s := S1024x3328) ![0, o] S1024x256.size inb) (ix2 k b) = colW X (o + b.val) k := by
  have h : o + b.val < 3328 := by
    have h1 : o + 256 ≤ 3328 := inb 1
    omega
  unfold colW
  rw [dif_pos h]
  refine congrArg X (funext fun d => ?_)
  fin_cases d
  · exact Fin.ext ((emb_val _ _ inb _ 0).trans (Nat.zero_add _))
  · exact Fin.ext (emb_val _ _ inb _ 1)

/-- A load of 512 columns of the weights. -/
theorem ld_w512 (X : S1024x3328.Idx → EReal) (o : ℕ) (inb) (k : Fin 1024) (b : Fin 512) :
    View.ld (Val := Elt Ideal) (e' := .bf16) X (Rect.unit (s := S1024x3328) ![0, o] S1024x512.size inb) (ix2 k b) = colW X (o + b.val) k := by
  have h : o + b.val < 3328 := by
    have h1 : o + 512 ≤ 3328 := inb 1
    omega
  unfold colW
  rw [dif_pos h]
  refine congrArg X (funext fun d => ?_)
  fin_cases d
  · exact Fin.ext ((emb_val _ _ inb _ 0).trans (Nat.zero_add _))
  · exact Fin.ext (emb_val _ _ inb _ 1)

/-- A load of the whole row block. -/
theorem ld_rows (X : S512x1024.Idx → EReal) (inb) (a : Fin 512) (k : Fin 1024) :
    View.ld (Val := Elt Ideal) (e' := .f32) X (Rect.unit (s := S512x1024) ![0, 0] S512x1024.size inb) (ix2 a k) = X (ix2 a k) := by
  refine congrArg X (funext fun d => ?_)
  fin_cases d
  · exact Fin.ext ((emb_val _ _ inb _ 0).trans (Nat.zero_add _))
  · exact Fin.ext ((emb_val _ _ inb _ 1).trans (Nat.zero_add _))

/-- A load of the whole row of gains. -/
theorem ld_row (X : S1x1024.Idx → EReal) (inb) (a : Fin 1) (k : Fin 1024) :
    View.ld (Val := Elt Ideal) (e' := .f32) X (Rect.unit (s := S1x1024) ![0, 0] S1x1024.size inb) (ix2 a k) = X (ix2 a k) := by
  refine congrArg X (funext fun d => ?_)
  fin_cases d
  · exact Fin.ext ((emb_val _ _ inb _ 0).trans (Nat.zero_add _))
  · exact Fin.ext ((emb_val _ _ inb _ 1).trans (Nat.zero_add _))

/-- A load of two heads' gains, where the gains are one head's, once for each head. -/
theorem ld_gain (X : S1x512.Idx → EReal) (G : Fin 64 → EReal) (hX : ∀ l : Fin 512, X (ix2 0 l) = G ⟨l.val % 64, by omega⟩) (o : ℕ) (ho : o % 64 = 0) (inb) (b : Fin 128) :
    View.ld (Val := Elt Ideal) (e' := .f32) X (Rect.unit (s := S1x512) ![0, o] S1x128.size inb) (ix2 0 b) = G ⟨b.val % 64, by omega⟩ := by
  have h : o + b.val < 512 := by
    have h1 : o + 128 ≤ 512 := inb 1
    omega
  refine Eq.trans (congrArg X (funext fun d => ?_) : _ = X (ix2 0 ⟨o + b.val, h⟩)) ((hX _).trans (congrArg G (Fin.ext ?_)))
  · fin_cases d
    · exact Fin.ext ((emb_val _ _ inb _ 0).trans (Nat.zero_add _))
    · exact Fin.ext (emb_val _ _ inb _ 1)
  · show (o + b.val) % 64 = b.val % 64
    omega

/-- A stored piece of 256 columns agrees with `P`. -/
theorem piece256 (P : Fin 512 → ℕ → EReal) (o : ℕ) (inb) (w : S512x256.Idx → EReal) (h : ∀ (a : Fin 512) (b : Fin 256), w (ix2 a b) = P a (o + b.val))
    (x : (Rect.unit (s := S512x1792) ![0, o] S512x256.size inb).shape.Idx) :
    w x = P ((Rect.unit (s := S512x1792) ![0, o] S512x256.size inb).emb x 0) ((Rect.unit (s := S512x1792) ![0, o] S512x256.size inb).emb x 1).val := by
  obtain ⟨a, b, rfl⟩ : ∃ (a : Fin 512) (b : Fin 256), x = ix2 a b := ⟨_, _, (ix2_eta x).symm⟩
  have e0 : (Rect.unit (s := S512x1792) ![0, o] S512x256.size inb).emb (ix2 a b) 0 = a := Fin.ext ((emb_val _ _ inb _ 0).trans (Nat.zero_add _))
  have e1 : ((Rect.unit (s := S512x1792) ![0, o] S512x256.size inb).emb (ix2 a b) 1).val = o + b.val := emb_val _ _ inb _ 1
  rw [e0, e1]
  exact h a b

/-- A stored piece of 128 columns agrees with `P`. -/
theorem piece128 (P : Fin 512 → ℕ → EReal) (o : ℕ) (inb) (w : S512x128.Idx → EReal) (h : ∀ (a : Fin 512) (b : Fin 128), w (ix2 a b) = P a (o + b.val))
    (x : (Rect.unit (s := S512x512) ![0, o] S512x128.size inb).shape.Idx) :
    w x = P ((Rect.unit (s := S512x512) ![0, o] S512x128.size inb).emb x 0) ((Rect.unit (s := S512x512) ![0, o] S512x128.size inb).emb x 1).val := by
  obtain ⟨a, b, rfl⟩ : ∃ (a : Fin 512) (b : Fin 128), x = ix2 a b := ⟨_, _, (ix2_eta x).symm⟩
  have e0 : (Rect.unit (s := S512x512) ![0, o] S512x128.size inb).emb (ix2 a b) 0 = a := Fin.ext ((emb_val _ _ inb _ 0).trans (Nat.zero_add _))
  have e1 : ((Rect.unit (s := S512x512) ![0, o] S512x128.size inb).emb (ix2 a b) 1).val = o + b.val := emb_val _ _ inb _ 1
  rw [e0, e1]
  exact h a b

/-- A stored piece of 512 columns agrees with `P`. -/
theorem piece512 (P : Fin 512 → ℕ → EReal) (o : ℕ) (inb) (w : S512x512.Idx → EReal) (h : ∀ (a : Fin 512) (b : Fin 512), w (ix2 a b) = P a (o + b.val))
    (x : (Rect.unit (s := S512x512) ![0, o] S512x512.size inb).shape.Idx) :
    w x = P ((Rect.unit (s := S512x512) ![0, o] S512x512.size inb).emb x 0) ((Rect.unit (s := S512x512) ![0, o] S512x512.size inb).emb x 1).val := by
  obtain ⟨a, b, rfl⟩ : ∃ (a : Fin 512) (b : Fin 512), x = ix2 a b := ⟨_, _, (ix2_eta x).symm⟩
  have e0 : (Rect.unit (s := S512x512) ![0, o] S512x512.size inb).emb (ix2 a b) 0 = a := Fin.ext ((emb_val _ _ inb _ 0).trans (Nat.zero_add _))
  have e1 : ((Rect.unit (s := S512x512) ![0, o] S512x512.size inb).emb (ix2 a b) 1).val = o + b.val := emb_val _ _ inb _ 1
  rw [e0, e1]
  exact h a b

variable (x0 : Vec Ideal S512x1024 .f32) (x1 : Vec Ideal S1x1024 .f32) (x2 : Vec Ideal S1024x3328 .bf16) (x3 x4 : Vec Ideal S1x512 .f32)

/-- The normalized rows, from the blocks. -/
theorem rows_at (a : Fin 512) (k : Fin 1024) :
    k0_pay1 (View.ld x0 r0_0) (View.ld x1 r0_1) (ix2 a k) = normF (fun k => x0 (ix2 a k)) (fun k => x1 (ix2 0 k)) k := by
  rw [norm_apply]
  exact congrArg₂ (fun p q => normF p q k) (funext fun k => ld_rows x0 _ a k) (funext fun k => ld_row x1 _ 0 k)

/-- 256 columns of the projection, from the blocks. -/
theorem band_at (o : ℕ) (inb) (a : Fin 512) (b : Fin 256) :
    k0_pay6 (k0_pay1 (View.ld x0 r0_0) (View.ld x1 r0_1)) (View.ld x2 (Rect.unit (s := S1024x3328) ![0, o] S1024x256.size inb)) (ix2 a b)
      = entryF (fun k => x0 (ix2 a k)) (fun k => x1 (ix2 0 k)) x2 (o + b.val) := by
  rw [band_apply]
  unfold entryF projF
  refine Finset.sum_congr rfl fun k _ => ?_
  refine congrArg₂ (fun p q : EReal => p * q) (rows_at x0 x1 a k) (ld_w256 x2 o inb k b)

/-- 512 columns of the projection, from the blocks. -/
theorem wide_at (o : ℕ) (inb) (a : Fin 512) (b : Fin 512) :
    k0_pay10 (k0_pay1 (View.ld x0 r0_0) (View.ld x1 r0_1)) (View.ld x2 (Rect.unit (s := S1024x3328) ![0, o] S1024x512.size inb)) (ix2 a b)
      = entryF (fun k => x0 (ix2 a k)) (fun k => x1 (ix2 0 k)) x2 (o + b.val) := by
  rw [wide_apply]
  unfold entryF projF
  refine Finset.sum_congr rfl fun k _ => ?_
  refine congrArg₂ (fun p q : EReal => p * q) (rows_at x0 x1 a k) (ld_w512 x2 o inb k b)

/-- The shared columns' block. -/
theorem out5_at (y : S512x1792.Idx) :
    out0_5 x0 x1 x2 x3 x4 y = entryF (fun k => x0 (ix2 (y 0) k)) (fun k => x1 (ix2 0 k)) x2 (y 1).val := by
  refine canon_of _ (fun y : S512x1792.Idx => (fun (a : Fin 512) (n : ℕ) => entryF (fun k => x0 (ix2 a k)) (fun k => x1 (ix2 0 k)) x2 n) (y 0) (y 1).val) ?_ y (cover0_5 _ _ _ _ _ _ _ y)
  intro P hP
  simp only [List.mem_cons, List.not_mem_nil, or_false] at hP
  rcases hP with rfl | rfl | rfl | rfl | rfl | rfl | rfl
  · exact piece256 (fun (a : Fin 512) (n : ℕ) => entryF (fun k => x0 (ix2 a k)) (fun k => x1 (ix2 0 k)) x2 n) 1536 inb_S512x1792_S512x256_0_1536 _ (fun a b => band_at x0 x1 x2 1536 inb_S1024x3328_S1024x256_0_1536 a b)
  · exact piece256 (fun (a : Fin 512) (n : ℕ) => entryF (fun k => x0 (ix2 a k)) (fun k => x1 (ix2 0 k)) x2 n) 1280 inb_S512x1792_S512x256_0_1280 _ (fun a b => band_at x0 x1 x2 1280 inb_S1024x3328_S1024x256_0_1280 a b)
  · exact piece256 (fun (a : Fin 512) (n : ℕ) => entryF (fun k => x0 (ix2 a k)) (fun k => x1 (ix2 0 k)) x2 n) 1024 inb_S512x1792_S512x256_0_1024 _ (fun a b => band_at x0 x1 x2 1024 inb_S1024x3328_S1024x256_0_1024 a b)
  · exact piece256 (fun (a : Fin 512) (n : ℕ) => entryF (fun k => x0 (ix2 a k)) (fun k => x1 (ix2 0 k)) x2 n) 768 inb_S512x1792_S512x256_0_768 _ (fun a b => band_at x0 x1 x2 768 inb_S1024x3328_S1024x256_0_768 a b)
  · exact piece256 (fun (a : Fin 512) (n : ℕ) => entryF (fun k => x0 (ix2 a k)) (fun k => x1 (ix2 0 k)) x2 n) 512 inb_S512x1792_S512x256_0_512 _ (fun a b => band_at x0 x1 x2 512 inb_S1024x3328_S1024x256_0_512 a b)
  · exact piece256 (fun (a : Fin 512) (n : ℕ) => entryF (fun k => x0 (ix2 a k)) (fun k => x1 (ix2 0 k)) x2 n) 256 inb_S512x1792_S512x256_0_256 _ (fun a b => band_at x0 x1 x2 256 inb_S1024x3328_S1024x256_0_256 a b)
  · exact piece256 (fun (a : Fin 512) (n : ℕ) => entryF (fun k => x0 (ix2 a k)) (fun k => x1 (ix2 0 k)) x2 n) 0 inb_S512x1792_S512x256_0_0 _ (fun a b => band_at x0 x1 x2 0 inb_S1024x3328_S1024x256_0_0 a b)

/-- The values' block. -/
theorem out8_at (y : S512x512.Idx) :
    out0_8 x0 x1 x2 x3 x4 y = entryF (fun k => x0 (ix2 (y 0) k)) (fun k => x1 (ix2 0 k)) x2 (2816 + (y 1).val) := by
  refine canon_of _ (fun y : S512x512.Idx => (fun (a : Fin 512) (n : ℕ) => entryF (fun k => x0 (ix2 a k)) (fun k => x1 (ix2 0 k)) x2 (2816 + n)) (y 0) (y 1).val) ?_ y (cover0_8 _ y)
  intro P hP
  simp only [List.mem_cons, List.not_mem_nil, or_false] at hP
  rcases hP with rfl
  exact piece512 (fun (a : Fin 512) (n : ℕ) => entryF (fun k => x0 (ix2 a k)) (fun k => x1 (ix2 0 k)) x2 (2816 + n)) 0 inb_S512x512_S512x512_0_0 _
    (fun a b => (wide_at x0 x1 x2 2816 inb_S1024x3328_S1024x512_0_2816 a b).trans (congrArg (fun n => entryF _ _ x2 (2816 + n)) (Nat.zero_add b.val).symm))

/-- A pair of heads' lanes, from the blocks. -/
theorem pair_at (G : Fin 64 → EReal) (X : S1x512.Idx → EReal) (hX : ∀ l : Fin 512, X (ix2 0 l) = G ⟨l.val % 64, by omega⟩)
    (c o : ℕ) (ho : o % 64 = 0) (inb) (a : Fin 512) (b : Fin 128) (p : Fin 128 → EReal)
    (hp : ∀ x : Fin 128, p x = entryF (fun k => x0 (ix2 a k)) (fun k => x1 (ix2 0 k)) x2 (c + (o + x.val))) :
    pairF p (View.ld (Val := Elt Ideal) (e' := .f32) X (Rect.unit (s := S1x512) ![0, o] S1x128.size inb) (ix2 0 b)) b
      = headsF (fun k => x0 (ix2 a k)) (fun k => x1 (ix2 0 k)) x2 G c (o + b.val) := by
  rw [pairF_eq p G _ b (ld_gain X G hX o ho inb b)]
  unfold headsF
  have h1 : (o + b.val) % 64 = b.val % 64 := by omega
  have h2 : 64 * ((o + b.val) / 64) = o + 64 * (b.val / 64) := by omega
  refine congrArg₂ (fun q d => headF q G d) (funext fun e => ?_) (Fin.ext h1.symm)
  rw [hp, h2]
  exact congrArg (entryF _ _ x2) (show c + (o + (64 * (b.val / 64) + e.val)) = c + (o + 64 * (b.val / 64) + e.val) by omega)

/-- The queries' block. -/
theorem out6_at (G : Fin 64 → EReal) (hX : ∀ l : Fin 512, x3 (ix2 0 l) = G ⟨l.val % 64, by omega⟩) (y : S512x512.Idx) :
    out0_6 x0 x1 x2 x3 x4 y = headsF (fun k => x0 (ix2 (y 0) k)) (fun k => x1 (ix2 0 k)) x2 G 1792 (y 1).val := by
  refine canon_of _ (fun y : S512x512.Idx => (fun (a : Fin 512) (n : ℕ) => headsF (fun k => x0 (ix2 a k)) (fun k => x1 (ix2 0 k)) x2 G 1792 n) (y 0) (y 1).val) ?_ y (cover0_6 _ _ _ _ y)
  intro P hP
  simp only [List.mem_cons, List.not_mem_nil, or_false] at hP
  rcases hP with rfl | rfl | rfl | rfl
  · exact piece128 (fun (a : Fin 512) (n : ℕ) => headsF (fun k => x0 (ix2 a k)) (fun k => x1 (ix2 0 k)) x2 G 1792 n) 384 inb_S512x512_S512x128_0_384 _ (fun a b => (q3_apply (k0_pay10 (k0_pay1 (View.ld x0 r0_0) (View.ld x1 r0_1)) (View.ld x2 r0_16)) _ a b).trans (pair_at x0 x1 x2 G x3 hX 1792 384 rfl inb_S1x512_S1x128_0_384 a b _ (fun x => (wide_at x0 x1 x2 1792 inb_S1024x3328_S1024x512_0_1792 a ⟨384 + x.val, by omega⟩))))
  · exact piece128 (fun (a : Fin 512) (n : ℕ) => headsF (fun k => x0 (ix2 a k)) (fun k => x1 (ix2 0 k)) x2 G 1792 n) 256 inb_S512x512_S512x128_0_256 _ (fun a b => (q2_apply (k0_pay10 (k0_pay1 (View.ld x0 r0_0) (View.ld x1 r0_1)) (View.ld x2 r0_16)) _ a b).trans (pair_at x0 x1 x2 G x3 hX 1792 256 rfl inb_S1x512_S1x128_0_256 a b _ (fun x => (wide_at x0 x1 x2 1792 inb_S1024x3328_S1024x512_0_1792 a ⟨256 + x.val, by omega⟩))))
  · exact piece128 (fun (a : Fin 512) (n : ℕ) => headsF (fun k => x0 (ix2 a k)) (fun k => x1 (ix2 0 k)) x2 G 1792 n) 128 inb_S512x512_S512x128_0_128 _ (fun a b => (q1_apply (k0_pay10 (k0_pay1 (View.ld x0 r0_0) (View.ld x1 r0_1)) (View.ld x2 r0_16)) _ a b).trans (pair_at x0 x1 x2 G x3 hX 1792 128 rfl inb_S1x512_S1x128_0_128 a b _ (fun x => (wide_at x0 x1 x2 1792 inb_S1024x3328_S1024x512_0_1792 a ⟨128 + x.val, by omega⟩))))
  · exact piece128 (fun (a : Fin 512) (n : ℕ) => headsF (fun k => x0 (ix2 a k)) (fun k => x1 (ix2 0 k)) x2 G 1792 n) 0 inb_S512x512_S512x128_0_0 _ (fun a b => (q0_apply (k0_pay1 (View.ld x0 r0_0) (View.ld x1 r0_1)) (View.ld x2 r0_16) _ _ rfl a b).trans (pair_at x0 x1 x2 G x3 hX 1792 0 rfl inb_S1x512_S1x128_0_0 a b _ (fun x => (wide_at x0 x1 x2 1792 inb_S1024x3328_S1024x512_0_1792 a ⟨x.val, by omega⟩).trans (congrArg (fun n => entryF _ _ x2 (1792 + n)) (Nat.zero_add x.val).symm))))

/-- The keys' block. -/
theorem out7_at (G : Fin 64 → EReal) (hX : ∀ l : Fin 512, x4 (ix2 0 l) = G ⟨l.val % 64, by omega⟩) (y : S512x512.Idx) :
    out0_7 x0 x1 x2 x3 x4 y = headsF (fun k => x0 (ix2 (y 0) k)) (fun k => x1 (ix2 0 k)) x2 G 2304 (y 1).val := by
  refine canon_of _ (fun y : S512x512.Idx => (fun (a : Fin 512) (n : ℕ) => headsF (fun k => x0 (ix2 a k)) (fun k => x1 (ix2 0 k)) x2 G 2304 n) (y 0) (y 1).val) ?_ y (cover0_7 _ _ _ _ y)
  intro P hP
  simp only [List.mem_cons, List.not_mem_nil, or_false] at hP
  rcases hP with rfl | rfl | rfl | rfl
  · exact piece128 (fun (a : Fin 512) (n : ℕ) => headsF (fun k => x0 (ix2 a k)) (fun k => x1 (ix2 0 k)) x2 G 2304 n) 384 inb_S512x512_S512x128_0_384 _ (fun a b => (k3_apply (k0_pay10 (k0_pay1 (View.ld x0 r0_0) (View.ld x1 r0_1)) (View.ld x2 r0_25)) _ a b).trans (pair_at x0 x1 x2 G x4 hX 2304 384 rfl inb_S1x512_S1x128_0_384 a b _ (fun x => (wide_at x0 x1 x2 2304 inb_S1024x3328_S1024x512_0_2304 a ⟨384 + x.val, by omega⟩))))
  · exact piece128 (fun (a : Fin 512) (n : ℕ) => headsF (fun k => x0 (ix2 a k)) (fun k => x1 (ix2 0 k)) x2 G 2304 n) 256 inb_S512x512_S512x128_0_256 _ (fun a b => (k2_apply (k0_pay10 (k0_pay1 (View.ld x0 r0_0) (View.ld x1 r0_1)) (View.ld x2 r0_25)) _ a b).trans (pair_at x0 x1 x2 G x4 hX 2304 256 rfl inb_S1x512_S1x128_0_256 a b _ (fun x => (wide_at x0 x1 x2 2304 inb_S1024x3328_S1024x512_0_2304 a ⟨256 + x.val, by omega⟩))))
  · exact piece128 (fun (a : Fin 512) (n : ℕ) => headsF (fun k => x0 (ix2 a k)) (fun k => x1 (ix2 0 k)) x2 G 2304 n) 128 inb_S512x512_S512x128_0_128 _ (fun a b => (k1_apply (k0_pay1 (View.ld x0 r0_0) (View.ld x1 r0_1)) (View.ld x2 r0_25) _ a b).trans (pair_at x0 x1 x2 G x4 hX 2304 128 rfl inb_S1x512_S1x128_0_128 a b _ (fun x => (wide_at x0 x1 x2 2304 inb_S1024x3328_S1024x512_0_2304 a ⟨128 + x.val, by omega⟩))))
  · exact piece128 (fun (a : Fin 512) (n : ℕ) => headsF (fun k => x0 (ix2 a k)) (fun k => x1 (ix2 0 k)) x2 G 2304 n) 0 inb_S512x512_S512x128_0_0 _ (fun a b => (k0_apply (k0_pay1 (View.ld x0 r0_0) (View.ld x1 r0_1)) (View.ld x2 r0_25) _ a b).trans (pair_at x0 x1 x2 G x4 hX 2304 0 rfl inb_S1x512_S1x128_0_0 a b _ (fun x => (wide_at x0 x1 x2 2304 inb_S1024x3328_S1024x512_0_2304 a ⟨x.val, by omega⟩).trans (congrArg (fun n => entryF _ _ x2 (2304 + n)) (Nat.zero_add x.val).symm))))

end Cert.Inp

end
-- ==== Proof.InHost.lean ====
module

public import proofs.«01_k».proof.Proof.Gen.InKernelIdeal.Value
public import proofs.«01_k».proof.Proof.InSpec
public import Idealize.ShloMosaic.Lib.StableHlo.RunRead

@[expose] public section

noncomputable section

namespace Cert.Inp

open Cert.InKernelIdeal Cert.InKernelIdeal.Gen
open Idealize.ShloMosaic Idealize.ShloMosaic.TcCoe
open Idealize.ShloMosaic.StableHlo

/-- The gains as a row. -/
def rowT (G : FVec Ideal S1024 .f32) : FVec Ideal S1x1024 .f32 := shapeCast S1x1024 G shapeCasts_S1024_S1x1024

/-- The heads' gains, once for each head, as a row. -/
def tileT (G : FVec Ideal S64 .f32) : FVec Ideal S1x512 .f32 :=
  shapeCast S1x512 (shapeCast S512 (broadcastInDim S8x64 ![0, 1] bcast_S1x64_S8x64_0_1 (shapeCast S1x64 G shapeCasts_S64_S1x64)) shapeCasts_S8x64_S512) shapeCasts_S512_S1x512

theorem rowT_apply (G : FVec Ideal S1024 .f32) (k : Fin 1024) : rowT G (ix2 0 k) = G (ix1 k) := by
  pointwise [rowT]

theorem tileT_apply (G : FVec Ideal S64 .f32) (k : Fin 512) : tileT G (ix2 0 k) = G (ix1 ⟨k.val % 64, by omega⟩) := by
  pointwise [tileT]

variable (m : (ℓ : Loc nD τ sig) → Buf (Elt Ideal) ℓ)

/-- The region finds the gains as a row. -/
theorem V_row (c : Dev nD) : V m c main_v0 = rowT (m ((c : Thread nD τ).loc main_arg1)) := by
  simp only [V, hostOps0]
  after_reads_simp
  rfl

/-- The region finds the weights as they were. -/
theorem V_weights (c : Dev nD) : V m c main_v1 = m ((c : Thread nD τ).loc main_arg2) := by
  simp only [V, hostOps0]
  after_reads_simp
  rfl

/-- The region finds the queries' gains once for each head. -/
theorem V_gq (c : Dev nD) : V m c main_v5 = tileT (m ((c : Thread nD τ).loc main_arg3)) := by
  simp only [V, hostOps0]
  after_reads_simp
  rfl

/-- The region finds the keys' gains once for each head. -/
theorem V_gk (c : Dev nD) : V m c main_v9 = tileT (m ((c : Thread nD τ).loc main_arg4)) := by
  simp only [V, hostOps0]
  after_reads_simp
  rfl

end Cert.Inp

end
-- ==== Proof.InVal.lean ====
module

public import proofs.«01_k».proof.Proof.InBlk
public import proofs.«01_k».proof.Proof.InHost
public import Idealize.ShloMosaic.Lib.Pipeline.ValueKit.Geometry

@[expose] public section

noncomputable section

namespace Cert.Inp

open Cert.InKernelIdeal Cert.InKernelIdeal.Gen
open Idealize.ShloMosaic Idealize.ShloMosaic.TcCoe Idealize.SL.Sem

/-- Columns of the projection, of every row. -/
def entA (A0 : S32768x1024.Idx → EReal) (A1 : S1024.Idx → EReal) (W : S1024x3328.Idx → EReal) (r : Fin 32768) (n : ℕ) : EReal :=
  entryF (fun k => A0 (ix2 r k)) (fun k => A1 (ix1 k)) W n

/-- The normalized heads that begin at column `o`, of every row. -/
def hdsA (A0 : S32768x1024.Idx → EReal) (A1 : S1024.Idx → EReal) (W : S1024x3328.Idx → EReal) (G : S64.Idx → EReal) (o : ℕ) (r : Fin 32768) (n : ℕ) : EReal :=
  headsF (fun k => A0 (ix2 r k)) (fun k => A1 (ix1 k)) W (fun d => G (ix1 d)) o n

variable (m : (ℓ : Loc nD τ sig) → Buf (Elt Ideal) ℓ) (ρ : Dev nD → PrngReg)

theorem inIndex0 : ∀ t : Fin cfg0.N, win0_0.index t = ![(grid0.coords t 0).val, 0] := by decide +kernel
theorem inIndex1 : ∀ t : Fin cfg0.N, win0_1.index t = ![0, 0] := by decide +kernel
theorem inIndex2 : ∀ t : Fin cfg0.N, win0_2.index t = ![0, 0] := by decide +kernel
theorem inIndex3 : ∀ t : Fin cfg0.N, win0_3.index t = ![0, 0] := by decide +kernel
theorem inIndex4 : ∀ t : Fin cfg0.N, win0_4.index t = ![0, 0] := by decide +kernel
theorem inIndex5 : ∀ t : Fin cfg0.N, win0_5.index t = ![(grid0.coords t 0).val, 0] := by decide +kernel
theorem inIndex6 : ∀ t : Fin cfg0.N, win0_6.index t = ![(grid0.coords t 0).val, 0] := by decide +kernel
theorem inIndex7 : ∀ t : Fin cfg0.N, win0_7.index t = ![(grid0.coords t 0).val, 0] := by decide +kernel
theorem inIndex8 : ∀ t : Fin cfg0.N, win0_8.index t = ![(grid0.coords t 0).val, 0] := by decide +kernel

/-- The rows' block. -/
theorem blk_rows (c : Dev nD) (t : Fin cfg0.N) (a : Fin 512) (k : Fin 1024) (r : Fin 32768) (hr : r.val = 512 * (grid0.coords t 0).val + a.val) :
    iblk m c 0 t (ix2 a k) = m ((c : Thread nD τ).loc main_arg0) (ix2 r k) := by
  rw [← V_main_arg0 m c]
  refine congrArg (V m c main_arg0) (a₁ := (win0_0.blk t).view.emb (ix2 a k)) (funext fun d => ?_)
  fin_cases d <;> refine Fin.ext ?_ <;> blk_simp [inIndex0] <;> simp [ix2] <;> omega

/-- The gains' block. -/
theorem blk_gain (c : Dev nD) (t : Fin cfg0.N) (k : Fin 1024) : iblk m c 1 t (ix2 0 k) = m ((c : Thread nD τ).loc main_arg1) (ix1 k) := by
  refine Eq.trans (congrArg (V m c main_v0) (a₁ := (win0_1.blk t).view.emb (ix2 0 k)) (a₂ := ix2 0 k) (funext fun d => ?_)) ((congrFun (V_row m c) _).trans (rowT_apply (m ((c : Thread nD τ).loc main_arg1)) k))
  fin_cases d <;> refine Fin.ext ?_ <;> blk_simp [inIndex1] <;> simp [ix2]

/-- The weights' block. -/
theorem blk_weights (c : Dev nD) (t : Fin cfg0.N) : (iblk m c 2 t : S1024x3328.Idx → EReal) = m ((c : Thread nD τ).loc main_arg2) := by
  refine Eq.trans (funext fun y => ?_) (V_weights m c)
  refine congrArg (V m c main_v1) (a₁ := (win0_2.blk t).view.emb y) (funext fun d => ?_)
  fin_cases d <;> refine Fin.ext ?_ <;> blk_simp [inIndex2] <;> simp

/-- The queries' gains' block. -/
theorem blk_gq (c : Dev nD) (t : Fin cfg0.N) (l : Fin 512) : iblk m c 3 t (ix2 0 l) = m ((c : Thread nD τ).loc main_arg3) (ix1 ⟨l.val % 64, by omega⟩) := by
  refine Eq.trans (congrArg (V m c main_v5) (a₁ := (win0_3.blk t).view.emb (ix2 0 l)) (a₂ := ix2 0 l) (funext fun d => ?_)) ((congrFun (V_gq m c) _).trans (tileT_apply (m ((c : Thread nD τ).loc main_arg3)) l))
  fin_cases d <;> refine Fin.ext ?_ <;> blk_simp [inIndex3] <;> simp [ix2]

/-- The keys' gains' block. -/
theorem blk_gk (c : Dev nD) (t : Fin cfg0.N) (l : Fin 512) : iblk m c 4 t (ix2 0 l) = m ((c : Thread nD τ).loc main_arg4) (ix1 ⟨l.val % 64, by omega⟩) := by
  refine Eq.trans (congrArg (V m c main_v9) (a₁ := (win0_4.blk t).view.emb (ix2 0 l)) (a₂ := ix2 0 l) (funext fun d => ?_)) ((congrFun (V_gk m c) _).trans (tileT_apply (m ((c : Thread nD τ).loc main_arg4)) l))
  fin_cases d <;> refine Fin.ext ?_ <;> blk_simp [inIndex4] <;> simp [ix2]

/-- A block's entries of the projection are the rows' own. -/
theorem ent_blk (c : Dev nD) (t : Fin cfg0.N) (a : Fin 512) (r : Fin 32768) (hr : r.val = 512 * (grid0.coords t 0).val + a.val) (n : ℕ) :
    entryF (fun k => iblk m c 0 t (ix2 a k)) (fun k => iblk m c 1 t (ix2 0 k)) (iblk m c 2 t) n
      = entA (m ((c : Thread nD τ).loc main_arg0)) (m ((c : Thread nD τ).loc main_arg1)) (m ((c : Thread nD τ).loc main_arg2)) r n := by
  unfold entA
  rw [funext fun k => blk_rows m c t a k r hr, funext fun k => blk_gain m c t k, blk_weights m c t]

/-- A block's heads are the rows' own. -/
theorem hds_blk (c : Dev nD) (t : Fin cfg0.N) (a : Fin 512) (r : Fin 32768) (hr : r.val = 512 * (grid0.coords t 0).val + a.val) (G : S64.Idx → EReal) (o n : ℕ) :
    headsF (fun k => iblk m c 0 t (ix2 a k)) (fun k => iblk m c 1 t (ix2 0 k)) (iblk m c 2 t) (fun d => G (ix1 d)) o n
      = hdsA (m ((c : Thread nD τ).loc main_arg0)) (m ((c : Thread nD τ).loc main_arg1)) (m ((c : Thread nD τ).loc main_arg2)) G o r n := by
  unfold hdsA
  rw [funext fun k => blk_rows m c t a k r hr, funext fun k => blk_gain m c t k, blk_weights m c t]

/-- What the shared columns' array holds at the end. -/
def end5 (c : Dev nD) : S32768x1792.Idx → EReal := fun y => entA (m ((c : Thread nD τ).loc main_arg0)) (m ((c : Thread nD τ).loc main_arg1)) (m ((c : Thread nD τ).loc main_arg2)) (y 0) (y 1).val

/-- The shared columns' array after every point. -/
theorem arr5 (c : Dev nD) : (dats m 0 c).arrAt 5 cfg0.N = end5 m c := by
  refine (dats m 0 c).arrAt_eq_of_covers 5 _ (by decide +kernel) fun t hf y => ?_
  blk_simp
  rw [after0_5]
  have e0 : (((win0_5.blk t).view.emb y) 0 : ℕ) = 512 * (grid0.coords t 0).val + (y 0).val := by
    blk_simp [inIndex5]; simp; try omega
  have e1 : (((win0_5.blk t).view.emb y) 1 : ℕ) = (y 1).val := by
    blk_simp [inIndex5]
  refine (out5_at _ _ _ _ _ y).trans ((ent_blk m c t _ _ e0 _).trans ?_)
  unfold end5
  rw [e1]

/-- What the queries' array holds at the end. -/
def end6 (c : Dev nD) : S32768x512.Idx → EReal := fun y => hdsA (m ((c : Thread nD τ).loc main_arg0)) (m ((c : Thread nD τ).loc main_arg1)) (m ((c : Thread nD τ).loc main_arg2)) (m ((c : Thread nD τ).loc main_arg3)) 1792 (y 0) (y 1).val

/-- The queries' array after every point. -/
theorem arr6 (c : Dev nD) : (dats m 0 c).arrAt 6 cfg0.N = end6 m c := by
  refine (dats m 0 c).arrAt_eq_of_covers 6 _ (by decide +kernel) fun t hf y => ?_
  blk_simp
  rw [after0_6]
  have e0 : (((win0_6.blk t).view.emb y) 0 : ℕ) = 512 * (grid0.coords t 0).val + (y 0).val := by
    blk_simp [inIndex6]; simp; try omega
  have e1 : (((win0_6.blk t).view.emb y) 1 : ℕ) = (y 1).val := by
    blk_simp [inIndex6]
  refine (out6_at _ _ _ _ _ (fun d => m ((c : Thread nD τ).loc main_arg3) (ix1 d)) (fun l => blk_gq m c t l) y).trans ((hds_blk m c t _ _ e0 _ _ _).trans ?_)
  unfold end6
  rw [e1]

/-- What the keys' array holds at the end. -/
def end7 (c : Dev nD) : S32768x512.Idx → EReal := fun y => hdsA (m ((c : Thread nD τ).loc main_arg0)) (m ((c : Thread nD τ).loc main_arg1)) (m ((c : Thread nD τ).loc main_arg2)) (m ((c : Thread nD τ).loc main_arg4)) 2304 (y 0) (y 1).val

/-- The keys' array after every point. -/
theorem arr7 (c : Dev nD) : (dats m 0 c).arrAt 7 cfg0.N = end7 m c := by
  refine (dats m 0 c).arrAt_eq_of_covers 7 _ (by decide +kernel) fun t hf y => ?_
  blk_simp
  rw [after0_7]
  have e0 : (((win0_7.blk t).view.emb y) 0 : ℕ) = 512 * (grid0.coords t 0).val + (y 0).val := by
    blk_simp [inIndex7]; simp; try omega
  have e1 : (((win0_7.blk t).view.emb y) 1 : ℕ) = (y 1).val := by
    blk_simp [inIndex7]
  refine (out7_at _ _ _ _ _ (fun d => m ((c : Thread nD τ).loc main_arg4) (ix1 d)) (fun l => blk_gk m c t l) y).trans ((hds_blk m c t _ _ e0 _ _ _).trans ?_)
  unfold end7
  rw [e1]

/-- What the values' array holds at the end. -/
def end8 (c : Dev nD) : S32768x512.Idx → EReal := fun y => entA (m ((c : Thread nD τ).loc main_arg0)) (m ((c : Thread nD τ).loc main_arg1)) (m ((c : Thread nD τ).loc main_arg2)) (y 0) (2816 + (y 1).val)

/-- The values' array after every point. -/
theorem arr8 (c : Dev nD) : (dats m 0 c).arrAt 8 cfg0.N = end8 m c := by
  refine (dats m 0 c).arrAt_eq_of_covers 8 _ (by decide +kernel) fun t hf y => ?_
  blk_simp
  rw [after0_8]
  have e0 : (((win0_8.blk t).view.emb y) 0 : ℕ) = 512 * (grid0.coords t 0).val + (y 0).val := by
    blk_simp [inIndex8]; simp; try omega
  have e1 : (((win0_8.blk t).view.emb y) 1 : ℕ) = (y 1).val := by
    blk_simp [inIndex8]
  refine (out8_at _ _ _ _ _ y).trans ((ent_blk m c t _ _ e0 _).trans ?_)
  unfold end8
  rw [e1]

/-- From any memory with zero counters: every run of the kernel ends with its four results and the arguments unchanged. -/
theorem runK : θ_run defs (onTc (τ := τ) (main (F := Ideal))) ⟨m, fun _ => 0, ρ⟩ (fun r => ∀ c : Dev nD,
      r.2.mem ((c.tc : Thread nD τ).loc main_v10_0) = end5 m c
      ∧ r.2.mem ((c.tc : Thread nD τ).loc main_v10_1) = end6 m c
      ∧ r.2.mem ((c.tc : Thread nD τ).loc main_v10_2) = end7 m c
      ∧ r.2.mem ((c.tc : Thread nD τ).loc main_v10_3) = end8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    obtain ⟨h0, h1, h2, h3, hr⟩ := h c
    exact ⟨h0.trans (arr5 m c), h1.trans (arr6 m c), h2.trans (arr7 m c), h3.trans (arr8 m c), hr⟩) (Value.run_blocks (F := Ideal) m ρ)

end Cert.Inp

end
-- ==== Proof.InRef.lean ====
module

public import proofs.«01_k».proof.Proof.Gen.InReferenceIdeal.Run
public import proofs.«01_k».proof.Proof.InSpec

@[expose] public section

noncomputable section

namespace Cert.Inp

open Cert.InReferenceIdeal Cert.InReferenceIdeal.Gen Cert.InReferenceIdeal.Value
open Idealize.ShloMosaic Idealize.ShloMosaic.TcCoe
open Idealize.ShloMosaic.StableHlo

/-- The reference's normalized rows. -/
def nrmT (X : FVec Ideal S32768x1024 .f32) (g : FVec Ideal S1024 .f32) : FVec Ideal S32768x1024 .f32 :=
  mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

/-- The reference's projection. -/
def prjT (X : FVec Ideal S32768x1024 .f32) (g : FVec Ideal S1024 .f32) (W : FVec Ideal S1024x3328 .f32) : FVec Ideal S32768x3328 .f32 :=
  Host.dotGeneral dot_S32768x1024_S1024x3328_S32768x3328_1_0_0_1_n_n none (nrmT X g) W

/-- The reference's 512 columns of the projection from column `1792 + o`. -/
def colT (D : FVec Ideal S32768x3328 .f32) (o : ℕ) (h : S32768x1536.Slices ![0, o] S32768x512) : FVec Ideal S32768x512 .f32 :=
  extractStridedSlice S32768x512 ![0, o] (extractStridedSlice S32768x1536 ![0, 1792] D slices_S32768x3328_S32768x1536_0_1792) h

/-- The reference's normalized heads. -/
def hdsT (H : FVec Ideal S32768x8x64 .f32) (G : FVec Ideal S64 .f32) : FVec Ideal S32768x8x64 .f32 :=
  mulf (mulf H (broadcastInDim S32768x8x64 ![0, 1, 2] bcast_S32768x8x1_S32768x8x64_0_1_2 (Host.rsqrt (addf (Host.divf (broadcastInDim S32768x8x1 ![0, 1] bcast_S32768x8_S32768x8x1_0_1 (Host.reduceAdd (mulf H H) (constant S_ .f32 0x00000000#32) reducesTo_S32768x8x64_S32768x8_d2 h_S_)) (broadcastInDim S32768x8x1 ![] bcast_S_S32768x8x1 (constant S_ .f32 0x42800000#32))) (broadcastInDim S32768x8x1 ![] bcast_S_S32768x8x1 (constant S_ .f32 0x358637BD#32)))))) (broadcastInDim S32768x8x64 ![0, 1, 2] bcast_S1x1x64_S32768x8x64_0_1_2 (broadcastInDim S1x1x64 ![2] bcast_S64_S1x1x64_2 G))

theorem nrmT_apply (X : FVec Ideal S32768x1024 .f32) (g : FVec Ideal S1024 .f32) (t : Fin 32768) (k : Fin 1024) :
    nrmT X g (ix2 t k) = normF (fun k => X (ix2 t k)) (fun k => g (ix1 k)) k := by
  pointwise [nrmT]
  rfl

theorem prjT_apply (X : FVec Ideal S32768x1024 .f32) (g : FVec Ideal S1024 .f32) (W : FVec Ideal S1024x3328 .f32) (t : Fin 32768) (n : Fin 3328) :
    prjT X g W (ix2 t n) = projF (fun k => X (ix2 t k)) (fun k => g (ix1 k)) (fun k => W (ix2 k n)) := by
  have h : prjT X g W (ix2 t n) = ∑ k : Fin 1024, nrmT X g (ix2 t k) * W (ix2 k n) := by
    unfold prjT
    generalize nrmT X g = N
    pointwise
  rw [h]
  exact Finset.sum_congr (M := EReal) rfl fun k _ => congrArg (fun p : EReal => p * W (ix2 k n)) (nrmT_apply X g t k)

theorem colT_apply (D : FVec Ideal S32768x3328 .f32) (o : ℕ) (h) (ho : o + 512 ≤ 1536) (t : Fin 32768) (j : Fin 512) :
    colT D o h (ix2 t j) = D (ix2 t ⟨1792 + (o + j.val), by omega⟩) := by
  pointwise [colT]

theorem hdsT_apply (H : FVec Ideal S32768x8x64 .f32) (G : FVec Ideal S64 .f32) (t : Fin 32768) (i : Fin 8) (d : Fin 64) :
    hdsT H G (ix3 t i d) = headF (fun e => H (ix3 t i e)) (fun e => G (ix1 e)) d := by
  pointwise [hdsT]
  rfl

theorem splitT_apply (C : FVec Ideal S32768x512 .f32) (t : Fin 32768) (i : Fin 8) (d : Fin 64) :
    (shapeCast S32768x8x64 C shapeCasts_S32768x512_S32768x8x64 : FVec Ideal S32768x8x64 .f32) (ix3 t i d) = C (ix2 t ⟨i.val * 64 + d.val, by omega⟩) := by
  pointwise

theorem joinT_apply (C : FVec Ideal S32768x8x64 .f32) (t : Fin 32768) (l : Fin 512) :
    (shapeCast S32768x512 C shapeCasts_S32768x8x64_S32768x512 : FVec Ideal S32768x512 .f32) (ix2 t l) = C (ix3 t ⟨l.val / 64, by omega⟩ ⟨l.val % 64, by omega⟩) := by
  pointwise

/-- The reference's first result. -/
def uT (D : FVec Ideal S32768x3328 .f32) : FVec Ideal S32768x1792 .f32 := extractStridedSlice S32768x1792 ![0, 0] D slices_S32768x3328_S32768x1792_0_0

theorem uT_apply (D : FVec Ideal S32768x3328 .f32) (t : Fin 32768) (j : Fin 1792) : uT D (ix2 t j) = D (ix2 t ⟨j.val, by omega⟩) := by
  pointwise [uT]

/-- The reference's queries or keys, from their columns. -/
def normT (C : FVec Ideal S32768x512 .f32) (G : FVec Ideal S64 .f32) : FVec Ideal S32768x512 .f32 :=
  shapeCast S32768x512 (hdsT (shapeCast S32768x8x64 C shapeCasts_S32768x512_S32768x8x64) G) shapeCasts_S32768x8x64_S32768x512

theorem normT_apply (C : FVec Ideal S32768x512 .f32) (G : FVec Ideal S64 .f32) (t : Fin 32768) (l : Fin 512) :
    normT C G (ix2 t l) = headF (fun e => C (ix2 t ⟨64 * (l.val / 64) + e.val, by omega⟩)) (fun e => G (ix1 e)) ⟨l.val % 64, by omega⟩ := by
  unfold normT
  rw [joinT_apply, hdsT_apply]
  exact congrArg (fun p => headF p _ _) (funext fun e => (splitT_apply C t _ e).trans (congrArg (fun n => C (ix2 t n)) (Fin.ext (show l.val / 64 * 64 + e.val = 64 * (l.val / 64) + e.val by omega))))

variable (m : (ℓ : Loc nD τ sig) → Buf (Elt Ideal) ℓ) (ρ : Dev nD → PrngReg)

/-- The reference's projection of its arguments. -/
abbrev argPrj (c : Dev nD) : FVec Ideal S32768x3328 .f32 :=
  prjT (m ((c : Thread nD τ).loc main_arg0)) (m ((c : Thread nD τ).loc main_arg1)) (m ((c : Thread nD τ).loc main_arg2))

set_option maxHeartbeats 1000000 in
/-- From any memory with zero counters: every run of the reference ends with its four results and the arguments unchanged. -/
theorem runR : θ_run defs (onTc (τ := τ) (main (F := Ideal))) ⟨m, fun _ => 0, ρ⟩ (fun r => ∀ c : Dev nD,
      r.2.mem ((c.tc : Thread nD τ).loc main_v46) = uT (argPrj m c)
      ∧ r.2.mem ((c.tc : Thread nD τ).loc main_v47) = normT (colT (argPrj m c) 0 slices_S32768x1536_S32768x512_0_0) (m ((c : Thread nD τ).loc main_arg3))
      ∧ r.2.mem ((c.tc : Thread nD τ).loc main_v49) = normT (colT (argPrj m c) 512 slices_S32768x1536_S32768x512_0_512) (m ((c : Thread nD τ).loc main_arg4))
      ∧ r.2.mem ((c.tc : Thread nD τ).loc main_v50) = colT (argPrj m c) 1024 slices_S32768x1536_S32768x512_0_1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    obtain ⟨h0, h1, h2, h3, hr⟩ := h c
    exact ⟨h0.trans rfl, h1.trans rfl, h2.trans rfl, h3.trans rfl, hr⟩) (Value.run (F := Ideal) m ρ)

end Cert.Inp

end
-- ==== Proof.InFinal.lean ====
module

public import proofs.«01_k».proof.Defs
public import proofs.«01_k».proof.Proof.InVal
public import proofs.«01_k».proof.Proof.InRef

@[expose] public section

noncomputable section

namespace Cert.Inp

open Idealize.ShloMosaic Idealize.ShloMosaic.TcCoe Idealize.SL.Sem

section

variable (A0 : Cert.InKernelIdeal.S32768x1024.Idx → EReal) (A1 : Cert.InKernelIdeal.S1024.Idx → EReal) (W : Cert.InKernelIdeal.S1024x3328.Idx → EReal) (G : Cert.InKernelIdeal.S64.Idx → EReal)

/-- The reference's projection at an index is the entry of the row. -/
theorem prj_ent (t : Fin 32768) (n : ℕ) (h : n < 3328) : prjT A0 A1 W (ix2 t ⟨n, h⟩) = entA A0 A1 W t n := by
  rw [prjT_apply]
  unfold entA entryF
  refine congrArg (projF _ _) (funext fun k => ?_)
  unfold colW
  rw [dif_pos h]

/-- The reference's shared columns. -/
theorem ref_u (y : Cert.InKernelIdeal.S32768x1792.Idx) : uT (prjT A0 A1 W) y = entA A0 A1 W (y 0) (y 1).val := by
  obtain ⟨t, j, rfl⟩ : ∃ (t : Fin 32768) (j : Fin 1792), y = ix2 t j := ⟨_, _, (ix2_eta y).symm⟩
  exact (uT_apply _ t j).trans (prj_ent A0 A1 W t _ _)

/-- The reference's values. -/
theorem ref_v (h) (y : Cert.InKernelIdeal.S32768x512.Idx) : colT (prjT A0 A1 W) 1024 h y = entA A0 A1 W (y 0) (2816 + (y 1).val) := by
  obtain ⟨t, j, rfl⟩ : ∃ (t : Fin 32768) (j : Fin 512), y = ix2 t j := ⟨_, _, (ix2_eta y).symm⟩
  refine (colT_apply _ 1024 h (by omega) t j).trans ((prj_ent A0 A1 W t _ _).trans (congrArg (entA A0 A1 W t) ?_))
  show 1792 + (1024 + j.val) = 2816 + j.val
  omega

/-- The reference's normalized heads. -/
theorem ref_h (o : ℕ) (h) (ho : o + 512 ≤ 1536) (c : ℕ) (hc : c = 1792 + o) (y : Cert.InKernelIdeal.S32768x512.Idx) :
    normT (colT (prjT A0 A1 W) o h) G y = hdsA A0 A1 W G c (y 0) (y 1).val := by
  subst hc
  obtain ⟨t, l, rfl⟩ : ∃ (t : Fin 32768) (l : Fin 512), y = ix2 t l := ⟨_, _, (ix2_eta y).symm⟩
  refine (normT_apply _ G t l).trans ?_
  unfold hdsA headsF
  refine congrArg (fun p => headF p _ _) (funext fun e => ?_)
  refine (colT_apply _ o h ho t _).trans ((prj_ent A0 A1 W t _ _).trans (congrArg (entA A0 A1 W t) ?_))
  show 1792 + (o + (64 * (l.val / 64) + e.val)) = 1792 + o + (64 * (l.val / 64) + e.val)
  omega

end

section

variable (m : (l : Loc Cert.InKernelIdeal.nD Cert.InKernelIdeal.τ Cert.InKernelIdeal.sig) → Buf (Elt Ideal) l)
  (m' : (l : Loc Cert.InReferenceIdeal.nD Cert.InReferenceIdeal.τ Cert.InReferenceIdeal.sig) → Buf (Elt Ideal) l) (c : Dev Cert.InKernelIdeal.nD)

/-- The projection of the reference's arguments, from the arguments. -/
theorem argPrj_eq (A0 : Cert.InKernelIdeal.S32768x1024.Idx → EReal) (A1 : Cert.InKernelIdeal.S1024.Idx → EReal) (W : Cert.InKernelIdeal.S1024x3328.Idx → EReal)
    (r0 : m' ((c.tc : Thread Cert.InReferenceIdeal.nD Cert.InReferenceIdeal.τ).loc Cert.InReferenceIdeal.main_arg0) = A0) (r1 : m' ((c.tc : Thread Cert.InReferenceIdeal.nD Cert.InReferenceIdeal.τ).loc Cert.InReferenceIdeal.main_arg1) = A1) (r2 : m' ((c.tc : Thread Cert.InReferenceIdeal.nD Cert.InReferenceIdeal.τ).loc Cert.InReferenceIdeal.main_arg2) = W) : argPrj m' c = prjT A0 A1 W := by
  subst r0 r1 r2
  rfl

end

/-- The value claim: the idealized kernel and the reference end with equal results. -/
theorem algebraic : Cert.algebraic_InKernelIdeal_InReferenceIdeal (hInKernelIdeal := Cert.InKernelIdeal.Gen.facts) (hInReferenceIdeal := Cert.InReferenceIdeal.Gen.facts) := by
  intro m g m' g' hpre hm
  refine ⟨fun c => end5 m c, fun c => end6 m c, fun c => end7 m c, fun c => end8 m c, runK m g, (θ_run _ _ _).mono (fun r h c => ?_) (runR m' g')⟩
  obtain ⟨h0, h1, h2, h3, hr⟩ := h c
  obtain ⟨a0, a1, a2, a3, a4⟩ := hm c
  have hP := argPrj_eq m' c _ _ _ a0 a1 a2
  refine ⟨h0.trans ?_, h1.trans ?_, h2.trans ?_, h3.trans ?_, hr⟩
  · rw [hP]
    exact funext fun y => ref_u _ _ _ y
  · rw [hP, a3]
    exact funext fun y => ref_h _ _ _ _ 0 _ (by omega) 1792 rfl y
  · rw [hP, a4]
    exact funext fun y => ref_h _ _ _ _ 512 _ (by omega) 2304 rfl y
  · rw [hP]
    exact funext fun y => ref_v _ _ _ _ y

end Cert.Inp

end
-- ==== Proof.MixSpec.lean ====
module

public import Idealize.ShloMosaic.Lib.Pointwise
public import Idealize.ShloMosaic.PureOps.Ideal
public import proofs.«01_k».proof.Proof.Soft

@[expose] public section

noncomputable section

namespace Cert.Mix

open Idealize.ShloMosaic
open Cert.Band (neg_inf sum_mul_real coe_sum)

/-- A row normalized by its root mean square (`c` is the word for its length), scaled by the gains. -/
def nrm {n : ℕ} (c : BitVec 32) (x g : Fin n → EReal) (k : Fin n) : EReal :=
  x k * Ideal.rsqrt (Ideal.div (∑ d, x d * x d) (Ideal.ofBits FTy.f32 c) + Ideal.ofBits FTy.f32 0x358637BD#32) * g k

/-- An entry of the rows plus the projection of the two mixings, upper and lower half of the weights apart. -/
def addW (x : EReal) (y n t b : Fin 512 → EReal) : EReal := x + (∑ k, y k * t k) + ∑ k, n k * b k

/-- The weights of a row of base-2 scores. -/
def exp2F (s : Fin 256 → EReal) (m : Fin 256) : EReal := Ideal.exp2 (s m - Finset.fold max (Ideal.ofBits FTy.f32 0xFF800000#32) s Finset.univ)

/-- The weighted sum of the values of a row of base-2 scores. -/
def attF (s v : Fin 256 → EReal) : EReal := (∑ m, exp2F s m * v m) * Ideal.div (Ideal.ofBits FTy.f32 0x3F800000#32) (∑ m, exp2F s m)

/-- The scale of the scores in base 2: one over the square root of 128 (its nearest single word), over `log 2`. -/
abbrev cX : ℝ := (11863283 : ℝ) / 134217728

/-- The weights of a row of scores. -/
def expE (s : Fin 256 → EReal) (m : Fin 256) : EReal :=
  Ideal.exp (s m - max (Ideal.ofBits FTy.f32 0xFF800000#32) (Finset.fold max (Ideal.ofBits FTy.f32 0xFF800000#32) s Finset.univ))

/-- The weighted sum of the values of a row of scores, each weight divided by the sum. -/
def attE (s v : Fin 256 → EReal) : EReal := ∑ m, Ideal.div (expE s m) (∑ j, expE s j) * v m

/-- The largest of real scores, and of their multiples. -/
theorem max_real (a : Fin 256 → ℝ) : ∃ M : ℝ,
    Finset.fold max (⊥ : EReal) (fun w => (a w : EReal)) Finset.univ = (M : EReal)
    ∧ ∀ L : ℝ, 0 < L → Finset.fold max (⊥ : EReal) (fun w => ((a w * L : ℝ) : EReal)) Finset.univ = ((M * L : ℝ) : EReal) := by
  obtain ⟨j, -, hj⟩ := Finset.exists_max_image (Finset.univ : Finset (Fin 256)) a ⟨0, Finset.mem_univ _⟩
  refine ⟨a j, ?_, fun L hL => ?_⟩
  · refine le_antisymm (Finset.sup_le fun w hw => ?_) (Finset.le_sup (f := fun w => (a w : EReal)) (Finset.mem_univ j))
    exact EReal.coe_le_coe_iff.mpr (hj w hw)
  · refine le_antisymm (Finset.sup_le fun w hw => ?_) (Finset.le_sup (f := fun w => ((a w * L : ℝ) : EReal)) (Finset.mem_univ j))
    exact EReal.coe_le_coe_iff.mpr (mul_le_mul_of_nonneg_right (hj w hw) hL.le)

/-- For real scores the base-2 weights of the scores over `log 2` give what the softmax of the scores gives. -/
theorem att_eq (a : Fin 256 → ℝ) (v f s : Fin 256 → EReal)
    (hf : ∀ w, f w = ((a w * (Real.log 2)⁻¹ : ℝ) : EReal)) (hs : ∀ w, s w = (a w : EReal)) : attF f v = attE s v := by
  obtain ⟨M, h1, h2⟩ := max_real a
  have hl : 0 < Real.log 2 := Real.log_pos (by norm_num)
  have he : ∀ w, expE s w = (Real.exp (a w - M) : EReal) := by
    intro w
    unfold expE
    rw [neg_inf, funext hs, h1, max_eq_right bot_le, ← EReal.coe_sub]
    rfl
  have hk : ∀ w, exp2F f w = (Real.exp (a w - M) : EReal) := by
    intro w
    unfold exp2F
    rw [neg_inf, funext hf, h2 _ (inv_pos.mpr hl), ← EReal.coe_sub]
    show ((Real.rpow 2 (a w * (Real.log 2)⁻¹ - M * (Real.log 2)⁻¹) : ℝ) : EReal) = _
    congr 1
    show (2 : ℝ) ^ (a w * (Real.log 2)⁻¹ - M * (Real.log 2)⁻¹) = _
    rw [Real.rpow_def_of_pos (by norm_num)]
    congr 1
    field_simp
  have hZ : 0 < ∑ w, Real.exp (a w - M) := Finset.sum_pos (fun w _ => Real.exp_pos _) ⟨0, Finset.mem_univ _⟩
  have hZe : ((∑ w, Real.exp (a w - M) : ℝ) : EReal) ≠ 0 := by exact_mod_cast hZ.ne'
  have h1' : Ideal.ofBits FTy.f32 0x3F800000#32 = 1 := by simp [Ideal.ofBits, Ideal.ieee, -EReal.coe_mul]; norm_num
  unfold attF attE
  simp only [hk, he, ← coe_sum]
  rw [Ideal.div, if_neg hZe, h1', one_mul, ← EReal.coe_inv, sum_mul_real _ _ _ (inv_nonneg.mpr hZ.le)]
  refine Finset.sum_congr rfl fun w _ => ?_
  rw [Ideal.div, if_neg hZe, ← EReal.coe_inv, mul_right_comm]

/-- A finite sum of reals is real. -/
theorem real_sum {n : ℕ} (f : Fin n → EReal) (h : ∀ k, ∃ r : ℝ, f k = r) : ∃ r : ℝ, ∑ k, f k = r := by
  choose r hr using h
  exact ⟨∑ k, r k, by rw [coe_sum]; exact Finset.sum_congr rfl fun k _ => hr k⟩

/-- A product of reals is real. -/
theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul _ _).symm⟩

/-- A sum of reals is real. -/
theorem real_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add _ _).symm⟩

/-- A square is not negative, and that of an infinity is infinite. -/
theorem sq_cases (x : EReal) : 0 ≤ x * x ∧ ((∃ r : ℝ, x = r) ∨ x * x = ⊤) := by
  induction x with
  | bot => exact ⟨by rw [EReal.bot_mul_bot]; exact le_top, Or.inr EReal.bot_mul_bot⟩
  | top => exact ⟨by rw [EReal.top_mul_top]; exact le_top, Or.inr EReal.top_mul_top⟩
  | coe r => exact ⟨by rw [← EReal.coe_mul]; exact_mod_cast mul_self_nonneg r, Or.inl ⟨r, rfl⟩⟩

/-- A row normalized by its root mean square with real gains is real: where an entry is infinite, the factor is 0. -/
theorem real_nrm {n : ℕ} (c : BitVec 32) (N : ℝ) (hc : Ideal.ofBits FTy.f32 c = (N : EReal)) (hN : 0 < N) (x g : Fin n → EReal)
    (hg : ∀ k, ∃ r : ℝ, g k = r) (k : Fin n) : ∃ r : ℝ, nrm c x g k = r := by
  unfold nrm
  by_cases hx : ∀ k, ∃ r : ℝ, x k = r
  swap
  · obtain ⟨j, hj⟩ := not_forall.mp hx
    have ht : (∑ d, x d * x d) = (⊤ : EReal) := by
      refine top_le_iff.mp (((sq_cases (x j)).2.resolve_left hj).symm.le.trans ?_)
      exact Finset.single_le_sum (f := fun d => x d * x d) (fun d _ => (sq_cases (x d)).1) (Finset.mem_univ j)
    have hN' : (N : EReal) ≠ 0 := by exact_mod_cast hN.ne'
    have he : ∃ ε : ℝ, Ideal.ofBits FTy.f32 0x358637BD#32 = (ε : EReal) :=
      ⟨8796093 / 2 ^ 43, by simp [Ideal.ofBits, Ideal.ieee, -EReal.coe_mul]; norm_num⟩
    obtain ⟨ε, he⟩ := he
    rw [ht, hc, he, Ideal.div, if_neg hN', ← EReal.coe_inv, EReal.top_mul_coe_of_pos (inv_pos.mpr hN), EReal.top_add_coe]
    refine ⟨0, ?_⟩
    show x k * 0 * g k = _
    rw [mul_zero, zero_mul, EReal.coe_zero]
  refine real_mul (real_mul (hx k) ?_) (hg k)
  choose r hr using hx
  have hs : (∑ d, x d * x d) = ((∑ d, r d * r d : ℝ) : EReal) := by
    rw [coe_sum]
    exact Finset.sum_congr rfl fun d _ => by rw [hr, EReal.coe_mul]
  have h0 : 0 ≤ ∑ d, r d * r d := Finset.sum_nonneg fun d _ => mul_self_nonneg _
  have hN' : (N : EReal) ≠ 0 := by exact_mod_cast hN.ne'
  obtain ⟨ε, hε, he⟩ : ∃ ε : ℝ, 0 < ε ∧ Ideal.ofBits FTy.f32 0x358637BD#32 = (ε : EReal) :=
    ⟨8796093 / 2 ^ 43, by norm_num, by simp [Ideal.ofBits, Ideal.ieee, -EReal.coe_mul]; norm_num⟩
  rw [hs, hc, he, Ideal.div, if_neg hN', ← EReal.coe_inv, ← EReal.coe_mul, ← EReal.coe_add]
  have hp : 0 < (∑ d, r d * r d) * N⁻¹ + ε := add_pos_of_nonneg_of_pos (mul_nonneg h0 (inv_nonneg.mpr hN.le)) hε
  generalize (∑ d, r d * r d) * N⁻¹ + ε = t at hp
  refine ⟨(Real.sqrt t)⁻¹, ?_⟩
  show (if t < 0 then (⊥ : EReal) else if t = 0 then ⊤ else (((Real.sqrt t)⁻¹ : ℝ) : EReal)) = _
  rw [if_neg (not_lt.mpr hp.le), if_neg hp.ne']

/-- A row plus the projection of its two mixings. -/
def x1R (x : Fin 1024 → EReal) (y g a ga : Fin 512 → EReal) (W : Fin 1024 → Fin 1024 → EReal) (j : Fin 1024) : EReal :=
  addW (x j) (fun k => y k * g k) (nrm 0x44000000#32 a ga) (fun k => W ⟨k.val, by omega⟩ j) (fun k => W ⟨512 + k.val, by omega⟩ j)

/-- The queries of a row. -/
def qR (x gx : Fin 1024 → EReal) (W : Fin 1024 → Fin 512 → EReal) (n : Fin 512) : EReal := ∑ k, nrm 0x44800000#32 x gx k * W k n

/-- A head of the queries, normalized. -/
def hdR (q : Fin 512 → EReal) (gn : Fin 128 → EReal) (h : Fin 4) (d : Fin 128) : EReal :=
  nrm 0x43000000#32 (fun e : Fin 128 => q ⟨128 * h.val + e.val, by omega⟩) gn d

/-- A head's attention with base-2 weights; the scale multiplies the queries. -/
def atK (s : EReal) (q : Fin 4 → Fin 128 → EReal) (K V : Fin 256 → Fin 512 → EReal) (h : Fin 4) (d : Fin 128) : EReal :=
  attF (fun m => ∑ e : Fin 128, q h e * s * K m ⟨128 * h.val + e.val, by omega⟩) (fun m => V m ⟨128 * h.val + d.val, by omega⟩)

/-- A head's attention; the scale multiplies the scores. -/
def atE (q : Fin 4 → Fin 128 → EReal) (K V : Fin 256 → Fin 512 → EReal) (h : Fin 4) (d : Fin 128) : EReal :=
  attE (fun m => (∑ e : Fin 128, q h e * K m ⟨128 * h.val + e.val, by omega⟩) * Ideal.ofBits FTy.f32 0x3DB504F3#32) (fun m => V m ⟨128 * h.val + d.val, by omega⟩)

/-- A row plus the projection of its heads' attention. -/
def yR (x : Fin 1024 → EReal) (o : Fin 4 → Fin 128 → EReal) (W : Fin 512 → Fin 1024 → EReal) (j : Fin 1024) : EReal :=
  x j + ∑ n : Fin 512, o ⟨n.val / 128, by omega⟩ ⟨n.val % 128, by omega⟩ * W n j

/-- A row of the kernel's result; `s` is the scale of the scores in base 2. -/
def kerR (s : EReal) (x : Fin 1024 → EReal) (y g a ga : Fin 512 → EReal) (W : Fin 1024 → Fin 1024 → EReal) (gx : Fin 1024 → EReal) (Wq : Fin 1024 → Fin 512 → EReal)
    (gn : Fin 128 → EReal) (K V : Fin 256 → Fin 512 → EReal) (Wo : Fin 512 → Fin 1024 → EReal) : Fin 1024 → EReal :=
  yR (x1R x y g a ga W) (atK s (hdR (qR (x1R x y g a ga W) gx Wq) gn) K V) Wo

/-- A row of the reference's result. -/
def refR (x : Fin 1024 → EReal) (y g a ga : Fin 512 → EReal) (W : Fin 1024 → Fin 1024 → EReal) (gx : Fin 1024 → EReal) (Wq : Fin 1024 → Fin 512 → EReal)
    (gn : Fin 128 → EReal) (K V : Fin 256 → Fin 512 → EReal) (Wo : Fin 512 → Fin 1024 → EReal) : Fin 1024 → EReal :=
  yR (x1R x y g a ga W) (atE (hdR (qR (x1R x y g a ga W) gx Wq) gn) K V) Wo

/-- The word for the scale of the scores. -/
theorem scale_word : Ideal.ofBits FTy.f32 0x3DB504F3#32 = (cX : EReal) := by
  simp [Ideal.ofBits, Ideal.ieee, -EReal.coe_mul]; norm_num

/-- For real queries and keys the two attentions agree. -/
theorem at_eq (q : Fin 4 → Fin 128 → EReal) (K V : Fin 256 → Fin 512 → EReal) (hq : ∀ h e, ∃ r : ℝ, q h e = r) (hK : ∀ m n, ∃ r : ℝ, K m n = r) :
    atK ((cX * (Real.log 2)⁻¹ : ℝ) : EReal) q K V = atE q K V := by
  choose qr hq using hq
  choose kr hK using hK
  funext h d
  unfold atK atE
  refine att_eq (fun m => (∑ e : Fin 128, qr h e * kr m ⟨128 * h.val + e.val, by omega⟩) * cX) _ _ _ (fun m => ?_) fun m => ?_
  · rw [mul_assoc, Finset.sum_mul, coe_sum]
    refine Finset.sum_congr rfl fun e _ => ?_
    rw [hq, hK, ← EReal.coe_mul, ← EReal.coe_mul]
    exact congrArg _ (by ring)
  · rw [scale_word, EReal.coe_mul, coe_sum]
    refine congrArg (· * (cX : EReal)) (Finset.sum_congr rfl fun e _ => ?_)
    rw [hq, hK, ← EReal.coe_mul]

/-- For real gains of the queries and real keys the two rows agree. -/
theorem row_eq (x : Fin 1024 → EReal) (y g a ga : Fin 512 → EReal) (W : Fin 1024 → Fin 1024 → EReal) (gx : Fin 1024 → EReal) (Wq : Fin 1024 → Fin 512 → EReal)
    (gn : Fin 128 → EReal) (K V : Fin 256 → Fin 512 → EReal) (Wo : Fin 512 → Fin 1024 → EReal)
    (hgn : ∀ d, ∃ r : ℝ, gn d = r) (hK : ∀ m n, ∃ r : ℝ, K m n = r) :
    kerR ((cX * (Real.log 2)⁻¹ : ℝ) : EReal) x y g a ga W gx Wq gn K V Wo = refR x y g a ga W gx Wq gn K V Wo := by
  have w128 : Ideal.ofBits FTy.f32 0x43000000#32 = ((128 : ℝ) : EReal) := by simp [Ideal.ofBits, Ideal.ieee, -EReal.coe_mul]; norm_num
  have h3 : ∀ h d, ∃ r : ℝ, hdR (qR (x1R x y g a ga W) gx Wq) gn h d = r := fun h d => real_nrm _ 128 w128 (by norm_num) _ gn hgn d
  unfold kerR refR
  rw [at_eq _ K V h3 hK]

end Cert.Mix

end
-- ==== Proof.MixPay.lean ====
module

public import proofs.«01_k».proof.Proof.Gen.MixKernelIdeal.Skeleton
public import proofs.«01_k».proof.Proof.MixSpec

@[expose] public section

noncomputable section

namespace Cert.Mix

open Cert.MixKernelIdeal Cert.MixKernelIdeal.Gen
open Idealize.ShloMosaic

/-- The scale of the scores in base 2. -/
abbrev sclX : EReal := ((cX * (Real.log 2)⁻¹ : ℝ) : EReal)

/-- The gated mixing. -/
theorem gate_apply (Y G : Vec Ideal S1x256x512 .f32) (a : Fin 256) (k : Fin 512) :
    k0_pay3 Y G (ix2 a k) = Y (ix3 0 a k) * G (ix3 0 a k) := by
  pointwise [k0_pay3]

/-- The normalized attention output. -/
theorem na_apply (A : Vec Ideal S1x256x512 .f32) (G : Vec Ideal S1x512 .f32) (a : Fin 256) (k : Fin 512) :
    k0_pay5 A G (ix2 a k) = nrm 0x44000000#32 (fun k => A (ix3 0 a k)) (fun k => G (ix2 0 k)) k := by
  pointwise [k0_pay5]
  rfl

/-- The rows plus the projection of the two mixings. -/
theorem x1_apply (y n : FVec Ideal S256x512 .bf16) (X : Vec Ideal S1x256x1024 .f32) (T B : Vec Ideal S512x1024 .bf16) (a : Fin 256) (j : Fin 1024) :
    k0_pay7 y n X T B (ix2 a j) = addW (X (ix3 0 a j)) (fun k => y (ix2 a k)) (fun k => n (ix2 a k)) (fun k => T (ix2 k j)) (fun k => B (ix2 k j)) := by
  pointwise [k0_pay7]
  rfl

/-- The queries before their heads are normalized. -/
theorem q_apply (X : FVec Ideal S256x1024 .f32) (G : Vec Ideal S1x1024 .f32) (W : Vec Ideal S1024x512 .bf16) (a : Fin 256) (n : Fin 512) :
    k0_pay11 X G W (ix2 a n) = ∑ k, nrm 0x44800000#32 (fun k => X (ix2 a k)) (fun k => G (ix2 0 k)) k * W (ix2 k n) := by
  pointwise [k0_pay11]
  rfl

/-- The first query head. -/
theorem h0_apply (P : FVec Ideal S256x512 .f32) (G : Vec Ideal S1x128 .f32) (a : Fin 256) (d : Fin 128) :
    k0_pay22 P G (ix2 a d) = nrm 0x43000000#32 (fun e : Fin 128 => P (ix2 a ⟨e.val, by omega⟩)) (fun e => G (ix2 0 e)) d * sclX := by
  pointwise [k0_pay22]
  rfl

/-- The second query head. -/
theorem h1_apply (P : FVec Ideal S256x512 .f32) (G : Vec Ideal S1x128 .f32) (a : Fin 256) (d : Fin 128) :
    k0_pay16 P G (ix2 a d) = nrm 0x43000000#32 (fun e : Fin 128 => P (ix2 a ⟨128 + e.val, by omega⟩)) (fun e => G (ix2 0 e)) d * sclX := by
  pointwise [k0_pay16]
  rfl

/-- The third query head. -/
theorem h2_apply (P : FVec Ideal S256x512 .f32) (G : Vec Ideal S1x128 .f32) (a : Fin 256) (d : Fin 128) :
    k0_pay26 P G (ix2 a d) = nrm 0x43000000#32 (fun e : Fin 128 => P (ix2 a ⟨256 + e.val, by omega⟩)) (fun e => G (ix2 0 e)) d * sclX := by
  pointwise [k0_pay26]
  rfl

/-- The fourth query head. -/
theorem h3_apply (P : FVec Ideal S256x512 .f32) (G : Vec Ideal S1x128 .f32) (a : Fin 256) (d : Fin 128) :
    k0_pay21 P G (ix2 a d) = nrm 0x43000000#32 (fun e : Fin 128 => P (ix2 a ⟨384 + e.val, by omega⟩)) (fun e => G (ix2 0 e)) d * sclX := by
  pointwise [k0_pay21]
  rfl

/-- The scores of a head. -/
theorem score_apply (q : FVec Ideal S256x128 .bf16) (K : Vec Ideal S1x256x128 .bf16) (a m : Fin 256) :
    k0_pay31 q K (ix2 a m) = ∑ d, q (ix2 a d) * K (ix3 0 m d) := by
  pointwise [k0_pay31]

/-- The weights of a head. -/
theorem exp_apply (s : FVec Ideal S256x256 .f32) (a m : Fin 256) :
    k0_pay38 s (ix2 a m) = exp2F (fun m => s (ix2 a m)) m := by
  pointwise [k0_pay38]
  rfl

/-- One over the sum of the weights. -/
theorem inv_apply (e : FVec Ideal S256x256 .f32) (a : Fin 256) :
    k0_pay48 e (ix2 a 0) = Ideal.div (Ideal.ofBits FTy.f32 0x3F800000#32) (∑ m, e (ix2 a m)) := by
  pointwise [k0_pay48]

/-- The weighted sum of the values. -/
theorem pv_apply (e : FVec Ideal S256x256 .f32) (i : FVec Ideal S256x1 .f32) (V : Vec Ideal S1x256x128 .bf16) (a : Fin 256) (d : Fin 128) :
    k0_pay54 e i V (ix2 a d) = (∑ m, e (ix2 a m) * V (ix3 0 m d)) * i (ix2 a 0) := by
  pointwise [k0_pay54]

/-- The attention of a head. -/
def headV (q : FVec Ideal S256x128 .bf16) (K V : Vec Ideal S1x256x128 .bf16) : FVec Ideal S256x128 .f32 :=
  k0_pay54 (k0_pay38 (k0_pay31 q K)) (k0_pay48 (k0_pay38 (k0_pay31 q K))) V

/-- The attention of a head, at an index. -/
theorem headV_apply (q : FVec Ideal S256x128 .bf16) (K V : Vec Ideal S1x256x128 .bf16) (a : Fin 256) (d : Fin 128) :
    headV q K V (ix2 a d) = attF (fun m => ∑ d, q (ix2 a d) * K (ix3 0 m d)) (fun m => V (ix3 0 m d)) := by
  unfold headV attF
  rw [pv_apply, inv_apply]
  simp only [exp_apply, score_apply]

/-- Four heads side by side. -/
def catV (o0 o1 o2 o3 : FVec Ideal S256x128 .f32) : FVec Ideal S256x512 .bf16 :=
  truncf .bf16 (concatenate S256x512 1 [⟨S256x128, o0⟩, ⟨S256x128, o1⟩, ⟨S256x128, o2⟩, ⟨S256x128, o3⟩] concatenates_S256x128_S256x128_S256x128_S256x128_S256x512_d1) bitsLt_bf16_f32

/-- Four heads side by side, at an index. -/
theorem catV_apply (o0 o1 o2 o3 : FVec Ideal S256x128 .f32) (f : Fin 4 → Fin 128 → EReal) (a : Fin 256)
    (h0 : ∀ d, o0 (ix2 a d) = f 0 d) (h1 : ∀ d, o1 (ix2 a d) = f 1 d) (h2 : ∀ d, o2 (ix2 a d) = f 2 d) (h3 : ∀ d, o3 (ix2 a d) = f 3 d) (n : Fin 512) :
    catV o0 o1 o2 o3 (ix2 a n) = f ⟨n.val / 128, by omega⟩ ⟨n.val % 128, by omega⟩ := by
  pointwise [catV]
  have hn := n.isLt
  split
  · next h =>
    rw [h0]
    exact congrArg₂ f (Fin.ext (by show 0 = n.val / 128; omega)) (Fin.ext (by show n.val = n.val % 128; omega))
  split
  · next h =>
    rw [h1]
    exact congrArg₂ f (Fin.ext (by show 1 = n.val / 128; omega)) (Fin.ext (by show n.val - 128 = n.val % 128; omega))
  split
  · next h =>
    rw [h2]
    exact congrArg₂ f (Fin.ext (by show 2 = n.val / 128; omega)) (Fin.ext (by show n.val - 128 - 128 = n.val % 128; omega))
  · next h =>
    rw [h3]
    exact congrArg₂ f (Fin.ext (by show 3 = n.val / 128; omega)) (Fin.ext (by show n.val - 128 - 128 - 128 = n.val % 128; omega))

/-- The rows of a group plus the projection of its attention. -/
def outV (X1 : FVec Ideal S256x1024 .f32) (o : FVec Ideal S256x512 .bf16) (W : Vec Ideal S512x1024 .bf16) : FVec Ideal S256x1024 .f32 :=
  addf X1 (matmul (φ₂ := .bf16) dot_S256x512_S512x1024_S256x1024_1_0_0_1_n_n none o (shapeCast S512x1024 W shapeCasts_S512x1024_S512x1024) (constant S256x1024 .f32 0x00000000#32))

/-- The rows of a group plus the projection of its attention, at an index. -/
theorem outV_apply (X1 : FVec Ideal S256x1024 .f32) (o : FVec Ideal S256x512 .bf16) (W : Vec Ideal S512x1024 .bf16) (a : Fin 256) (j : Fin 1024) :
    outV X1 o W (ix2 a j) = X1 (ix2 a j) + ∑ n, o (ix2 a n) * W (ix2 n j) := by
  pointwise [outV]

/-- Two groups of rows, one after the other. -/
def bothV (A B : FVec Ideal S256x1024 .f32) : FVec Ideal S1x512x1024 .f32 :=
  shapeCast S1x512x1024 (concatenate S512x1024 0 [⟨S256x1024, A⟩, ⟨S256x1024, B⟩] concatenates_S256x1024_S256x1024_S512x1024_d0) shapeCasts_S512x1024_S1x512x1024

/-- Two groups of rows, one after the other, at an index. -/
theorem bothV_apply (A B : FVec Ideal S256x1024 .f32) (a : Fin 512) (j : Fin 1024) (f : Fin 512 → EReal)
    (hA : ∀ r : Fin 256, A (ix2 r j) = f ⟨r.val, by omega⟩) (hB : ∀ r : Fin 256, B (ix2 r j) = f ⟨256 + r.val, by omega⟩) :
    bothV A B (ix3 0 a j) = f a := by
  pointwise [bothV]
  have ha := a.isLt
  split
  · exact hA _
  · next h =>
    rw [hB]
    exact congrArg f (Fin.ext (by show 256 + (a.val - 256) = a.val; omega))

end Cert.Mix

end
-- ==== Proof.MixRun.lean ====
module

public import proofs.«01_k».proof.Proof.Gen.MixKernelIdeal.Frame
public import proofs.«01_k».proof.Proof.MixPay
public import proofs.«01_k».proof.Proof.KRead

@[expose] public section

set_option maxRecDepth 16384

noncomputable section

namespace Cert.Mix

open Cert.MixKernelIdeal Cert.MixKernelIdeal.Gen
open Idealize.ShloMosaic Idealize.ShloMosaic.TcCoe
open Cert.Band.KI (canon_of emb_val)

/-- The attention of a group of rows, heads side by side. -/
def attV (X : FVec Ideal S256x1024 .f32) (gx : Vec Ideal S1x1024 .f32) (Wq : Vec Ideal S1024x512 .bf16) (qn : Vec Ideal S1x128 .f32)
    (K0 K1 K2 K3 V0 V1 V2 V3 : Vec Ideal S1x256x128 .bf16) : FVec Ideal S256x512 .bf16 :=
  catV (headV (k0_pay22 (k0_pay11 X gx Wq) qn) K0 V0) (headV (k0_pay16 (k0_pay11 X gx Wq) qn) K1 V1)
    (headV (k0_pay26 (k0_pay11 X gx Wq) qn) K2 V2) (headV (k0_pay21 (k0_pay11 X gx Wq) qn) K3 V3)

/-- A group of rows of the output. -/
def grpV (X : Vec Ideal S1x256x1024 .f32) (Y G A : Vec Ideal S1x256x512 .f32) (ga : Vec Ideal S1x512 .f32) (T B : Vec Ideal S512x1024 .bf16)
    (gx : Vec Ideal S1x1024 .f32) (Wq : Vec Ideal S1024x512 .bf16) (qn : Vec Ideal S1x128 .f32)
    (K0 K1 K2 K3 V0 V1 V2 V3 : Vec Ideal S1x256x128 .bf16) (Wo : Vec Ideal S512x1024 .bf16) : FVec Ideal S256x1024 .f32 :=
  outV (k0_pay7 (k0_pay3 Y G) (k0_pay5 A ga) X T B)
    (attV (k0_pay7 (k0_pay3 Y G) (k0_pay5 A ga) X T B) gx Wq qn K0 K1 K2 K3 V0 V1 V2 V3) Wo

/-- A load from a whole block. -/
def rdV {s : Shape} {e : EltTy} (M : Memref sig .tc .vmem s e) (h : M.IsWhole) (x : Vec Ideal s e) (r : Rect s) : Vec Ideal r.shape e :=
  View.readAt (Elt Ideal) M.view r.toLoadRect (h.unread x)

theorem rdV_eq {s : Shape} {e : EltTy} (M : Memref sig .tc .vmem s e) (h : M.IsWhole) (x : Vec Ideal s e) (r : Rect s) : rdV M h x r = View.ld x r := by
  unfold rdV
  rw [View.readAt_eq_ld, h.read_unread]

/-- One store of the whole block leaves what it stored. -/
theorem canon_one (w : Vec Ideal S1x512x1024 .f32) (inb) :
    View.canon [(⟨Rect.unit (s := S1x512x1024) ![0, 0, 0] S1x512x1024.size inb, w⟩ : View.Piece (Elt Ideal) S1x512x1024 .f32)] = w := by
  have he : ∀ z : S1x512x1024.Idx, (Rect.unit (s := S1x512x1024) ![0, 0, 0] S1x512x1024.size inb).emb z = z := fun z => funext fun d => by
    refine Fin.ext ((emb_val _ _ inb z d).trans ?_)
    fin_cases d <;> exact Nat.zero_add _
  refine funext fun y => canon_of _ w (fun P hP z => ?_) y ⟨_, List.mem_cons_self, ?_⟩
  · obtain rfl := List.mem_singleton.mp hP
    exact congrArg w (he z).symm
  · have h := LoadRect.idx_mem (Rect.unit (s := S1x512x1024) ![0, 0, 0] S1x512x1024.size inb).toLoadRect y
    rwa [show (Rect.unit (s := S1x512x1024) ![0, 0, 0] S1x512x1024.size inb).idx y = y from he y] at h

/-- The output block from the input blocks. -/
def blkV (x0 : Vec Ideal S1x512x1024 .f32) (x1 x2 x3 : Vec Ideal S1x512x512 .f32) (x4 : Vec Ideal S1x512 .f32) (x5 : Vec Ideal S1024x1024 .bf16) (x6 : Vec Ideal S1x1024 .f32) (x7 : Vec Ideal S1024x512 .bf16) (x8 : Vec Ideal S1x128 .f32) (x9 x10 : Vec Ideal S1x256x512 .bf16) (x11 : Vec Ideal S512x1024 .bf16) : FVec Ideal S1x512x1024 .f32 :=
  bothV
    (grpV (View.ld x0 (Rect.unit (s := S1x512x1024) ![0, 0, 0] S1x256x1024.size inb_S1x512x1024_S1x256x1024_0_0_0))
      (View.ld x1 (Rect.unit (s := S1x512x512) ![0, 0, 0] S1x256x512.size inb_S1x512x512_S1x256x512_0_0_0))
      (View.ld x2 (Rect.unit (s := S1x512x512) ![0, 0, 0] S1x256x512.size inb_S1x512x512_S1x256x512_0_0_0))
      (View.ld x3 (Rect.unit (s := S1x512x512) ![0, 0, 0] S1x256x512.size inb_S1x512x512_S1x256x512_0_0_0))
      (View.ld x4 (Rect.unit (s := S1x512) ![0, 0] S1x512.size inb_S1x512_S1x512_0_0))
      (View.ld x5 (Rect.unit (s := S1024x1024) ![0, 0] S512x1024.size inb_S1024x1024_S512x1024_0_0))
      (View.ld x5 (Rect.unit (s := S1024x1024) ![512, 0] S512x1024.size inb_S1024x1024_S512x1024_512_0))
      (View.ld x6 (Rect.unit (s := S1x1024) ![0, 0] S1x1024.size inb_S1x1024_S1x1024_0_0))
      (View.ld x7 (Rect.unit (s := S1024x512) ![0, 0] S1024x512.size inb_S1024x512_S1024x512_0_0))
      (View.ld x8 (Rect.unit (s := S1x128) ![0, 0] S1x128.size inb_S1x128_S1x128_0_0))
      (View.ld x9 (Rect.unit (s := S1x256x512) ![0, 0, 0] S1x256x128.size inb_S1x256x512_S1x256x128_0_0_0))
      (View.ld x9 (Rect.unit (s := S1x256x512) ![0, 0, 128] S1x256x128.size inb_S1x256x512_S1x256x128_0_0_128))
      (View.ld x9 (Rect.unit (s := S1x256x512) ![0, 0, 256] S1x256x128.size inb_S1x256x512_S1x256x128_0_0_256))
      (View.ld x9 (Rect.unit (s := S1x256x512) ![0, 0, 384] S1x256x128.size inb_S1x256x512_S1x256x128_0_0_384))
      (View.ld x10 (Rect.unit (s := S1x256x512) ![0, 0, 0] S1x256x128.size inb_S1x256x512_S1x256x128_0_0_0))
      (View.ld x10 (Rect.unit (s := S1x256x512) ![0, 0, 128] S1x256x128.size inb_S1x256x512_S1x256x128_0_0_128))
      (View.ld x10 (Rect.unit (s := S1x256x512) ![0, 0, 256] S1x256x128.size inb_S1x256x512_S1x256x128_0_0_256))
      (View.ld x10 (Rect.unit (s := S1x256x512) ![0, 0, 384] S1x256x128.size inb_S1x256x512_S1x256x128_0_0_384))
      (View.ld x11 (Rect.unit (s := S512x1024) ![0, 0] S512x1024.size inb_S512x1024_S512x1024_0_0)))
    (grpV (View.ld x0 (Rect.unit (s := S1x512x1024) ![0, 256, 0] S1x256x1024.size inb_S1x512x1024_S1x256x1024_0_256_0))
      (View.ld x1 (Rect.unit (s := S1x512x512) ![0, 256, 0] S1x256x512.size inb_S1x512x512_S1x256x512_0_256_0))
      (View.ld x2 (Rect.unit (s := S1x512x512) ![0, 256, 0] S1x256x512.size inb_S1x512x512_S1x256x512_0_256_0))
      (View.ld x3 (Rect.unit (s := S1x512x512) ![0, 256, 0] S1x256x512.size inb_S1x512x512_S1x256x512_0_256_0))
      (View.ld x4 (Rect.unit (s := S1x512) ![0, 0] S1x512.size inb_S1x512_S1x512_0_0))
      (View.ld x5 (Rect.unit (s := S1024x1024) ![0, 0] S512x1024.size inb_S1024x1024_S512x1024_0_0))
      (View.ld x5 (Rect.unit (s := S1024x1024) ![512, 0] S512x1024.size inb_S1024x1024_S512x1024_512_0))
      (View.ld x6 (Rect.unit (s := S1x1024) ![0, 0] S1x1024.size inb_S1x1024_S1x1024_0_0))
      (View.ld x7 (Rect.unit (s := S1024x512) ![0, 0] S1024x512.size inb_S1024x512_S1024x512_0_0))
      (View.ld x8 (Rect.unit (s := S1x128) ![0, 0] S1x128.size inb_S1x128_S1x128_0_0))
      (View.ld x9 (Rect.unit (s := S1x256x512) ![0, 0, 0] S1x256x128.size inb_S1x256x512_S1x256x128_0_0_0))
      (View.ld x9 (Rect.unit (s := S1x256x512) ![0, 0, 128] S1x256x128.size inb_S1x256x512_S1x256x128_0_0_128))
      (View.ld x9 (Rect.unit (s := S1x256x512) ![0, 0, 256] S1x256x128.size inb_S1x256x512_S1x256x128_0_0_256))
      (View.ld x9 (Rect.unit (s := S1x256x512) ![0, 0, 384] S1x256x128.size inb_S1x256x512_S1x256x128_0_0_384))
      (View.ld x10 (Rect.unit (s := S1x256x512) ![0, 0, 0] S1x256x128.size inb_S1x256x512_S1x256x128_0_0_0))
      (View.ld x10 (Rect.unit (s := S1x256x512) ![0, 0, 128] S1x256x128.size inb_S1x256x512_S1x256x128_0_0_128))
      (View.ld x10 (Rect.unit (s := S1x256x512) ![0, 0, 256] S1x256x128.size inb_S1x256x512_S1x256x128_0_0_256))
      (View.ld x10 (Rect.unit (s := S1x256x512) ![0, 0, 384] S1x256x128.size inb_S1x256x512_S1x256x128_0_0_384))
      (View.ld x11 (Rect.unit (s := S512x1024) ![0, 0] S512x1024.size inb_S512x1024_S512x1024_0_0)))

/-- What the run of case A stores into the first output. -/
theorem pieces_A (c : Dev nD) (i : grid0.Coords) (arg2 : Memref sig .tc .vmem S1x512x1024 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x512 .bf16) (harg9 : arg9.IsWhole) (arg10 : Memref sig .tc .vmem S1x128 .f32) (harg10 : arg10.IsWhole) (arg11 : Memref sig .tc .vmem S1x256x512 .bf16) (harg11 : arg11.IsWhole) (arg12 : Memref sig .tc .vmem S1x256x512 .bf16) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1024x128 .bf16) (harg15 : arg15.IsWhole) (arg16 : Memref sig .tc .vmem S1x128 .f32) (harg16 : arg16.IsWhole) (arg17 : Memref sig .tc .vmem S512x512 .bf16) (harg17 : arg17.IsWhole) (arg18 : Memref sig .tc .vmem S1x512x1024 .f32) (harg18 : arg18.IsWhole) (arg19 : Memref sig .tc .vmem S4096x128 .bf16) (harg19 : arg19.IsWhole) (arg20 : Memref sig .tc .vmem S1x512x128 .f32) (harg20 : arg20.IsWhole) (arg21 : Memref sig .tc .vmem S8x128 .f32) (harg21 : arg21.IsWhole) (arg22 : Memref sig .tc .vmem S1x128 .f32) (harg22 : arg22.IsWhole) (arg23 : Memref sig .tc .vmem S4096x128 .f32) (harg23 : arg23.IsWhole) (hc0 : cond0_0 i) (x0 : Vec Ideal S1x512x1024 .f32) (x1 : Vec Ideal S1x512x512 .f32) (x2 : Vec Ideal S1x512x512 .f32) (x3 : Vec Ideal S1x512x512 .f32) (x4 : Vec Ideal S1x512 .f32) (x5 : Vec Ideal S1024x1024 .bf16) (x6 : Vec Ideal S1x1024 .f32) (x7 : Vec Ideal S1024x512 .bf16) (x8 : Vec Ideal S1x128 .f32) (x9 : Vec Ideal S1x256x512 .bf16) (x10 : Vec Ideal S1x256x512 .bf16) (x11 : Vec Ideal S512x1024 .bf16) (x12 : Vec Ideal S1x1024 .f32) (x13 : Vec Ideal S1024x128 .bf16) (x14 : Vec Ideal S1x128 .f32) (x15 : Vec Ideal S512x512 .bf16)  :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).1 = [⟨Rect.unit ![0, 0, 0] S1x512x1024.size inb_S1x512x1024_S1x512x1024_0_0_0, bothV
    (grpV (rdV arg2 harg2 x0 (Rect.unit (s := S1x512x1024) ![0, 0, 0] S1x256x1024.size inb_S1x512x1024_S1x256x1024_0_0_0))
      (rdV arg3 harg3 x1 (Rect.unit (s := S1x512x512) ![0, 0, 0] S1x256x512.size inb_S1x512x512_S1x256x512_0_0_0))
      (rdV arg4 harg4 x2 (Rect.unit (s := S1x512x512) ![0, 0, 0] S1x256x512.size inb_S1x512x512_S1x256x512_0_0_0))
      (rdV arg5 harg5 x3 (Rect.unit (s := S1x512x512) ![0, 0, 0] S1x256x512.size inb_S1x512x512_S1x256x512_0_0_0))
      (rdV arg6 harg6 x4 (Rect.unit (s := S1x512) ![0, 0] S1x512.size inb_S1x512_S1x512_0_0))
      (rdV arg7 harg7 x5 (Rect.unit (s := S1024x1024) ![0, 0] S512x1024.size inb_S1024x1024_S512x1024_0_0))
      (rdV arg7 harg7 x5 (Rect.unit (s := S1024x1024) ![512, 0] S512x1024.size inb_S1024x1024_S512x1024_512_0))
      (rdV arg8 harg8 x6 (Rect.unit (s := S1x1024) ![0, 0] S1x1024.size inb_S1x1024_S1x1024_0_0))
      (rdV arg9 harg9 x7 (Rect.unit (s := S1024x512) ![0, 0] S1024x512.size inb_S1024x512_S1024x512_0_0))
      (rdV arg10 harg10 x8 (Rect.unit (s := S1x128) ![0, 0] S1x128.size inb_S1x128_S1x128_0_0))
      (rdV arg11 harg11 x9 (Rect.unit (s := S1x256x512) ![0, 0, 0] S1x256x128.size inb_S1x256x512_S1x256x128_0_0_0))
      (rdV arg11 harg11 x9 (Rect.unit (s := S1x256x512) ![0, 0, 128] S1x256x128.size inb_S1x256x512_S1x256x128_0_0_128))
      (rdV arg11 harg11 x9 (Rect.unit (s := S1x256x512) ![0, 0, 256] S1x256x128.size inb_S1x256x512_S1x256x128_0_0_256))
      (rdV arg11 harg11 x9 (Rect.unit (s := S1x256x512) ![0, 0, 384] S1x256x128.size inb_S1x256x512_S1x256x128_0_0_384))
      (rdV arg12 harg12 x10 (Rect.unit (s := S1x256x512) ![0, 0, 0] S1x256x128.size inb_S1x256x512_S1x256x128_0_0_0))
      (rdV arg12 harg12 x10 (Rect.unit (s := S1x256x512) ![0, 0, 128] S1x256x128.size inb_S1x256x512_S1x256x128_0_0_128))
      (rdV arg12 harg12 x10 (Rect.unit (s := S1x256x512) ![0, 0, 256] S1x256x128.size inb_S1x256x512_S1x256x128_0_0_256))
      (rdV arg12 harg12 x10 (Rect.unit (s := S1x256x512) ![0, 0, 384] S1x256x128.size inb_S1x256x512_S1x256x128_0_0_384))
      (rdV arg13 harg13 x11 (Rect.unit (s := S512x1024) ![0, 0] S512x1024.size inb_S512x1024_S512x1024_0_0)))
    (grpV (rdV arg2 harg2 x0 (Rect.unit (s := S1x512x1024) ![0, 256, 0] S1x256x1024.size inb_S1x512x1024_S1x256x1024_0_256_0))
      (rdV arg3 harg3 x1 (Rect.unit (s := S1x512x512) ![0, 256, 0] S1x256x512.size inb_S1x512x512_S1x256x512_0_256_0))
      (rdV arg4 harg4 x2 (Rect.unit (s := S1x512x512) ![0, 256, 0] S1x256x512.size inb_S1x512x512_S1x256x512_0_256_0))
      (rdV arg5 harg5 x3 (Rect.unit (s := S1x512x512) ![0, 256, 0] S1x256x512.size inb_S1x512x512_S1x256x512_0_256_0))
      (rdV arg6 harg6 x4 (Rect.unit (s := S1x512) ![0, 0] S1x512.size inb_S1x512_S1x512_0_0))
      (rdV arg7 harg7 x5 (Rect.unit (s := S1024x1024) ![0, 0] S512x1024.size inb_S1024x1024_S512x1024_0_0))
      (rdV arg7 harg7 x5 (Rect.unit (s := S1024x1024) ![512, 0] S512x1024.size inb_S1024x1024_S512x1024_512_0))
      (rdV arg8 harg8 x6 (Rect.unit (s := S1x1024) ![0, 0] S1x1024.size inb_S1x1024_S1x1024_0_0))
      (rdV arg9 harg9 x7 (Rect.unit (s := S1024x512) ![0, 0] S1024x512.size inb_S1024x512_S1024x512_0_0))
      (rdV arg10 harg10 x8 (Rect.unit (s := S1x128) ![0, 0] S1x128.size inb_S1x128_S1x128_0_0))
      (rdV arg11 harg11 x9 (Rect.unit (s := S1x256x512) ![0, 0, 0] S1x256x128.size inb_S1x256x512_S1x256x128_0_0_0))
      (rdV arg11 harg11 x9 (Rect.unit (s := S1x256x512) ![0, 0, 128] S1x256x128.size inb_S1x256x512_S1x256x128_0_0_128))
      (rdV arg11 harg11 x9 (Rect.unit (s := S1x256x512) ![0, 0, 256] S1x256x128.size inb_S1x256x512_S1x256x128_0_0_256))
      (rdV arg11 harg11 x9 (Rect.unit (s := S1x256x512) ![0, 0, 384] S1x256x128.size inb_S1x256x512_S1x256x128_0_0_384))
      (rdV arg12 harg12 x10 (Rect.unit (s := S1x256x512) ![0, 0, 0] S1x256x128.size inb_S1x256x512_S1x256x128_0_0_0))
      (rdV arg12 harg12 x10 (Rect.unit (s := S1x256x512) ![0, 0, 128] S1x256x128.size inb_S1x256x512_S1x256x128_0_0_128))
      (rdV arg12 harg12 x10 (Rect.unit (s := S1x256x512) ![0, 0, 256] S1x256x128.size inb_S1x256x512_S1x256x128_0_0_256))
      (rdV arg12 harg12 x10 (Rect.unit (s := S1x256x512) ![0, 0, 384] S1x256x128.size inb_S1x256x512_S1x256x128_0_0_384))
      (rdV arg13 harg13 x11 (Rect.unit (s := S512x1024) ![0, 0] S512x1024.size inb_S512x1024_S512x1024_0_0)))⟩] :=
  rfl

/-- The first output block of case A. -/
theorem out_A (c : Dev nD) (i : grid0.Coords) (arg2 : Memref sig .tc .vmem S1x512x1024 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x512 .bf16) (harg9 : arg9.IsWhole) (arg10 : Memref sig .tc .vmem S1x128 .f32) (harg10 : arg10.IsWhole) (arg11 : Memref sig .tc .vmem S1x256x512 .bf16) (harg11 : arg11.IsWhole) (arg12 : Memref sig .tc .vmem S1x256x512 .bf16) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1024x128 .bf16) (harg15 : arg15.IsWhole) (arg16 : Memref sig .tc .vmem S1x128 .f32) (harg16 : arg16.IsWhole) (arg17 : Memref sig .tc .vmem S512x512 .bf16) (harg17 : arg17.IsWhole) (arg18 : Memref sig .tc .vmem S1x512x1024 .f32) (harg18 : arg18.IsWhole) (arg19 : Memref sig .tc .vmem S4096x128 .bf16) (harg19 : arg19.IsWhole) (arg20 : Memref sig .tc .vmem S1x512x128 .f32) (harg20 : arg20.IsWhole) (arg21 : Memref sig .tc .vmem S8x128 .f32) (harg21 : arg21.IsWhole) (arg22 : Memref sig .tc .vmem S1x128 .f32) (harg22 : arg22.IsWhole) (arg23 : Memref sig .tc .vmem S4096x128 .f32) (harg23 : arg23.IsWhole) (hc0 : cond0_0 i) (x0 : Vec Ideal S1x512x1024 .f32) (x1 : Vec Ideal S1x512x512 .f32) (x2 : Vec Ideal S1x512x512 .f32) (x3 : Vec Ideal S1x512x512 .f32) (x4 : Vec Ideal S1x512 .f32) (x5 : Vec Ideal S1024x1024 .bf16) (x6 : Vec Ideal S1x1024 .f32) (x7 : Vec Ideal S1024x512 .bf16) (x8 : Vec Ideal S1x128 .f32) (x9 : Vec Ideal S1x256x512 .bf16) (x10 : Vec Ideal S1x256x512 .bf16) (x11 : Vec Ideal S512x1024 .bf16) (x12 : Vec Ideal S1x1024 .f32) (x13 : Vec Ideal S1024x128 .bf16) (x14 : Vec Ideal S1x128 .f32) (x15 : Vec Ideal S512x512 .bf16)  :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 = blkV x0 x1 x2 x3 x4 x5 x6 x7 x8 x9 x10 x11 := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15), pieces_A]
  refine (canon_one _ _).trans ?_
  simp only [rdV_eq]
  rfl

/-- What the run of case B stores into the first output. -/
theorem pieces_B (c : Dev nD) (i : grid0.Coords) (arg2 : Memref sig .tc .vmem S1x512x1024 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x512 .bf16) (harg9 : arg9.IsWhole) (arg10 : Memref sig .tc .vmem S1x128 .f32) (harg10 : arg10.IsWhole) (arg11 : Memref sig .tc .vmem S1x256x512 .bf16) (harg11 : arg11.IsWhole) (arg12 : Memref sig .tc .vmem S1x256x512 .bf16) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1024x128 .bf16) (harg15 : arg15.IsWhole) (arg16 : Memref sig .tc .vmem S1x128 .f32) (harg16 : arg16.IsWhole) (arg17 : Memref sig .tc .vmem S512x512 .bf16) (harg17 : arg17.IsWhole) (arg18 : Memref sig .tc .vmem S1x512x1024 .f32) (harg18 : arg18.IsWhole) (arg19 : Memref sig .tc .vmem S4096x128 .bf16) (harg19 : arg19.IsWhole) (arg20 : Memref sig .tc .vmem S1x512x128 .f32) (harg20 : arg20.IsWhole) (arg21 : Memref sig .tc .vmem S8x128 .f32) (harg21 : arg21.IsWhole) (arg22 : Memref sig .tc .vmem S1x128 .f32) (harg22 : arg22.IsWhole) (arg23 : Memref sig .tc .vmem S4096x128 .f32) (harg23 : arg23.IsWhole) (hc0 : ¬cond0_0 i) (x0 : Vec Ideal S1x512x1024 .f32) (x1 : Vec Ideal S1x512x512 .f32) (x2 : Vec Ideal S1x512x512 .f32) (x3 : Vec Ideal S1x512x512 .f32) (x4 : Vec Ideal S1x512 .f32) (x5 : Vec Ideal S1024x1024 .bf16) (x6 : Vec Ideal S1x1024 .f32) (x7 : Vec Ideal S1024x512 .bf16) (x8 : Vec Ideal S1x128 .f32) (x9 : Vec Ideal S1x256x512 .bf16) (x10 : Vec Ideal S1x256x512 .bf16) (x11 : Vec Ideal S512x1024 .bf16) (x12 : Vec Ideal S1x1024 .f32) (x13 : Vec Ideal S1024x128 .bf16) (x14 : Vec Ideal S1x128 .f32) (x15 : Vec Ideal S512x512 .bf16) (xs0 : Vec Ideal S1x128 .f32)  :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs0).1 = [⟨Rect.unit ![0, 0, 0] S1x512x1024.size inb_S1x512x1024_S1x512x1024_0_0_0, bothV
    (grpV (rdV arg2 harg2 x0 (Rect.unit (s := S1x512x1024) ![0, 0, 0] S1x256x1024.size inb_S1x512x1024_S1x256x1024_0_0_0))
      (rdV arg3 harg3 x1 (Rect.unit (s := S1x512x512) ![0, 0, 0] S1x256x512.size inb_S1x512x512_S1x256x512_0_0_0))
      (rdV arg4 harg4 x2 (Rect.unit (s := S1x512x512) ![0, 0, 0] S1x256x512.size inb_S1x512x512_S1x256x512_0_0_0))
      (rdV arg5 harg5 x3 (Rect.unit (s := S1x512x512) ![0, 0, 0] S1x256x512.size inb_S1x512x512_S1x256x512_0_0_0))
      (rdV arg6 harg6 x4 (Rect.unit (s := S1x512) ![0, 0] S1x512.size inb_S1x512_S1x512_0_0))
      (rdV arg7 harg7 x5 (Rect.unit (s := S1024x1024) ![0, 0] S512x1024.size inb_S1024x1024_S512x1024_0_0))
      (rdV arg7 harg7 x5 (Rect.unit (s := S1024x1024) ![512, 0] S512x1024.size inb_S1024x1024_S512x1024_512_0))
      (rdV arg8 harg8 x6 (Rect.unit (s := S1x1024) ![0, 0] S1x1024.size inb_S1x1024_S1x1024_0_0))
      (rdV arg9 harg9 x7 (Rect.unit (s := S1024x512) ![0, 0] S1024x512.size inb_S1024x512_S1024x512_0_0))
      (rdV arg10 harg10 x8 (Rect.unit (s := S1x128) ![0, 0] S1x128.size inb_S1x128_S1x128_0_0))
      (rdV arg11 harg11 x9 (Rect.unit (s := S1x256x512) ![0, 0, 0] S1x256x128.size inb_S1x256x512_S1x256x128_0_0_0))
      (rdV arg11 harg11 x9 (Rect.unit (s := S1x256x512) ![0, 0, 128] S1x256x128.size inb_S1x256x512_S1x256x128_0_0_128))
      (rdV arg11 harg11 x9 (Rect.unit (s := S1x256x512) ![0, 0, 256] S1x256x128.size inb_S1x256x512_S1x256x128_0_0_256))
      (rdV arg11 harg11 x9 (Rect.unit (s := S1x256x512) ![0, 0, 384] S1x256x128.size inb_S1x256x512_S1x256x128_0_0_384))
      (rdV arg12 harg12 x10 (Rect.unit (s := S1x256x512) ![0, 0, 0] S1x256x128.size inb_S1x256x512_S1x256x128_0_0_0))
      (rdV arg12 harg12 x10 (Rect.unit (s := S1x256x512) ![0, 0, 128] S1x256x128.size inb_S1x256x512_S1x256x128_0_0_128))
      (rdV arg12 harg12 x10 (Rect.unit (s := S1x256x512) ![0, 0, 256] S1x256x128.size inb_S1x256x512_S1x256x128_0_0_256))
      (rdV arg12 harg12 x10 (Rect.unit (s := S1x256x512) ![0, 0, 384] S1x256x128.size inb_S1x256x512_S1x256x128_0_0_384))
      (rdV arg13 harg13 x11 (Rect.unit (s := S512x1024) ![0, 0] S512x1024.size inb_S512x1024_S512x1024_0_0)))
    (grpV (rdV arg2 harg2 x0 (Rect.unit (s := S1x512x1024) ![0, 256, 0] S1x256x1024.size inb_S1x512x1024_S1x256x1024_0_256_0))
      (rdV arg3 harg3 x1 (Rect.unit (s := S1x512x512) ![0, 256, 0] S1x256x512.size inb_S1x512x512_S1x256x512_0_256_0))
      (rdV arg4 harg4 x2 (Rect.unit (s := S1x512x512) ![0, 256, 0] S1x256x512.size inb_S1x512x512_S1x256x512_0_256_0))
      (rdV arg5 harg5 x3 (Rect.unit (s := S1x512x512) ![0, 256, 0] S1x256x512.size inb_S1x512x512_S1x256x512_0_256_0))
      (rdV arg6 harg6 x4 (Rect.unit (s := S1x512) ![0, 0] S1x512.size inb_S1x512_S1x512_0_0))
      (rdV arg7 harg7 x5 (Rect.unit (s := S1024x1024) ![0, 0] S512x1024.size inb_S1024x1024_S512x1024_0_0))
      (rdV arg7 harg7 x5 (Rect.unit (s := S1024x1024) ![512, 0] S512x1024.size inb_S1024x1024_S512x1024_512_0))
      (rdV arg8 harg8 x6 (Rect.unit (s := S1x1024) ![0, 0] S1x1024.size inb_S1x1024_S1x1024_0_0))
      (rdV arg9 harg9 x7 (Rect.unit (s := S1024x512) ![0, 0] S1024x512.size inb_S1024x512_S1024x512_0_0))
      (rdV arg10 harg10 x8 (Rect.unit (s := S1x128) ![0, 0] S1x128.size inb_S1x128_S1x128_0_0))
      (rdV arg11 harg11 x9 (Rect.unit (s := S1x256x512) ![0, 0, 0] S1x256x128.size inb_S1x256x512_S1x256x128_0_0_0))
      (rdV arg11 harg11 x9 (Rect.unit (s := S1x256x512) ![0, 0, 128] S1x256x128.size inb_S1x256x512_S1x256x128_0_0_128))
      (rdV arg11 harg11 x9 (Rect.unit (s := S1x256x512) ![0, 0, 256] S1x256x128.size inb_S1x256x512_S1x256x128_0_0_256))
      (rdV arg11 harg11 x9 (Rect.unit (s := S1x256x512) ![0, 0, 384] S1x256x128.size inb_S1x256x512_S1x256x128_0_0_384))
      (rdV arg12 harg12 x10 (Rect.unit (s := S1x256x512) ![0, 0, 0] S1x256x128.size inb_S1x256x512_S1x256x128_0_0_0))
      (rdV arg12 harg12 x10 (Rect.unit (s := S1x256x512) ![0, 0, 128] S1x256x128.size inb_S1x256x512_S1x256x128_0_0_128))
      (rdV arg12 harg12 x10 (Rect.unit (s := S1x256x512) ![0, 0, 256] S1x256x128.size inb_S1x256x512_S1x256x128_0_0_256))
      (rdV arg12 harg12 x10 (Rect.unit (s := S1x256x512) ![0, 0, 384] S1x256x128.size inb_S1x256x512_S1x256x128_0_0_384))
      (rdV arg13 harg13 x11 (Rect.unit (s := S512x1024) ![0, 0] S512x1024.size inb_S512x1024_S512x1024_0_0)))⟩] :=
  rfl

/-- The first output block of case B. -/
theorem out_B (c : Dev nD) (i : grid0.Coords) (arg2 : Memref sig .tc .vmem S1x512x1024 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x512 .bf16) (harg9 : arg9.IsWhole) (arg10 : Memref sig .tc .vmem S1x128 .f32) (harg10 : arg10.IsWhole) (arg11 : Memref sig .tc .vmem S1x256x512 .bf16) (harg11 : arg11.IsWhole) (arg12 : Memref sig .tc .vmem S1x256x512 .bf16) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1024x128 .bf16) (harg15 : arg15.IsWhole) (arg16 : Memref sig .tc .vmem S1x128 .f32) (harg16 : arg16.IsWhole) (arg17 : Memref sig .tc .vmem S512x512 .bf16) (harg17 : arg17.IsWhole) (arg18 : Memref sig .tc .vmem S1x512x1024 .f32) (harg18 : arg18.IsWhole) (arg19 : Memref sig .tc .vmem S4096x128 .bf16) (harg19 : arg19.IsWhole) (arg20 : Memref sig .tc .vmem S1x512x128 .f32) (harg20 : arg20.IsWhole) (arg21 : Memref sig .tc .vmem S8x128 .f32) (harg21 : arg21.IsWhole) (arg22 : Memref sig .tc .vmem S1x128 .f32) (harg22 : arg22.IsWhole) (arg23 : Memref sig .tc .vmem S4096x128 .f32) (harg23 : arg23.IsWhole) (hc0 : ¬cond0_0 i) (x0 : Vec Ideal S1x512x1024 .f32) (x1 : Vec Ideal S1x512x512 .f32) (x2 : Vec Ideal S1x512x512 .f32) (x3 : Vec Ideal S1x512x512 .f32) (x4 : Vec Ideal S1x512 .f32) (x5 : Vec Ideal S1024x1024 .bf16) (x6 : Vec Ideal S1x1024 .f32) (x7 : Vec Ideal S1024x512 .bf16) (x8 : Vec Ideal S1x128 .f32) (x9 : Vec Ideal S1x256x512 .bf16) (x10 : Vec Ideal S1x256x512 .bf16) (x11 : Vec Ideal S512x1024 .bf16) (x12 : Vec Ideal S1x1024 .f32) (x13 : Vec Ideal S1024x128 .bf16) (x14 : Vec Ideal S1x128 .f32) (x15 : Vec Ideal S512x512 .bf16) (xs0 : Vec Ideal S1x128 .f32)  :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs0 = blkV x0 x1 x2 x3 x4 x5 x6 x7 x8 x9 x10 x11 := by
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs0), pieces_B]
  refine (canon_one _ _).trans ?_
  simp only [rdV_eq]
  rfl

end Cert.Mix

end
-- ==== Proof.MixBlk.lean ====
module

public import proofs.«01_k».proof.Proof.MixRun
public import proofs.«01_k».proof.Proof.MixSpec

@[expose] public section

noncomputable section

namespace Cert.Mix

open Cert.MixKernelIdeal Cert.MixKernelIdeal.Gen
open Idealize.ShloMosaic Idealize.ShloMosaic.TcCoe
open Cert.Band.KI (canon_of emb_val)

/-- A rectangle of a block of three axes, read at an index. -/
theorem ld3 {e : EltTy} {p q p' q' : ℕ} (X : Vec Ideal (⟨3, ![1, p, q]⟩ : Shape) e) (o1 o2 : ℕ) (inb) (a : Fin p') (b : Fin q') (i : Fin p) (j : Fin q)
    (hi : i.val = o1 + a.val) (hj : j.val = o2 + b.val) :
    View.ld X (Rect.unit (s := (⟨3, ![1, p, q]⟩ : Shape)) ![0, o1, o2] (⟨3, ![1, p', q']⟩ : Shape).size inb) (ix3 (0 : Fin 1) a b) = X (ix3 (0 : Fin 1) i j) := by
  refine congrArg X (funext fun d => Fin.ext ((emb_val _ _ inb _ d).trans ?_))
  fin_cases d
  · rfl
  · exact hi.symm
  · exact hj.symm

/-- A rectangle of a block of two axes, read at an index. -/
theorem ld2 {e : EltTy} {p q p' q' : ℕ} (X : Vec Ideal (⟨2, ![p, q]⟩ : Shape) e) (o1 o2 : ℕ) (inb) (a : Fin p') (b : Fin q') (i : Fin p) (j : Fin q)
    (hi : i.val = o1 + a.val) (hj : j.val = o2 + b.val) :
    View.ld X (Rect.unit (s := (⟨2, ![p, q]⟩ : Shape)) ![o1, o2] (⟨2, ![p', q']⟩ : Shape).size inb) (ix2 a b) = X (ix2 i j) := by
  refine congrArg X (funext fun d => Fin.ext ((emb_val _ _ inb _ d).trans ?_))
  fin_cases d
  · exact hi.symm
  · exact hj.symm

/-- A group of rows of the output, at an index, from the rows and the weights it reads. -/
theorem grpV_apply (X : Vec Ideal S1x256x1024 .f32) (Y G A : Vec Ideal S1x256x512 .f32) (ga : Vec Ideal S1x512 .f32) (T B : Vec Ideal S512x1024 .bf16)
    (gx : Vec Ideal S1x1024 .f32) (Wq : Vec Ideal S1024x512 .bf16) (qn : Vec Ideal S1x128 .f32)
    (K0 K1 K2 K3 V0 V1 V2 V3 : Vec Ideal S1x256x128 .bf16) (Wo : Vec Ideal S512x1024 .bf16) (a : Fin 256) (j : Fin 1024)
    (x : Fin 1024 → EReal) (y g v gv : Fin 512 → EReal) (W : Fin 1024 → Fin 1024 → EReal) (gxv : Fin 1024 → EReal) (Wqv : Fin 1024 → Fin 512 → EReal)
    (gn : Fin 128 → EReal) (K V : Fin 256 → Fin 512 → EReal) (Wov : Fin 512 → Fin 1024 → EReal)
    (hX : ∀ k, X (ix3 0 a k) = x k) (hY : ∀ k, Y (ix3 0 a k) = y k) (hG : ∀ k, G (ix3 0 a k) = g k) (hA : ∀ k, A (ix3 0 a k) = v k)
    (hga : ∀ k, ga (ix2 0 k) = gv k) (hT : ∀ (k : Fin 512) (j : Fin 1024), T (ix2 k j) = W ⟨k.val, by omega⟩ j)
    (hB : ∀ (k : Fin 512) (j : Fin 1024), B (ix2 k j) = W ⟨512 + k.val, by omega⟩ j)
    (hgx : ∀ k, gx (ix2 0 k) = gxv k) (hWq : ∀ k n, Wq (ix2 k n) = Wqv k n) (hqn : ∀ d, qn (ix2 0 d) = gn d)
    (hK0 : ∀ (m : Fin 256) (d : Fin 128), K0 (ix3 0 m d) = K m ⟨128 * (0 : Fin 4).val + d.val, by omega⟩)
    (hK1 : ∀ (m : Fin 256) (d : Fin 128), K1 (ix3 0 m d) = K m ⟨128 * (1 : Fin 4).val + d.val, by omega⟩)
    (hK2 : ∀ (m : Fin 256) (d : Fin 128), K2 (ix3 0 m d) = K m ⟨128 * (2 : Fin 4).val + d.val, by omega⟩)
    (hK3 : ∀ (m : Fin 256) (d : Fin 128), K3 (ix3 0 m d) = K m ⟨128 * (3 : Fin 4).val + d.val, by omega⟩)
    (hV0 : ∀ (m : Fin 256) (d : Fin 128), V0 (ix3 0 m d) = V m ⟨128 * (0 : Fin 4).val + d.val, by omega⟩)
    (hV1 : ∀ (m : Fin 256) (d : Fin 128), V1 (ix3 0 m d) = V m ⟨128 * (1 : Fin 4).val + d.val, by omega⟩)
    (hV2 : ∀ (m : Fin 256) (d : Fin 128), V2 (ix3 0 m d) = V m ⟨128 * (2 : Fin 4).val + d.val, by omega⟩)
    (hV3 : ∀ (m : Fin 256) (d : Fin 128), V3 (ix3 0 m d) = V m ⟨128 * (3 : Fin 4).val + d.val, by omega⟩)
    (hWo : ∀ n j, Wo (ix2 n j) = Wov n j) :
    grpV X Y G A ga T B gx Wq qn K0 K1 K2 K3 V0 V1 V2 V3 Wo (ix2 a j) = kerR sclX x y g v gv W gxv Wqv gn K V Wov j := by
  have e1 : ∀ k, k0_pay7 (k0_pay3 Y G) (k0_pay5 A ga) X T B (ix2 a k) = x1R x y g v gv W k := fun k => by
    rw [x1_apply]
    unfold x1R
    simp only [gate_apply, na_apply, hX, hY, hG, hA, hga, hT, hB]
  have e2 : ∀ n, k0_pay11 (k0_pay7 (k0_pay3 Y G) (k0_pay5 A ga) X T B) gx Wq (ix2 a n) = qR (x1R x y g v gv W) gxv Wqv n := fun n => by
    rw [q_apply]
    unfold qR
    simp only [e1, hgx, hWq]
  have eh : ∀ (q : FVec Ideal S256x128 .bf16) (Kh Vh : Vec Ideal S1x256x128 .bf16) (h : Fin 4)
      (_ : ∀ e, q (ix2 a e) = hdR (qR (x1R x y g v gv W) gxv Wqv) gn h e * sclX)
      (_ : ∀ (m : Fin 256) (d : Fin 128), Kh (ix3 0 m d) = K m ⟨128 * h.val + d.val, by omega⟩)
      (_ : ∀ (m : Fin 256) (d : Fin 128), Vh (ix3 0 m d) = V m ⟨128 * h.val + d.val, by omega⟩) (d : Fin 128),
      headV q Kh Vh (ix2 a d) = atK sclX (hdR (qR (x1R x y g v gv W) gxv Wqv) gn) K V h d := by
    intro q Kh Vh h hq hk hv d
    rw [headV_apply]
    unfold atK
    simp only [hq, hk, hv]
  unfold grpV
  rw [outV_apply, e1]
  unfold kerR yR
  refine congrArg (fun p : EReal => x1R x y g v gv W j + p) (Finset.sum_congr (M := EReal) rfl fun n _ => ?_)
  unfold attV
  rw [catV_apply _ _ _ _ (atK sclX (hdR (qR (x1R x y g v gv W) gxv Wqv) gn) K V) a
    (eh _ K0 V0 0 (fun d => ?_) hK0 hV0) (eh _ K1 V1 1 (fun d => ?_) hK1 hV1) (eh _ K2 V2 2 (fun d => ?_) hK2 hV2) (eh _ K3 V3 3 (fun d => ?_) hK3 hV3) n, hWo]
  · rw [h0_apply]
    unfold hdR
    simp only [e2, hqn]
    refine congrArg (fun f : Fin 128 → EReal => nrm 0x43000000#32 f gn d * sclX) (funext fun e => congrArg (qR _ _ _) (Fin.ext ?_))
    exact (Nat.zero_add _).symm
  · rw [h1_apply]
    unfold hdR
    simp only [e2, hqn]
    rfl
  · rw [h2_apply]
    unfold hdR
    simp only [e2, hqn]
    rfl
  · rw [h3_apply]
    unfold hdR
    simp only [e2, hqn]
    rfl

/-- The output block, at an index. -/
theorem blkV_apply (x0 : Vec Ideal S1x512x1024 .f32) (x1 x2 x3 : Vec Ideal S1x512x512 .f32) (x4 : Vec Ideal S1x512 .f32) (x5 : Vec Ideal S1024x1024 .bf16) (x6 : Vec Ideal S1x1024 .f32) (x7 : Vec Ideal S1024x512 .bf16) (x8 : Vec Ideal S1x128 .f32) (x9 x10 : Vec Ideal S1x256x512 .bf16) (x11 : Vec Ideal S512x1024 .bf16) (a : Fin 512) (j : Fin 1024) :
    blkV x0 x1 x2 x3 x4 x5 x6 x7 x8 x9 x10 x11 (ix3 0 a j)
      = kerR sclX (fun k => x0 (ix3 0 a k)) (fun k => x1 (ix3 0 a k)) (fun k => x2 (ix3 0 a k)) (fun k => x3 (ix3 0 a k)) (fun k => x4 (ix2 0 k)) (fun k j => x5 (ix2 k j)) (fun k => x6 (ix2 0 k)) (fun k n => x7 (ix2 k n)) (fun d => x8 (ix2 0 d)) (fun m n => x9 (ix3 0 m n)) (fun m n => x10 (ix3 0 m n)) (fun n j => x11 (ix2 n j)) j := by
  unfold blkV
  refine bothV_apply _ _ a j (fun a => kerR sclX (fun k => x0 (ix3 0 a k)) (fun k => x1 (ix3 0 a k)) (fun k => x2 (ix3 0 a k)) (fun k => x3 (ix3 0 a k)) (fun k => x4 (ix2 0 k)) (fun k j => x5 (ix2 k j)) (fun k => x6 (ix2 0 k)) (fun k n => x7 (ix2 k n)) (fun d => x8 (ix2 0 d)) (fun m n => x9 (ix3 0 m n)) (fun m n => x10 (ix3 0 m n)) (fun n j => x11 (ix2 n j)) j) (fun r => ?_) (fun r => ?_)
  · exact grpV_apply _ _ _ _ _ _ _ _ _ _ _ _ _ _ _ _ _ _ _ r j
      (fun k => x0 (ix3 0 ⟨r.val, by omega⟩ k)) (fun k => x1 (ix3 0 ⟨r.val, by omega⟩ k)) (fun k => x2 (ix3 0 ⟨r.val, by omega⟩ k)) (fun k => x3 (ix3 0 ⟨r.val, by omega⟩ k)) (fun k => x4 (ix2 0 k)) (fun k j => x5 (ix2 k j)) (fun k => x6 (ix2 0 k)) (fun k n => x7 (ix2 k n)) (fun d => x8 (ix2 0 d)) (fun m n => x9 (ix3 0 m n)) (fun m n => x10 (ix3 0 m n)) (fun n j => x11 (ix2 n j))
      (fun k => ld3 x0 0 0 _ r k ⟨r.val, by omega⟩ k (Nat.zero_add _).symm (Nat.zero_add _).symm)
      (fun k => ld3 x1 0 0 _ r k ⟨r.val, by omega⟩ k (Nat.zero_add _).symm (Nat.zero_add _).symm)
      (fun k => ld3 x2 0 0 _ r k ⟨r.val, by omega⟩ k (Nat.zero_add _).symm (Nat.zero_add _).symm)
      (fun k => ld3 x3 0 0 _ r k ⟨r.val, by omega⟩ k (Nat.zero_add _).symm (Nat.zero_add _).symm)
      (fun k => ld2 x4 0 0 _ 0 k 0 k rfl (Nat.zero_add _).symm)
      (fun k j => ld2 x5 0 0 _ k j ⟨k.val, by omega⟩ j (Nat.zero_add _).symm (Nat.zero_add _).symm)
      (fun k j => ld2 x5 512 0 _ k j ⟨512 + k.val, by omega⟩ j rfl (Nat.zero_add _).symm)
      (fun k => ld2 x6 0 0 _ 0 k 0 k rfl (Nat.zero_add _).symm)
      (fun k n => ld2 x7 0 0 _ k n k n (Nat.zero_add _).symm (Nat.zero_add _).symm)
      (fun k => ld2 x8 0 0 _ 0 k 0 k rfl (Nat.zero_add _).symm)
      (fun m d => ld3 x9 0 0 _ m d m ⟨128 * (0 : Fin 4).val + d.val, by omega⟩ (Nat.zero_add _).symm rfl)
      (fun m d => ld3 x9 0 128 _ m d m ⟨128 * (1 : Fin 4).val + d.val, by omega⟩ (Nat.zero_add _).symm rfl)
      (fun m d => ld3 x9 0 256 _ m d m ⟨128 * (2 : Fin 4).val + d.val, by omega⟩ (Nat.zero_add _).symm rfl)
      (fun m d => ld3 x9 0 384 _ m d m ⟨128 * (3 : Fin 4).val + d.val, by omega⟩ (Nat.zero_add _).symm rfl)
      (fun m d => ld3 x10 0 0 _ m d m ⟨128 * (0 : Fin 4).val + d.val, by omega⟩ (Nat.zero_add _).symm rfl)
      (fun m d => ld3 x10 0 128 _ m d m ⟨128 * (1 : Fin 4).val + d.val, by omega⟩ (Nat.zero_add _).symm rfl)
      (fun m d => ld3 x10 0 256 _ m d m ⟨128 * (2 : Fin 4).val + d.val, by omega⟩ (Nat.zero_add _).symm rfl)
      (fun m d => ld3 x10 0 384 _ m d m ⟨128 * (3 : Fin 4).val + d.val, by omega⟩ (Nat.zero_add _).symm rfl)
      (fun n j => ld2 x11 0 0 _ n j n j (Nat.zero_add _).symm (Nat.zero_add _).symm)
  · exact grpV_apply _ _ _ _ _ _ _ _ _ _ _ _ _ _ _ _ _ _ _ r j
      (fun k => x0 (ix3 0 ⟨256 + r.val, by omega⟩ k)) (fun k => x1 (ix3 0 ⟨256 + r.val, by omega⟩ k)) (fun k => x2 (ix3 0 ⟨256 + r.val, by omega⟩ k)) (fun k => x3 (ix3 0 ⟨256 + r.val, by omega⟩ k)) (fun k => x4 (ix2 0 k)) (fun k j => x5 (ix2 k j)) (fun k => x6 (ix2 0 k)) (fun k n => x7 (ix2 k n)) (fun d => x8 (ix2 0 d)) (fun m n => x9 (ix3 0 m n)) (fun m n => x10 (ix3 0 m n)) (fun n j => x11 (ix2 n j))
      (fun k => ld3 x0 256 0 _ r k ⟨256 + r.val, by omega⟩ k rfl (Nat.zero_add _).symm)
      (fun k => ld3 x1 256 0 _ r k ⟨256 + r.val, by omega⟩ k rfl (Nat.zero_add _).symm)
      (fun k => ld3 x2 256 0 _ r k ⟨256 + r.val, by omega⟩ k rfl (Nat.zero_add _).symm)
      (fun k => ld3 x3 256 0 _ r k ⟨256 + r.val, by omega⟩ k rfl (Nat.zero_add _).symm)
      (fun k => ld2 x4 0 0 _ 0 k 0 k rfl (Nat.zero_add _).symm)
      (fun k j => ld2 x5 0 0 _ k j ⟨k.val, by omega⟩ j (Nat.zero_add _).symm (Nat.zero_add _).symm)
      (fun k j => ld2 x5 512 0 _ k j ⟨512 + k.val, by omega⟩ j rfl (Nat.zero_add _).symm)
      (fun k => ld2 x6 0 0 _ 0 k 0 k rfl (Nat.zero_add _).symm)
      (fun k n => ld2 x7 0 0 _ k n k n (Nat.zero_add _).symm (Nat.zero_add _).symm)
      (fun k => ld2 x8 0 0 _ 0 k 0 k rfl (Nat.zero_add _).symm)
      (fun m d => ld3 x9 0 0 _ m d m ⟨128 * (0 : Fin 4).val + d.val, by omega⟩ (Nat.zero_add _).symm rfl)
      (fun m d => ld3 x9 0 128 _ m d m ⟨128 * (1 : Fin 4).val + d.val, by omega⟩ (Nat.zero_add _).symm rfl)
      (fun m d => ld3 x9 0 256 _ m d m ⟨128 * (2 : Fin 4).val + d.val, by omega⟩ (Nat.zero_add _).symm rfl)
      (fun m d => ld3 x9 0 384 _ m d m ⟨128 * (3 : Fin 4).val + d.val, by omega⟩ (Nat.zero_add _).symm rfl)
      (fun m d => ld3 x10 0 0 _ m d m ⟨128 * (0 : Fin 4).val + d.val, by omega⟩ (Nat.zero_add _).symm rfl)
      (fun m d => ld3 x10 0 128 _ m d m ⟨128 * (1 : Fin 4).val + d.val, by omega⟩ (Nat.zero_add _).symm rfl)
      (fun m d => ld3 x10 0 256 _ m d m ⟨128 * (2 : Fin 4).val + d.val, by omega⟩ (Nat.zero_add _).symm rfl)
      (fun m d => ld3 x10 0 384 _ m d m ⟨128 * (3 : Fin 4).val + d.val, by omega⟩ (Nat.zero_add _).symm rfl)
      (fun n j => ld2 x11 0 0 _ n j n j (Nat.zero_add _).symm (Nat.zero_add _).symm)

/-- The output block, at an index with its coordinates. -/
theorem blkV_at (x0 : Vec Ideal S1x512x1024 .f32) (x1 x2 x3 : Vec Ideal S1x512x512 .f32) (x4 : Vec Ideal S1x512 .f32) (x5 : Vec Ideal S1024x1024 .bf16) (x6 : Vec Ideal S1x1024 .f32) (x7 : Vec Ideal S1024x512 .bf16) (x8 : Vec Ideal S1x128 .f32) (x9 x10 : Vec Ideal S1x256x512 .bf16) (x11 : Vec Ideal S512x1024 .bf16) (y : S1x512x1024.Idx) :
    blkV x0 x1 x2 x3 x4 x5 x6 x7 x8 x9 x10 x11 y
      = kerR sclX (fun k => x0 (ix3 0 (y 1) k)) (fun k => x1 (ix3 0 (y 1) k)) (fun k => x2 (ix3 0 (y 1) k)) (fun k => x3 (ix3 0 (y 1) k)) (fun k => x4 (ix2 0 k)) (fun k j => x5 (ix2 k j)) (fun k => x6 (ix2 0 k)) (fun k n => x7 (ix2 k n)) (fun d => x8 (ix2 0 d)) (fun m n => x9 (ix3 0 m n)) (fun m n => x10 (ix3 0 m n)) (fun n j => x11 (ix2 n j)) (y 2) := by
  have hy : y = ix3 (0 : Fin 1) (y 1) (y 2) := by
    funext d
    fin_cases d
    · exact Subsingleton.elim (α := Fin 1) _ _
    · rfl
    · rfl
  conv_lhs => rw [hy]
  exact blkV_apply x0 x1 x2 x3 x4 x5 x6 x7 x8 x9 x10 x11 (y 1) (y 2)

end Cert.Mix

end
-- ==== Proof.MixTile.lean ====
module

public import proofs.«01_k».proof.Proof.MixBlk

@[expose] public section

set_option maxRecDepth 16384

noncomputable section

namespace Cert.Mix

open Cert.MixKernelIdeal Cert.MixKernelIdeal.Gen
open Idealize.ShloMosaic Idealize.ShloMosaic.TcCoe
open Cert.Band.KI (canon_of readCov_of emb_val)

/-- Two groups of rows, one after the other, as a matrix. -/
def rowsV (A B : FVec Ideal S256x1024 .f32) : FVec Ideal S512x1024 .f32 :=
  concatenate S512x1024 0 [⟨S256x1024, A⟩, ⟨S256x1024, B⟩] concatenates_S256x1024_S256x1024_S512x1024_d0

theorem bothV_rows (A B : FVec Ideal S256x1024 .f32) (a : Fin 512) (k : Fin 1024) : bothV A B (ix3 0 a k) = rowsV A B (ix2 a k) := by
  unfold bothV
  show shapeCast S1x512x1024 (rowsV A B) shapeCasts_S512x1024_S1x512x1024 (ix3 0 a k) = _
  generalize rowsV A B = R
  pointwise

/-- The normalized rows. -/
def nrmV (X : FVec Ideal S512x1024 .f32) (G : Vec Ideal S1x1024 .f32) : FVec Ideal S512x1024 .f32 :=
  mulf (mulf X (broadcastTo S512x1024 (rsqrt (addf (divf (shapeCast S512x1 (multiReduction .add [1] S512 (mulf X X) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024))
    (broadcastTo S512x1024 (shapeCast S1x1024 G shapeCasts_S1x1024_S1x1024) broadcasts_S1x1024_S512x1024)

theorem nrmV_apply (X : FVec Ideal S512x1024 .f32) (G : Vec Ideal S1x1024 .f32) (a : Fin 512) (k : Fin 1024) :
    nrmV X G (ix2 a k) = nrm 0x44800000#32 (fun k => X (ix2 a k)) (fun k => G (ix2 0 k)) k := by
  pointwise [nrmV]
  rfl

/-- The first 128 columns. -/
def col0 (H : FVec Ideal S512x1024 .f32) : FVec Ideal S512x128 .f32 :=
  shapeCast S512x128 (extractStridedSlice S512x128 ![0, 0] H slices_S512x1024_o0_0_S512x128) shapeCasts_S512x128_S512x128

theorem col0_apply (H : FVec Ideal S512x1024 .f32) (a : Fin 512) (d : Fin 128) : col0 H (ix2 a d) = H (ix2 a ⟨0 + d.val, by omega⟩) := by
  pointwise [col0]
  try rfl

/-- The second 128 columns. -/
def col1 (H : FVec Ideal S512x1024 .f32) : FVec Ideal S512x128 .f32 :=
  shapeCast S512x128 (extractStridedSlice S512x128 ![0, 128] H slices_S512x1024_o0_128_S512x128) shapeCasts_S512x128_S512x128

theorem col1_apply (H : FVec Ideal S512x1024 .f32) (a : Fin 512) (d : Fin 128) : col1 H (ix2 a d) = H (ix2 a ⟨128 + d.val, by omega⟩) := by
  pointwise [col1]
  try rfl

/-- The third 128 columns. -/
def col2 (H : FVec Ideal S512x1024 .f32) : FVec Ideal S512x128 .f32 :=
  shapeCast S512x128 (extractStridedSlice S512x128 ![0, 256] H slices_S512x1024_o0_256_S512x128) shapeCasts_S512x128_S512x128

theorem col2_apply (H : FVec Ideal S512x1024 .f32) (a : Fin 512) (d : Fin 128) : col2 H (ix2 a d) = H (ix2 a ⟨256 + d.val, by omega⟩) := by
  pointwise [col2]
  try rfl

/-- The fourth 128 columns. -/
def col3 (H : FVec Ideal S512x1024 .f32) : FVec Ideal S512x128 .f32 :=
  shapeCast S512x128 (extractStridedSlice S512x128 ![0, 384] H slices_S512x1024_o0_384_S512x128) shapeCasts_S512x128_S512x128

theorem col3_apply (H : FVec Ideal S512x1024 .f32) (a : Fin 512) (d : Fin 128) : col3 H (ix2 a d) = H (ix2 a ⟨384 + d.val, by omega⟩) := by
  pointwise [col3]
  try rfl

/-- The fifth 128 columns. -/
def col4 (H : FVec Ideal S512x1024 .f32) : FVec Ideal S512x128 .f32 :=
  shapeCast S512x128 (extractStridedSlice S512x128 ![0, 512] H slices_S512x1024_o0_512_S512x128) shapeCasts_S512x128_S512x128

theorem col4_apply (H : FVec Ideal S512x1024 .f32) (a : Fin 512) (d : Fin 128) : col4 H (ix2 a d) = H (ix2 a ⟨512 + d.val, by omega⟩) := by
  pointwise [col4]
  try rfl

/-- The sixth 128 columns. -/
def col5 (H : FVec Ideal S512x1024 .f32) : FVec Ideal S512x128 .f32 :=
  shapeCast S512x128 (extractStridedSlice S512x128 ![0, 640] H slices_S512x1024_o0_640_S512x128) shapeCasts_S512x128_S512x128

theorem col5_apply (H : FVec Ideal S512x1024 .f32) (a : Fin 512) (d : Fin 128) : col5 H (ix2 a d) = H (ix2 a ⟨640 + d.val, by omega⟩) := by
  pointwise [col5]
  try rfl

/-- The seventh 128 columns. -/
def col6 (H : FVec Ideal S512x1024 .f32) : FVec Ideal S512x128 .f32 :=
  shapeCast S512x128 (extractStridedSlice S512x128 ![0, 768] H slices_S512x1024_o0_768_S512x128) shapeCasts_S512x128_S512x128

theorem col6_apply (H : FVec Ideal S512x1024 .f32) (a : Fin 512) (d : Fin 128) : col6 H (ix2 a d) = H (ix2 a ⟨768 + d.val, by omega⟩) := by
  pointwise [col6]
  try rfl

/-- The eighth 128 columns. -/
def col7 (H : FVec Ideal S512x1024 .f32) : FVec Ideal S512x128 .f32 :=
  shapeCast S512x128 (extractStridedSlice S512x128 ![0, 896] H slices_S512x1024_o0_896_S512x128) shapeCasts_S512x128_S512x128

theorem col7_apply (H : FVec Ideal S512x1024 .f32) (a : Fin 512) (d : Fin 128) : col7 H (ix2 a d) = H (ix2 a ⟨896 + d.val, by omega⟩) := by
  pointwise [col7]
  try rfl

/-- The eight stores of the normalized rows, the last first. -/
def tilesL (H : FVec Ideal S512x1024 .f32) : List (View.Piece (Elt Ideal) S4096x128 .f32) :=
  [⟨⟨⟨![7, 0], S512x128.size, ![8, 1], inb_S4096x128_S512x128_7_0_s_8_1⟩, spos_8_1⟩, col7 H⟩,
   ⟨⟨⟨![6, 0], S512x128.size, ![8, 1], inb_S4096x128_S512x128_6_0_s_8_1⟩, spos_8_1⟩, col6 H⟩,
   ⟨⟨⟨![5, 0], S512x128.size, ![8, 1], inb_S4096x128_S512x128_5_0_s_8_1⟩, spos_8_1⟩, col5 H⟩,
   ⟨⟨⟨![4, 0], S512x128.size, ![8, 1], inb_S4096x128_S512x128_4_0_s_8_1⟩, spos_8_1⟩, col4 H⟩,
   ⟨⟨⟨![3, 0], S512x128.size, ![8, 1], inb_S4096x128_S512x128_3_0_s_8_1⟩, spos_8_1⟩, col3 H⟩,
   ⟨⟨⟨![2, 0], S512x128.size, ![8, 1], inb_S4096x128_S512x128_2_0_s_8_1⟩, spos_8_1⟩, col2 H⟩,
   ⟨⟨⟨![1, 0], S512x128.size, ![8, 1], inb_S4096x128_S512x128_1_0_s_8_1⟩, spos_8_1⟩, col1 H⟩,
   ⟨⟨⟨![0, 0], S512x128.size, ![8, 1], inb_S4096x128_S512x128_0_0_s_8_1⟩, spos_8_1⟩, col0 H⟩]

/-- The normalized rows in tiles: row `8 a + o` holds the columns from `128 o` of row `a`. -/
def tileV (H : FVec Ideal S512x1024 .f32) (y : S4096x128.Idx) : EReal :=
  H (ix2 ⟨(y 0).val / 8, by have h : (y 0).val < 4096 := (y 0).isLt; omega⟩
    ⟨128 * ((y 0).val % 8) + (y 1).val, by have h : (y 1).val < 128 := (y 1).isLt; omega⟩)

/-- One store agrees with the tiles. -/
theorem tile_piece (H : FVec Ideal S512x1024 .f32) (o : ℕ) (ho : o < 8) (inb) (sp) (w : FVec Ideal S512x128 .f32)
    (hw : ∀ (a : Fin 512) (d : Fin 128), w (ix2 a d) = H (ix2 a ⟨128 * o + d.val, by omega⟩))
    (x : (⟨⟨![o, 0], S512x128.size, ![8, 1], inb⟩, sp⟩ : Rect S4096x128).shape.Idx) :
    w x = tileV H ((⟨⟨![o, 0], S512x128.size, ![8, 1], inb⟩, sp⟩ : Rect S4096x128).emb x) := by
  have e0 : (((⟨⟨![o, 0], S512x128.size, ![8, 1], inb⟩, sp⟩ : Rect S4096x128).emb x) 0).val = o + 8 * (x 0).val := rfl
  have e1 : (((⟨⟨![o, 0], S512x128.size, ![8, 1], inb⟩, sp⟩ : Rect S4096x128).emb x) 1).val = 0 + 1 * (x 1).val := rfl
  have hx : x = ix2 (n0 := 512) (n1 := 128) (x 0) (x 1) := by
    funext d
    fin_cases d <;> rfl
  refine (congrArg w hx).trans ((hw _ _).trans ?_)
  unfold tileV
  refine congrArg₂ (fun p q => H (ix2 p q)) (Fin.ext ?_) (Fin.ext ?_)
  · show (x 0).val = _ / 8
    rw [e0]; omega
  · show 128 * o + (x 1).val = 128 * (_ % 8) + _
    rw [e0, e1]; omega

/-- Every index lies in the store its row belongs to. -/
theorem tile_cover (o : ℕ) (inb) (sp) (y : S4096x128.Idx) (hy : (y 0).val % 8 = o) :
    y ∈ (⟨⟨![o, 0], S512x128.size, ![8, 1], inb⟩, sp⟩ : Rect S4096x128).set := by
  have h0 : (y 0).val < 4096 := (y 0).isLt
  have h := LoadRect.idx_mem (⟨⟨![o, 0], S512x128.size, ![8, 1], inb⟩, sp⟩ : Rect S4096x128).toLoadRect (ix2 (n0 := 512) (n1 := 128) ⟨(y 0).val / 8, by omega⟩ (y 1))
  have e : (⟨⟨![o, 0], S512x128.size, ![8, 1], inb⟩, sp⟩ : Rect S4096x128).toLoadRect.idx (ix2 (n0 := 512) (n1 := 128) ⟨(y 0).val / 8, by omega⟩ (y 1)) = y := by
    funext d
    refine Fin.ext ?_
    fin_cases d
    · show o + 8 * ((y 0).val / 8) = (y 0).val
      omega
    · show 0 + 1 * (y 1).val = (y 1).val
      omega
  rw [e] at h
  exact h

/-- The stored tiles, read back. -/
theorem tile_val {κ : Kind} {sp : Space} (v : View sig κ sp S4096x128 .f32) (H : FVec Ideal S512x1024 .f32) (inb) (y : S4096x128.Idx) :
    k0_pay75 (v.readCov (tilesL H) (Rect.unit (s := S4096x128) ![0, 0] S4096x128.size inb).toLoadRect) y = tileV H y := by
  have he : (Rect.unit (s := S4096x128) ![0, 0] S4096x128.size inb).emb y = y := funext fun d => by
    refine Fin.ext ((emb_val _ _ inb y d).trans ?_)
    fin_cases d <;> exact Nat.zero_add _
  have hL : ∀ P ∈ tilesL H, ∀ x, P.2 x = tileV H (P.1.emb x) := by
    unfold tilesL
    refine List.forall_mem_cons.mpr ⟨fun x => tile_piece H 7 (by omega) _ _ (col7 H) (fun a d => col7_apply H a d) x, List.forall_mem_cons.mpr ⟨fun x => tile_piece H 6 (by omega) _ _ (col6 H) (fun a d => col6_apply H a d) x, List.forall_mem_cons.mpr ⟨fun x => tile_piece H 5 (by omega) _ _ (col5 H) (fun a d => col5_apply H a d) x, List.forall_mem_cons.mpr ⟨fun x => tile_piece H 4 (by omega) _ _ (col4 H) (fun a d => col4_apply H a d) x, List.forall_mem_cons.mpr ⟨fun x => tile_piece H 3 (by omega) _ _ (col3 H) (fun a d => col3_apply H a d) x, List.forall_mem_cons.mpr ⟨fun x => tile_piece H 2 (by omega) _ _ (col2 H) (fun a d => col2_apply H a d) x, List.forall_mem_cons.mpr ⟨fun x => tile_piece H 1 (by omega) _ _ (col1 H) (fun a d => col1_apply H a d) x, List.forall_mem_cons.mpr ⟨fun x => tile_piece H 0 (by omega) _ _ (col0 H) (fun a d => col0_apply H a d) x, fun P hP => absurd hP List.not_mem_nil⟩⟩⟩⟩⟩⟩⟩⟩
  have hc : ∀ y : S4096x128.Idx, ∃ P ∈ tilesL H, y ∈ P.1.set := by
    intro y
    have h8 : (y 0).val % 8 < 8 := Nat.mod_lt _ (by omega)
    have hc : (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0 := by omega
    unfold tilesL
    rcases hc with h | h | h | h | h | h | h | h
    · exact ⟨_, List.mem_cons_self, tile_cover _ _ _ y h⟩
    · exact ⟨_, List.mem_cons_of_mem _ (List.mem_cons_self), tile_cover _ _ _ y h⟩
    · exact ⟨_, List.mem_cons_of_mem _ (List.mem_cons_of_mem _ (List.mem_cons_self)), tile_cover _ _ _ y h⟩
    · exact ⟨_, List.mem_cons_of_mem _ (List.mem_cons_of_mem _ (List.mem_cons_of_mem _ (List.mem_cons_self))), tile_cover _ _ _ y h⟩
    · exact ⟨_, List.mem_cons_of_mem _ (List.mem_cons_of_mem _ (List.mem_cons_of_mem _ (List.mem_cons_of_mem _ (List.mem_cons_self)))), tile_cover _ _ _ y h⟩
    · exact ⟨_, List.mem_cons_of_mem _ (List.mem_cons_of_mem _ (List.mem_cons_of_mem _ (List.mem_cons_of_mem _ (List.mem_cons_of_mem _ (List.mem_cons_self))))), tile_cover _ _ _ y h⟩
    · exact ⟨_, List.mem_cons_of_mem _ (List.mem_cons_of_mem _ (List.mem_cons_of_mem _ (List.mem_cons_of_mem _ (List.mem_cons_of_mem _ (List.mem_cons_of_mem _ (List.mem_cons_self)))))), tile_cover _ _ _ y h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), tile_cover _ _ _ y h⟩
  have h : v.readCov (tilesL H) (Rect.unit (s := S4096x128) ![0, 0] S4096x128.size inb).toLoadRect y = tileV H ((Rect.unit (s := S4096x128) ![0, 0] S4096x128.size inb).emb y) :=
    readCov_of v (tilesL H) (tileV H) hL hc (Rect.unit (s := S4096x128) ![0, 0] S4096x128.size inb) y
  rw [he] at h
  exact h

/-- One store of the whole tile block leaves what it stored. -/
theorem canon_tile (w : Vec Ideal S4096x128 .bf16) (inb) :
    View.canon [(⟨Rect.unit (s := S4096x128) ![0, 0] S4096x128.size inb, w⟩ : View.Piece (Elt Ideal) S4096x128 .bf16)] = w := by
  have he : ∀ z : S4096x128.Idx, (Rect.unit (s := S4096x128) ![0, 0] S4096x128.size inb).emb z = z := fun z => funext fun d => by
    refine Fin.ext ((emb_val _ _ inb z d).trans ?_)
    fin_cases d <;> exact Nat.zero_add _
  refine funext fun y => canon_of _ w (fun P hP z => ?_) y ⟨_, List.mem_cons_self, ?_⟩
  · obtain rfl := List.mem_singleton.mp hP
    exact congrArg w (he z).symm
  · have h := LoadRect.idx_mem (Rect.unit (s := S4096x128) ![0, 0] S4096x128.size inb).toLoadRect y
    rwa [show (Rect.unit (s := S4096x128) ![0, 0] S4096x128.size inb).idx y = y from he y] at h

/-- The second output block from the input blocks. -/
def blkH (x0 : Vec Ideal S1x512x1024 .f32) (x1 x2 x3 : Vec Ideal S1x512x512 .f32) (x4 : Vec Ideal S1x512 .f32) (x5 : Vec Ideal S1024x1024 .bf16) (x6 : Vec Ideal S1x1024 .f32) (x7 : Vec Ideal S1024x512 .bf16) (x8 : Vec Ideal S1x128 .f32) (x9 x10 : Vec Ideal S1x256x512 .bf16) (x11 : Vec Ideal S512x1024 .bf16) (x12 : Vec Ideal S1x1024 .f32) (y : S4096x128.Idx) : EReal :=
  nrm 0x44800000#32 (fun k => blkV x0 x1 x2 x3 x4 x5 x6 x7 x8 x9 x10 x11 (ix3 0 ⟨(y 0).val / 8, by have h : (y 0).val < 4096 := (y 0).isLt; omega⟩ k)) (fun k => x12 (ix2 0 k))
    ⟨128 * ((y 0).val % 8) + (y 1).val, by have h : (y 1).val < 128 := (y 1).isLt; omega⟩

/-- The tiles of the normalized output block. -/
theorem tile_blk (x0 : Vec Ideal S1x512x1024 .f32) (x1 x2 x3 : Vec Ideal S1x512x512 .f32) (x4 : Vec Ideal S1x512 .f32) (x5 : Vec Ideal S1024x1024 .bf16) (x6 : Vec Ideal S1x1024 .f32) (x7 : Vec Ideal S1024x512 .bf16) (x8 : Vec Ideal S1x128 .f32) (x9 x10 : Vec Ideal S1x256x512 .bf16) (x11 : Vec Ideal S512x1024 .bf16) (x12 : Vec Ideal S1x1024 .f32) (A B : FVec Ideal S256x1024 .f32) (hb : bothV A B = blkV x0 x1 x2 x3 x4 x5 x6 x7 x8 x9 x10 x11) (y : S4096x128.Idx) :
    tileV (nrmV (rowsV A B) (View.ld x12 (Rect.unit (s := S1x1024) ![0, 0] S1x1024.size inb_S1x1024_S1x1024_0_0))) y = blkH x0 x1 x2 x3 x4 x5 x6 x7 x8 x9 x10 x11 x12 y := by
  unfold tileV blkH
  rw [nrmV_apply, ← hb]
  simp only [bothV_rows]
  exact congrArg (fun g => nrm 0x44800000#32 _ g _) (funext fun k => ld2 x12 0 0 _ 0 k 0 k rfl (Nat.zero_add _).symm)

/-- What the run of case A stores into the second output. -/
theorem tiles_A (c : Dev nD) (i : grid0.Coords) (arg2 : Memref sig .tc .vmem S1x512x1024 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x512 .bf16) (harg9 : arg9.IsWhole) (arg10 : Memref sig .tc .vmem S1x128 .f32) (harg10 : arg10.IsWhole) (arg11 : Memref sig .tc .vmem S1x256x512 .bf16) (harg11 : arg11.IsWhole) (arg12 : Memref sig .tc .vmem S1x256x512 .bf16) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1024x128 .bf16) (harg15 : arg15.IsWhole) (arg16 : Memref sig .tc .vmem S1x128 .f32) (harg16 : arg16.IsWhole) (arg17 : Memref sig .tc .vmem S512x512 .bf16) (harg17 : arg17.IsWhole) (arg18 : Memref sig .tc .vmem S1x512x1024 .f32) (harg18 : arg18.IsWhole) (arg19 : Memref sig .tc .vmem S4096x128 .bf16) (harg19 : arg19.IsWhole) (arg20 : Memref sig .tc .vmem S1x512x128 .f32) (harg20 : arg20.IsWhole) (arg21 : Memref sig .tc .vmem S8x128 .f32) (harg21 : arg21.IsWhole) (arg22 : Memref sig .tc .vmem S1x128 .f32) (harg22 : arg22.IsWhole) (arg23 : Memref sig .tc .vmem S4096x128 .f32) (harg23 : arg23.IsWhole) (hc0 : cond0_0 i) (x0 : Vec Ideal S1x512x1024 .f32) (x1 : Vec Ideal S1x512x512 .f32) (x2 : Vec Ideal S1x512x512 .f32) (x3 : Vec Ideal S1x512x512 .f32) (x4 : Vec Ideal S1x512 .f32) (x5 : Vec Ideal S1024x1024 .bf16) (x6 : Vec Ideal S1x1024 .f32) (x7 : Vec Ideal S1024x512 .bf16) (x8 : Vec Ideal S1x128 .f32) (x9 : Vec Ideal S1x256x512 .bf16) (x10 : Vec Ideal S1x256x512 .bf16) (x11 : Vec Ideal S512x1024 .bf16) (x12 : Vec Ideal S1x1024 .f32) (x13 : Vec Ideal S1024x128 .bf16) (x14 : Vec Ideal S1x128 .f32) (x15 : Vec Ideal S512x512 .bf16)  :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).2.1 = [⟨Rect.unit (s := S4096x128) ![0, 0] S4096x128.size inb_S4096x128_S4096x128_0_0, k0_pay75 (arg23.view.readCov (tilesL (nrmV (rowsV
    (grpV (rdV arg2 harg2 x0 (Rect.unit (s := S1x512x1024) ![0, 0, 0] S1x256x1024.size inb_S1x512x1024_S1x256x1024_0_0_0))
      (rdV arg3 harg3 x1 (Rect.unit (s := S1x512x512) ![0, 0, 0] S1x256x512.size inb_S1x512x512_S1x256x512_0_0_0))
      (rdV arg4 harg4 x2 (Rect.unit (s := S1x512x512) ![0, 0, 0] S1x256x512.size inb_S1x512x512_S1x256x512_0_0_0))
      (rdV arg5 harg5 x3 (Rect.unit (s := S1x512x512) ![0, 0, 0] S1x256x512.size inb_S1x512x512_S1x256x512_0_0_0))
      (rdV arg6 harg6 x4 (Rect.unit (s := S1x512) ![0, 0] S1x512.size inb_S1x512_S1x512_0_0))
      (rdV arg7 harg7 x5 (Rect.unit (s := S1024x1024) ![0, 0] S512x1024.size inb_S1024x1024_S512x1024_0_0))
      (rdV arg7 harg7 x5 (Rect.unit (s := S1024x1024) ![512, 0] S512x1024.size inb_S1024x1024_S512x1024_512_0))
      (rdV arg8 harg8 x6 (Rect.unit (s := S1x1024) ![0, 0] S1x1024.size inb_S1x1024_S1x1024_0_0))
      (rdV arg9 harg9 x7 (Rect.unit (s := S1024x512) ![0, 0] S1024x512.size inb_S1024x512_S1024x512_0_0))
      (rdV arg10 harg10 x8 (Rect.unit (s := S1x128) ![0, 0] S1x128.size inb_S1x128_S1x128_0_0))
      (rdV arg11 harg11 x9 (Rect.unit (s := S1x256x512) ![0, 0, 0] S1x256x128.size inb_S1x256x512_S1x256x128_0_0_0))
      (rdV arg11 harg11 x9 (Rect.unit (s := S1x256x512) ![0, 0, 128] S1x256x128.size inb_S1x256x512_S1x256x128_0_0_128))
      (rdV arg11 harg11 x9 (Rect.unit (s := S1x256x512) ![0, 0, 256] S1x256x128.size inb_S1x256x512_S1x256x128_0_0_256))
      (rdV arg11 harg11 x9 (Rect.unit (s := S1x256x512) ![0, 0, 384] S1x256x128.size inb_S1x256x512_S1x256x128_0_0_384))
      (rdV arg12 harg12 x10 (Rect.unit (s := S1x256x512) ![0, 0, 0] S1x256x128.size inb_S1x256x512_S1x256x128_0_0_0))
      (rdV arg12 harg12 x10 (Rect.unit (s := S1x256x512) ![0, 0, 128] S1x256x128.size inb_S1x256x512_S1x256x128_0_0_128))
      (rdV arg12 harg12 x10 (Rect.unit (s := S1x256x512) ![0, 0, 256] S1x256x128.size inb_S1x256x512_S1x256x128_0_0_256))
      (rdV arg12 harg12 x10 (Rect.unit (s := S1x256x512) ![0, 0, 384] S1x256x128.size inb_S1x256x512_S1x256x128_0_0_384))
      (rdV arg13 harg13 x11 (Rect.unit (s := S512x1024) ![0, 0] S512x1024.size inb_S512x1024_S512x1024_0_0)))
    (grpV (rdV arg2 harg2 x0 (Rect.unit (s := S1x512x1024) ![0, 256, 0] S1x256x1024.size inb_S1x512x1024_S1x256x1024_0_256_0))
      (rdV arg3 harg3 x1 (Rect.unit (s := S1x512x512) ![0, 256, 0] S1x256x512.size inb_S1x512x512_S1x256x512_0_256_0))
      (rdV arg4 harg4 x2 (Rect.unit (s := S1x512x512) ![0, 256, 0] S1x256x512.size inb_S1x512x512_S1x256x512_0_256_0))
      (rdV arg5 harg5 x3 (Rect.unit (s := S1x512x512) ![0, 256, 0] S1x256x512.size inb_S1x512x512_S1x256x512_0_256_0))
      (rdV arg6 harg6 x4 (Rect.unit (s := S1x512) ![0, 0] S1x512.size inb_S1x512_S1x512_0_0))
      (rdV arg7 harg7 x5 (Rect.unit (s := S1024x1024) ![0, 0] S512x1024.size inb_S1024x1024_S512x1024_0_0))
      (rdV arg7 harg7 x5 (Rect.unit (s := S1024x1024) ![512, 0] S512x1024.size inb_S1024x1024_S512x1024_512_0))
      (rdV arg8 harg8 x6 (Rect.unit (s := S1x1024) ![0, 0] S1x1024.size inb_S1x1024_S1x1024_0_0))
      (rdV arg9 harg9 x7 (Rect.unit (s := S1024x512) ![0, 0] S1024x512.size inb_S1024x512_S1024x512_0_0))
      (rdV arg10 harg10 x8 (Rect.unit (s := S1x128) ![0, 0] S1x128.size inb_S1x128_S1x128_0_0))
      (rdV arg11 harg11 x9 (Rect.unit (s := S1x256x512) ![0, 0, 0] S1x256x128.size inb_S1x256x512_S1x256x128_0_0_0))
      (rdV arg11 harg11 x9 (Rect.unit (s := S1x256x512) ![0, 0, 128] S1x256x128.size inb_S1x256x512_S1x256x128_0_0_128))
      (rdV arg11 harg11 x9 (Rect.unit (s := S1x256x512) ![0, 0, 256] S1x256x128.size inb_S1x256x512_S1x256x128_0_0_256))
      (rdV arg11 harg11 x9 (Rect.unit (s := S1x256x512) ![0, 0, 384] S1x256x128.size inb_S1x256x512_S1x256x128_0_0_384))
      (rdV arg12 harg12 x10 (Rect.unit (s := S1x256x512) ![0, 0, 0] S1x256x128.size inb_S1x256x512_S1x256x128_0_0_0))
      (rdV arg12 harg12 x10 (Rect.unit (s := S1x256x512) ![0, 0, 128] S1x256x128.size inb_S1x256x512_S1x256x128_0_0_128))
      (rdV arg12 harg12 x10 (Rect.unit (s := S1x256x512) ![0, 0, 256] S1x256x128.size inb_S1x256x512_S1x256x128_0_0_256))
      (rdV arg12 harg12 x10 (Rect.unit (s := S1x256x512) ![0, 0, 384] S1x256x128.size inb_S1x256x512_S1x256x128_0_0_384))
      (rdV arg13 harg13 x11 (Rect.unit (s := S512x1024) ![0, 0] S512x1024.size inb_S512x1024_S512x1024_0_0))))
    (rdV arg14 harg14 x12 (Rect.unit (s := S1x1024) ![0, 0] S1x1024.size inb_S1x1024_S1x1024_0_0))))
    (Rect.unit (s := S4096x128) ![0, 0] S4096x128.size inb_S4096x128_S4096x128_0_0).toLoadRect)⟩] :=
  rfl

/-- The second output block of case A. -/
theorem outH_A (c : Dev nD) (i : grid0.Coords) (arg2 : Memref sig .tc .vmem S1x512x1024 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x512 .bf16) (harg9 : arg9.IsWhole) (arg10 : Memref sig .tc .vmem S1x128 .f32) (harg10 : arg10.IsWhole) (arg11 : Memref sig .tc .vmem S1x256x512 .bf16) (harg11 : arg11.IsWhole) (arg12 : Memref sig .tc .vmem S1x256x512 .bf16) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1024x128 .bf16) (harg15 : arg15.IsWhole) (arg16 : Memref sig .tc .vmem S1x128 .f32) (harg16 : arg16.IsWhole) (arg17 : Memref sig .tc .vmem S512x512 .bf16) (harg17 : arg17.IsWhole) (arg18 : Memref sig .tc .vmem S1x512x1024 .f32) (harg18 : arg18.IsWhole) (arg19 : Memref sig .tc .vmem S4096x128 .bf16) (harg19 : arg19.IsWhole) (arg20 : Memref sig .tc .vmem S1x512x128 .f32) (harg20 : arg20.IsWhole) (arg21 : Memref sig .tc .vmem S8x128 .f32) (harg21 : arg21.IsWhole) (arg22 : Memref sig .tc .vmem S1x128 .f32) (harg22 : arg22.IsWhole) (arg23 : Memref sig .tc .vmem S4096x128 .f32) (harg23 : arg23.IsWhole) (hc0 : cond0_0 i) (x0 : Vec Ideal S1x512x1024 .f32) (x1 : Vec Ideal S1x512x512 .f32) (x2 : Vec Ideal S1x512x512 .f32) (x3 : Vec Ideal S1x512x512 .f32) (x4 : Vec Ideal S1x512 .f32) (x5 : Vec Ideal S1024x1024 .bf16) (x6 : Vec Ideal S1x1024 .f32) (x7 : Vec Ideal S1024x512 .bf16) (x8 : Vec Ideal S1x128 .f32) (x9 : Vec Ideal S1x256x512 .bf16) (x10 : Vec Ideal S1x256x512 .bf16) (x11 : Vec Ideal S512x1024 .bf16) (x12 : Vec Ideal S1x1024 .f32) (x13 : Vec Ideal S1024x128 .bf16) (x14 : Vec Ideal S1x128 .f32) (x15 : Vec Ideal S512x512 .bf16)  :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 = blkH x0 x1 x2 x3 x4 x5 x6 x7 x8 x9 x10 x11 x12 := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15), tiles_A]
  refine (canon_tile _ _).trans (funext fun y => ?_)
  refine (tile_val _ _ _ y).trans ?_
  simp only [rdV_eq]
  exact tile_blk x0 x1 x2 x3 x4 x5 x6 x7 x8 x9 x10 x11 x12 _ _ rfl y

/-- What the run of case B stores into the second output. -/
theorem tiles_B (c : Dev nD) (i : grid0.Coords) (arg2 : Memref sig .tc .vmem S1x512x1024 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x512 .bf16) (harg9 : arg9.IsWhole) (arg10 : Memref sig .tc .vmem S1x128 .f32) (harg10 : arg10.IsWhole) (arg11 : Memref sig .tc .vmem S1x256x512 .bf16) (harg11 : arg11.IsWhole) (arg12 : Memref sig .tc .vmem S1x256x512 .bf16) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1024x128 .bf16) (harg15 : arg15.IsWhole) (arg16 : Memref sig .tc .vmem S1x128 .f32) (harg16 : arg16.IsWhole) (arg17 : Memref sig .tc .vmem S512x512 .bf16) (harg17 : arg17.IsWhole) (arg18 : Memref sig .tc .vmem S1x512x1024 .f32) (harg18 : arg18.IsWhole) (arg19 : Memref sig .tc .vmem S4096x128 .bf16) (harg19 : arg19.IsWhole) (arg20 : Memref sig .tc .vmem S1x512x128 .f32) (harg20 : arg20.IsWhole) (arg21 : Memref sig .tc .vmem S8x128 .f32) (harg21 : arg21.IsWhole) (arg22 : Memref sig .tc .vmem S1x128 .f32) (harg22 : arg22.IsWhole) (arg23 : Memref sig .tc .vmem S4096x128 .f32) (harg23 : arg23.IsWhole) (hc0 : ¬cond0_0 i) (x0 : Vec Ideal S1x512x1024 .f32) (x1 : Vec Ideal S1x512x512 .f32) (x2 : Vec Ideal S1x512x512 .f32) (x3 : Vec Ideal S1x512x512 .f32) (x4 : Vec Ideal S1x512 .f32) (x5 : Vec Ideal S1024x1024 .bf16) (x6 : Vec Ideal S1x1024 .f32) (x7 : Vec Ideal S1024x512 .bf16) (x8 : Vec Ideal S1x128 .f32) (x9 : Vec Ideal S1x256x512 .bf16) (x10 : Vec Ideal S1x256x512 .bf16) (x11 : Vec Ideal S512x1024 .bf16) (x12 : Vec Ideal S1x1024 .f32) (x13 : Vec Ideal S1024x128 .bf16) (x14 : Vec Ideal S1x128 .f32) (x15 : Vec Ideal S512x512 .bf16) (xs0 : Vec Ideal S1x128 .f32)  :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs0).2.1 = [⟨Rect.unit (s := S4096x128) ![0, 0] S4096x128.size inb_S4096x128_S4096x128_0_0, k0_pay75 (arg23.view.readCov (tilesL (nrmV (rowsV
    (grpV (rdV arg2 harg2 x0 (Rect.unit (s := S1x512x1024) ![0, 0, 0] S1x256x1024.size inb_S1x512x1024_S1x256x1024_0_0_0))
      (rdV arg3 harg3 x1 (Rect.unit (s := S1x512x512) ![0, 0, 0] S1x256x512.size inb_S1x512x512_S1x256x512_0_0_0))
      (rdV arg4 harg4 x2 (Rect.unit (s := S1x512x512) ![0, 0, 0] S1x256x512.size inb_S1x512x512_S1x256x512_0_0_0))
      (rdV arg5 harg5 x3 (Rect.unit (s := S1x512x512) ![0, 0, 0] S1x256x512.size inb_S1x512x512_S1x256x512_0_0_0))
      (rdV arg6 harg6 x4 (Rect.unit (s := S1x512) ![0, 0] S1x512.size inb_S1x512_S1x512_0_0))
      (rdV arg7 harg7 x5 (Rect.unit (s := S1024x1024) ![0, 0] S512x1024.size inb_S1024x1024_S512x1024_0_0))
      (rdV arg7 harg7 x5 (Rect.unit (s := S1024x1024) ![512, 0] S512x1024.size inb_S1024x1024_S512x1024_512_0))
      (rdV arg8 harg8 x6 (Rect.unit (s := S1x1024) ![0, 0] S1x1024.size inb_S1x1024_S1x1024_0_0))
      (rdV arg9 harg9 x7 (Rect.unit (s := S1024x512) ![0, 0] S1024x512.size inb_S1024x512_S1024x512_0_0))
      (rdV arg10 harg10 x8 (Rect.unit (s := S1x128) ![0, 0] S1x128.size inb_S1x128_S1x128_0_0))
      (rdV arg11 harg11 x9 (Rect.unit (s := S1x256x512) ![0, 0, 0] S1x256x128.size inb_S1x256x512_S1x256x128_0_0_0))
      (rdV arg11 harg11 x9 (Rect.unit (s := S1x256x512) ![0, 0, 128] S1x256x128.size inb_S1x256x512_S1x256x128_0_0_128))
      (rdV arg11 harg11 x9 (Rect.unit (s := S1x256x512) ![0, 0, 256] S1x256x128.size inb_S1x256x512_S1x256x128_0_0_256))
      (rdV arg11 harg11 x9 (Rect.unit (s := S1x256x512) ![0, 0, 384] S1x256x128.size inb_S1x256x512_S1x256x128_0_0_384))
      (rdV arg12 harg12 x10 (Rect.unit (s := S1x256x512) ![0, 0, 0] S1x256x128.size inb_S1x256x512_S1x256x128_0_0_0))
      (rdV arg12 harg12 x10 (Rect.unit (s := S1x256x512) ![0, 0, 128] S1x256x128.size inb_S1x256x512_S1x256x128_0_0_128))
      (rdV arg12 harg12 x10 (Rect.unit (s := S1x256x512) ![0, 0, 256] S1x256x128.size inb_S1x256x512_S1x256x128_0_0_256))
      (rdV arg12 harg12 x10 (Rect.unit (s := S1x256x512) ![0, 0, 384] S1x256x128.size inb_S1x256x512_S1x256x128_0_0_384))
      (rdV arg13 harg13 x11 (Rect.unit (s := S512x1024) ![0, 0] S512x1024.size inb_S512x1024_S512x1024_0_0)))
    (grpV (rdV arg2 harg2 x0 (Rect.unit (s := S1x512x1024) ![0, 256, 0] S1x256x1024.size inb_S1x512x1024_S1x256x1024_0_256_0))
      (rdV arg3 harg3 x1 (Rect.unit (s := S1x512x512) ![0, 256, 0] S1x256x512.size inb_S1x512x512_S1x256x512_0_256_0))
      (rdV arg4 harg4 x2 (Rect.unit (s := S1x512x512) ![0, 256, 0] S1x256x512.size inb_S1x512x512_S1x256x512_0_256_0))
      (rdV arg5 harg5 x3 (Rect.unit (s := S1x512x512) ![0, 256, 0] S1x256x512.size inb_S1x512x512_S1x256x512_0_256_0))
      (rdV arg6 harg6 x4 (Rect.unit (s := S1x512) ![0, 0] S1x512.size inb_S1x512_S1x512_0_0))
      (rdV arg7 harg7 x5 (Rect.unit (s := S1024x1024) ![0, 0] S512x1024.size inb_S1024x1024_S512x1024_0_0))
      (rdV arg7 harg7 x5 (Rect.unit (s := S1024x1024) ![512, 0] S512x1024.size inb_S1024x1024_S512x1024_512_0))
      (rdV arg8 harg8 x6 (Rect.unit (s := S1x1024) ![0, 0] S1x1024.size inb_S1x1024_S1x1024_0_0))
      (rdV arg9 harg9 x7 (Rect.unit (s := S1024x512) ![0, 0] S1024x512.size inb_S1024x512_S1024x512_0_0))
      (rdV arg10 harg10 x8 (Rect.unit (s := S1x128) ![0, 0] S1x128.size inb_S1x128_S1x128_0_0))
      (rdV arg11 harg11 x9 (Rect.unit (s := S1x256x512) ![0, 0, 0] S1x256x128.size inb_S1x256x512_S1x256x128_0_0_0))
      (rdV arg11 harg11 x9 (Rect.unit (s := S1x256x512) ![0, 0, 128] S1x256x128.size inb_S1x256x512_S1x256x128_0_0_128))
      (rdV arg11 harg11 x9 (Rect.unit (s := S1x256x512) ![0, 0, 256] S1x256x128.size inb_S1x256x512_S1x256x128_0_0_256))
      (rdV arg11 harg11 x9 (Rect.unit (s := S1x256x512) ![0, 0, 384] S1x256x128.size inb_S1x256x512_S1x256x128_0_0_384))
      (rdV arg12 harg12 x10 (Rect.unit (s := S1x256x512) ![0, 0, 0] S1x256x128.size inb_S1x256x512_S1x256x128_0_0_0))
      (rdV arg12 harg12 x10 (Rect.unit (s := S1x256x512) ![0, 0, 128] S1x256x128.size inb_S1x256x512_S1x256x128_0_0_128))
      (rdV arg12 harg12 x10 (Rect.unit (s := S1x256x512) ![0, 0, 256] S1x256x128.size inb_S1x256x512_S1x256x128_0_0_256))
      (rdV arg12 harg12 x10 (Rect.unit (s := S1x256x512) ![0, 0, 384] S1x256x128.size inb_S1x256x512_S1x256x128_0_0_384))
      (rdV arg13 harg13 x11 (Rect.unit (s := S512x1024) ![0, 0] S512x1024.size inb_S512x1024_S512x1024_0_0))))
    (rdV arg14 harg14 x12 (Rect.unit (s := S1x1024) ![0, 0] S1x1024.size inb_S1x1024_S1x1024_0_0))))
    (Rect.unit (s := S4096x128) ![0, 0] S4096x128.size inb_S4096x128_S4096x128_0_0).toLoadRect)⟩] :=
  rfl

/-- The second output block of case B. -/
theorem outH_B (c : Dev nD) (i : grid0.Coords) (arg2 : Memref sig .tc .vmem S1x512x1024 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x512 .bf16) (harg9 : arg9.IsWhole) (arg10 : Memref sig .tc .vmem S1x128 .f32) (harg10 : arg10.IsWhole) (arg11 : Memref sig .tc .vmem S1x256x512 .bf16) (harg11 : arg11.IsWhole) (arg12 : Memref sig .tc .vmem S1x256x512 .bf16) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1024x128 .bf16) (harg15 : arg15.IsWhole) (arg16 : Memref sig .tc .vmem S1x128 .f32) (harg16 : arg16.IsWhole) (arg17 : Memref sig .tc .vmem S512x512 .bf16) (harg17 : arg17.IsWhole) (arg18 : Memref sig .tc .vmem S1x512x1024 .f32) (harg18 : arg18.IsWhole) (arg19 : Memref sig .tc .vmem S4096x128 .bf16) (harg19 : arg19.IsWhole) (arg20 : Memref sig .tc .vmem S1x512x128 .f32) (harg20 : arg20.IsWhole) (arg21 : Memref sig .tc .vmem S8x128 .f32) (harg21 : arg21.IsWhole) (arg22 : Memref sig .tc .vmem S1x128 .f32) (harg22 : arg22.IsWhole) (arg23 : Memref sig .tc .vmem S4096x128 .f32) (harg23 : arg23.IsWhole) (hc0 : ¬cond0_0 i) (x0 : Vec Ideal S1x512x1024 .f32) (x1 : Vec Ideal S1x512x512 .f32) (x2 : Vec Ideal S1x512x512 .f32) (x3 : Vec Ideal S1x512x512 .f32) (x4 : Vec Ideal S1x512 .f32) (x5 : Vec Ideal S1024x1024 .bf16) (x6 : Vec Ideal S1x1024 .f32) (x7 : Vec Ideal S1024x512 .bf16) (x8 : Vec Ideal S1x128 .f32) (x9 : Vec Ideal S1x256x512 .bf16) (x10 : Vec Ideal S1x256x512 .bf16) (x11 : Vec Ideal S512x1024 .bf16) (x12 : Vec Ideal S1x1024 .f32) (x13 : Vec Ideal S1024x128 .bf16) (x14 : Vec Ideal S1x128 .f32) (x15 : Vec Ideal S512x512 .bf16) (xs0 : Vec Ideal S1x128 .f32)  :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs0 = blkH x0 x1 x2 x3 x4 x5 x6 x7 x8 x9 x10 x11 x12 := by
  unfold out0_B_17
  rw [View.read_writes_eq_canon _ _ _ (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs0), tiles_B]
  refine (canon_tile _ _).trans (funext fun y => ?_)
  refine (tile_val _ _ _ y).trans ?_
  simp only [rdV_eq]
  exact tile_blk x0 x1 x2 x3 x4 x5 x6 x7 x8 x9 x10 x11 x12 _ _ rfl y

end Cert.Mix

end
-- ==== Proof.MixHost.lean ====
module

public import proofs.«01_k».proof.Proof.Gen.MixKernelIdeal.Value
public import proofs.«01_k».proof.Proof.MixSpec
public import Idealize.ShloMosaic.Lib.StableHlo.RunRead
public import Idealize.ShloMosaic.Lib.Pipeline.ValueKit.Geometry

@[expose] public section

noncomputable section

namespace Cert.Mix

open Cert.MixKernelIdeal Cert.MixKernelIdeal.Gen
open Idealize.ShloMosaic Idealize.ShloMosaic.TcCoe
open Idealize.ShloMosaic.StableHlo

/-- A vector of 512 as a row. -/
def row512 (G : FVec Ideal S512 .f32) : FVec Ideal S1x512 .f32 := shapeCast S1x512 G shapeCasts_S512_S1x512
/-- A vector of 1024 as a row. -/
def row1024 (G : FVec Ideal S1024 .f32) : FVec Ideal S1x1024 .f32 := shapeCast S1x1024 G shapeCasts_S1024_S1x1024
/-- A vector of 128 as a row. -/
def row128 (G : FVec Ideal S128 .f32) : FVec Ideal S1x128 .f32 := shapeCast S1x128 G shapeCasts_S128_S1x128

theorem row512_apply (G : FVec Ideal S512 .f32) (k : Fin 512) : row512 G (ix2 0 k) = G (ix1 k) := by
  pointwise [row512]

theorem row1024_apply (G : FVec Ideal S1024 .f32) (k : Fin 1024) : row1024 G (ix2 0 k) = G (ix1 k) := by
  pointwise [row1024]

theorem row128_apply (G : FVec Ideal S128 .f32) (k : Fin 128) : row128 G (ix2 0 k) = G (ix1 k) := by
  pointwise [row128]

variable (m : (ℓ : Loc nD τ sig) → Buf (Elt Ideal) ℓ)

/-- The region finds the attention's gains as a row. -/
theorem V_ga (c : Dev nD) : V m c main_v0 = row512 (m ((c : Thread nD τ).loc main_arg4)) := by
  simp only [V, hostOps0]
  after_reads_simp
  rfl

/-- The region finds the output weights as they were. -/
theorem V_wout (c : Dev nD) : V m c main_v1 = m ((c : Thread nD τ).loc main_arg5) := by
  simp only [V, hostOps0]
  after_reads_simp
  rfl

/-- The region finds the memory attention's gains as a row. -/
theorem V_gx (c : Dev nD) : V m c main_v2 = row1024 (m ((c : Thread nD τ).loc main_arg6)) := by
  simp only [V, hostOps0]
  after_reads_simp
  rfl

/-- The region finds the query weights as they were. -/
theorem V_wq (c : Dev nD) : V m c main_v3 = m ((c : Thread nD τ).loc main_arg7) := by
  simp only [V, hostOps0]
  after_reads_simp
  rfl

/-- The region finds the queries' gains as a row. -/
theorem V_qn (c : Dev nD) : V m c main_v4 = row128 (m ((c : Thread nD τ).loc main_arg8)) := by
  simp only [V, hostOps0]
  after_reads_simp
  rfl

/-- The region finds the memory attention's output weights as they were. -/
theorem V_wo (c : Dev nD) : V m c main_v5 = m ((c : Thread nD τ).loc main_arg11) := by
  simp only [V, hostOps0]
  after_reads_simp
  rfl

/-- The region finds the last normalization's gains as a row. -/
theorem V_gff (c : Dev nD) : V m c main_v6 = row1024 (m ((c : Thread nD τ).loc main_arg12)) := by
  simp only [V, hostOps0]
  after_reads_simp
  rfl

theorem inIndex0 : ∀ t : Fin cfg0.N, win0_0.index t = ![(grid0.coords t 0).val, (grid0.coords t 1).val, 0] := by decide +kernel
theorem inIndex1 : ∀ t : Fin cfg0.N, win0_1.index t = ![(grid0.coords t 0).val, (grid0.coords t 1).val, 0] := by decide +kernel
theorem inIndex2 : ∀ t : Fin cfg0.N, win0_2.index t = ![(grid0.coords t 0).val, (grid0.coords t 1).val, 0] := by decide +kernel
theorem inIndex3 : ∀ t : Fin cfg0.N, win0_3.index t = ![(grid0.coords t 0).val, (grid0.coords t 1).val, 0] := by decide +kernel
theorem inIndex16 : ∀ t : Fin cfg0.N, win0_16.index t = ![(grid0.coords t 0).val, (grid0.coords t 1).val, 0] := by decide +kernel
theorem inIndex4 : ∀ t : Fin cfg0.N, win0_4.index t = ![0, 0] := by decide +kernel
theorem inIndex5 : ∀ t : Fin cfg0.N, win0_5.index t = ![0, 0] := by decide +kernel
theorem inIndex6 : ∀ t : Fin cfg0.N, win0_6.index t = ![0, 0] := by decide +kernel
theorem inIndex7 : ∀ t : Fin cfg0.N, win0_7.index t = ![0, 0] := by decide +kernel
theorem inIndex8 : ∀ t : Fin cfg0.N, win0_8.index t = ![0, 0] := by decide +kernel
theorem inIndex11 : ∀ t : Fin cfg0.N, win0_11.index t = ![0, 0] := by decide +kernel
theorem inIndex12 : ∀ t : Fin cfg0.N, win0_12.index t = ![0, 0] := by decide +kernel
theorem inIndex17 : ∀ t : Fin cfg0.N, win0_17.index t = ![4 * (grid0.coords t 0).val + (grid0.coords t 1).val, 0] := by decide +kernel
theorem inIndex9 : ∀ t : Fin cfg0.N, win0_9.index t = ![(grid0.coords t 0).val, 0, 0] := by decide +kernel
theorem inIndex10 : ∀ t : Fin cfg0.N, win0_10.index t = ![(grid0.coords t 0).val, 0, 0] := by decide +kernel

/-- The rows' block of argument 0. -/
theorem blk0 (c : Dev nD) (t : Fin cfg0.N) (a : Fin 512) (k : Fin 1024) (b : Fin 16) (r : Fin 2048) (hb : b.val = (grid0.coords t 0).val) (hr : r.val = 512 * (grid0.coords t 1).val + a.val) :
    iblk m c 0 t (ix3 0 a k) = m ((c : Thread nD τ).loc main_arg0) (ix3 b r k) := by
  rw [← V_main_arg0 m c]
  refine congrArg (V m c main_arg0) (a₁ := (win0_0.blk t).view.emb (ix3 0 a k)) (funext fun d => ?_)
  fin_cases d <;> refine Fin.ext ?_ <;> blk_simp [inIndex0] <;> simp [ix3] <;> omega

/-- The rows' block of argument 1. -/
theorem blk1 (c : Dev nD) (t : Fin cfg0.N) (a : Fin 512) (k : Fin 512) (b : Fin 16) (r : Fin 2048) (hb : b.val = (grid0.coords t 0).val) (hr : r.val = 512 * (grid0.coords t 1).val + a.val) :
    iblk m c 1 t (ix3 0 a k) = m ((c : Thread nD τ).loc main_arg1) (ix3 b r k) := by
  rw [← V_main_arg1 m c]
  refine congrArg (V m c main_arg1) (a₁ := (win0_1.blk t).view.emb (ix3 0 a k)) (funext fun d => ?_)
  fin_cases d <;> refine Fin.ext ?_ <;> blk_simp [inIndex1] <;> simp [ix3] <;> omega

/-- The rows' block of argument 2. -/
theorem blk2 (c : Dev nD) (t : Fin cfg0.N) (a : Fin 512) (k : Fin 512) (b : Fin 16) (r : Fin 2048) (hb : b.val = (grid0.coords t 0).val) (hr : r.val = 512 * (grid0.coords t 1).val + a.val) :
    iblk m c 2 t (ix3 0 a k) = m ((c : Thread nD τ).loc main_arg2) (ix3 b r k) := by
  rw [← V_main_arg2 m c]
  refine congrArg (V m c main_arg2) (a₁ := (win0_2.blk t).view.emb (ix3 0 a k)) (funext fun d => ?_)
  fin_cases d <;> refine Fin.ext ?_ <;> blk_simp [inIndex2] <;> simp [ix3] <;> omega

/-- The rows' block of argument 3. -/
theorem blk3 (c : Dev nD) (t : Fin cfg0.N) (a : Fin 512) (k : Fin 512) (b : Fin 16) (r : Fin 2048) (hb : b.val = (grid0.coords t 0).val) (hr : r.val = 512 * (grid0.coords t 1).val + a.val) :
    iblk m c 3 t (ix3 0 a k) = m ((c : Thread nD τ).loc main_arg3) (ix3 b r k) := by
  rw [← V_main_arg3 m c]
  refine congrArg (V m c main_arg3) (a₁ := (win0_3.blk t).view.emb (ix3 0 a k)) (funext fun d => ?_)
  fin_cases d <;> refine Fin.ext ?_ <;> blk_simp [inIndex3] <;> simp [ix3] <;> omega

/-- The batch's block of argument 9. -/
theorem blk9 (c : Dev nD) (t : Fin cfg0.N) (a : Fin 256) (k : Fin 512) (b : Fin 16) (hb : b.val = (grid0.coords t 0).val) :
    iblk m c 9 t (ix3 0 a k) = m ((c : Thread nD τ).loc main_arg9) (ix3 b a k) := by
  rw [← V_main_arg9 m c]
  refine congrArg (V m c main_arg9) (a₁ := (win0_9.blk t).view.emb (ix3 0 a k)) (funext fun d => ?_)
  fin_cases d <;> refine Fin.ext ?_ <;> blk_simp [inIndex9] <;> simp [ix3] <;> omega

/-- The batch's block of argument 10. -/
theorem blk10 (c : Dev nD) (t : Fin cfg0.N) (a : Fin 256) (k : Fin 512) (b : Fin 16) (hb : b.val = (grid0.coords t 0).val) :
    iblk m c 10 t (ix3 0 a k) = m ((c : Thread nD τ).loc main_arg10) (ix3 b a k) := by
  rw [← V_main_arg10 m c]
  refine congrArg (V m c main_arg10) (a₁ := (win0_10.blk t).view.emb (ix3 0 a k)) (funext fun d => ?_)
  fin_cases d <;> refine Fin.ext ?_ <;> blk_simp [inIndex10] <;> simp [ix3] <;> omega

/-- The gains' block of argument 4. -/
theorem blk4 (c : Dev nD) (t : Fin cfg0.N) (k : Fin 512) : iblk m c 4 t (ix2 0 k) = m ((c : Thread nD τ).loc main_arg4) (ix1 k) := by
  refine Eq.trans (congrArg (V m c main_v0) (a₁ := (win0_4.blk t).view.emb (ix2 0 k)) (a₂ := ix2 0 k) (funext fun d => ?_)) ((congrFun (V_ga m c) _).trans (row512_apply (m ((c : Thread nD τ).loc main_arg4)) k))
  fin_cases d <;> refine Fin.ext ?_ <;> blk_simp [inIndex4] <;> simp [ix2]

/-- The gains' block of argument 6. -/
theorem blk6 (c : Dev nD) (t : Fin cfg0.N) (k : Fin 1024) : iblk m c 6 t (ix2 0 k) = m ((c : Thread nD τ).loc main_arg6) (ix1 k) := by
  refine Eq.trans (congrArg (V m c main_v2) (a₁ := (win0_6.blk t).view.emb (ix2 0 k)) (a₂ := ix2 0 k) (funext fun d => ?_)) ((congrFun (V_gx m c) _).trans (row1024_apply (m ((c : Thread nD τ).loc main_arg6)) k))
  fin_cases d <;> refine Fin.ext ?_ <;> blk_simp [inIndex6] <;> simp [ix2]

/-- The gains' block of argument 8. -/
theorem blk8 (c : Dev nD) (t : Fin cfg0.N) (k : Fin 128) : iblk m c 8 t (ix2 0 k) = m ((c : Thread nD τ).loc main_arg8) (ix1 k) := by
  refine Eq.trans (congrArg (V m c main_v4) (a₁ := (win0_8.blk t).view.emb (ix2 0 k)) (a₂ := ix2 0 k) (funext fun d => ?_)) ((congrFun (V_qn m c) _).trans (row128_apply (m ((c : Thread nD τ).loc main_arg8)) k))
  fin_cases d <;> refine Fin.ext ?_ <;> blk_simp [inIndex8] <;> simp [ix2]

/-- The gains' block of argument 12. -/
theorem blk12 (c : Dev nD) (t : Fin cfg0.N) (k : Fin 1024) : iblk m c 12 t (ix2 0 k) = m ((c : Thread nD τ).loc main_arg12) (ix1 k) := by
  refine Eq.trans (congrArg (V m c main_v6) (a₁ := (win0_12.blk t).view.emb (ix2 0 k)) (a₂ := ix2 0 k) (funext fun d => ?_)) ((congrFun (V_gff m c) _).trans (row1024_apply (m ((c : Thread nD τ).loc main_arg12)) k))
  fin_cases d <;> refine Fin.ext ?_ <;> blk_simp [inIndex12] <;> simp [ix2]

/-- The weights' block of argument 5. -/
theorem blk5 (c : Dev nD) (t : Fin cfg0.N) : (iblk m c 5 t : S1024x1024.Idx → EReal) = m ((c : Thread nD τ).loc main_arg5) := by
  refine Eq.trans (funext fun y => ?_) (V_wout m c)
  refine congrArg (V m c main_v1) (a₁ := (win0_5.blk t).view.emb y) (funext fun d => ?_)
  fin_cases d <;> refine Fin.ext ?_ <;> blk_simp [inIndex5] <;> simp

/-- The weights' block of argument 7. -/
theorem blk7 (c : Dev nD) (t : Fin cfg0.N) : (iblk m c 7 t : S1024x512.Idx → EReal) = m ((c : Thread nD τ).loc main_arg7) := by
  refine Eq.trans (funext fun y => ?_) (V_wq m c)
  refine congrArg (V m c main_v3) (a₁ := (win0_7.blk t).view.emb y) (funext fun d => ?_)
  fin_cases d <;> refine Fin.ext ?_ <;> blk_simp [inIndex7] <;> simp

/-- The weights' block of argument 11. -/
theorem blk11 (c : Dev nD) (t : Fin cfg0.N) : (iblk m c 11 t : S512x1024.Idx → EReal) = m ((c : Thread nD τ).loc main_arg11) := by
  refine Eq.trans (funext fun y => ?_) (V_wo m c)
  refine congrArg (V m c main_v5) (a₁ := (win0_11.blk t).view.emb y) (funext fun d => ?_)
  fin_cases d <;> refine Fin.ext ?_ <;> blk_simp [inIndex11] <;> simp

end Cert.Mix

end
-- ==== Proof.MixVal.lean ====
module

public import proofs.«01_k».proof.Proof.MixTile
public import proofs.«01_k».proof.Proof.MixHost

@[expose] public section

noncomputable section

namespace Cert.Mix

open Cert.MixKernelIdeal Cert.MixKernelIdeal.Gen
open Idealize.ShloMosaic Idealize.ShloMosaic.TcCoe Idealize.SL.Sem

/-- A row of the kernel's result, from the twelve arguments it reads. -/
def kerA (A0 : S16x2048x1024.Idx → EReal) (A1 A2 A3 : S16x2048x512.Idx → EReal) (A4 : S512.Idx → EReal) (A5 : S1024x1024.Idx → EReal) (A6 : S1024.Idx → EReal)
    (A7 : S1024x512.Idx → EReal) (A8 : S128.Idx → EReal) (A9 A10 : S16x256x512.Idx → EReal) (A11 : S512x1024.Idx → EReal) (b : Fin 16) (r : Fin 2048) (j : Fin 1024) : EReal :=
  kerR sclX (fun k => A0 (ix3 b r k)) (fun k => A1 (ix3 b r k)) (fun k => A2 (ix3 b r k)) (fun k => A3 (ix3 b r k)) (fun k => A4 (ix1 k)) (fun k j => A5 (ix2 k j))
    (fun k => A6 (ix1 k)) (fun k n => A7 (ix2 k n)) (fun d => A8 (ix1 d)) (fun m n => A9 (ix3 b m n)) (fun m n => A10 (ix3 b m n)) (fun n j => A11 (ix2 n j)) j

variable (m : (ℓ : Loc nD τ sig) → Buf (Elt Ideal) ℓ) (ρ : Dev nD → PrngReg)

/-- What a point writes into the first output, from the input blocks. -/
theorem outs16 (c : Dev nD) (t : Fin cfg0.N) : (outsAt0 m c t.val t.isLt).1 = blkV (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  by_cases h0 : t.val % 64 = 0
  · rw [outsAt0_A m c t h0]
    dsimp only
    rw [out_A]
  · rw [outsAt0_B m c t h0]
    dsimp only
    rw [out_B]

/-- What the first output's array holds at the end. -/
def end16 (c : Dev nD) : S16x2048x1024.Idx → EReal := fun y =>
  kerA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (y 0) (y 1) (y 2)

/-- A point's block of the first output holds the rows' own results. -/
theorem blkOut (c : Dev nD) (t : Fin cfg0.N) (y : S1x512x1024.Idx) (b : Fin 16) (r : Fin 2048) (j : Fin 1024)
    (hb : b.val = (grid0.coords t 0).val) (hr : r.val = 512 * (grid0.coords t 1).val + (y 1).val) (hj : j.val = (y 2).val) :
    (outsAt0 m c t.val t.isLt).1 y = kerA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) b r j := by
  obtain rfl : j = y 2 := Fin.ext hj
  rw [outs16]
  refine (blkV_at _ _ _ _ _ _ _ _ _ _ _ _ y).trans ?_
  unfold kerA
  rw [funext fun k => blk0 m c t (y 1) k b r hb hr, funext fun k => blk1 m c t (y 1) k b r hb hr, funext fun k => blk2 m c t (y 1) k b r hb hr, funext fun k => blk3 m c t (y 1) k b r hb hr,
    funext fun k => blk4 m c t k, blk5 m c t, funext fun k => blk6 m c t k, blk7 m c t, funext fun k => blk8 m c t k,
    funext fun a => funext fun k => blk9 m c t a k b hb, funext fun a => funext fun k => blk10 m c t a k b hb, blk11 m c t]

/-- The first output's array after every point. -/
theorem arr16 (c : Dev nD) : (dats m 0 c).arrAt 16 cfg0.N = end16 m c := by
  refine (dats m 0 c).arrAt_eq_of_covers 16 _ (by decide +kernel) fun t hf y => ?_
  blk_simp
  rw [after0_16]
  have e0 : (((win0_16.blk t).view.emb y) 0 : ℕ) = (grid0.coords t 0).val := by
    have h := (y 0).isLt
    blk_simp [inIndex16]; try (simp at h ⊢; try omega)
  have e1 : (((win0_16.blk t).view.emb y) 1 : ℕ) = 512 * (grid0.coords t 1).val + (y 1).val := by
    blk_simp [inIndex16]; simp; try omega
  have e2 : (((win0_16.blk t).view.emb y) 2 : ℕ) = (y 2).val := by
    blk_simp [inIndex16]
  exact blkOut m c t y _ _ _ e0 e1 e2

/-- What a point writes into the second output, from the input blocks. -/
theorem outs17 (c : Dev nD) (t : Fin cfg0.N) : (outsAt0 m c t.val t.isLt).2.1 = blkH (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  by_cases h0 : t.val % 64 = 0
  · rw [outsAt0_A m c t h0]
    dsimp only
    rw [outH_A]
  · rw [outsAt0_B m c t h0]
    dsimp only
    rw [outH_B]

/-- A row of the second result before it is cut into tiles: the row of the first, normalized. -/
def nrmA (c : Dev nD) (b : Fin 16) (r : Fin 2048) (j : Fin 1024) : EReal :=
  nrm 0x44800000#32 (fun k => kerA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) b r k) (fun k => m ((c : Thread nD τ).loc main_arg12) (ix1 k)) j

/-- What the second output's array holds at the end. -/
def end17 (c : Dev nD) : S262144x128.Idx → EReal := fun y =>
  nrmA m c ⟨(y 0).val / 16384, by have h : (y 0).val < 262144 := (y 0).isLt; omega⟩ ⟨(y 0).val / 8 % 2048, by omega⟩
    ⟨128 * ((y 0).val % 8) + (y 1).val, by have h : (y 1).val < 128 := (y 1).isLt; omega⟩

/-- A point's block of the second output holds the tiles of the rows' own results. -/
theorem blkOut17 (c : Dev nD) (t : Fin cfg0.N) (y : S4096x128.Idx) (b : Fin 16) (r : Fin 2048) (j : Fin 1024)
    (hb : b.val = (grid0.coords t 0).val) (hr : r.val = 512 * (grid0.coords t 1).val + (y 0).val / 8) (hj : j.val = 128 * ((y 0).val % 8) + (y 1).val) :
    (outsAt0 m c t.val t.isLt).2.1 y = nrmA m c b r j := by
  rw [outs17]
  unfold blkH nrmA
  refine congr (congr (congrArg (fun x g => nrm 0x44800000#32 x g) (funext fun k => ?_)) (funext fun k => blk12 m c t k)) (Fin.ext hj.symm)
  rw [← outs16]
  exact blkOut m c t _ b r k hb hr rfl

/-- The second output's array after every point. -/
theorem arr17 (c : Dev nD) : (dats m 0 c).arrAt 17 cfg0.N = end17 m c := by
  refine (dats m 0 c).arrAt_eq_of_covers 17 _ (by decide +kernel) fun t hf y => ?_
  blk_simp
  rw [after0_17]
  have h0 : (y 0).val < 4096 := (y 0).isLt
  have hc : (grid0.coords t 1).val < 4 := (grid0.coords t 1).isLt
  have e0 : (((win0_17.blk t).view.emb y) 0 : ℕ) = 4096 * (4 * (grid0.coords t 0).val + (grid0.coords t 1).val) + (y 0).val := by
    blk_simp [inIndex17]; simp; try omega
  have e1 : (((win0_17.blk t).view.emb y) 1 : ℕ) = (y 1).val := by
    blk_simp [inIndex17]
  refine blkOut17 m c t y _ _ _ ?_ ?_ ?_
  · show (((win0_17.blk t).view.emb y) 0 : ℕ) / 16384 = _
    rw [e0]; omega
  · show (((win0_17.blk t).view.emb y) 0 : ℕ) / 8 % 2048 = _
    rw [e0]; omega
  · show 128 * ((((win0_17.blk t).view.emb y) 0 : ℕ) % 8) + (((win0_17.blk t).view.emb y) 1 : ℕ) = _
    rw [e0, e1]; omega

/-- From any memory with zero counters: every run of the kernel ends with its two results and the arguments unchanged. -/
theorem runK : θ_run defs (onTc (τ := τ) (main (F := Ideal))) ⟨m, fun _ => 0, ρ⟩ (fun r => ∀ c : Dev nD,
      r.2.mem ((c.tc : Thread nD τ).loc main_v12_0) = end16 m c
      ∧ r.2.mem ((c.tc : Thread nD τ).loc main_v12_1) = end17 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => by
    obtain ⟨h0, h1, h2, h3, hr⟩ := h c
    exact ⟨h0.trans (arr16 m c), h1.trans (arr17 m c), hr⟩) (Value.run_blocks (F := Ideal) m ρ)

end Cert.Mix

end
-- ==== Proof.MixRef.lean ====
module

public import proofs.«01_k».proof.Proof.Gen.MixReferenceIdeal.Run
public import proofs.«01_k».proof.Proof.MixSpec
public import proofs.«01_k».proof.Proof.RMax

@[expose] public section

noncomputable section

namespace Cert.Mix

open Cert.MixReferenceIdeal Cert.MixReferenceIdeal.Gen Cert.MixReferenceIdeal.Value
open Idealize.ShloMosaic Idealize.ShloMosaic.TcCoe
open Idealize.ShloMosaic.StableHlo

/-- The reference's normalized attention output. -/
def naT (A : FVec Ideal S16x2048x512 .f32) (g : FVec Ideal S512 .f32) : FVec Ideal S16x2048x512 .f32 :=
  mulf (mulf A (broadcastInDim S16x2048x512 ![0, 1, 2] bcast_S16x2048x1_S16x2048x512_0_1_2 (Host.rsqrt (addf (Host.divf (broadcastInDim S16x2048x1 ![0, 1] bcast_S16x2048_S16x2048x1_0_1 (Host.reduceAdd (mulf A A) (constant S_ .f32 0x00000000#32) reducesTo_S16x2048x512_S16x2048_d2 h_S_)) (broadcastInDim S16x2048x1 ![] bcast_S_S16x2048x1 (constant S_ .f32 0x44000000#32))) (broadcastInDim S16x2048x1 ![] bcast_S_S16x2048x1 (constant S_ .f32 0x358637BD#32)))))) (broadcastInDim S16x2048x512 ![0, 1, 2] bcast_S1x1x512_S16x2048x512_0_1_2 (broadcastInDim S1x1x512 ![2] bcast_S512_S1x1x512_2 g))

/-- The two mixings side by side. -/
def catT (Y N : FVec Ideal S16x2048x512 .f32) : FVec Ideal S16x2048x1024 .f32 :=
  concatenate S16x2048x1024 2 [⟨S16x2048x512, Y⟩, ⟨S16x2048x512, N⟩] concatenates_S16x2048x512_S16x2048x512_S16x2048x1024_d2

/-- The rows plus the projection of the two mixings. -/
def x1T (X : FVec Ideal S16x2048x1024 .f32) (C : FVec Ideal S16x2048x1024 .f32) (W : FVec Ideal S1024x1024 .f32) : FVec Ideal S16x2048x1024 .f32 :=
  addf X (Host.dotGeneral dot_S16x2048x1024_S1024x1024_S16x2048x1024_2_0_01_1_n_n none C W)

/-- The reference's normalized rows. -/
def nhT (X : FVec Ideal S16x2048x1024 .f32) (g : FVec Ideal S1024 .f32) : FVec Ideal S16x2048x1024 .f32 :=
  mulf (mulf X (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X X) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))

/-- The reference's queries by head. -/
def qT (H : FVec Ideal S16x2048x1024 .f32) (W : FVec Ideal S1024x512 .f32) : FVec Ideal S16x2048x4x128 .f32 :=
  shapeCast S16x2048x4x128 (Host.dotGeneral dot_S16x2048x1024_S1024x512_S16x2048x512_2_0_01_1_n_n none H W) shapeCasts_S16x2048x512_S16x2048x4x128

/-- The reference's normalized queries. -/
def qnT (Q : FVec Ideal S16x2048x4x128 .f32) (g : FVec Ideal S128 .f32) : FVec Ideal S16x2048x4x128 .f32 :=
  mulf (mulf Q (broadcastInDim S16x2048x4x128 ![0, 1, 2, 3] bcast_S16x2048x4x1_S16x2048x4x128_0_1_2_3 (Host.rsqrt (addf (Host.divf (broadcastInDim S16x2048x4x1 ![0, 1, 2] bcast_S16x2048x4_S16x2048x4x1_0_1_2 (Host.reduceAdd (mulf Q Q) (constant S_ .f32 0x00000000#32) reducesTo_S16x2048x4x128_S16x2048x4_d3 h_S_)) (broadcastInDim S16x2048x4x1 ![] bcast_S_S16x2048x4x1 (constant S_ .f32 0x43000000#32))) (broadcastInDim S16x2048x4x1 ![] bcast_S_S16x2048x4x1 (constant S_ .f32 0x358637BD#32)))))) (broadcastInDim S16x2048x4x128 ![0, 1, 2, 3] bcast_S1x1x1x128_S16x2048x4x128_0_1_2_3 (broadcastInDim S1x1x1x128 ![3] bcast_S128_S1x1x1x128_3 g))

/-- The memory's keys or values by head. -/
def memT (K : FVec Ideal S16x256x512 .bf16) : FVec Ideal S16x256x4x128 .f32 :=
  extf .f32 (shapeCast S16x256x4x128 K shapeCasts_S16x256x512_S16x256x4x128) bitsLt_bf16_f32

/-- The reference's scores. -/
def scT (Q : FVec Ideal S16x2048x4x128 .f32) (K : FVec Ideal S16x256x4x128 .f32) : FVec Ideal S16x4x2048x256 .f32 :=
  mulf (Host.dotGeneral dot_S16x2048x4x128_S16x256x4x128_S16x4x2048x256_3_3_1_1_02_02 none Q K) (broadcastInDim S16x4x2048x256 ![] bcast_S_S16x4x2048x256 (constant S_ .f32 0x3DB504F3#32))

/-- The largest of the reference's scores, by row. -/
def mxT (S : FVec Ideal S16x4x2048x256 .f32) : FVec Ideal S16x4x2048 .f32 :=
  Host.reduce FloatOps.maximumf S (constant S_ .f32 0xFF800000#32) reducesTo_S16x4x2048x256_S16x4x2048_d3 h_S_

/-- The reference's weights before they are divided. -/
def exT (S : FVec Ideal S16x4x2048x256 .f32) (M : FVec Ideal S16x4x2048 .f32) : FVec Ideal S16x4x2048x256 .f32 :=
  Host.exp (subf S (broadcastInDim S16x4x2048x256 ![0, 1, 2, 3] bcast_S16x4x2048x1_S16x4x2048x256_0_1_2_3 (broadcastInDim S16x4x2048x1 ![0, 1, 2] bcast_S16x4x2048_S16x4x2048x1_0_1_2 (maximumf (broadcastInDim S16x4x2048 ![] bcast_S_S16x4x2048 (constant S_ .f32 0xFF800000#32)) M))))

/-- The reference's weights. -/
def wtT (E : FVec Ideal S16x4x2048x256 .f32) : FVec Ideal S16x4x2048x256 .f32 :=
  Host.divf E (broadcastInDim S16x4x2048x256 ![0, 1, 2, 3] bcast_S16x4x2048x1_S16x4x2048x256_0_1_2_3 (broadcastInDim S16x4x2048x1 ![0, 1, 2] bcast_S16x4x2048_S16x4x2048x1_0_1_2 (Host.reduceAdd E (constant S_ .f32 0x00000000#32) reducesTo_S16x4x2048x256_S16x4x2048_d3 h_S_)))

/-- The reference's attention output, heads side by side. -/
def oT (V : FVec Ideal S16x256x4x128 .f32) (P : FVec Ideal S16x4x2048x256 .f32) : FVec Ideal S16x2048x512 .f32 :=
  shapeCast S16x2048x512 (transpose S16x2048x4x128 [0, 3, 1, 2] (Host.dotGeneral dot_S16x256x4x128_S16x4x2048x256_S16x4x128x2048_1_3_3_2_02_01 none V P) transposes_S16x4x128x2048_S16x2048x4x128_0_3_1_2) shapeCasts_S16x2048x4x128_S16x2048x512

/-- The rows plus the projection of the attention. -/
def yT (X : FVec Ideal S16x2048x1024 .f32) (O : FVec Ideal S16x2048x512 .f32) (W : FVec Ideal S512x1024 .f32) : FVec Ideal S16x2048x1024 .f32 :=
  addf X (Host.dotGeneral dot_S16x2048x512_S512x1024_S16x2048x1024_2_0_01_1_n_n none O W)

theorem naT_apply (A : FVec Ideal S16x2048x512 .f32) (g : FVec Ideal S512 .f32) (b : Fin 16) (r : Fin 2048) (k : Fin 512) :
    naT A g (ix3 b r k) = nrm 0x44000000#32 (fun k => A (ix3 b r k)) (fun k => g (ix1 k)) k := by
  pointwise [naT]
  rfl

theorem x1T_apply (X : FVec Ideal S16x2048x1024 .f32) (Y N : FVec Ideal S16x2048x512 .f32) (W : FVec Ideal S1024x1024 .f32) (b : Fin 16) (r : Fin 2048) (j : Fin 1024) :
    x1T X (catT Y N) W (ix3 b r j) = addW (X (ix3 b r j)) (fun k => Y (ix3 b r k)) (fun k => N (ix3 b r k))
      (fun k => W (ix2 ⟨k.val, by omega⟩ j)) (fun k => W (ix2 ⟨512 + k.val, by omega⟩ j)) := by
  have h : x1T X (catT Y N) W (ix3 b r j) = X (ix3 b r j) + ∑ k : Fin 1024, catT Y N (ix3 b r k) * W (ix2 k j) := by
    unfold x1T
    generalize catT Y N = C
    pointwise
  have hl : ∀ k : Fin 512, catT Y N (ix3 b r ⟨k.val, by omega⟩) = Y (ix3 b r k) := fun k => by
    pointwise [catT]
  have hu : ∀ k : Fin 512, catT Y N (ix3 b r ⟨512 + k.val, by omega⟩) = N (ix3 b r k) := fun k => by
    pointwise [catT]
  rw [h]
  unfold addW
  rw [add_assoc]
  refine congrArg (fun p : EReal => X (ix3 b r j) + p) ?_
  refine (Fin.sum_univ_add (M := EReal) (a := 512) (b := 512) (fun k : Fin 1024 => catT Y N (ix3 b r k) * W (ix2 k j))).trans ?_
  exact congrArg₂ (fun p q : EReal => p + q) (Finset.sum_congr (M := EReal) rfl fun k _ => congrArg (fun p : EReal => p * W (ix2 ⟨k.val, by omega⟩ j)) (hl k))
    (Finset.sum_congr (M := EReal) rfl fun k _ => congrArg (fun p : EReal => p * W (ix2 ⟨512 + k.val, by omega⟩ j)) (hu k))

theorem nhT_apply (X : FVec Ideal S16x2048x1024 .f32) (g : FVec Ideal S1024 .f32) (b : Fin 16) (r : Fin 2048) (k : Fin 1024) :
    nhT X g (ix3 b r k) = nrm 0x44800000#32 (fun k => X (ix3 b r k)) (fun k => g (ix1 k)) k := by
  pointwise [nhT]
  rfl

theorem qT_apply (H : FVec Ideal S16x2048x1024 .f32) (W : FVec Ideal S1024x512 .f32) (b : Fin 16) (r : Fin 2048) (h : Fin 4) (d : Fin 128) :
    qT H W (ix4 b r h d) = ∑ k, H (ix3 b r k) * W (ix2 k ⟨128 * h.val + d.val, by omega⟩) := by
  pointwise [qT]
  refine Finset.sum_congr (M := EReal) rfl fun k _ => congrArg (fun p => H (ix3 b r k) * W (ix2 k p)) (Fin.ext ?_)
  show h.val * 128 + d.val = 128 * h.val + d.val
  omega

theorem qnT_apply (Q : FVec Ideal S16x2048x4x128 .f32) (g : FVec Ideal S128 .f32) (b : Fin 16) (r : Fin 2048) (h : Fin 4) (d : Fin 128) :
    qnT Q g (ix4 b r h d) = nrm 0x43000000#32 (fun d => Q (ix4 b r h d)) (fun d => g (ix1 d)) d := by
  pointwise [qnT]
  rfl

theorem memT_apply (K : FVec Ideal S16x256x512 .bf16) (b : Fin 16) (m : Fin 256) (h : Fin 4) (d : Fin 128) :
    memT K (ix4 b m h d) = K (ix3 b m ⟨128 * h.val + d.val, by omega⟩) := by
  pointwise [memT]
  refine congrArg (fun p => K (ix3 b m p)) (Fin.ext ?_)
  show h.val * 128 + d.val = 128 * h.val + d.val
  omega

theorem scT_apply (Q : FVec Ideal S16x2048x4x128 .f32) (K : FVec Ideal S16x256x4x128 .f32) (b : Fin 16) (h : Fin 4) (r : Fin 2048) (m : Fin 256) :
    scT Q K (ix4 b h r m) = (∑ d, Q (ix4 b r h d) * K (ix4 b m h d)) * Ideal.ofBits FTy.f32 0x3DB504F3#32 := by
  pointwise [scT]

theorem mxT_apply (S : FVec Ideal S16x4x2048x256 .f32) (b : Fin 16) (h : Fin 4) (r : Fin 2048) :
    mxT S (ix3 b h r) = Finset.fold max (Ideal.ofBits FTy.f32 0xFF800000#32) (fun m : Fin 256 => (S (ix4 b h r m) : EReal)) Finset.univ :=
  Cert.Band.RI.rowMax S _ _ _ b h r

theorem exT_apply (S : FVec Ideal S16x4x2048x256 .f32) (b : Fin 16) (h : Fin 4) (r : Fin 2048) (m : Fin 256) :
    exT S (mxT S) (ix4 b h r m) = expE (fun m => S (ix4 b h r m)) m := by
  have e : ∀ M : FVec Ideal S16x4x2048 .f32, exT S M (ix4 b h r m) = Ideal.exp (S (ix4 b h r m) - max (Ideal.ofBits FTy.f32 0xFF800000#32) (M (ix3 b h r))) := fun M => by
    pointwise [exT]
  rw [e, mxT_apply]
  rfl

theorem wtT_apply (E : FVec Ideal S16x4x2048x256 .f32) (b : Fin 16) (h : Fin 4) (r : Fin 2048) (m : Fin 256) :
    wtT E (ix4 b h r m) = Ideal.div (E (ix4 b h r m)) (∑ j, E (ix4 b h r j)) := by
  pointwise [wtT]

theorem oT_apply (V : FVec Ideal S16x256x4x128 .f32) (P : FVec Ideal S16x4x2048x256 .f32) (b : Fin 16) (r : Fin 2048) (n : Fin 512) :
    oT V P (ix3 b r n) = ∑ m, V (ix4 b m ⟨n.val / 128, by omega⟩ ⟨n.val % 128, by omega⟩) * P (ix4 b ⟨n.val / 128, by omega⟩ r m) := by
  pointwise [oT]

theorem yT_apply (X : FVec Ideal S16x2048x1024 .f32) (O : FVec Ideal S16x2048x512 .f32) (W : FVec Ideal S512x1024 .f32) (b : Fin 16) (r : Fin 2048) (j : Fin 1024) :
    yT X O W (ix3 b r j) = X (ix3 b r j) + ∑ n, O (ix3 b r n) * W (ix2 n j) := by
  pointwise [yT]

/-- The reference's result from its arguments. -/
def allT (A0 : FVec Ideal S16x2048x1024 .f32) (A1 A2 A3 : FVec Ideal S16x2048x512 .f32) (A4 : FVec Ideal S512 .f32) (A5 : FVec Ideal S1024x1024 .f32) (A6 : FVec Ideal S1024 .f32)
    (A7 : FVec Ideal S1024x512 .f32) (A8 : FVec Ideal S128 .f32) (A9 A10 : FVec Ideal S16x256x512 .bf16) (A11 : FVec Ideal S512x1024 .f32) : FVec Ideal S16x2048x1024 .f32 :=
  yT (x1T A0 (catT (mulf A1 A2) (naT A3 A4)) A5)
    (oT (memT A10) (wtT (exT (scT (qnT (qT (nhT (x1T A0 (catT (mulf A1 A2) (naT A3 A4)) A5) A6) A7) A8) (memT A9))
      (mxT (scT (qnT (qT (nhT (x1T A0 (catT (mulf A1 A2) (naT A3 A4)) A5) A6) A7) A8) (memT A9)))))) A11

theorem res_eq (m : (ℓ : Loc nD τ sig) → Buf (Elt Ideal) ℓ) (c : Dev nD) :
    res_main_v67 (launchContents m c) = allT (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11)) := by
  unfold res_main_v67
  rfl

/-- The rows in pieces of 128. -/
def cutT (H : FVec Ideal S16x2048x1024 .f32) : FVec Ideal S262144x128 .bf16 :=
  truncf .bf16 (shapeCast S262144x128 H shapeCasts_S16x2048x1024_S262144x128) bitsLt_bf16_f32

theorem cutT_apply (H : FVec Ideal S16x2048x1024 .f32) (p : Fin 262144) (d : Fin 128) :
    cutT H (ix2 p d) = H (ix3 ⟨p.val / 16384, by omega⟩ ⟨p.val / 8 % 2048, by omega⟩ ⟨128 * (p.val % 8) + d.val, by omega⟩) := by
  pointwise [cutT]
  refine congrArg H (funext fun e => Fin.ext ?_)
  have hp := p.isLt
  have hd := d.isLt
  fin_cases e <;> simp [ix3] <;> omega

end Cert.Mix

end
-- ==== Proof.MixRow.lean ====
module

public import proofs.«01_k».proof.Proof.MixRef

@[expose] public section

noncomputable section

namespace Cert.Mix

open Cert.MixReferenceIdeal Cert.MixReferenceIdeal.Gen
open Idealize.ShloMosaic Idealize.ShloMosaic.TcCoe
open Idealize.ShloMosaic.StableHlo

/-- A row of the reference's result, from the rows and the weights. -/
theorem allT_apply (A0 : FVec Ideal S16x2048x1024 .f32) (A1 A2 A3 : FVec Ideal S16x2048x512 .f32) (A4 : FVec Ideal S512 .f32) (A5 : FVec Ideal S1024x1024 .f32) (A6 : FVec Ideal S1024 .f32)
    (A7 : FVec Ideal S1024x512 .f32) (A8 : FVec Ideal S128 .f32) (A9 A10 : FVec Ideal S16x256x512 .bf16) (A11 : FVec Ideal S512x1024 .f32) (b : Fin 16) (r : Fin 2048) (j : Fin 1024) :
    allT A0 A1 A2 A3 A4 A5 A6 A7 A8 A9 A10 A11 (ix3 b r j)
      = refR (fun k => A0 (ix3 b r k)) (fun k => A1 (ix3 b r k)) (fun k => A2 (ix3 b r k)) (fun k => A3 (ix3 b r k)) (fun k => A4 (ix1 k)) (fun k j => A5 (ix2 k j))
        (fun k => A6 (ix1 k)) (fun k n => A7 (ix2 k n)) (fun d => A8 (ix1 d)) (fun m n => A9 (ix3 b m n)) (fun m n => A10 (ix3 b m n)) (fun n j => A11 (ix2 n j)) j := by
  unfold allT refR
  have e1 : ∀ k, x1T A0 (catT (mulf A1 A2) (naT A3 A4)) A5 (ix3 b r k) = x1R (fun k => A0 (ix3 b r k)) (fun k => A1 (ix3 b r k)) (fun k => A2 (ix3 b r k)) (fun k => A3 (ix3 b r k)) (fun k => A4 (ix1 k)) (fun k j => A5 (ix2 k j)) k := fun k => by
    rw [x1T_apply]
    unfold x1R
    simp only [naT_apply]
    rfl
  generalize x1T A0 (catT (mulf A1 A2) (naT A3 A4)) A5 = X at e1 ⊢
  generalize x1R (fun k => A0 (ix3 b r k)) (fun k => A1 (ix3 b r k)) (fun k => A2 (ix3 b r k)) (fun k => A3 (ix3 b r k)) (fun k => A4 (ix1 k)) (fun k j => A5 (ix2 k j)) = x at e1 ⊢
  have e2 : ∀ (h : Fin 4) (d : Fin 128), qT (nhT X A6) A7 (ix4 b r h d) = qR x (fun k => A6 (ix1 k)) (fun k n => A7 (ix2 k n)) ⟨128 * h.val + d.val, by omega⟩ := fun h d => by
    rw [qT_apply]
    unfold qR
    simp only [nhT_apply, e1]
  generalize qT (nhT X A6) A7 = Q at e2 ⊢
  generalize qR x (fun k => A6 (ix1 k)) (fun k n => A7 (ix2 k n)) = q at e2 ⊢
  have e3 : ∀ (h : Fin 4) (d : Fin 128), qnT Q A8 (ix4 b r h d) = hdR q (fun d => A8 (ix1 d)) h d := fun h d => by
    rw [qnT_apply]
    unfold hdR
    simp only [e2]
  generalize qnT Q A8 = QN at e3 ⊢
  generalize hdR q (fun d => A8 (ix1 d)) = hd at e3 ⊢
  have e4 : ∀ (h : Fin 4) (m : Fin 256), scT QN (memT A9) (ix4 b h r m) = (∑ e : Fin 128, hd h e * A9 (ix3 b m ⟨128 * h.val + e.val, by omega⟩)) * Ideal.ofBits FTy.f32 0x3DB504F3#32 := fun h m => by
    rw [scT_apply]
    simp only [e3, memT_apply]
  generalize scT QN (memT A9) = S at e4 ⊢
  have e5 : ∀ n : Fin 512, oT (memT A10) (wtT (exT S (mxT S))) (ix3 b r n)
      = atE hd (fun m n => A9 (ix3 b m n)) (fun m n => A10 (ix3 b m n)) ⟨n.val / 128, by omega⟩ ⟨n.val % 128, by omega⟩ := fun n => by
    rw [oT_apply]
    unfold atE attE
    refine Finset.sum_congr (M := EReal) rfl fun m _ => ?_
    refine (mul_comm (G := EReal) _ _).trans ?_
    rw [wtT_apply, memT_apply]
    simp only [exT_apply, e4]
  rw [yT_apply, e1]
  unfold yR
  exact congrArg (fun p : EReal => x j + p) (Finset.sum_congr (M := EReal) rfl fun n _ => congrArg (fun p : EReal => p * A11 (ix2 n j)) (e5 n))

/-- The reference's result from its arguments, the arguments named. -/
theorem res_of (m : (ℓ : Loc nD τ sig) → Buf (Elt Ideal) ℓ) (c : Dev nD)
    (A0 : FVec Ideal S16x2048x1024 .f32) (A1 : FVec Ideal S16x2048x512 .f32) (A2 : FVec Ideal S16x2048x512 .f32) (A3 : FVec Ideal S16x2048x512 .f32) (A4 : FVec Ideal S512 .f32) (A5 : FVec Ideal S1024x1024 .f32) (A6 : FVec Ideal S1024 .f32) (A7 : FVec Ideal S1024x512 .f32) (A8 : FVec Ideal S128 .f32) (A9 : FVec Ideal S16x256x512 .bf16) (A10 : FVec Ideal S16x256x512 .bf16) (A11 : FVec Ideal S512x1024 .f32)
    (r0 : m ((c.tc : Thread nD τ).loc main_arg0) = A0) (r1 : m ((c.tc : Thread nD τ).loc main_arg1) = A1) (r2 : m ((c.tc : Thread nD τ).loc main_arg2) = A2) (r3 : m ((c.tc : Thread nD τ).loc main_arg3) = A3) (r4 : m ((c.tc : Thread nD τ).loc main_arg4) = A4) (r5 : m ((c.tc : Thread nD τ).loc main_arg5) = A5) (r6 : m ((c.tc : Thread nD τ).loc main_arg6) = A6) (r7 : m ((c.tc : Thread nD τ).loc main_arg7) = A7) (r8 : m ((c.tc : Thread nD τ).loc main_arg8) = A8) (r9 : m ((c.tc : Thread nD τ).loc main_arg9) = A9) (r10 : m ((c.tc : Thread nD τ).loc main_arg10) = A10) (r11 : m ((c.tc : Thread nD τ).loc main_arg11) = A11) :
    Value.res_main_v67 (launchContents m c) = allT A0 A1 A2 A3 A4 A5 A6 A7 A8 A9 A10 A11 := by
  subst r0 r1 r2 r3 r4 r5 r6 r7 r8 r9 r10 r11
  exact res_eq m c

end Cert.Mix

end
-- ==== Proof.MixFinite.lean ====
module

public import proofs.«01_k».proof.Pre_finite_mix
public import Idealize.ShloMosaic.Lib.ReduceAll
public import proofs.«01_k».proof.Proof.Finite

@[expose] public section

noncomputable section

namespace Cert.Mix

open Idealize.ShloMosaic
open Cert.Pre_finite_mix
open Cert.Band (both_one real_of_abs)

/-- A result of no dimension has one index. -/
instance oneIdx : Subsingleton Cert.Pre_finite_mix.S_.Idx := ⟨fun a b => funext fun d : Fin 0 => d.elim0⟩

/-- The precondition makes the queries' gains and the memory's keys real. -/
theorem real_inputs [Cert.Pre_finite_mix.Facts] (a0 a1 a2 a3 a4 a5 a6 a7) (a8 : S128.Idx → EReal) (a9 : S16x256x512.Idx → EReal) (a10 a11 a12 a13 a14)
    (h : Cert.Pre_finite_mix.fn (F := Ideal) a0 a1 a2 a3 a4 a5 a6 a7 a8 a9 a10 a11 a12 a13 a14 = fun _ => 1#1) :
    (∀ y, ∃ r : ℝ, a8 y = r) ∧ ∀ y, ∃ r : ℝ, a9 y = r := by
  have h' := congrFun h (fun d : Fin 0 => d.elim0)
  unfold Cert.Pre_finite_mix.fn at h'
  obtain ⟨h8, h9⟩ := both_one _ _ h'
  exact ⟨fun y => real_of_abs _ (Host.reduce_andi_all _ _ _ _ _ h8 y), fun y => real_of_abs _ (Host.reduce_andi_all _ _ _ _ _ h9 y)⟩

end Cert.Mix

end
-- ==== Proof.MixFinal.lean ====
module

public import proofs.«01_k».proof.Defs
public import proofs.«01_k».proof.Proof.MixVal
public import proofs.«01_k».proof.Proof.MixRow
public import proofs.«01_k».proof.Proof.MixFinite
public import proofs.«01_k».proof.Proof.Gen.Pre_finite_mix

@[expose] public section

noncomputable section

namespace Cert.Mix

open Idealize.ShloMosaic Idealize.ShloMosaic.TcCoe Idealize.SL.Sem
open Idealize.ShloMosaic.StableHlo

/-- The value claim: with real gains of the queries and real keys the idealized kernel and the reference end with equal residual rows and equal tiles of the normalized rows. -/
theorem algebraic : Cert.algebraic_MixKernelIdeal_MixReferenceIdeal_pre_finite_mix (hMixKernelIdeal := Cert.MixKernelIdeal.Gen.facts) (hMixReferenceIdeal := Cert.MixReferenceIdeal.Gen.facts) (hPre_finite_mix := Cert.Pre_finite_mix.Gen.facts) := by
  intro m g m' g' hpre hm
  refine ⟨fun c => end16 m c, fun c => end17 m c, runK m g, (θ_run _ _ _).mono (fun r h c => ?_) (Cert.MixReferenceIdeal.Value.run (F := Ideal) m' g')⟩
  obtain ⟨h0, h1, hr⟩ := h c
  obtain ⟨a0, a1, a2, a3, a4, a5, a6, a7, a8, a9, a10, a11, a12, a13, a14⟩ := hm c
  obtain ⟨f8, f9⟩ := real_inputs _ _ _ _ _ _ _ _ _ _ _ _ _ _ _ (hpre c)
  have hR := res_of m' c _ _ _ _ _ _ _ _ _ _ _ _ a0 a1 a2 a3 a4 a5 a6 a7 a8 a9 a10 a11
  refine ⟨h0.trans (hR.trans (funext fun y => ?_)), ?_, hr⟩
  · obtain ⟨b, t, j, rfl⟩ : ∃ (b : Fin 16) (t : Fin 2048) (j : Fin 1024), y = ix3 b t j := ⟨_, _, _, (ix3_eta y).symm⟩
    refine (allT_apply _ _ _ _ _ _ _ _ _ _ _ _ b t j).trans (congrFun (row_eq _ _ _ _ _ _ _ _ _ _ _ _ (fun d => f8 _) (fun m n => f9 _)).symm j)
  · have h1' : r.2.mem ((c.tc : Thread Cert.MixReferenceIdeal.nD Cert.MixReferenceIdeal.τ).loc Cert.MixReferenceIdeal.main_v82)
        = cutT (nhT (Cert.MixReferenceIdeal.Value.res_main_v67 (launchContents m' c)) (m' ((c.tc : Thread Cert.MixReferenceIdeal.nD Cert.MixReferenceIdeal.τ).loc Cert.MixReferenceIdeal.main_arg12))) := h1
    refine h1'.trans ((congrArg₂ (fun R G => cutT (nhT R G)) hR a12).trans (funext fun y => ?_))
    obtain ⟨p, d, rfl⟩ : ∃ (p : Fin 262144) (d : Fin 128), y = ix2 p d := ⟨_, _, (ix2_eta y).symm⟩
    refine (cutT_apply _ p d).trans ((nhT_apply _ _ _ _ _).trans ?_)
    refine congrArg (fun x => nrm 0x44800000#32 x _ _) (funext fun k => ?_)
    exact (allT_apply _ _ _ _ _ _ _ _ _ _ _ _ _ _ k).trans (congrFun (row_eq _ _ _ _ _ _ _ _ _ _ _ _ (fun d => f8 _) (fun m n => f9 _)).symm k)

end Cert.Mix

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores
public import proofs.«01_k».proof.Proof.KFrame
public import proofs.«01_k».proof.Proof.BFrame
public import proofs.«01_k».proof.Proof.Final
public import proofs.«01_k».proof.Proof.Gen.InKernel.Frame
public import proofs.«01_k».proof.Proof.InFinal
public import proofs.«01_k».proof.Proof.Gen.MixKernel.Frame
public import proofs.«01_k».proof.Proof.MixFinal
public import Idealize.ShloMosaic.Adequacy
public import Idealize.ShloMosaic.Init

@[expose] public section

noncomputable section

namespace Cert.Proof

open Idealize.ShloMosaic Idealize.SL.Sem Cert.Kernel

/-- The kernel at machine floats runs and leaves its arguments and counters as they were. -/
theorem quiet_kernel : Cert.quiescent_Kernel (hKernel := Cert.Kernel.Gen.facts) := fun m g _ => Cert.Band.KB.frameAny m g

/-- The idealized kernel runs and leaves its arguments and counters as they were. -/
theorem quiet_ideal : Cert.quiescent_KernelIdeal (hKernelIdeal := Cert.KernelIdeal.Gen.facts) := fun m g _ => Cert.Band.KI.frameAny m g

/-- The reference runs and leaves its arguments and counters as they were. -/
theorem quiet_reference : Cert.quiescent_ReferenceIdeal (hReferenceIdeal := Cert.ReferenceIdeal.Gen.facts) := fun m g _ =>
  (θ_run _ _ _).mono (fun r h => ⟨fun c => (h c).2, funext fun g => nomatch g⟩) (Cert.ReferenceIdeal.Value.run m g)

/-- The three named constants of the idealized kernel are the values its table gives them. -/
theorem preserved : Cert.preserves_Kernel_KernelIdeal :=
  ⟨IdealRules.named_const.statement _ _ _ _ _ rfl, IdealRules.named_const.statement _ _ _ _ _ rfl,
   IdealRules.named_const.statement _ _ _ _ _ rfl⟩

/-- The input projection's reference runs and leaves its arguments and counters as they were. -/
theorem quiet_in_reference : Cert.quiescent_InReferenceIdeal (hInReferenceIdeal := Cert.InReferenceIdeal.Gen.facts) := fun m g _ =>
  (θ_run _ _ _).mono (fun r h => ⟨fun c => (h c).2.2.2.2, funext fun g => nomatch g⟩) (Cert.Inp.runR m g)

/-- The third call's reference runs and leaves its arguments and counters as they were. -/
theorem quiet_mix_reference : Cert.quiescent_MixReferenceIdeal (hMixReferenceIdeal := Cert.MixReferenceIdeal.Gen.facts) := fun m g _ =>
  (θ_run _ _ _).mono (fun r h => ⟨fun c => (h c).2.2, funext fun g => nomatch g⟩) (Cert.MixReferenceIdeal.Value.run m g)

/-- The named constant of the third call is the value its table gives it. -/
theorem preserved_mix : Cert.preserves_MixKernel_MixKernelIdeal := IdealRules.named_const.statement _ _ _ _ _ rfl

theorem claim : Cert.Claim := ⟨Cert.Kernel.Gen.facts, Cert.KernelIdeal.Gen.facts, Cert.ReferenceIdeal.Gen.facts,
  Cert.InKernel.Gen.facts, Cert.InKernelIdeal.Gen.facts, Cert.InReferenceIdeal.Gen.facts,
  Cert.MixKernel.Gen.facts, Cert.MixKernelIdeal.Gen.facts, Cert.MixReferenceIdeal.Gen.facts,
  Cert.Pre_finite_scores.Gen.facts, Cert.Pre_finite_mix.Gen.facts,
  quiet_kernel, quiet_ideal, fun m g _ => Cert.Band.KI.frameAny m g, quiet_reference,
  fun m g _ => quiet_reference m g trivial, fun m g _ => Cert.InKernel.Gen.frame m g, fun m g _ => Cert.InKernelIdeal.Gen.frame m g,
  quiet_in_reference,
  fun m g _ => Cert.MixKernel.Gen.frame m g, fun m g _ => Cert.MixKernelIdeal.Gen.frame m g, fun m g _ => Cert.MixKernelIdeal.Gen.frame m g,
  quiet_mix_reference, fun m g _ => quiet_mix_reference m g trivial,
  preserved, Cert.Band.algebraic, trivial, Cert.Inp.algebraic, preserved_mix, Cert.Mix.algebraic⟩

end Cert.Proof

end
